-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v33_0)) (v1 : (c : Dev Cert.Kernel4Ideal.nD) → Buf (Elt Ideal) ((c.tc : Thread Cert.Kernel4Ideal.nD Cert.Kernel4Ideal.τ).loc Cert.Kernel4Ideal.main_v33_1)) (v2 : (c : Dev Cert.Kernel4Ideal.nD) → Buf (Elt Ideal) ((c.tc : Thread Cert.Kernel4Ideal.nD Cert.Kernel4Ideal.τ).loc Cert.Kernel4Ideal.main_v33_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v33_0) = v0 c
          ∧ r.2.mem ((c.tc : Thread Cert.Kernel4Ideal.nD Cert.Kernel4Ideal.τ).loc Cert.Kernel4Ideal.main_v33_1) = v1 c
          ∧ r.2.mem ((c.tc : Thread Cert.Kernel4Ideal.nD Cert.Kernel4Ideal.τ).loc Cert.Kernel4Ideal.main_v33_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v69) = v0 c
          ∧ r.2.mem ((c.tc : Thread Cert.Reference4Ideal.nD Cert.Reference4Ideal.τ).loc Cert.Reference4Ideal.main_v120) = v1 c
          ∧ r.2.mem ((c.tc : Thread Cert.Reference4Ideal.nD Cert.Reference4Ideal.τ).loc Cert.Reference4Ideal.main_v122) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)) (v2 : (c : Dev Cert.Kernel5Ideal.nD) → Buf (Elt Ideal) ((c.tc : Thread Cert.Kernel5Ideal.nD Cert.Kernel5Ideal.τ).loc Cert.Kernel5Ideal.main_v11_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_v11_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_v21) = v1 c
          ∧ r.2.mem ((c.tc : Thread Cert.Reference5Ideal.nD Cert.Reference5Ideal.τ).loc Cert.Reference5Ideal.main_v22) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v11_0)) (v1 : (c : Dev Cert.Kernel6Ideal.nD) → Buf (Elt Ideal) ((c.tc : Thread Cert.Kernel6Ideal.nD Cert.Kernel6Ideal.τ).loc Cert.Kernel6Ideal.main_v11_1)) (v2 : (c : Dev Cert.Kernel6Ideal.nD) → Buf (Elt Ideal) ((c.tc : Thread Cert.Kernel6Ideal.nD Cert.Kernel6Ideal.τ).loc Cert.Kernel6Ideal.main_v11_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11_0) = v0 c
          ∧ r.2.mem ((c.tc : Thread Cert.Kernel6Ideal.nD Cert.Kernel6Ideal.τ).loc Cert.Kernel6Ideal.main_v11_1) = v1 c
          ∧ r.2.mem ((c.tc : Thread Cert.Kernel6Ideal.nD Cert.Kernel6Ideal.τ).loc Cert.Kernel6Ideal.main_v11_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_v21) = v1 c
          ∧ r.2.mem ((c.tc : Thread Cert.Reference6Ideal.nD Cert.Reference6Ideal.τ).loc Cert.Reference6Ideal.main_v22) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v39_0)) (v1 : (c : Dev Cert.Kernel7Ideal.nD) → Buf (Elt Ideal) ((c.tc : Thread Cert.Kernel7Ideal.nD Cert.Kernel7Ideal.τ).loc Cert.Kernel7Ideal.main_v39_1)) (v2 : (c : Dev Cert.Kernel7Ideal.nD) → Buf (Elt Ideal) ((c.tc : Thread Cert.Kernel7Ideal.nD Cert.Kernel7Ideal.τ).loc Cert.Kernel7Ideal.main_v39_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v39_0) = v0 c
          ∧ r.2.mem ((c.tc : Thread Cert.Kernel7Ideal.nD Cert.Kernel7Ideal.τ).loc Cert.Kernel7Ideal.main_v39_1) = v1 c
          ∧ r.2.mem ((c.tc : Thread Cert.Kernel7Ideal.nD Cert.Kernel7Ideal.τ).loc Cert.Kernel7Ideal.main_v39_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v126) = v0 c
          ∧ r.2.mem ((c.tc : Thread Cert.Reference7Ideal.nD Cert.Reference7Ideal.τ).loc Cert.Reference7Ideal.main_v128) = v1 c
          ∧ r.2.mem ((c.tc : Thread Cert.Reference7Ideal.nD Cert.Reference7Ideal.τ).loc Cert.Reference7Ideal.main_v130) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v10)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v29) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)) →
    ∃ (v0 : (c : Dev Cert.Kernel9Ideal.nD) → Buf (Elt Ideal) ((c.tc : Thread Cert.Kernel9Ideal.nD Cert.Kernel9Ideal.τ).loc Cert.Kernel9Ideal.main_v14_0)) (v1 : (c : Dev Cert.Kernel9Ideal.nD) → Buf (Elt Ideal) ((c.tc : Thread Cert.Kernel9Ideal.nD Cert.Kernel9Ideal.τ).loc Cert.Kernel9Ideal.main_v14_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v14_0) = v0 c
          ∧ r.2.mem ((c.tc : Thread Cert.Kernel9Ideal.nD Cert.Kernel9Ideal.τ).loc Cert.Kernel9Ideal.main_v14_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v122) = v0 c
          ∧ r.2.mem ((c.tc : Thread Cert.Reference9Ideal.nD Cert.Reference9Ideal.τ).loc Cert.Reference9Ideal.main_v123) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S4x4096x2048 : Shape := ⟨3, ![4, 4096, 2048]⟩
abbrev S4x4096x3072 : Shape := ⟨3, ![4, 4096, 3072]⟩
abbrev S4x4096x32 : Shape := ⟨3, ![4, 4096, 32]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S_ : Shape := ⟨0, ![]⟩
abbrev S4x4096x128 : Shape := ⟨3, ![4, 4096, 128]⟩
abbrev S1x3072 : Shape := ⟨2, ![1, 3072]⟩
abbrev S128 : Shape := ⟨1, ![128]⟩
abbrev S1x128 : Shape := ⟨2, ![1, 128]⟩
abbrev S32x64 : Shape := ⟨2, ![32, 64]⟩
abbrev S1x2048 : Shape := ⟨2, ![1, 2048]⟩
abbrev S4x32x64x128 : Shape := ⟨4, ![4, 32, 64, 128]⟩
abbrev S1x128x2048 : Shape := ⟨3, ![1, 128, 2048]⟩
abbrev S1x128x3072 : Shape := ⟨3, ![1, 128, 3072]⟩
abbrev S1x128x128 : Shape := ⟨3, ![1, 128, 128]⟩
abbrev S1x32x64x128 : Shape := ⟨4, ![1, 32, 64, 128]⟩
abbrev S136x3072 : Shape := ⟨2, ![136, 3072]⟩
abbrev S128x3072 : Shape := ⟨2, ![128, 3072]⟩
abbrev S128x2048 : Shape := ⟨2, ![128, 2048]⟩
abbrev S16x128x128 : Shape := ⟨3, ![16, 128, 128]⟩
abbrev S8x512 : Shape := ⟨2, ![8, 512]⟩
abbrev S1x128x512 : Shape := ⟨3, ![1, 128, 512]⟩
abbrev S128x512 : Shape := ⟨2, ![128, 512]⟩
abbrev S1x512 : Shape := ⟨2, ![1, 512]⟩
abbrev S120x512 : Shape := ⟨2, ![120, 512]⟩
abbrev S128x128 : Shape := ⟨2, ![128, 128]⟩
abbrev S128x1 : Shape := ⟨2, ![128, 1]⟩
abbrev S1x1 : Shape := ⟨2, ![1, 1]⟩
abbrev S64x128 : Shape := ⟨2, ![64, 128]⟩
abbrev S1x1x64x128 : Shape := ⟨4, ![1, 1, 64, 128]⟩

abbrev nBuf : Space → Nat
  | .hbm => 27
  | .vmem => 20
  | .smem => 0
  | _ => 0

abbrev bufTy : (tb : Table) → Fin (tcTables nBuf tb) → BufTy
  | .hbm, ⟨0, _⟩ => ⟨S4x4096x2048, .f32⟩
  | .hbm, ⟨1, _⟩ => ⟨S4x4096x3072, .f32⟩
  | .hbm, ⟨2, _⟩ => ⟨S4x4096x32, .f32⟩
  | .hbm, ⟨3, _⟩ => ⟨S4x3072, .f32⟩
  | .hbm, ⟨4, _⟩ => ⟨S3072, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S2048, .f32⟩
  | .hbm, ⟨9, _⟩ => ⟨S_, .i32⟩
  | .hbm, ⟨10, _⟩ => ⟨S_, .f32⟩
  | .hbm, ⟨11, _⟩ => ⟨S4x4096x128, .f32⟩
  | .hbm, ⟨12, _⟩ => ⟨S1x3072, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S32x64, .f32⟩
  | .hbm, ⟨22, _⟩ => ⟨S2048, .f32⟩
  | .hbm, ⟨23, _⟩ => ⟨S1x2048, .f32⟩
  | .hbm, ⟨24, _⟩ => ⟨S1x2048, .f32⟩
  | .hbm, ⟨25, _⟩ => ⟨S4x4096x2048, .bf16⟩
  | .hbm, ⟨26, _⟩ => ⟨S4x32x64x128, .f32⟩
  | .local _ .vmem, ⟨0, _⟩ => ⟨S1x128x2048, .f32⟩
  | .local _ .vmem, ⟨1, _⟩ => ⟨S1x128x2048, .f32⟩
  | .local _ .vmem, ⟨2, _⟩ => ⟨S1x128x3072, .f32⟩
  | .local _ .vmem, ⟨3, _⟩ => ⟨S1x128x3072, .f32⟩
  | .local _ .vmem, ⟨4, _⟩ => ⟨S1x128x128, .f32⟩
  | .local _ .vmem, ⟨5, _⟩ => ⟨S1x128x128, .f32⟩
  | .local _ .vmem, ⟨6, _⟩ => ⟨S4x3072, .f32⟩
  | .local _ .vmem, ⟨7, _⟩ => ⟨S1x3072, .f32⟩
  | .local _ .vmem, ⟨8, _⟩ => ⟨S1x128, .f32⟩
  | .local _ .vmem, ⟨9, _⟩ => ⟨S1x128, .f32⟩
  | .local _ .vmem, ⟨10, _⟩ => ⟨S1x2048, .f32⟩
  | .local _ .vmem, ⟨11, _⟩ => ⟨S1x2048, .f32⟩
  | .local _ .vmem, ⟨12, _⟩ => ⟨S1x128x2048, .bf16⟩
  | .local _ .vmem, ⟨13, _⟩ => ⟨S1x128x2048, .bf16⟩
  | .local _ .vmem, ⟨14, _⟩ => ⟨S1x32x64x128, .f32⟩
  | .local _ .vmem, ⟨15, _⟩ => ⟨S1x32x64x128, .f32⟩
  | .local _ .vmem, ⟨16, _⟩ => ⟨S136x3072, .f32⟩
  | .local _ .vmem, ⟨17, _⟩ => ⟨S128x3072, .f32⟩
  | .local _ .vmem, ⟨18, _⟩ => ⟨S128x2048, .f32⟩
  | .local _ .vmem, ⟨19, _⟩ => ⟨S16x128x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_call1_v0 : Ref sig .tc := ⟨.hbm, 14, rfl⟩
abbrev main_v2 : Ref sig .tc := ⟨.hbm, 15, rfl⟩
abbrev main_v3 : Ref sig .tc := ⟨.hbm, 16, rfl⟩
abbrev main_c_1 : Ref sig .tc := ⟨.hbm, 17, rfl⟩
abbrev main_call2_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10_0 : Ref sig .tc := ⟨.hbm, 25, rfl⟩
abbrev main_v10_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v1988 : BitVec 1 := Scalar.cmpi .eq arg1 c31_i32
  let v1989 : BitVec 32 := Scalar.extui v1988
  let c0_i32_622 : BitVec 32 := 0#32
  let v1990 : BitVec 1 := Scalar.cmpi .ne v1989 c0_i32_622
  v1990

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S4x4096x2048 : Shape := ⟨3, ![4, 4096, 2048]⟩
abbrev S4x4096x3072 : Shape := ⟨3, ![4, 4096, 3072]⟩
abbrev S4x4096x32 : Shape := ⟨3, ![4, 4096, 32]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S_ : Shape := ⟨0, ![]⟩
abbrev S4x3x3072 : Shape := ⟨3, ![4, 3, 3072]⟩
abbrev S4x4099x3072 : Shape := ⟨3, ![4, 4099, 3072]⟩
abbrev S1x3072 : Shape := ⟨2, ![1, 3072]⟩
abbrev S1x1x3072 : Shape := ⟨3, ![1, 1, 3072]⟩
abbrev S4x32x128x4x8x64 : Shape := ⟨6, ![4, 32, 128, 4, 8, 64]⟩
abbrev S4x4096x512 : Shape := ⟨3, ![4, 4096, 512]⟩
abbrev S4x32x128x4x128 : Shape := ⟨5, ![4, 32, 128, 4, 128]⟩
abbrev S1x1x32 : Shape := ⟨3, ![1, 1, 32]⟩
abbrev S4x32x128x4x8 : Shape := ⟨5, ![4, 32, 128, 4, 8]⟩
abbrev S4x8 : Shape := ⟨2, ![4, 8]⟩
abbrev S1x1x1x4x8 : Shape := ⟨5, ![1, 1, 1, 4, 8]⟩
abbrev S128x128 : Shape := ⟨2, ![128, 128]⟩
abbrev S1x128x128x1x1 : Shape := ⟨5, ![1, 128, 128, 1, 1]⟩
abbrev S4x4x8x64x128 : Shape := ⟨5, ![4, 4, 8, 64, 128]⟩
abbrev S32x4x128x4x128 : Shape := ⟨5, ![32, 4, 128, 4, 128]⟩
abbrev S32x4x128x4x8 : Shape := ⟨5, ![32, 4, 128, 4, 8]⟩
abbrev S32x4x128x4x8x64 : Shape := ⟨6, ![32, 4, 128, 4, 8, 64]⟩
abbrev S1x4x128x4x128 : Shape := ⟨5, ![1, 4, 128, 4, 128]⟩
abbrev S4x128x4x128 : Shape := ⟨4, ![4, 128, 4, 128]⟩
abbrev S1x4x128x4x8 : Shape := ⟨5, ![1, 4, 128, 4, 8]⟩
abbrev S4x128x4x8 : Shape := ⟨4, ![4, 128, 4, 8]⟩
abbrev S1x4x128x4x8x64 : Shape := ⟨6, ![1, 4, 128, 4, 8, 64]⟩
abbrev S4x128x4x8x64 : Shape := ⟨5, ![4, 128, 4, 8, 64]⟩
abbrev S4x128x4x8x1 : Shape := ⟨5, ![4, 128, 4, 8, 1]⟩
abbrev S4x4x128x128 : Shape := ⟨4, ![4, 4, 128, 128]⟩
abbrev S4x128x128x4 : Shape := ⟨4, ![4, 128, 128, 4]⟩
abbrev S4x128x1x4x8 : Shape := ⟨5, ![4, 128, 1, 4, 8]⟩
abbrev S4x1x128x4x8 : Shape := ⟨5, ![4, 1, 128, 4, 8]⟩
abbrev S4x128x128x4x8 : Shape := ⟨5, ![4, 128, 128, 4, 8]⟩
abbrev S4x128x128x4x1 : Shape := ⟨5, ![4, 128, 128, 4, 1]⟩
abbrev S4x128x4x1x128 : Shape := ⟨5, ![4, 128, 4, 1, 128]⟩
abbrev S4x128x4x8x128 : Shape := ⟨5, ![4, 128, 4, 8, 128]⟩
abbrev S4x1x4x8 : Shape := ⟨4, ![4, 1, 4, 8]⟩
abbrev S4x4x8 : Shape := ⟨3, ![4, 4, 8]⟩
abbrev S4x4x8x1x1 : Shape := ⟨5, ![4, 4, 8, 1, 1]⟩
abbrev S4x8x1 : Shape := ⟨3, ![4, 8, 1]⟩
abbrev S1x1x4x8x1 : Shape := ⟨5, ![1, 1, 4, 8, 1]⟩
abbrev S4x4096x4x512 : Shape := ⟨4, ![4, 4096, 4, 512]⟩
abbrev S4x4096x4 : Shape := ⟨3, ![4, 4096, 4]⟩
abbrev S4x4096x4x1 : Shape := ⟨4, ![4, 4096, 4, 1]⟩
abbrev S4x512 : Shape := ⟨2, ![4, 512]⟩
abbrev S1x1x4x512 : Shape := ⟨4, ![1, 1, 4, 512]⟩
abbrev S4x32x64x128 : Shape := ⟨4, ![4, 32, 64, 128]⟩

abbrev nBuf : Space → Nat
  | .hbm => 241
  | .vmem => 0
  | .smem => 0
  | _ => 0

abbrev hbmTy0_0 (i : Nat) : BufTy := match i % 128 with
  | 0 => ⟨S4x4096x2048, .f32⟩
  | 1 => ⟨S4x4096x3072, .f32⟩
  | 2 => ⟨S4x4096x32, .f32⟩
  | 3 => ⟨S4x3072, .f32⟩
  | 4 => ⟨S3072, .f32⟩
  | 5 => ⟨S32, .f32⟩
  | 6 => ⟨S32, .f32⟩
  | 7 => ⟨S32, .f32⟩
  | 8 => ⟨S2048, .f32⟩
  | 9 => ⟨S_, .f32⟩
  | 10 => ⟨S4x3x3072, .f32⟩
  | 11 => ⟨S4x4099x3072, .f32⟩
  | 12 => ⟨S4x4096x3072, .f32⟩
  | 13 => ⟨S1x3072, .f32⟩
  | 14 => ⟨S3072, .f32⟩
  | 15 => ⟨S1x1x3072, .f32⟩
  | 16 => ⟨S4x4096x3072, .f32⟩
  | 17 => ⟨S4x4096x3072, .f32⟩
  | 18 => ⟨S4x4096x3072, .f32⟩
  | 19 => ⟨S1x3072, .f32⟩
  | 20 => ⟨S3072, .f32⟩
  | 21 => ⟨S1x1x3072, .f32⟩
  | 22 => ⟨S4x4096x3072, .f32⟩
  | 23 => ⟨S4x4096x3072, .f32⟩
  | 24 => ⟨S4x4096x3072, .f32⟩
  | 25 => ⟨S4x4096x3072, .f32⟩
  | 26 => ⟨S1x3072, .f32⟩
  | 27 => ⟨S3072, .f32⟩
  | 28 => ⟨S1x1x3072, .f32⟩
  | 29 => ⟨S4x4096x3072, .f32⟩
  | 30 => ⟨S4x4096x3072, .f32⟩
  | 31 => ⟨S4x4096x3072, .f32⟩
  | 32 => ⟨S4x4096x3072, .f32⟩
  | 33 => ⟨S1x3072, .f32⟩
  | 34 => ⟨S3072, .f32⟩
  | 35 => ⟨S1x1x3072, .f32⟩
  | 36 => ⟨S4x4096x3072, .f32⟩
  | 37 => ⟨S4x4096x3072, .f32⟩
  | 38 => ⟨S4x4096x3072, .f32⟩
  | 39 => ⟨S1x1x3072, .f32⟩
  | 40 => ⟨S4x4096x3072, .f32⟩
  | 41 => ⟨S4x4096x3072, .f32⟩
  | 42 => ⟨S4x4096x3072, .f32⟩
  | 43 => ⟨S4x4096x3072, .f32⟩
  | 44 => ⟨S_, .f32⟩
  | 45 => ⟨S4x4096x3072, .f32⟩
  | 46 => ⟨S4x4096x3072, .f32⟩
  | 47 => ⟨S_, .f32⟩
  | 48 => ⟨S4x4096x3072, .f32⟩
  | 49 => ⟨S4x4096x3072, .f32⟩
  | 50 => ⟨S4x4096x3072, .f32⟩
  | 51 => ⟨S4x4096x2048, .f32⟩
  | 52 => ⟨S4x32x128x4x8x64, .f32⟩
  | 53 => ⟨S4x4096x512, .f32⟩
  | 54 => ⟨S4x32x128x4x128, .f32⟩
  | 55 => ⟨S4x4096x512, .f32⟩
  | 56 => ⟨S4x32x128x4x128, .f32⟩
  | 57 => ⟨S1x1x32, .f32⟩
  | 58 => ⟨S4x4096x32, .f32⟩
  | 59 => ⟨S4x4096x32, .f32⟩
  | 60 => ⟨S_, .f32⟩
  | 61 => ⟨S4x4096x32, .f32⟩
  | 62 => ⟨S4x4096x32, .f32⟩
  | 63 => ⟨S4x4096x32, .f32⟩
  | 64 => ⟨S4x4096x32, .f32⟩
  | 65 => ⟨S4x4096x32, .i1⟩
  | 66 => ⟨S4x4096x32, .f32⟩
  | 67 => ⟨S4x4096x32, .f32⟩
  | 68 => ⟨S4x4096x32, .f32⟩
  | 69 => ⟨S4x4096x32, .f32⟩
  | 70 => ⟨S4x4096x32, .f32⟩
  | 71 => ⟨S4x4096x32, .f32⟩
  | 72 => ⟨S4x4096x32, .f32⟩
  | 73 => ⟨S4x4096x32, .f32⟩
  | 74 => ⟨S4x32x128x4x8, .f32⟩
  | 75 => ⟨S32, .f32⟩
  | 76 => ⟨S32, .f32⟩
  | 77 => ⟨S4x8, .f32⟩
  | 78 => ⟨S1x1x1x4x8, .f32⟩
  | 79 => ⟨S4x32x128x4x8, .f32⟩
  | 80 => ⟨S4x32x128x4x8, .f32⟩
  | 81 => ⟨S_, .f32⟩
  | 82 => ⟨S_, .f32⟩
  | 83 => ⟨S4x32x128x4x8, .f32⟩
  | 84 => ⟨S_, .i1⟩
  | 85 => ⟨S128x128, .i1⟩
  | 86 => ⟨S128x128, .i32⟩
  | 87 => ⟨S_, .i32⟩
  | 88 => ⟨S128x128, .i32⟩
  | 89 => ⟨S128x128, .i32⟩
  | 90 => ⟨S128x128, .i32⟩
  | 91 => ⟨S128x128, .i1⟩
  | 92 => ⟨S_, .i1⟩
  | 93 => ⟨S128x128, .i1⟩
  | 94 => ⟨S128x128, .i1⟩
  | 95 => ⟨S1x128x128x1x1, .i1⟩
  | 96 => ⟨S_, .f32⟩
  | 97 => ⟨S4x4x8x64x128, .f32⟩
  | 98 => ⟨S32x4x128x4x128, .f32⟩
  | 99 => ⟨S32x4x128x4x128, .f32⟩
  | 100 => ⟨S32x4x128x4x8, .f32⟩
  | 101 => ⟨S32x4x128x4x8, .f32⟩
  | 102 => ⟨S32x4x128x4x8x64, .f32⟩
  | 103 => ⟨S_, .f32⟩
  | 104 => ⟨S32x4x128x4x8x64, .f32⟩
  | 105 => ⟨S_, .i32⟩
  | 106 => ⟨S32x4x128x4x128, .f32⟩
  | 107 => ⟨S32x4x128x4x128, .f32⟩
  | 108 => ⟨S32x4x128x4x8, .f32⟩
  | 109 => ⟨S32x4x128x4x8, .f32⟩
  | 110 => ⟨S32x4x128x4x8x64, .f32⟩
  | 111 => ⟨S1x128x128x1x1, .i1⟩
  | 112 => ⟨S32, .f32⟩
  | 113 => ⟨S_, .i32⟩
  | 114 => ⟨S4x4x8x64x128, .f32⟩
  | 115 => ⟨S32x4x128x4x8x64, .f32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S1x4x128x4x128, .f32⟩
  | 123 => ⟨S4x128x4x128, .f32⟩
  | 124 => ⟨S_, .i32⟩
  | 125 => ⟨S_, .i32⟩
  | 126 => ⟨S_, .i32⟩
  | 127 => ⟨S_, .i32⟩
  | _ => ⟨S4x4096x2048, .f32⟩

abbrev hbmTy0_1 (i : Nat) : BufTy := match i % 128 with
  | 0 => ⟨S1x4x128x4x128, .f32⟩
  | 1 => ⟨S4x128x4x128, .f32⟩
  | 2 => ⟨S_, .i32⟩
  | 3 => ⟨S_, .i32⟩
  | 4 => ⟨S_, .i32⟩
  | 5 => ⟨S_, .i32⟩
  | 6 => ⟨S1x4x128x4x8, .f32⟩
  | 7 => ⟨S4x128x4x8, .f32⟩
  | 8 => ⟨S_, .i32⟩
  | 9 => ⟨S_, .i32⟩
  | 10 => ⟨S_, .i32⟩
  | 11 => ⟨S_, .i32⟩
  | 12 => ⟨S1x4x128x4x8, .f32⟩
  | 13 => ⟨S4x128x4x8, .f32⟩
  | 14 => ⟨S_, .i32⟩
  | 15 => ⟨S_, .i32⟩
  | 16 => ⟨S_, .i32⟩
  | 17 => ⟨S_, .i32⟩
  | 18 => ⟨S_, .i32⟩
  | 19 => ⟨S1x4x128x4x8x64, .f32⟩
  | 20 => ⟨S4x128x4x8x64, .f32⟩
  | 21 => ⟨S4x128x4x8x1, .f32⟩
  | 22 => ⟨S4x128x4x8x64, .f32⟩
  | 23 => ⟨S4x128x4x8x64, .f32⟩
  | 24 => ⟨S4x4x128x128, .f32⟩
  | 25 => ⟨S4x128x128x4, .f32⟩
  | 26 => ⟨S4x128x1x4x8, .f32⟩
  | 27 => ⟨S4x1x128x4x8, .f32⟩
  | 28 => ⟨S4x128x128x4x8, .f32⟩
  | 29 => ⟨S4x128x128x4x8, .f32⟩
  | 30 => ⟨S4x128x128x4x8, .f32⟩
  | 31 => ⟨S_, .f32⟩
  | 32 => ⟨S4x128x128x4x8, .f32⟩
  | 33 => ⟨S4x128x128x4x8, .i1⟩
  | 34 => ⟨S4x128x128x4x8, .f32⟩
  | 35 => ⟨S4x128x128x4x8, .f32⟩
  | 36 => ⟨S4x128x128x4x1, .f32⟩
  | 37 => ⟨S4x128x128x4x8, .f32⟩
  | 38 => ⟨S4x128x128x4x8, .f32⟩
  | 39 => ⟨S4x4x8x64x128, .f32⟩
  | 40 => ⟨S4x128x4x8x64, .f32⟩
  | 41 => ⟨S4x128x4x1x128, .f32⟩
  | 42 => ⟨S4x128x4x8, .f32⟩
  | 43 => ⟨S4x128x4x8x1, .f32⟩
  | 44 => ⟨S4x128x4x8x128, .f32⟩
  | 45 => ⟨S4x128x4x8x128, .f32⟩
  | 46 => ⟨S4x128x4x8x128, .f32⟩
  | 47 => ⟨S4x4x8x64x128, .f32⟩
  | 48 => ⟨S4x128x4x8x64, .f32⟩
  | 49 => ⟨S4x1x4x8, .f32⟩
  | 50 => ⟨S4x128x4x8, .f32⟩
  | 51 => ⟨S4x128x4x8, .f32⟩
  | 52 => ⟨S4x128x4x8, .f32⟩
  | 53 => ⟨S4x128x4x8x1, .f32⟩
  | 54 => ⟨S4x128x4x8x64, .f32⟩
  | 55 => ⟨S4x128x4x8x64, .f32⟩
  | 56 => ⟨S4x4x8x64x128, .f32⟩
  | 57 => ⟨S4x1x4x8, .f32⟩
  | 58 => ⟨S4x4x8, .f32⟩
  | 59 => ⟨S4x4x8, .f32⟩
  | 60 => ⟨S4x4x8x1x1, .f32⟩
  | 61 => ⟨S4x4x8x64x128, .f32⟩
  | 62 => ⟨S4x4x8x64x128, .f32⟩
  | 63 => ⟨S4x4x8x64x128, .f32⟩
  | 64 => ⟨S4x128x4x8x64, .f32⟩
  | 65 => ⟨S4x8, .f32⟩
  | 66 => ⟨S4x8x1, .f32⟩
  | 67 => ⟨S1x1x4x8x1, .f32⟩
  | 68 => ⟨S4x128x4x8x64, .f32⟩
  | 69 => ⟨S4x128x4x8x64, .f32⟩
  | 70 => ⟨S4x128x4x8x64, .f32⟩
  | 71 => ⟨S1x4x128x4x8x64, .f32⟩
  | 72 => ⟨S_, .i32⟩
  | 73 => ⟨S_, .i32⟩
  | 74 => ⟨S_, .i32⟩
  | 75 => ⟨S_, .i32⟩
  | 76 => ⟨S_, .i32⟩
  | 77 => ⟨S32x4x128x4x8x64, .f32⟩
  | 78 => ⟨S_, .i32⟩
  | 79 => ⟨S_, .i32⟩
  | 80 => ⟨S4x32x128x4x8x64, .f32⟩
  | 81 => ⟨S4x4096x4x512, .f32⟩
  | 82 => ⟨S4x4096x2048, .f32⟩
  | 83 => ⟨S4x4096x2048, .f32⟩
  | 84 => ⟨S_, .f32⟩
  | 85 => ⟨S4x4096x2048, .f32⟩
  | 86 => ⟨S4x4096x2048, .f32⟩
  | 87 => ⟨S_, .f32⟩
  | 88 => ⟨S4x4096x2048, .f32⟩
  | 89 => ⟨S4x4096x2048, .f32⟩
  | 90 => ⟨S4x4096x2048, .f32⟩
  | 91 => ⟨S4x4096x4x512, .f32⟩
  | 92 => ⟨S4x4096x4x512, .f32⟩
  | 93 => ⟨S4x4096x4x512, .f32⟩
  | 94 => ⟨S_, .f32⟩
  | 95 => ⟨S4x4096x4, .f32⟩
  | 96 => ⟨S4x4096x4x1, .f32⟩
  | 97 => ⟨S_, .f32⟩
  | 98 => ⟨S4x4096x4x1, .f32⟩
  | 99 => ⟨S4x4096x4x1, .f32⟩
  | 100 => ⟨S_, .f32⟩
  | 101 => ⟨S4x4096x4x1, .f32⟩
  | 102 => ⟨S4x4096x4x1, .f32⟩
  | 103 => ⟨S4x4096x4x1, .f32⟩
  | 104 => ⟨S4x4096x4x512, .f32⟩
  | 105 => ⟨S4x4096x4x512, .f32⟩
  | 106 => ⟨S4x512, .f32⟩
  | 107 => ⟨S1x1x4x512, .f32⟩
  | 108 => ⟨S4x4096x4x512, .f32⟩
  | 109 => ⟨S4x4096x4x512, .f32⟩
  | 110 => ⟨S4x4096x2048, .f32⟩
  | 111 => ⟨S4x4096x2048, .bf16⟩
  | 112 => ⟨S4x32x64x128, .f32⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_call1_cst : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_call2_call0_cst : Ref sig .tc := ⟨.hbm, 81, rfl⟩
abbrev main_call2_call0_v0 : Ref sig .tc := ⟨.hbm, 82, rfl⟩
abbrev main_v50 : Ref sig .tc := ⟨.hbm, 83, rfl⟩
abbrev main_c : Ref sig .tc := ⟨.hbm, 84, rfl⟩
abbrev main_v51 : Ref sig .tc := ⟨.hbm, 85, rfl⟩
abbrev main_call3_v0 : Ref sig .tc := ⟨.hbm, 86, rfl⟩
abbrev main_call3_c : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_c_0 : Ref sig .tc := ⟨.hbm, 92, rfl⟩
abbrev main_call3_v5 : Ref sig .tc := ⟨.hbm, 93, rfl⟩
abbrev main_v52 : Ref sig .tc := ⟨.hbm, 94, rfl⟩
abbrev main_v53 : Ref sig .tc := ⟨.hbm, 95, rfl⟩
abbrev main_cst_0 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_cst_1 : Ref sig .tc := ⟨.hbm, 103, rfl⟩
abbrev main_v60 : Ref sig .tc := ⟨.hbm, 104, rfl⟩
abbrev main_c_2 : Ref sig .tc := ⟨.hbm, 105, rfl⟩
abbrev main_v61_0 : Ref sig .tc := ⟨.hbm, 106, rfl⟩
abbrev main_v61_1 : Ref sig .tc := ⟨.hbm, 107, rfl⟩
abbrev main_v61_2 : Ref sig .tc := ⟨.hbm, 108, rfl⟩
abbrev main_v61_3 : Ref sig .tc := ⟨.hbm, 109, rfl⟩
abbrev main_v61_4 : Ref sig .tc := ⟨.hbm, 110, rfl⟩
abbrev main_v61_5 : Ref sig .tc := ⟨.hbm, 111, rfl⟩
abbrev main_v61_6 : Ref sig .tc := ⟨.hbm, 112, rfl⟩
abbrev main_v61_7 : Ref sig .tc := ⟨.hbm, 113, rfl⟩
abbrev main_v61_8 : Ref sig .tc := ⟨.hbm, 114, rfl⟩
abbrev main_v61_9 : Ref sig .tc := ⟨.hbm, 115, rfl⟩
abbrev main_while0c_c_15 : Ref sig .tc := ⟨.hbm, 116, rfl⟩
abbrev main_while0c_v84 : Ref sig .tc := ⟨.hbm, 117, rfl⟩
abbrev main_while0b_call4_c : Ref sig .tc := ⟨.hbm, 118, rfl⟩
abbrev main_while0b_call4_c_0 : Ref sig .tc := ⟨.hbm, 119, rfl⟩
abbrev main_while0b_call4_c_1 : Ref sig .tc := ⟨.hbm, 120, rfl⟩
abbrev main_while0b_call4_c_2 : Ref sig .tc := ⟨.hbm, 121, rfl⟩
abbrev main_while0b_call4_v0 : Ref sig .tc := ⟨.hbm, 122, rfl⟩
abbrev main_while0b_v84 : Ref sig .tc := ⟨.hbm, 123, rfl⟩
abbrev main_while0b_call5_c : Ref sig .tc := ⟨.hbm, 124, rfl⟩
abbrev main_while0b_call5_c_0 : Ref sig .tc := ⟨.hbm, 125, rfl⟩
abbrev main_while0b_call5_c_1 : Ref sig .tc := ⟨.hbm, 126, rfl⟩
abbrev main_while0b_call5_c_2 : Ref sig .tc := ⟨.hbm, 127, rfl⟩
abbrev main_while0b_call5_v0 : Ref sig .tc := ⟨.hbm, 128, rfl⟩
abbrev main_while0b_v85 : Ref sig .tc := ⟨.hbm, 129, rfl⟩
abbrev main_while0b_call6_c : Ref sig .tc := ⟨.hbm, 130, rfl⟩
abbrev main_while0b_call6_c_0 : Ref sig .tc := ⟨.hbm, 131, rfl⟩
abbrev main_while0b_call6_c_1 : Ref sig .tc := ⟨.hbm, 132, rfl⟩
abbrev main_while0b_call6_c_2 : Ref sig .tc := ⟨.hbm, 133, rfl⟩
abbrev main_while0b_call6_v0 : Ref sig .tc := ⟨.hbm, 134, rfl⟩
abbrev main_while0b_v86 : Ref sig .tc := ⟨.hbm, 135, rfl⟩
abbrev main_while0b_call7_c : Ref sig .tc := ⟨.hbm, 136, rfl⟩
abbrev main_while0b_call7_c_0 : Ref sig .tc := ⟨.hbm, 137, rfl⟩
abbrev main_while0b_call7_c_1 : Ref sig .tc := ⟨.hbm, 138, rfl⟩
abbrev main_while0b_call7_c_2 : Ref sig .tc := ⟨.hbm, 139, rfl⟩
abbrev main_while0b_call7_v0 : Ref sig .tc := ⟨.hbm, 140, rfl⟩
abbrev main_while0b_v87 : Ref sig .tc := ⟨.hbm, 141, rfl⟩
abbrev main_while0b_call8_c : Ref sig .tc := ⟨.hbm, 142, rfl⟩
abbrev main_while0b_call8_c_0 : Ref sig .tc := ⟨.hbm, 143, rfl⟩
abbrev main_while0b_call8_c_1 : Ref sig .tc := ⟨.hbm, 144, rfl⟩
abbrev main_while0b_call8_c_2 : Ref sig .tc := ⟨.hbm, 145, rfl⟩
abbrev main_while0b_call8_c_3 : Ref sig .tc := ⟨.hbm, 146, rfl⟩
abbrev main_while0b_call8_v0 : Ref sig .tc := ⟨.hbm, 147, rfl⟩
abbrev main_while0b_v88 : Ref sig .tc := ⟨.hbm, 148, rfl⟩
abbrev main_while0b_v89 : Ref sig .tc := ⟨.hbm, 149, rfl⟩
abbrev main_while0b_v90 : Ref sig .tc := ⟨.hbm, 150, rfl⟩
abbrev main_while0b_v91 : Ref sig .tc := ⟨.hbm, 151, rfl⟩
abbrev main_while0b_v92 : Ref sig .tc := ⟨.hbm, 152, rfl⟩
abbrev main_while0b_v93 : Ref sig .tc := ⟨.hbm, 153, rfl⟩
abbrev main_while0b_v94 : Ref sig .tc := ⟨.hbm, 154, rfl⟩
abbrev main_while0b_v95 : Ref sig .tc := ⟨.hbm, 155, rfl⟩
abbrev main_while0b_v96 : Ref sig .tc := ⟨.hbm, 156, rfl⟩
abbrev main_while0b_v97 : Ref sig .tc := ⟨.hbm, 157, rfl⟩
abbrev main_while0b_v98 : Ref sig .tc := ⟨.hbm, 158, rfl⟩
abbrev main_while0b_cst_15 : Ref sig .tc := ⟨.hbm, 159, rfl⟩
abbrev main_while0b_v99 : Ref sig .tc := ⟨.hbm, 160, rfl⟩
abbrev main_while0b_call9_v0 : Ref sig .tc := ⟨.hbm, 161, rfl⟩
abbrev main_while0b_v100 : Ref sig .tc := ⟨.hbm, 162, rfl⟩
abbrev main_while0b_v101 : Ref sig .tc := ⟨.hbm, 163, rfl⟩
abbrev main_while0b_v102 : Ref sig .tc := ⟨.hbm, 164, rfl⟩
abbrev main_while0b_v103 : Ref sig .tc := ⟨.hbm, 165, rfl⟩
abbrev main_while0b_v104 : Ref sig .tc := ⟨.hbm, 166, rfl⟩
abbrev main_while0b_v105 : Ref sig .tc := ⟨.hbm, 167, rfl⟩
abbrev main_while0b_v106 : Ref sig .tc := ⟨.hbm, 168, rfl⟩
abbrev main_while0b_v107 : Ref sig .tc := ⟨.hbm, 169, rfl⟩
abbrev main_while0b_v108 : Ref sig .tc := ⟨.hbm, 170, rfl⟩
abbrev main_while0b_v109 : Ref sig .tc := ⟨.hbm, 171, rfl⟩
abbrev main_while0b_v110 : Ref sig .tc := ⟨.hbm, 172, rfl⟩
abbrev main_while0b_v111 : Ref sig .tc := ⟨.hbm, 173, rfl⟩
abbrev main_while0b_v112 : Ref sig .tc := ⟨.hbm, 174, rfl⟩
abbrev main_while0b_v113 : Ref sig .tc := ⟨.hbm, 175, rfl⟩
abbrev main_while0b_v114 : Ref sig .tc := ⟨.hbm, 176, rfl⟩
abbrev main_while0b_v115 : Ref sig .tc := ⟨.hbm, 177, rfl⟩
abbrev main_while0b_v116 : Ref sig .tc := ⟨.hbm, 178, rfl⟩
abbrev main_while0b_v117 : Ref sig .tc := ⟨.hbm, 179, rfl⟩
abbrev main_while0b_v118 : Ref sig .tc := ⟨.hbm, 180, rfl⟩
abbrev main_while0b_v119 : Ref sig .tc := ⟨.hbm, 181, rfl⟩
abbrev main_while0b_v120 : Ref sig .tc := ⟨.hbm, 182, rfl⟩
abbrev main_while0b_v121 : Ref sig .tc := ⟨.hbm, 183, rfl⟩
abbrev main_while0b_v122 : Ref sig .tc := ⟨.hbm, 184, rfl⟩
abbrev main_while0b_v123 : Ref sig .tc := ⟨.hbm, 185, rfl⟩
abbrev main_while0b_v124 : Ref sig .tc := ⟨.hbm, 186, rfl⟩
abbrev main_while0b_v125 : Ref sig .tc := ⟨.hbm, 187, rfl⟩
abbrev main_while0b_v126 : Ref sig .tc := ⟨.hbm, 188, rfl⟩
abbrev main_while0b_v127 : Ref sig .tc := ⟨.hbm, 189, rfl⟩
abbrev main_while0b_v128 : Ref sig .tc := ⟨.hbm, 190, rfl⟩
abbrev main_while0b_v129 : Ref sig .tc := ⟨.hbm, 191, rfl⟩
abbrev main_while0b_v130 : Ref sig .tc := ⟨.hbm, 192, rfl⟩
abbrev main_while0b_v131 : Ref sig .tc := ⟨.hbm, 193, rfl⟩
abbrev main_while0b_v132 : Ref sig .tc := ⟨.hbm, 194, rfl⟩
abbrev main_while0b_v133 : Ref sig .tc := ⟨.hbm, 195, rfl⟩
abbrev main_while0b_v134 : Ref sig .tc := ⟨.hbm, 196, rfl⟩
abbrev main_while0b_v135 : Ref sig .tc := ⟨.hbm, 197, rfl⟩
abbrev main_while0b_v136 : Ref sig .tc := ⟨.hbm, 198, rfl⟩
abbrev main_while0b_call10_v0 : Ref sig .tc := ⟨.hbm, 199, rfl⟩
abbrev main_while0b_call10_c : Ref sig .tc := ⟨.hbm, 200, rfl⟩
abbrev main_while0b_call10_c_0 : Ref sig .tc := ⟨.hbm, 201, rfl⟩
abbrev main_while0b_call10_c_1 : Ref sig .tc := ⟨.hbm, 202, rfl⟩
abbrev main_while0b_call10_c_2 : Ref sig .tc := ⟨.hbm, 203, rfl⟩
abbrev main_while0b_call10_c_3 : Ref sig .tc := ⟨.hbm, 204, rfl⟩
abbrev main_while0b_v137 : Ref sig .tc := ⟨.hbm, 205, rfl⟩
abbrev main_while0b_c_16 : Ref sig .tc := ⟨.hbm, 206, rfl⟩
abbrev main_while0b_v138 : Ref sig .tc := ⟨.hbm, 207, rfl⟩
abbrev main_v62 : Ref sig .tc := ⟨.hbm, 208, rfl⟩
abbrev main_v63 : Ref sig .tc := ⟨.hbm, 209, rfl⟩
abbrev main_call11_v0 : Ref sig .tc := ⟨.hbm, 210, rfl⟩
abbrev main_call11_v1 : Ref sig .tc := ⟨.hbm, 211, rfl⟩
abbrev main_call11_cst : Ref sig .tc := ⟨.hbm, 212, rfl⟩
abbrev main_call11_v2 : Ref sig .tc := ⟨.hbm, 213, rfl⟩
abbrev main_call11_v3 : Ref sig .tc := ⟨.hbm, 214, rfl⟩
abbrev main_call11_cst_0 : Ref sig .tc := ⟨.hbm, 215, rfl⟩
abbrev main_call11_v4 : Ref sig .tc := ⟨.hbm, 216, rfl⟩
abbrev main_call11_v5 : Ref sig .tc := ⟨.hbm, 217, rfl⟩
abbrev main_v64 : Ref sig .tc := ⟨.hbm, 218, rfl⟩
abbrev main_v65 : Ref sig .tc := ⟨.hbm, 219, rfl⟩
abbrev main_v66 : Ref sig .tc := ⟨.hbm, 220, rfl⟩
abbrev main_v67 : Ref sig .tc := ⟨.hbm, 221, rfl⟩
abbrev main_cst_3 : Ref sig .tc := ⟨.hbm, 222, rfl⟩
abbrev main_v68 : Ref sig .tc := ⟨.hbm, 223, rfl⟩
abbrev main_v69 : Ref sig .tc := ⟨.hbm, 224, rfl⟩
abbrev main_cst_4 : Ref sig .tc := ⟨.hbm, 225, rfl⟩
abbrev main_v70 : Ref sig .tc := ⟨.hbm, 226, rfl⟩
abbrev main_v71 : Ref sig .tc := ⟨.hbm, 227, rfl⟩
abbrev main_cst_5 : Ref sig .tc := ⟨.hbm, 228, rfl⟩
abbrev main_v72 : Ref sig .tc := ⟨.hbm, 229, rfl⟩
abbrev main_v73 : Ref sig .tc := ⟨.hbm, 230, rfl⟩
abbrev main_v74 : Ref sig .tc := ⟨.hbm, 231, rfl⟩
abbrev main_v75 : Ref sig .tc := ⟨.hbm, 232, rfl⟩
abbrev main_v76 : Ref sig .tc := ⟨.hbm, 233, rfl⟩
abbrev main_v77 : Ref sig .tc := ⟨.hbm, 234, rfl⟩
abbrev main_v78 : Ref sig .tc := ⟨.hbm, 235, rfl⟩
abbrev main_v79 : Ref sig .tc := ⟨.hbm, 236, rfl⟩
abbrev main_v80 : Ref sig .tc := ⟨.hbm, 237, rfl⟩
abbrev main_v81 : Ref sig .tc := ⟨.hbm, 238, rfl⟩
abbrev main_v82 : Ref sig .tc := ⟨.hbm, 239, rfl⟩
abbrev main_v83 : Ref sig .tc := ⟨.hbm, 240, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S4x4096x2048 : Shape := ⟨3, ![4, 4096, 2048]⟩
abbrev S4x4096x1024 : Shape := ⟨3, ![4, 4096, 1024]⟩
abbrev S2048x1024 : Shape := ⟨2, ![2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S16384x2048 : Shape := ⟨2, ![16384, 2048]⟩
abbrev S16384x1024 : Shape := ⟨2, ![16384, 1024]⟩
abbrev S1x1024 : Shape := ⟨2, ![1, 1024]⟩
abbrev S1024 : Shape := ⟨1, ![1024]⟩
abbrev S512x2048 : Shape := ⟨2, ![512, 2048]⟩
abbrev S512x1024 : Shape := ⟨2, ![512, 1024]⟩
abbrev S1x1024x2816 : Shape := ⟨3, ![1, 1024, 2816]⟩
abbrev S1x2816x1024 : Shape := ⟨3, ![1, 2816, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 17
  | .vmem => 11
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x1024, .f32⟩
  | .hbm, ⟨2, _⟩ => ⟨S2048x1024, .f32⟩
  | .hbm, ⟨3, _⟩ => ⟨S2x1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S16384x2048, .bf16⟩
  | .hbm, ⟨8, _⟩ => ⟨S16384x1024, .f32⟩
  | .hbm, ⟨9, _⟩ => ⟨S2048x1024, .bf16⟩
  | .hbm, ⟨10, _⟩ => ⟨S2x1024x2816, .bf16⟩
  | .hbm, ⟨11, _⟩ => ⟨S2x1024x2816, .bf16⟩
  | .hbm, ⟨12, _⟩ => ⟨S2x2816x1024, .bf16⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S2048x1024, .bf16⟩
  | .local _ .vmem, ⟨5, _⟩ => ⟨S1x1024, .f32⟩
  | .local _ .vmem, ⟨6, _⟩ => ⟨S1x1024x2816, .bf16⟩
  | .local _ .vmem, ⟨7, _⟩ => ⟨S1x1024x2816, .bf16⟩
  | .local _ .vmem, ⟨8, _⟩ => ⟨S1x2816x1024, .bf16⟩
  | .local _ .vmem, ⟨9, _⟩ => ⟨S512x1024, .f32⟩
  | .local _ .vmem, ⟨10, _⟩ => ⟨S512x1024, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S4x4096x2048 : Shape := ⟨3, ![4, 4096, 2048]⟩
abbrev S4x4096x1024 : Shape := ⟨3, ![4, 4096, 1024]⟩
abbrev S2048x1024 : Shape := ⟨2, ![2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S4x4096x2816 : Shape := ⟨3, ![4, 4096, 2816]⟩
abbrev S16384x1024 : Shape := ⟨2, ![16384, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x1024, .f32⟩
  | .hbm, ⟨2, _⟩ => ⟨S2048x1024, .f32⟩
  | .hbm, ⟨3, _⟩ => ⟨S2x1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S4x4096x2048, .f32⟩
  | .hbm, ⟨8, _⟩ => ⟨S4x4096x1024, .f32⟩
  | .hbm, ⟨9, _⟩ => ⟨S4x4096x1024, .f32⟩
  | .hbm, ⟨10, _⟩ => ⟨S1x1024, .f32⟩
  | .hbm, ⟨11, _⟩ => ⟨S1024, .f32⟩
  | .hbm, ⟨12, _⟩ => ⟨S4x4096x1024, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x1024, .f32⟩
  | .hbm, ⟨24, _⟩ => ⟨S4x4096x1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S1x1024x2816, .f32⟩
  | .hbm, ⟨29, _⟩ => ⟨S1024x2816, .f32⟩
  | .hbm, ⟨30, _⟩ => ⟨S1x1024x2816, .f32⟩
  | .hbm, ⟨31, _⟩ => ⟨S1024x2816, .f32⟩
  | .hbm, ⟨32, _⟩ => ⟨S1x2816x1024, .f32⟩
  | .hbm, ⟨33, _⟩ => ⟨S2816x1024, .f32⟩
  | .hbm, ⟨34, _⟩ => ⟨S4x4096x2816, .f32⟩
  | .hbm, ⟨35, _⟩ => ⟨S4x4096x2816, .f32⟩
  | .hbm, ⟨36, _⟩ => ⟨S4x4096x2816, .f32⟩
  | .hbm, ⟨37, _⟩ => ⟨S_, .f32⟩
  | .hbm, ⟨38, _⟩ => ⟨S4x4096x2816, .f32⟩
  | .hbm, ⟨39, _⟩ => ⟨S4x4096x2816, .f32⟩
  | .hbm, ⟨40, _⟩ => ⟨S_, .f32⟩
  | .hbm, ⟨41, _⟩ => ⟨S4x4096x2816, .f32⟩
  | .hbm, ⟨42, _⟩ => ⟨S4x4096x2816, .f32⟩
  | .hbm, ⟨43, _⟩ => ⟨S4x4096x2816, .f32⟩
  | .hbm, ⟨44, _⟩ => ⟨S4x4096x2816, .f32⟩
  | .hbm, ⟨45, _⟩ => ⟨S4x4096x2816, .f32⟩
  | .hbm, ⟨46, _⟩ => ⟨S4x4096x1024, .f32⟩
  | .hbm, ⟨47, _⟩ => ⟨S4x4096x1024, .f32⟩
  | .hbm, ⟨48, _⟩ => ⟨S16384x1024, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024x1024 : Shape := ⟨2, ![1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S4x1024x4096 : Shape := ⟨3, ![4, 1024, 4096]⟩
abbrev S16384x1024 : Shape := ⟨2, ![16384, 1024]⟩
abbrev S1x1024 : Shape := ⟨2, ![1, 1024]⟩
abbrev S1024 : Shape := ⟨1, ![1024]⟩
abbrev S1x1024x512 : Shape := ⟨3, ![1, 1024, 512]⟩
abbrev S512x1024 : Shape := ⟨2, ![512, 1024]⟩
abbrev S1x1024x2816 : Shape := ⟨3, ![1, 1024, 2816]⟩
abbrev S1x2816x1024 : Shape := ⟨3, ![1, 2816, 1024]⟩
abbrev S1024x512 : Shape := ⟨2, ![1024, 512]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 17
  | .vmem => 11
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .f32⟩
  | .hbm, ⟨2, _⟩ => ⟨S1024x1024, .f32⟩
  | .hbm, ⟨3, _⟩ => ⟨S2x1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S4x1024x4096, .bf16⟩
  | .hbm, ⟨8, _⟩ => ⟨S16384x1024, .f32⟩
  | .hbm, ⟨9, _⟩ => ⟨S1024x1024, .bf16⟩
  | .hbm, ⟨10, _⟩ => ⟨S2x1024x2816, .bf16⟩
  | .hbm, ⟨11, _⟩ => ⟨S2x1024x2816, .bf16⟩
  | .hbm, ⟨12, _⟩ => ⟨S2x2816x1024, .bf16⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S16384x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024x2816, .bf16⟩
  | .local _ .vmem, ⟨7, _⟩ => ⟨S1x1024x2816, .bf16⟩
  | .local _ .vmem, ⟨8, _⟩ => ⟨S1x2816x1024, .bf16⟩
  | .local _ .vmem, ⟨9, _⟩ => ⟨S512x1024, .f32⟩
  | .local _ .vmem, ⟨10, _⟩ => ⟨S512x1024, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S4x4096x1024 : Shape := ⟨3, ![4, 4096, 1024]⟩
abbrev S1024x1024 : Shape := ⟨2, ![1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S4x4096x2816 : Shape := ⟨3, ![4, 4096, 2816]⟩
abbrev S16384x1024 : Shape := ⟨2, ![16384, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .f32⟩
  | .hbm, ⟨2, _⟩ => ⟨S1024x1024, .f32⟩
  | .hbm, ⟨3, _⟩ => ⟨S2x1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S1x1024, .f32⟩
  | .hbm, ⟨11, _⟩ => ⟨S1024, .f32⟩
  | .hbm, ⟨12, _⟩ => ⟨S4x4096x1024, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x1024, .f32⟩
  | .hbm, ⟨24, _⟩ => ⟨S4x4096x1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S1x1024x2816, .f32⟩
  | .hbm, ⟨29, _⟩ => ⟨S1024x2816, .f32⟩
  | .hbm, ⟨30, _⟩ => ⟨S1x1024x2816, .f32⟩
  | .hbm, ⟨31, _⟩ => ⟨S1024x2816, .f32⟩
  | .hbm, ⟨32, _⟩ => ⟨S1x2816x1024, .f32⟩
  | .hbm, ⟨33, _⟩ => ⟨S2816x1024, .f32⟩
  | .hbm, ⟨34, _⟩ => ⟨S4x4096x2816, .f32⟩
  | .hbm, ⟨35, _⟩ => ⟨S4x4096x2816, .f32⟩
  | .hbm, ⟨36, _⟩ => ⟨S4x4096x2816, .f32⟩
  | .hbm, ⟨37, _⟩ => ⟨S_, .f32⟩
  | .hbm, ⟨38, _⟩ => ⟨S4x4096x2816, .f32⟩
  | .hbm, ⟨39, _⟩ => ⟨S4x4096x2816, .f32⟩
  | .hbm, ⟨40, _⟩ => ⟨S_, .f32⟩
  | .hbm, ⟨41, _⟩ => ⟨S4x4096x2816, .f32⟩
  | .hbm, ⟨42, _⟩ => ⟨S4x4096x2816, .f32⟩
  | .hbm, ⟨43, _⟩ => ⟨S4x4096x2816, .f32⟩
  | .hbm, ⟨44, _⟩ => ⟨S4x4096x2816, .f32⟩
  | .hbm, ⟨45, _⟩ => ⟨S4x4096x2816, .f32⟩
  | .hbm, ⟨46, _⟩ => ⟨S4x4096x1024, .f32⟩
  | .hbm, ⟨47, _⟩ => ⟨S4x4096x1024, .f32⟩
  | .hbm, ⟨48, _⟩ => ⟨S16384x1024, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== Kernel4.lean ====
abbrev S4x4096x1024 : Shape := ⟨3, ![4, 4096, 1024]⟩
abbrev S1x1024 : Shape := ⟨2, ![1, 1024]⟩
abbrev S1x1024x3072 : Shape := ⟨3, ![1, 1024, 3072]⟩
abbrev S1x128 : Shape := ⟨2, ![1, 128]⟩
abbrev S1024 : Shape := ⟨1, ![1024]⟩
abbrev S1024x3072 : Shape := ⟨2, ![1024, 3072]⟩
abbrev S128 : Shape := ⟨1, ![128]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S4096x112 : Shape := ⟨2, ![4096, 112]⟩
abbrev S4x8x4096x128 : Shape := ⟨4, ![4, 8, 4096, 128]⟩
abbrev S1x512x1024 : Shape := ⟨3, ![1, 512, 1024]⟩
abbrev S512x128 : Shape := ⟨2, ![512, 128]⟩
abbrev S1x8x512x128 : Shape := ⟨4, ![1, 8, 512, 128]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S1x1x512x128 : Shape := ⟨4, ![1, 1, 512, 128]⟩

abbrev nBuf : Space → Nat
  | .hbm => 48
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x3072, .f32⟩
  | .hbm, ⟨3, _⟩ => ⟨S1x128, .f32⟩
  | .hbm, ⟨4, _⟩ => ⟨S1x128, .f32⟩
  | .hbm, ⟨5, _⟩ => ⟨S1024, .f32⟩
  | .hbm, ⟨6, _⟩ => ⟨S1024x3072, .f32⟩
  | .hbm, ⟨7, _⟩ => ⟨S1024x3072, .bf16⟩
  | .hbm, ⟨8, _⟩ => ⟨S128, .f32⟩
  | .hbm, ⟨9, _⟩ => ⟨S128, .f32⟩
  | .hbm, ⟨10, _⟩ => ⟨S4096, .i32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S4096, .f32⟩
  | .hbm, ⟨23, _⟩ => ⟨S4096x1, .f32⟩
  | .hbm, ⟨24, _⟩ => ⟨S1x16, .f32⟩
  | .hbm, ⟨25, _⟩ => ⟨S4096x16, .f32⟩
  | .hbm, ⟨26, _⟩ => ⟨S4096x16, .f32⟩
  | .hbm, ⟨27, _⟩ => ⟨S4096x16, .f32⟩
  | .hbm, ⟨28, _⟩ => ⟨S4096x16, .f32⟩
  | .hbm, ⟨29, _⟩ => ⟨S4096x16, .f32⟩
  | .hbm, ⟨30, _⟩ => ⟨S_, .f32⟩
  | .hbm, ⟨31, _⟩ => ⟨S4096x96, .f32⟩
  | .hbm, ⟨32, _⟩ => ⟨S4096x128, .f32⟩
  | .hbm, ⟨33, _⟩ => ⟨S4096x16, .f32⟩
  | .hbm, ⟨34, _⟩ => ⟨S_, .f32⟩
  | .hbm, ⟨35, _⟩ => ⟨S4096x112, .f32⟩
  | .hbm, ⟨36, _⟩ => ⟨S4096x128, .f32⟩
  | .hbm, ⟨37, _⟩ => ⟨S_, .f32⟩
  | .hbm, ⟨38, _⟩ => ⟨S4096x16, .f32⟩
  | .hbm, ⟨39, _⟩ => ⟨S_, .f32⟩
  | .hbm, ⟨40, _⟩ => ⟨S4096x96, .f32⟩
  | .hbm, ⟨41, _⟩ => ⟨S4096x128, .f32⟩
  | .hbm, ⟨42, _⟩ => ⟨S1x1024, .f32⟩
  | .hbm, ⟨43, _⟩ => ⟨S1x128, .f32⟩
  | .hbm, ⟨44, _⟩ => ⟨S1x128, .f32⟩
  | .hbm, ⟨45, _⟩ => ⟨S4x8x4096x128, .f32⟩
  | .hbm, ⟨46, _⟩ => ⟨S4x8x4096x128, .f32⟩
  | .hbm, ⟨47, _⟩ => ⟨S4x8x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x8x512x128, .f32⟩
  | .local _ .vmem, ⟨13, _⟩ => ⟨S1x8x512x128, .f32⟩
  | .local _ .vmem, ⟨14, _⟩ => ⟨S1x8x512x128, .f32⟩
  | .local _ .vmem, ⟨15, _⟩ => ⟨S1x8x512x128, .f32⟩
  | .local _ .vmem, ⟨16, _⟩ => ⟨S1x8x512x128, .f32⟩
  | .local _ .vmem, ⟨17, _⟩ => ⟨S1x8x512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33_0 : Ref sig .tc := ⟨.hbm, 45, rfl⟩
abbrev main_v33_1 : Ref sig .tc := ⟨.hbm, 46, rfl⟩
abbrev main_v33_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x8x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S4x4096x1024 : Shape := ⟨3, ![4, 4096, 1024]⟩
abbrev S1x1024 : Shape := ⟨2, ![1, 1024]⟩
abbrev S1x1024x3072 : Shape := ⟨3, ![1, 1024, 3072]⟩
abbrev S1x128 : Shape := ⟨2, ![1, 128]⟩
abbrev S4096 : Shape := ⟨1, ![4096]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x3072 : Shape := ⟨2, ![1024, 3072]⟩
abbrev S4x4096x3072 : Shape := ⟨3, ![4, 4096, 3072]⟩
abbrev S4x4096x3x8x128 : Shape := ⟨5, ![4, 4096, 3, 8, 128]⟩
abbrev S3x4x8x4096x128 : Shape := ⟨5, ![3, 4, 8, 4096, 128]⟩
abbrev S1x4x8x4096x128 : Shape := ⟨5, ![1, 4, 8, 4096, 128]⟩
abbrev S4x8x4096x128 : Shape := ⟨4, ![4, 8, 4096, 128]⟩
abbrev S128 : Shape := ⟨1, ![128]⟩
abbrev S4x8x4096 : Shape := ⟨3, ![4, 8, 4096]⟩
abbrev S4x8x4096x1 : Shape := ⟨4, ![4, 8, 4096, 1]⟩
abbrev S1x1x1x128 : Shape := ⟨4, ![1, 1, 1, 128]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4x8x4096x16 : Shape := ⟨4, ![4, 8, 4096, 16]⟩
abbrev S1x1x4096x16 : Shape := ⟨4, ![1, 1, 4096, 16]⟩
abbrev S4x8x4096x32 : Shape := ⟨4, ![4, 8, 4096, 32]⟩
abbrev S4x8x4096x96 : Shape := ⟨4, ![4, 8, 4096, 96]⟩

abbrev nBuf : Space → Nat
  | .hbm => 143
  | .vmem => 0
  | .smem => 0
  | _ => 0

abbrev hbmTy0_0 (i : Nat) : BufTy := match i % 128 with
  | 0 => ⟨S4x4096x1024, .f32⟩
  | 1 => ⟨S1x1024, .f32⟩
  | 2 => ⟨S1x1024x3072, .f32⟩
  | 3 => ⟨S1x128, .f32⟩
  | 4 => ⟨S1x128, .f32⟩
  | 5 => ⟨S4096, .i32⟩
  | 6 => ⟨S1024, .f32⟩
  | 7 => ⟨S4x4096x1024, .f32⟩
  | 8 => ⟨S_, .f32⟩
  | 9 => ⟨S4x4096, .f32⟩
  | 10 => ⟨S4x4096x1, .f32⟩
  | 11 => ⟨S_, .f32⟩
  | 12 => ⟨S4x4096x1, .f32⟩
  | 13 => ⟨S4x4096x1, .f32⟩
  | 14 => ⟨S_, .f32⟩
  | 15 => ⟨S4x4096x1, .f32⟩
  | 16 => ⟨S4x4096x1, .f32⟩
  | 17 => ⟨S4x4096x1, .f32⟩
  | 18 => ⟨S4x4096x1024, .f32⟩
  | 19 => ⟨S4x4096x1024, .f32⟩
  | 20 => ⟨S1x1x1024, .f32⟩
  | 21 => ⟨S4x4096x1024, .f32⟩
  | 22 => ⟨S4x4096x1024, .f32⟩
  | 23 => ⟨S1024x3072, .f32⟩
  | 24 => ⟨S4x4096x3072, .f32⟩
  | 25 => ⟨S4x4096x3x8x128, .f32⟩
  | 26 => ⟨S3x4x8x4096x128, .f32⟩
  | 27 => ⟨S1x4x8x4096x128, .f32⟩
  | 28 => ⟨S4x8x4096x128, .f32⟩
  | 29 => ⟨S128, .f32⟩
  | 30 => ⟨S4x8x4096x128, .f32⟩
  | 31 => ⟨S_, .f32⟩
  | 32 => ⟨S4x8x4096, .f32⟩
  | 33 => ⟨S4x8x4096x1, .f32⟩
  | 34 => ⟨S_, .f32⟩
  | 35 => ⟨S4x8x4096x1, .f32⟩
  | 36 => ⟨S4x8x4096x1, .f32⟩
  | 37 => ⟨S_, .f32⟩
  | 38 => ⟨S4x8x4096x1, .f32⟩
  | 39 => ⟨S4x8x4096x1, .f32⟩
  | 40 => ⟨S4x8x4096x1, .f32⟩
  | 41 => ⟨S4x8x4096x128, .f32⟩
  | 42 => ⟨S4x8x4096x128, .f32⟩
  | 43 => ⟨S1x1x1x128, .f32⟩
  | 44 => ⟨S4x8x4096x128, .f32⟩
  | 45 => ⟨S4x8x4096x128, .f32⟩
  | 46 => ⟨S16, .f32⟩
  | 47 => ⟨S16, .f32⟩
  | 48 => ⟨S_, .f32⟩
  | 49 => ⟨S16, .f32⟩
  | 50 => ⟨S16, .f32⟩
  | 51 => ⟨S_, .f32⟩
  | 52 => ⟨S16, .f32⟩
  | 53 => ⟨S16, .f32⟩
  | 54 => ⟨S_, .f32⟩
  | 55 => ⟨S16, .f32⟩
  | 56 => ⟨S16, .f32⟩
  | 57 => ⟨S4096, .f32⟩
  | 58 => ⟨S4096x1, .f32⟩
  | 59 => ⟨S1x16, .f32⟩
  | 60 => ⟨S4096x16, .f32⟩
  | 61 => ⟨S4096x16, .f32⟩
  | 62 => ⟨S4096x16, .f32⟩
  | 63 => ⟨S4096x16, .f32⟩
  | 64 => ⟨S4096x16, .f32⟩
  | 65 => ⟨S4x8x4096x16, .f32⟩
  | 66 => ⟨S4x8x4096x16, .f32⟩
  | 67 => ⟨S1x1x4096x16, .f32⟩
  | 68 => ⟨S4x8x4096x16, .f32⟩
  | 69 => ⟨S4x8x4096x16, .f32⟩
  | 70 => ⟨S1x1x4096x16, .f32⟩
  | 71 => ⟨S4x8x4096x16, .f32⟩
  | 72 => ⟨S4x8x4096x16, .f32⟩
  | 73 => ⟨S4x8x4096x16, .f32⟩
  | 74 => ⟨S1x1x4096x16, .f32⟩
  | 75 => ⟨S4x8x4096x16, .f32⟩
  | 76 => ⟨S4x8x4096x16, .f32⟩
  | 77 => ⟨S1x1x4096x16, .f32⟩
  | 78 => ⟨S4x8x4096x16, .f32⟩
  | 79 => ⟨S4x8x4096x16, .f32⟩
  | 80 => ⟨S4x8x4096x16, .f32⟩
  | 81 => ⟨S4x8x4096x32, .f32⟩
  | 82 => ⟨S4x8x4096x96, .f32⟩
  | 83 => ⟨S4x8x4096x128, .f32⟩
  | 84 => ⟨S1x4x8x4096x128, .f32⟩
  | 85 => ⟨S4x8x4096x128, .f32⟩
  | 86 => ⟨S128, .f32⟩
  | 87 => ⟨S4x8x4096x128, .f32⟩
  | 88 => ⟨S_, .f32⟩
  | 89 => ⟨S4x8x4096, .f32⟩
  | 90 => ⟨S4x8x4096x1, .f32⟩
  | 91 => ⟨S_, .f32⟩
  | 92 => ⟨S4x8x4096x1, .f32⟩
  | 93 => ⟨S4x8x4096x1, .f32⟩
  | 94 => ⟨S_, .f32⟩
  | 95 => ⟨S4x8x4096x1, .f32⟩
  | 96 => ⟨S4x8x4096x1, .f32⟩
  | 97 => ⟨S4x8x4096x1, .f32⟩
  | 98 => ⟨S4x8x4096x128, .f32⟩
  | 99 => ⟨S4x8x4096x128, .f32⟩
  | 100 => ⟨S1x1x1x128, .f32⟩
  | 101 => ⟨S4x8x4096x128, .f32⟩
  | 102 => ⟨S4x8x4096x128, .f32⟩
  | 103 => ⟨S16, .f32⟩
  | 104 => ⟨S16, .f32⟩
  | 105 => ⟨S_, .f32⟩
  | 106 => ⟨S16, .f32⟩
  | 107 => ⟨S16, .f32⟩
  | 108 => ⟨S_, .f32⟩
  | 109 => ⟨S16, .f32⟩
  | 110 => ⟨S16, .f32⟩
  | 111 => ⟨S_, .f32⟩
  | 112 => ⟨S16, .f32⟩
  | 113 => ⟨S16, .f32⟩
  | 114 => ⟨S4096, .f32⟩
  | 115 => ⟨S4096x1, .f32⟩
  | 116 => ⟨S1x16, .f32⟩
  | 117 => ⟨S4096x16, .f32⟩
  | 118 => ⟨S4096x16, .f32⟩
  | 119 => ⟨S4096x16, .f32⟩
  | 120 => ⟨S4096x16, .f32⟩
  | 121 => ⟨S4096x16, .f32⟩
  | 122 => ⟨S4x8x4096x16, .f32⟩
  | 123 => ⟨S4x8x4096x16, .f32⟩
  | 124 => ⟨S1x1x4096x16, .f32⟩
  | 125 => ⟨S4x8x4096x16, .f32⟩
  | 126 => ⟨S4x8x4096x16, .f32⟩
  | 127 => ⟨S1x1x4096x16, .f32⟩
  | _ => ⟨S4x4096x1024, .f32⟩

abbrev hbmTy0_1 (i : Nat) : BufTy := match i % 128 with
  | 0 => ⟨S4x8x4096x16, .f32⟩
  | 1 => ⟨S4x8x4096x16, .f32⟩
  | 2 => ⟨S4x8x4096x16, .f32⟩
  | 3 => ⟨S1x1x4096x16, .f32⟩
  | 4 => ⟨S4x8x4096x16, .f32⟩
  | 5 => ⟨S4x8x4096x16, .f32⟩
  | 6 => ⟨S1x1x4096x16, .f32⟩
  | 7 => ⟨S4x8x4096x16, .f32⟩
  | 8 => ⟨S4x8x4096x16, .f32⟩
  | 9 => ⟨S4x8x4096x16, .f32⟩
  | 10 => ⟨S4x8x4096x32, .f32⟩
  | 11 => ⟨S4x8x4096x96, .f32⟩
  | 12 => ⟨S4x8x4096x128, .f32⟩
  | 13 => ⟨S1x4x8x4096x128, .f32⟩
  | 14 => ⟨S4x8x4096x128, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_8 : Ref sig .tc := ⟨.hbm, 88, rfl⟩
abbrev main_v74 : Ref sig .tc := ⟨.hbm, 89, rfl⟩
abbrev main_v75 : Ref sig .tc := ⟨.hbm, 90, rfl⟩
abbrev main_cst_9 : Ref sig .tc := ⟨.hbm, 91, rfl⟩
abbrev main_v76 : Ref sig .tc := ⟨.hbm, 92, rfl⟩
abbrev main_v77 : Ref sig .tc := ⟨.hbm, 93, rfl⟩
abbrev main_cst_10 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_cst_11 : Ref sig .tc := ⟨.hbm, 105, rfl⟩
abbrev main_v88 : Ref sig .tc := ⟨.hbm, 106, rfl⟩
abbrev main_v89 : Ref sig .tc := ⟨.hbm, 107, rfl⟩
abbrev main_cst_12 : Ref sig .tc := ⟨.hbm, 108, rfl⟩
abbrev main_v90 : Ref sig .tc := ⟨.hbm, 109, rfl⟩
abbrev main_v91 : Ref sig .tc := ⟨.hbm, 110, rfl⟩
abbrev main_cst_13 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩

abbrev nD : Nat := 1
abbrev τ : Topo := Topo.v7x

variable {F : FTy → Type} [FloatOps F]
-- ==== Kernel5.lean ====
abbrev S4x4096x1024 : Shape := ⟨3, ![4, 4096, 1024]⟩
abbrev S1x1024 : Shape := ⟨2, ![1, 1024]⟩
abbrev S1x1024x5152 : Shape := ⟨3, ![1, 1024, 5152]⟩
abbrev S1024x5152 : Shape := ⟨2, ![1024, 5152]⟩
abbrev S1024x2048 : Shape := ⟨2, ![1024, 2048]⟩
abbrev S1024x3072 : Shape := ⟨2, ![1024, 3072]⟩
abbrev S1024x32 : Shape := ⟨2, ![1024, 32]⟩
abbrev S_ : Shape := ⟨0, ![]⟩
abbrev S1024x128 : Shape := ⟨2, ![1024, 128]⟩
abbrev S16384x1024 : Shape := ⟨2, ![16384, 1024]⟩
abbrev S1024 : Shape := ⟨1, ![1024]⟩
abbrev S16384x2048 : Shape := ⟨2, ![16384, 2048]⟩
abbrev S16384x3072 : Shape := ⟨2, ![16384, 3072]⟩
abbrev S16384x128 : Shape := ⟨2, ![16384, 128]⟩
abbrev S512x1024 : Shape := ⟨2, ![512, 1024]⟩
abbrev S512x2048 : Shape := ⟨2, ![512, 2048]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩

abbrev nBuf : Space → Nat
  | .hbm => 19
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5152, .f32⟩
  | .hbm, ⟨3, _⟩ => ⟨S1024x5152, .f32⟩
  | .hbm, ⟨4, _⟩ => ⟨S1024x2048, .f32⟩
  | .hbm, ⟨5, _⟩ => ⟨S1024x2048, .bf16⟩
  | .hbm, ⟨6, _⟩ => ⟨S1024x3072, .f32⟩
  | .hbm, ⟨7, _⟩ => ⟨S1024x3072, .bf16⟩
  | .hbm, ⟨8, _⟩ => ⟨S1024x32, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S16384x1024, .f32⟩
  | .hbm, ⟨14, _⟩ => ⟨S1024, .f32⟩
  | .hbm, ⟨15, _⟩ => ⟨S1x1024, .f32⟩
  | .hbm, ⟨16, _⟩ => ⟨S16384x2048, .f32⟩
  | .hbm, ⟨17, _⟩ => ⟨S16384x3072, .f32⟩
  | .hbm, ⟨18, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1024x3072, .bf16⟩
  | .local _ .vmem, ⟨5, _⟩ => ⟨S1024x128, .bf16⟩
  | .local _ .vmem, ⟨6, _⟩ => ⟨S512x2048, .f32⟩
  | .local _ .vmem, ⟨7, _⟩ => ⟨S512x2048, .f32⟩
  | .local _ .vmem, ⟨8, _⟩ => ⟨S512x3072, .f32⟩
  | .local _ .vmem, ⟨9, _⟩ => ⟨S512x3072, .f32⟩
  | .local _ .vmem, ⟨10, _⟩ => ⟨S512x128, .f32⟩
  | .local _ .vmem, ⟨11, _⟩ => ⟨S512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S4x4096x1024 : Shape := ⟨3, ![4, 4096, 1024]⟩
abbrev S1x1024 : Shape := ⟨2, ![1, 1024]⟩
abbrev S1x1024x5152 : Shape := ⟨3, ![1, 1024, 5152]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x5152 : Shape := ⟨2, ![1024, 5152]⟩
abbrev S4x4096x5152 : Shape := ⟨3, ![4, 4096, 5152]⟩
abbrev S4x4096x2048 : Shape := ⟨3, ![4, 4096, 2048]⟩
abbrev S4x4096x3072 : Shape := ⟨3, ![4, 4096, 3072]⟩
abbrev S4x4096x32 : Shape := ⟨3, ![4, 4096, 32]⟩
abbrev S4x4096x128 : Shape := ⟨3, ![4, 4096, 128]⟩
abbrev S16384x2048 : Shape := ⟨2, ![16384, 2048]⟩
abbrev S16384x3072 : Shape := ⟨2, ![16384, 3072]⟩
abbrev S16384x128 : Shape := ⟨2, ![16384, 128]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5152, .f32⟩
  | .hbm, ⟨3, _⟩ => ⟨S1024, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S1024x5152, .f32⟩
  | .hbm, ⟨21, _⟩ => ⟨S4x4096x5152, .f32⟩
  | .hbm, ⟨22, _⟩ => ⟨S4x4096x2048, .f32⟩
  | .hbm, ⟨23, _⟩ => ⟨S4x4096x3072, .f32⟩
  | .hbm, ⟨24, _⟩ => ⟨S4x4096x32, .f32⟩
  | .hbm, ⟨25, _⟩ => ⟨S_, .i32⟩
  | .hbm, ⟨26, _⟩ => ⟨S_, .f32⟩
  | .hbm, ⟨27, _⟩ => ⟨S4x4096x128, .f32⟩
  | .hbm, ⟨28, _⟩ => ⟨S16384x2048, .f32⟩
  | .hbm, ⟨29, _⟩ => ⟨S16384x3072, .f32⟩
  | .hbm, ⟨30, _⟩ => ⟨S16384x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel6.lean ====
abbrev S32x4x1024 : Shape := ⟨3, ![32, 4, 1024]⟩
abbrev S1x1024 : Shape := ⟨2, ![1, 1024]⟩
abbrev S1x1024x5152 : Shape := ⟨3, ![1, 1024, 5152]⟩
abbrev S1024x5152 : Shape := ⟨2, ![1024, 5152]⟩
abbrev S1024x2048 : Shape := ⟨2, ![1024, 2048]⟩
abbrev S1024x3072 : Shape := ⟨2, ![1024, 3072]⟩
abbrev S1024x32 : Shape := ⟨2, ![1024, 32]⟩
abbrev S_ : Shape := ⟨0, ![]⟩
abbrev S1024x128 : Shape := ⟨2, ![1024, 128]⟩
abbrev S128x1024 : Shape := ⟨2, ![128, 1024]⟩
abbrev S1024 : Shape := ⟨1, ![1024]⟩
abbrev S128x2048 : Shape := ⟨2, ![128, 2048]⟩
abbrev S128x3072 : Shape := ⟨2, ![128, 3072]⟩
abbrev S128x128 : Shape := ⟨2, ![128, 128]⟩
abbrev S128 : Shape := ⟨1, ![128]⟩
abbrev S128x1 : Shape := ⟨2, ![128, 1]⟩

abbrev nBuf : Space → Nat
  | .hbm => 19
  | .vmem => 8
  | .smem => 0
  | _ => 0

abbrev bufTy : (tb : Table) → Fin (tcTables nBuf tb) → BufTy
  | .hbm, ⟨0, _⟩ => ⟨S32x4x1024, .f32⟩
  | .hbm, ⟨1, _⟩ => ⟨S1x1024, .f32⟩
  | .hbm, ⟨2, _⟩ => ⟨S1x1024x5152, .f32⟩
  | .hbm, ⟨3, _⟩ => ⟨S1024x5152, .f32⟩
  | .hbm, ⟨4, _⟩ => ⟨S1024x2048, .f32⟩
  | .hbm, ⟨5, _⟩ => ⟨S1024x2048, .bf16⟩
  | .hbm, ⟨6, _⟩ => ⟨S1024x3072, .f32⟩
  | .hbm, ⟨7, _⟩ => ⟨S1024x3072, .bf16⟩
  | .hbm, ⟨8, _⟩ => ⟨S1024x32, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S128x1024, .f32⟩
  | .hbm, ⟨14, _⟩ => ⟨S1024, .f32⟩
  | .hbm, ⟨15, _⟩ => ⟨S1x1024, .f32⟩
  | .hbm, ⟨16, _⟩ => ⟨S128x2048, .f32⟩
  | .hbm, ⟨17, _⟩ => ⟨S128x3072, .f32⟩
  | .hbm, ⟨18, _⟩ => ⟨S128x128, .f32⟩
  | .local _ .vmem, ⟨0, _⟩ => ⟨S128x1024, .f32⟩
  | .local _ .vmem, ⟨1, _⟩ => ⟨S1x1024, .f32⟩
  | .local _ .vmem, ⟨2, _⟩ => ⟨S1024x2048, .bf16⟩
  | .local _ .vmem, ⟨3, _⟩ => ⟨S1024x3072, .bf16⟩
  | .local _ .vmem, ⟨4, _⟩ => ⟨S1024x128, .bf16⟩
  | .local _ .vmem, ⟨5, _⟩ => ⟨S128x2048, .f32⟩
  | .local _ .vmem, ⟨6, _⟩ => ⟨S128x3072, .f32⟩
  | .local _ .vmem, ⟨7, _⟩ => ⟨S128x128, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference6Ideal.lean ====
abbrev S32x4x1024 : Shape := ⟨3, ![32, 4, 1024]⟩
abbrev S1x1024 : Shape := ⟨2, ![1, 1024]⟩
abbrev S1x1024x5152 : Shape := ⟨3, ![1, 1024, 5152]⟩
abbrev S1024 : Shape := ⟨1, ![1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S1024x5152 : Shape := ⟨2, ![1024, 5152]⟩
abbrev S32x4x5152 : Shape := ⟨3, ![32, 4, 5152]⟩
abbrev S32x4x2048 : Shape := ⟨3, ![32, 4, 2048]⟩
abbrev S32x4x3072 : Shape := ⟨3, ![32, 4, 3072]⟩
abbrev S32x4x32 : Shape := ⟨3, ![32, 4, 32]⟩
abbrev S32x4x128 : Shape := ⟨3, ![32, 4, 128]⟩
abbrev S128x2048 : Shape := ⟨2, ![128, 2048]⟩
abbrev S128x3072 : Shape := ⟨2, ![128, 3072]⟩
abbrev S128x128 : Shape := ⟨2, ![128, 128]⟩

abbrev nBuf : Space → Nat
  | .hbm => 31
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1x1024, .f32⟩
  | .hbm, ⟨2, _⟩ => ⟨S1x1024x5152, .f32⟩
  | .hbm, ⟨3, _⟩ => ⟨S1024, .f32⟩
  | .hbm, ⟨4, _⟩ => ⟨S32x4x1024, .f32⟩
  | .hbm, ⟨5, _⟩ => ⟨S_, .f32⟩
  | .hbm, ⟨6, _⟩ => ⟨S32x4, .f32⟩
  | .hbm, ⟨7, _⟩ => ⟨S32x4x1, .f32⟩
  | .hbm, ⟨8, _⟩ => ⟨S_, .f32⟩
  | .hbm, ⟨9, _⟩ => ⟨S32x4x1, .f32⟩
  | .hbm, ⟨10, _⟩ => ⟨S32x4x1, .f32⟩
  | .hbm, ⟨11, _⟩ => ⟨S_, .f32⟩
  | .hbm, ⟨12, _⟩ => ⟨S32x4x1, .f32⟩
  | .hbm, ⟨13, _⟩ => ⟨S32x4x1, .f32⟩
  | .hbm, ⟨14, _⟩ => ⟨S32x4x1, .f32⟩
  | .hbm, ⟨15, _⟩ => ⟨S32x4x1024, .f32⟩
  | .hbm, ⟨16, _⟩ => ⟨S32x4x1024, .f32⟩
  | .hbm, ⟨17, _⟩ => ⟨S1x1x1024, .f32⟩
  | .hbm, ⟨18, _⟩ => ⟨S32x4x1024, .f32⟩
  | .hbm, ⟨19, _⟩ => ⟨S32x4x1024, .f32⟩
  | .hbm, ⟨20, _⟩ => ⟨S1024x5152, .f32⟩
  | .hbm, ⟨21, _⟩ => ⟨S32x4x5152, .f32⟩
  | .hbm, ⟨22, _⟩ => ⟨S32x4x2048, .f32⟩
  | .hbm, ⟨23, _⟩ => ⟨S32x4x3072, .f32⟩
  | .hbm, ⟨24, _⟩ => ⟨S32x4x32, .f32⟩
  | .hbm, ⟨25, _⟩ => ⟨S_, .i32⟩
  | .hbm, ⟨26, _⟩ => ⟨S_, .f32⟩
  | .hbm, ⟨27, _⟩ => ⟨S32x4x128, .f32⟩
  | .hbm, ⟨28, _⟩ => ⟨S128x2048, .f32⟩
  | .hbm, ⟨29, _⟩ => ⟨S128x3072, .f32⟩
  | .hbm, ⟨30, _⟩ => ⟨S128x128, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel7.lean ====
abbrev S32x4x1024 : Shape := ⟨3, ![32, 4, 1024]⟩
abbrev S1x1024 : Shape := ⟨2, ![1, 1024]⟩
abbrev S1x1024x3072 : Shape := ⟨3, ![1, 1024, 3072]⟩
abbrev S1x128 : Shape := ⟨2, ![1, 128]⟩
abbrev S4 : Shape := ⟨1, ![4]⟩
abbrev S1x4 : Shape := ⟨2, ![1, 4]⟩
abbrev S32x4 : Shape := ⟨2, ![32, 4]⟩
abbrev S128 : Shape := ⟨1, ![128]⟩
abbrev S_ : Shape := ⟨0, ![]⟩
abbrev S1x128x1024 : Shape := ⟨3, ![1, 128, 1024]⟩
abbrev S1024 : Shape := ⟨1, ![1024]⟩
abbrev S1024x3072 : Shape := ⟨2, ![1024, 3072]⟩
abbrev S16 : Shape := ⟨1, ![16]⟩
abbrev S128x1 : Shape := ⟨2, ![128, 1]⟩
abbrev S1x16 : Shape := ⟨2, ![1, 16]⟩
abbrev S128x16 : Shape := ⟨2, ![128, 16]⟩
abbrev S128x96 : Shape := ⟨2, ![128, 96]⟩
abbrev S128x128 : Shape := ⟨2, ![128, 128]⟩
abbrev S128x112 : Shape := ⟨2, ![128, 112]⟩
abbrev S1x8x128x128 : Shape := ⟨4, ![1, 8, 128, 128]⟩
abbrev S128x1024 : Shape := ⟨2, ![128, 1024]⟩
abbrev S1024x1024 : Shape := ⟨2, ![1024, 1024]⟩
abbrev S1x1x128x128 : Shape := ⟨4, ![1, 1, 128, 128]⟩

abbrev nBuf : Space → Nat
  | .hbm => 55
  | .vmem => 11
  | .smem => 0
  | _ => 0

abbrev bufTy : (tb : Table) → Fin (tcTables nBuf tb) → BufTy
  | .hbm, ⟨0, _⟩ => ⟨S32x4x1024, .f32⟩
  | .hbm, ⟨1, _⟩ => ⟨S1x1024, .f32⟩
  | .hbm, ⟨2, _⟩ => ⟨S1x1024x3072, .f32⟩
  | .hbm, ⟨3, _⟩ => ⟨S1x128, .f32⟩
  | .hbm, ⟨4, _⟩ => ⟨S1x128, .f32⟩
  | .hbm, ⟨5, _⟩ => ⟨S4, .i32⟩
  | .hbm, ⟨6, _⟩ => ⟨S1x4, .i32⟩
  | .hbm, ⟨7, _⟩ => ⟨S32x4, .i32⟩
  | .hbm, ⟨8, _⟩ => ⟨S128, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S1x128x1024, .f32⟩
  | .hbm, ⟨13, _⟩ => ⟨S1024, .f32⟩
  | .hbm, ⟨14, _⟩ => ⟨S1024x3072, .f32⟩
  | .hbm, ⟨15, _⟩ => ⟨S1024x3072, .bf16⟩
  | .hbm, ⟨16, _⟩ => ⟨S128, .f32⟩
  | .hbm, ⟨17, _⟩ => ⟨S128, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S128, .f32⟩
  | .hbm, ⟨30, _⟩ => ⟨S128x1, .f32⟩
  | .hbm, ⟨31, _⟩ => ⟨S1x16, .f32⟩
  | .hbm, ⟨32, _⟩ => ⟨S128x16, .f32⟩
  | .hbm, ⟨33, _⟩ => ⟨S128x16, .f32⟩
  | .hbm, ⟨34, _⟩ => ⟨S128x16, .f32⟩
  | .hbm, ⟨35, _⟩ => ⟨S128x16, .f32⟩
  | .hbm, ⟨36, _⟩ => ⟨S128x16, .f32⟩
  | .hbm, ⟨37, _⟩ => ⟨S_, .f32⟩
  | .hbm, ⟨38, _⟩ => ⟨S128x96, .f32⟩
  | .hbm, ⟨39, _⟩ => ⟨S128x128, .f32⟩
  | .hbm, ⟨40, _⟩ => ⟨S128x16, .f32⟩
  | .hbm, ⟨41, _⟩ => ⟨S_, .f32⟩
  | .hbm, ⟨42, _⟩ => ⟨S128x112, .f32⟩
  | .hbm, ⟨43, _⟩ => ⟨S128x128, .f32⟩
  | .hbm, ⟨44, _⟩ => ⟨S_, .f32⟩
  | .hbm, ⟨45, _⟩ => ⟨S128x16, .f32⟩
  | .hbm, ⟨46, _⟩ => ⟨S_, .f32⟩
  | .hbm, ⟨47, _⟩ => ⟨S128x96, .f32⟩
  | .hbm, ⟨48, _⟩ => ⟨S128x128, .f32⟩
  | .hbm, ⟨49, _⟩ => ⟨S1x1024, .f32⟩
  | .hbm, ⟨50, _⟩ => ⟨S1x128, .f32⟩
  | .hbm, ⟨51, _⟩ => ⟨S1x128, .f32⟩
  | .hbm, ⟨52, _⟩ => ⟨S1x8x128x128, .f32⟩
  | .hbm, ⟨53, _⟩ => ⟨S1x8x128x128, .f32⟩
  | .hbm, ⟨54, _⟩ => ⟨S1x8x128x128, .f32⟩
  | .local _ .vmem, ⟨0, _⟩ => ⟨S1x128x1024, .f32⟩
  | .local _ .vmem, ⟨1, _⟩ => ⟨S1x1024, .f32⟩
  | .local _ .vmem, ⟨2, _⟩ => ⟨S1024x3072, .bf16⟩
  | .local _ .vmem, ⟨3, _⟩ => ⟨S1x128, .f32⟩
  | .local _ .vmem, ⟨4, _⟩ => ⟨S1x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S1x8x128x128, .f32⟩
  | .local _ .vmem, ⟨9, _⟩ => ⟨S1x8x128x128, .f32⟩
  | .local _ .vmem, ⟨10, _⟩ => ⟨S1x8x128x128, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39_0 : Ref sig .tc := ⟨.hbm, 52, rfl⟩
abbrev main_v39_1 : Ref sig .tc := ⟨.hbm, 53, rfl⟩
abbrev main_v39_2 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S1x8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]
-- ==== Reference7Ideal.lean ====
abbrev S32x4x1024 : Shape := ⟨3, ![32, 4, 1024]⟩
abbrev S1x1024 : Shape := ⟨2, ![1, 1024]⟩
abbrev S1x1024x3072 : Shape := ⟨3, ![1, 1024, 3072]⟩
abbrev S1x128 : Shape := ⟨2, ![1, 128]⟩
abbrev S4 : Shape := ⟨1, ![4]⟩
abbrev S_ : Shape := ⟨0, ![]⟩
abbrev S1024 : Shape := ⟨1, ![1024]⟩
abbrev S32x4 : Shape := ⟨2, ![32, 4]⟩
abbrev S32x4x1 : Shape := ⟨3, ![32, 4, 1]⟩
abbrev S1x1x1024 : Shape := ⟨3, ![1, 1, 1024]⟩
abbrev S1024x3072 : Shape := ⟨2, ![1024, 3072]⟩
abbrev S32x4x3072 : Shape := ⟨3, ![32, 4, 3072]⟩
abbrev S32x4x3x8x128 : Shape := ⟨5, ![32, 4, 3, 8, 128]⟩
abbrev S3x32x8x4x128 : Shape := ⟨5, ![3, 32, 8, 4, 128]⟩
abbrev S1x32x8x4x128 : Shape := ⟨5, ![1, 32, 8, 4, 128]⟩
abbrev S32x8x4x128 : Shape := ⟨4, ![32, 8, 4, 128]⟩
abbrev S128 : Shape := ⟨1, ![128]⟩
abbrev S32x8x4 : Shape := ⟨3, ![32, 8, 4]⟩
abbrev S32x8x4x1 : Shape := ⟨4, ![32, 8, 4, 1]⟩
abbrev S1x1x1x128 : Shape := ⟨4, ![1, 1, 1, 128]⟩
abbrev S16 : Shape := ⟨1, ![16]⟩
abbrev S4x1 : Shape := ⟨2, ![4, 1]⟩
abbrev S1x16 : Shape := ⟨2, ![1, 16]⟩
abbrev S4x16 : Shape := ⟨2, ![4, 16]⟩
abbrev S32x8x4x16 : Shape := ⟨4, ![32, 8, 4, 16]⟩
abbrev S1x1x4x16 : Shape := ⟨4, ![1, 1, 4, 16]⟩
abbrev S32x8x4x32 : Shape := ⟨4, ![32, 8, 4, 32]⟩
abbrev S32x8x4x96 : Shape := ⟨4, ![32, 8, 4, 96]⟩
abbrev S8x32x4x128 : Shape := ⟨4, ![8, 32, 4, 128]⟩
abbrev S1x8x128x128 : Shape := ⟨4, ![1, 8, 128, 128]⟩

abbrev nBuf : Space → Nat
  | .hbm => 152
  | .vmem => 0
  | .smem => 0
  | _ => 0

abbrev hbmTy0_0 (i : Nat) : BufTy := match i % 128 with
  | 0 => ⟨S32x4x1024, .f32⟩
  | 1 => ⟨S1x1024, .f32⟩
  | 2 => ⟨S1x1024x3072, .f32⟩
  | 3 => ⟨S1x128, .f32⟩
  | 4 => ⟨S1x128, .f32⟩
  | 5 => ⟨S4, .i32⟩
  | 6 => ⟨S_, .i32⟩
  | 7 => ⟨S4, .i32⟩
  | 8 => ⟨S4, .i32⟩
  | 9 => ⟨S1024, .f32⟩
  | 10 => ⟨S32x4x1024, .f32⟩
  | 11 => ⟨S_, .f32⟩
  | 12 => ⟨S32x4, .f32⟩
  | 13 => ⟨S32x4x1, .f32⟩
  | 14 => ⟨S_, .f32⟩
  | 15 => ⟨S32x4x1, .f32⟩
  | 16 => ⟨S32x4x1, .f32⟩
  | 17 => ⟨S_, .f32⟩
  | 18 => ⟨S32x4x1, .f32⟩
  | 19 => ⟨S32x4x1, .f32⟩
  | 20 => ⟨S32x4x1, .f32⟩
  | 21 => ⟨S32x4x1024, .f32⟩
  | 22 => ⟨S32x4x1024, .f32⟩
  | 23 => ⟨S1x1x1024, .f32⟩
  | 24 => ⟨S32x4x1024, .f32⟩
  | 25 => ⟨S32x4x1024, .f32⟩
  | 26 => ⟨S1024x3072, .f32⟩
  | 27 => ⟨S32x4x3072, .f32⟩
  | 28 => ⟨S32x4x3x8x128, .f32⟩
  | 29 => ⟨S3x32x8x4x128, .f32⟩
  | 30 => ⟨S1x32x8x4x128, .f32⟩
  | 31 => ⟨S32x8x4x128, .f32⟩
  | 32 => ⟨S128, .f32⟩
  | 33 => ⟨S32x8x4x128, .f32⟩
  | 34 => ⟨S_, .f32⟩
  | 35 => ⟨S32x8x4, .f32⟩
  | 36 => ⟨S32x8x4x1, .f32⟩
  | 37 => ⟨S_, .f32⟩
  | 38 => ⟨S32x8x4x1, .f32⟩
  | 39 => ⟨S32x8x4x1, .f32⟩
  | 40 => ⟨S_, .f32⟩
  | 41 => ⟨S32x8x4x1, .f32⟩
  | 42 => ⟨S32x8x4x1, .f32⟩
  | 43 => ⟨S32x8x4x1, .f32⟩
  | 44 => ⟨S32x8x4x128, .f32⟩
  | 45 => ⟨S32x8x4x128, .f32⟩
  | 46 => ⟨S1x1x1x128, .f32⟩
  | 47 => ⟨S32x8x4x128, .f32⟩
  | 48 => ⟨S32x8x4x128, .f32⟩
  | 49 => ⟨S16, .f32⟩
  | 50 => ⟨S16, .f32⟩
  | 51 => ⟨S_, .f32⟩
  | 52 => ⟨S16, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S4, .f32⟩
  | 61 => ⟨S4x1, .f32⟩
  | 62 => ⟨S1x16, .f32⟩
  | 63 => ⟨S4x16, .f32⟩
  | 64 => ⟨S4x16, .f32⟩
  | 65 => ⟨S4x16, .f32⟩
  | 66 => ⟨S4x16, .f32⟩
  | 67 => ⟨S4x16, .f32⟩
  | 68 => ⟨S32x8x4x16, .f32⟩
  | 69 => ⟨S32x8x4x16, .f32⟩
  | 70 => ⟨S1x1x4x16, .f32⟩
  | 71 => ⟨S32x8x4x16, .f32⟩
  | 72 => ⟨S32x8x4x16, .f32⟩
  | 73 => ⟨S1x1x4x16, .f32⟩
  | 74 => ⟨S32x8x4x16, .f32⟩
  | 75 => ⟨S32x8x4x16, .f32⟩
  | 76 => ⟨S32x8x4x16, .f32⟩
  | 77 => ⟨S1x1x4x16, .f32⟩
  | 78 => ⟨S32x8x4x16, .f32⟩
  | 79 => ⟨S32x8x4x16, .f32⟩
  | 80 => ⟨S1x1x4x16, .f32⟩
  | 81 => ⟨S32x8x4x16, .f32⟩
  | 82 => ⟨S32x8x4x16, .f32⟩
  | 83 => ⟨S32x8x4x16, .f32⟩
  | 84 => ⟨S32x8x4x32, .f32⟩
  | 85 => ⟨S32x8x4x96, .f32⟩
  | 86 => ⟨S32x8x4x128, .f32⟩
  | 87 => ⟨S1x32x8x4x128, .f32⟩
  | 88 => ⟨S32x8x4x128, .f32⟩
  | 89 => ⟨S128, .f32⟩
  | 90 => ⟨S32x8x4x128, .f32⟩
  | 91 => ⟨S_, .f32⟩
  | 92 => ⟨S32x8x4, .f32⟩
  | 93 => ⟨S32x8x4x1, .f32⟩
  | 94 => ⟨S_, .f32⟩
  | 95 => ⟨S32x8x4x1, .f32⟩
  | 96 => ⟨S32x8x4x1, .f32⟩
  | 97 => ⟨S_, .f32⟩
  | 98 => ⟨S32x8x4x1, .f32⟩
  | 99 => ⟨S32x8x4x1, .f32⟩
  | 100 => ⟨S32x8x4x1, .f32⟩
  | 101 => ⟨S32x8x4x128, .f32⟩
  | 102 => ⟨S32x8x4x128, .f32⟩
  | 103 => ⟨S1x1x1x128, .f32⟩
  | 104 => ⟨S32x8x4x128, .f32⟩
  | 105 => ⟨S32x8x4x128, .f32⟩
  | 106 => ⟨S16, .f32⟩
  | 107 => ⟨S16, .f32⟩
  | 108 => ⟨S_, .f32⟩
  | 109 => ⟨S16, .f32⟩
  | 110 => ⟨S16, .f32⟩
  | 111 => ⟨S_, .f32⟩
  | 112 => ⟨S16, .f32⟩
  | 113 => ⟨S16, .f32⟩
  | 114 => ⟨S_, .f32⟩
  | 115 => ⟨S16, .f32⟩
  | 116 => ⟨S16, .f32⟩
  | 117 => ⟨S4, .f32⟩
  | 118 => ⟨S4x1, .f32⟩
  | 119 => ⟨S1x16, .f32⟩
  | 120 => ⟨S4x16, .f32⟩
  | 121 => ⟨S4x16, .f32⟩
  | 122 => ⟨S4x16, .f32⟩
  | 123 => ⟨S4x16, .f32⟩
  | 124 => ⟨S4x16, .f32⟩
  | 125 => ⟨S32x8x4x16, .f32⟩
  | 126 => ⟨S32x8x4x16, .f32⟩
  | 127 => ⟨S1x1x4x16, .f32⟩
  | _ => ⟨S32x4x1024, .f32⟩

abbrev hbmTy0_1 (i : Nat) : BufTy := match i % 128 with
  | 0 => ⟨S32x8x4x16, .f32⟩
  | 1 => ⟨S32x8x4x16, .f32⟩
  | 2 => ⟨S1x1x4x16, .f32⟩
  | 3 => ⟨S32x8x4x16, .f32⟩
  | 4 => ⟨S32x8x4x16, .f32⟩
  | 5 => ⟨S32x8x4x16, .f32⟩
  | 6 => ⟨S1x1x4x16, .f32⟩
  | 7 => ⟨S32x8x4x16, .f32⟩
  | 8 => ⟨S32x8x4x16, .f32⟩
  | 9 => ⟨S1x1x4x16, .f32⟩
  | 10 => ⟨S32x8x4x16, .f32⟩
  | 11 => ⟨S32x8x4x16, .f32⟩
  | 12 => ⟨S32x8x4x16, .f32⟩
  | 13 => ⟨S32x8x4x32, .f32⟩
  | 14 => ⟨S32x8x4x96, .f32⟩
  | 15 => ⟨S32x8x4x128, .f32⟩
  | 16 => ⟨S1x32x8x4x128, .f32⟩
  | 17 => ⟨S32x8x4x128, .f32⟩
  | 18 => ⟨S8x32x4x128, .f32⟩
  | 19 => ⟨S1x8x128x128, .f32⟩
  | 20 => ⟨S8x32x4x128, .f32⟩
  | 21 => ⟨S1x8x128x128, .f32⟩
  | 22 => ⟨S8x32x4x128, .f32⟩
  | 23 => ⟨S1x8x128x128, .f32⟩
  | _ => ⟨S32x4x1024, .f32⟩

abbrev hbmTy (i : Nat) : BufTy := match i / 128 with
  | 0 => hbmTy0_0 i
  | 1 => hbmTy0_1 i
  | _ => ⟨S32x4x1024, .f32⟩

abbrev bufTy : (tb : Table) → Fin (tcTables nBuf tb) → BufTy
  | .hbm, ⟨i, _⟩ => hbmTy i
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_8 : Ref sig .tc := ⟨.hbm, 91, rfl⟩
abbrev main_v76 : Ref sig .tc := ⟨.hbm, 92, rfl⟩
abbrev main_v77 : Ref sig .tc := ⟨.hbm, 93, rfl⟩
abbrev main_cst_9 : Ref sig .tc := ⟨.hbm, 94, rfl⟩
abbrev main_v78 : Ref sig .tc := ⟨.hbm, 95, rfl⟩
abbrev main_v79 : Ref sig .tc := ⟨.hbm, 96, rfl⟩
abbrev main_cst_10 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_11 : Ref sig .tc := ⟨.hbm, 108, rfl⟩
abbrev main_v90 : Ref sig .tc := ⟨.hbm, 109, rfl⟩
abbrev main_v91 : Ref sig .tc := ⟨.hbm, 110, rfl⟩
abbrev main_cst_12 : Ref sig .tc := ⟨.hbm, 111, rfl⟩
abbrev main_v92 : Ref sig .tc := ⟨.hbm, 112, rfl⟩
abbrev main_v93 : Ref sig .tc := ⟨.hbm, 113, rfl⟩
abbrev main_cst_13 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩

abbrev nD : Nat := 1
abbrev τ : Topo := Topo.v7x

variable {F : FTy → Type} [FloatOps F]
-- ==== Kernel8.lean ====
abbrev S32x4x2048 : Shape := ⟨3, ![32, 4, 2048]⟩
abbrev S32x4x1024 : Shape := ⟨3, ![32, 4, 1024]⟩
abbrev S2048x1024 : Shape := ⟨2, ![2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S128x2048 : Shape := ⟨2, ![128, 2048]⟩
abbrev S128x1024 : Shape := ⟨2, ![128, 1024]⟩
abbrev S1x1024 : Shape := ⟨2, ![1, 1024]⟩
abbrev S1024 : Shape := ⟨1, ![1024]⟩
abbrev S1x1024x2816 : Shape := ⟨3, ![1, 1024, 2816]⟩
abbrev S1x2816x1024 : Shape := ⟨3, ![1, 2816, 1024]⟩
abbrev S128 : Shape := ⟨1, ![128]⟩
abbrev S128x1 : Shape := ⟨2, ![128, 1]⟩
abbrev S1x1024x1408 : Shape := ⟨3, ![1, 1024, 1408]⟩
abbrev S1024x1408 : Shape := ⟨2, ![1024, 1408]⟩
abbrev S128x1408 : Shape := ⟨2, ![128, 1408]⟩
abbrev S1x1408x1024 : Shape := ⟨3, ![1, 1408, 1024]⟩
abbrev S1408x1024 : Shape := ⟨2, ![1408, 1024]⟩

abbrev nBuf : Space → Nat
  | .hbm => 18
  | .vmem => 8
  | .smem => 0
  | _ => 0

abbrev bufTy : (tb : Table) → Fin (tcTables nBuf tb) → BufTy
  | .hbm, ⟨0, _⟩ => ⟨S32x4x2048, .f32⟩
  | .hbm, ⟨1, _⟩ => ⟨S32x4x1024, .f32⟩
  | .hbm, ⟨2, _⟩ => ⟨S2048x1024, .f32⟩
  | .hbm, ⟨3, _⟩ => ⟨S2x1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S32x4x2048, .bf16⟩
  | .hbm, ⟨8, _⟩ => ⟨S128x2048, .bf16⟩
  | .hbm, ⟨9, _⟩ => ⟨S128x1024, .f32⟩
  | .hbm, ⟨10, _⟩ => ⟨S2048x1024, .bf16⟩
  | .hbm, ⟨11, _⟩ => ⟨S2x1024x2816, .bf16⟩
  | .hbm, ⟨12, _⟩ => ⟨S2x1024x2816, .bf16⟩
  | .hbm, ⟨13, _⟩ => ⟨S2x2816x1024, .bf16⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S128x1024, .f32⟩
  | .local _ .vmem, ⟨0, _⟩ => ⟨S128x2048, .bf16⟩
  | .local _ .vmem, ⟨1, _⟩ => ⟨S128x1024, .f32⟩
  | .local _ .vmem, ⟨2, _⟩ => ⟨S2048x1024, .bf16⟩
  | .local _ .vmem, ⟨3, _⟩ => ⟨S1x1024, .f32⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S128x1024, .f32⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference8Ideal.lean ====
abbrev S32x4x2048 : Shape := ⟨3, ![32, 4, 2048]⟩
abbrev S32x4x1024 : Shape := ⟨3, ![32, 4, 1024]⟩
abbrev S2048x1024 : Shape := ⟨2, ![2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S32x4x2816 : Shape := ⟨3, ![32, 4, 2816]⟩
abbrev S128x1024 : Shape := ⟨2, ![128, 1024]⟩

abbrev nBuf : Space → Nat
  | .hbm => 48
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S32x4x1024, .f32⟩
  | .hbm, ⟨2, _⟩ => ⟨S2048x1024, .f32⟩
  | .hbm, ⟨3, _⟩ => ⟨S2x1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S32x4x1024, .f32⟩
  | .hbm, ⟨8, _⟩ => ⟨S32x4x1024, .f32⟩
  | .hbm, ⟨9, _⟩ => ⟨S1x1024, .f32⟩
  | .hbm, ⟨10, _⟩ => ⟨S1024, .f32⟩
  | .hbm, ⟨11, _⟩ => ⟨S32x4x1024, .f32⟩
  | .hbm, ⟨12, _⟩ => ⟨S_, .f32⟩
  | .hbm, ⟨13, _⟩ => ⟨S32x4, .f32⟩
  | .hbm, ⟨14, _⟩ => ⟨S32x4x1, .f32⟩
  | .hbm, ⟨15, _⟩ => ⟨S_, .f32⟩
  | .hbm, ⟨16, _⟩ => ⟨S32x4x1, .f32⟩
  | .hbm, ⟨17, _⟩ => ⟨S32x4x1, .f32⟩
  | .hbm, ⟨18, _⟩ => ⟨S_, .f32⟩
  | .hbm, ⟨19, _⟩ => ⟨S32x4x1, .f32⟩
  | .hbm, ⟨20, _⟩ => ⟨S32x4x1, .f32⟩
  | .hbm, ⟨21, _⟩ => ⟨S32x4x1, .f32⟩
  | .hbm, ⟨22, _⟩ => ⟨S32x4x1024, .f32⟩
  | .hbm, ⟨23, _⟩ => ⟨S32x4x1024, .f32⟩
  | .hbm, ⟨24, _⟩ => ⟨S1x1x1024, .f32⟩
  | .hbm, ⟨25, _⟩ => ⟨S32x4x1024, .f32⟩
  | .hbm, ⟨26, _⟩ => ⟨S32x4x1024, .f32⟩
  | .hbm, ⟨27, _⟩ => ⟨S1x1024x2816, .f32⟩
  | .hbm, ⟨28, _⟩ => ⟨S1024x2816, .f32⟩
  | .hbm, ⟨29, _⟩ => ⟨S1x1024x2816, .f32⟩
  | .hbm, ⟨30, _⟩ => ⟨S1024x2816, .f32⟩
  | .hbm, ⟨31, _⟩ => ⟨S1x2816x1024, .f32⟩
  | .hbm, ⟨32, _⟩ => ⟨S2816x1024, .f32⟩
  | .hbm, ⟨33, _⟩ => ⟨S32x4x2816, .f32⟩
  | .hbm, ⟨34, _⟩ => ⟨S32x4x2816, .f32⟩
  | .hbm, ⟨35, _⟩ => ⟨S32x4x2816, .f32⟩
  | .hbm, ⟨36, _⟩ => ⟨S_, .f32⟩
  | .hbm, ⟨37, _⟩ => ⟨S32x4x2816, .f32⟩
  | .hbm, ⟨38, _⟩ => ⟨S32x4x2816, .f32⟩
  | .hbm, ⟨39, _⟩ => ⟨S_, .f32⟩
  | .hbm, ⟨40, _⟩ => ⟨S32x4x2816, .f32⟩
  | .hbm, ⟨41, _⟩ => ⟨S32x4x2816, .f32⟩
  | .hbm, ⟨42, _⟩ => ⟨S32x4x2816, .f32⟩
  | .hbm, ⟨43, _⟩ => ⟨S32x4x2816, .f32⟩
  | .hbm, ⟨44, _⟩ => ⟨S32x4x2816, .f32⟩
  | .hbm, ⟨45, _⟩ => ⟨S32x4x1024, .f32⟩
  | .hbm, ⟨46, _⟩ => ⟨S32x4x1024, .f32⟩
  | .hbm, ⟨47, _⟩ => ⟨S128x1024, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]
-- ==== Kernel9.lean ====
abbrev S32x4x2048 : Shape := ⟨3, ![32, 4, 2048]⟩
abbrev S32x4x3072 : Shape := ⟨3, ![32, 4, 3072]⟩
abbrev S32x4x32 : Shape := ⟨3, ![32, 4, 32]⟩
abbrev S1x32x3x3072 : Shape := ⟨4, ![1, 32, 3, 3072]⟩
abbrev S1x32x32x64x128 : Shape := ⟨5, ![1, 32, 32, 64, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S_ : Shape := ⟨0, ![]⟩
abbrev S32x4x128 : Shape := ⟨3, ![32, 4, 128]⟩
abbrev S32x3x3072 : Shape := ⟨3, ![32, 3, 3072]⟩
abbrev S32x32x64x128 : Shape := ⟨4, ![32, 32, 64, 128]⟩
abbrev S32x128x128 : Shape := ⟨3, ![32, 128, 128]⟩
abbrev S1x3072 : Shape := ⟨2, ![1, 3072]⟩
abbrev S128 : Shape := ⟨1, ![128]⟩
abbrev S1x128 : Shape := ⟨2, ![1, 128]⟩
abbrev S32x64 : Shape := ⟨2, ![32, 64]⟩
abbrev S1x2048 : Shape := ⟨2, ![1, 2048]⟩
abbrev S32x8x3072 : Shape := ⟨3, ![32, 8, 3072]⟩
abbrev S1x4x2048 : Shape := ⟨3, ![1, 4, 2048]⟩
abbrev S1x4x3072 : Shape := ⟨3, ![1, 4, 3072]⟩
abbrev S1x128x128 : Shape := ⟨3, ![1, 128, 128]⟩
abbrev S1x8x3072 : Shape := ⟨3, ![1, 8, 3072]⟩
abbrev S1x32x64x128 : Shape := ⟨4, ![1, 32, 64, 128]⟩
abbrev S136x3072 : Shape := ⟨2, ![136, 3072]⟩
abbrev S128x3072 : Shape := ⟨2, ![128, 3072]⟩
abbrev S128x2048 : Shape := ⟨2, ![128, 2048]⟩
abbrev S16x128x128 : Shape := ⟨3, ![16, 128, 128]⟩
abbrev S8x3072 : Shape := ⟨2, ![8, 3072]⟩
abbrev S1x1x64x128 : Shape := ⟨4, ![1, 1, 64, 128]⟩
abbrev S64x128 : Shape := ⟨2, ![64, 128]⟩
abbrev S128x128 : Shape := ⟨2, ![128, 128]⟩
abbrev S128x1 : Shape := ⟨2, ![128, 1]⟩
abbrev S1x1 : Shape := ⟨2, ![1, 1]⟩
abbrev S4x2048 : Shape := ⟨2, ![4, 2048]⟩
abbrev S4x512 : Shape := ⟨2, ![4, 512]⟩
abbrev S1x512 : Shape := ⟨2, ![1, 512]⟩
abbrev S4 : Shape := ⟨1, ![4]⟩
abbrev S4x1 : Shape := ⟨2, ![4, 1]⟩
abbrev S1x4x512 : Shape := ⟨3, ![1, 4, 512]⟩

abbrev nBuf : Space → Nat
  | .hbm => 37
  | .vmem => 24
  | .smem => 0
  | _ => 0

abbrev bufTy : (tb : Table) → Fin (tcTables nBuf tb) → BufTy
  | .hbm, ⟨0, _⟩ => ⟨S32x4x2048, .f32⟩
  | .hbm, ⟨1, _⟩ => ⟨S32x4x3072, .f32⟩
  | .hbm, ⟨2, _⟩ => ⟨S32x4x32, .f32⟩
  | .hbm, ⟨3, _⟩ => ⟨S1x32x3x3072, .f32⟩
  | .hbm, ⟨4, _⟩ => ⟨S1x32x32x64x128, .f32⟩
  | .hbm, ⟨5, _⟩ => ⟨S4x3072, .f32⟩
  | .hbm, ⟨6, _⟩ => ⟨S3072, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S2048, .f32⟩
  | .hbm, ⟨11, _⟩ => ⟨S_, .i32⟩
  | .hbm, ⟨12, _⟩ => ⟨S_, .f32⟩
  | .hbm, ⟨13, _⟩ => ⟨S32x4x128, .f32⟩
  | .hbm, ⟨14, _⟩ => ⟨S32x3x3072, .f32⟩
  | .hbm, ⟨15, _⟩ => ⟨S32x32x64x128, .f32⟩
  | .hbm, ⟨16, _⟩ => ⟨S_, .i32⟩
  | .hbm, ⟨17, _⟩ => ⟨S_, .f32⟩
  | .hbm, ⟨18, _⟩ => ⟨S32x128x128, .f32⟩
  | .hbm, ⟨19, _⟩ => ⟨S1x3072, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S_, .i32⟩
  | .hbm, ⟨25, _⟩ => ⟨S_, .f32⟩
  | .hbm, ⟨26, _⟩ => ⟨S128, .f32⟩
  | .hbm, ⟨27, _⟩ => ⟨S1x128, .f32⟩
  | .hbm, ⟨28, _⟩ => ⟨S32x64, .f32⟩
  | .hbm, ⟨29, _⟩ => ⟨S2048, .f32⟩
  | .hbm, ⟨30, _⟩ => ⟨S1x2048, .f32⟩
  | .hbm, ⟨31, _⟩ => ⟨S1x2048, .f32⟩
  | .hbm, ⟨32, _⟩ => ⟨S_, .i32⟩
  | .hbm, ⟨33, _⟩ => ⟨S_, .f32⟩
  | .hbm, ⟨34, _⟩ => ⟨S32x8x3072, .f32⟩
  | .hbm, ⟨35, _⟩ => ⟨S32x4x2048, .f32⟩
  | .hbm, ⟨36, _⟩ => ⟨S32x32x64x128, .f32⟩
  | .local _ .vmem, ⟨0, _⟩ => ⟨S1x4x2048, .f32⟩
  | .local _ .vmem, ⟨1, _⟩ => ⟨S1x4x2048, .f32⟩
  | .local _ .vmem, ⟨2, _⟩ => ⟨S1x4x3072, .f32⟩
  | .local _ .vmem, ⟨3, _⟩ => ⟨S1x4x3072, .f32⟩
  | .local _ .vmem, ⟨4, _⟩ => ⟨S1x128x128, .f32⟩
  | .local _ .vmem, ⟨5, _⟩ => ⟨S1x128x128, .f32⟩
  | .local _ .vmem, ⟨6, _⟩ => ⟨S4x3072, .f32⟩
  | .local _ .vmem, ⟨7, _⟩ => ⟨S1x3072, .f32⟩
  | .local _ .vmem, ⟨8, _⟩ => ⟨S1x128, .f32⟩
  | .local _ .vmem, ⟨9, _⟩ => ⟨S1x128, .f32⟩
  | .local _ .vmem, ⟨10, _⟩ => ⟨S1x2048, .f32⟩
  | .local _ .vmem, ⟨11, _⟩ => ⟨S1x2048, .f32⟩
  | .local _ .vmem, ⟨12, _⟩ => ⟨S1x8x3072, .f32⟩
  | .local _ .vmem, ⟨13, _⟩ => ⟨S1x8x3072, .f32⟩
  | .local _ .vmem, ⟨14, _⟩ => ⟨S1x32x64x128, .f32⟩
  | .local _ .vmem, ⟨15, _⟩ => ⟨S1x32x64x128, .f32⟩
  | .local _ .vmem, ⟨16, _⟩ => ⟨S1x4x2048, .f32⟩
  | .local _ .vmem, ⟨17, _⟩ => ⟨S1x4x2048, .f32⟩
  | .local _ .vmem, ⟨18, _⟩ => ⟨S1x32x64x128, .f32⟩
  | .local _ .vmem, ⟨19, _⟩ => ⟨S1x32x64x128, .f32⟩
  | .local _ .vmem, ⟨20, _⟩ => ⟨S136x3072, .f32⟩
  | .local _ .vmem, ⟨21, _⟩ => ⟨S128x3072, .f32⟩
  | .local _ .vmem, ⟨22, _⟩ => ⟨S128x2048, .f32⟩
  | .local _ .vmem, ⟨23, _⟩ => ⟨S16x128x128, .f32⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_call1_v0 : Ref sig .tc := ⟨.hbm, 17, rfl⟩
abbrev main_v3 : Ref sig .tc := ⟨.hbm, 18, rfl⟩
abbrev main_v4 : Ref sig .tc := ⟨.hbm, 19, rfl⟩
abbrev main_c_1 : Ref sig .tc := ⟨.hbm, 20, rfl⟩
abbrev main_call2_v0 : Ref sig .tc := ⟨.hbm, 21, rfl⟩
abbrev main_v5 : Ref sig .tc := ⟨.hbm, 22, rfl⟩
abbrev main_v6 : Ref sig .tc := ⟨.hbm, 23, rfl⟩
abbrev main_c_2 : Ref sig .tc := ⟨.hbm, 24, rfl⟩
abbrev main_call3_v0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_3 : Ref sig .tc := ⟨.hbm, 32, rfl⟩
abbrev main_call4_v0 : Ref sig .tc := ⟨.hbm, 33, rfl⟩
abbrev main_v13 : Ref sig .tc := ⟨.hbm, 34, rfl⟩
abbrev main_v14_0 : Ref sig .tc := ⟨.hbm, 35, rfl⟩
abbrev main_v14_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_473 : BitVec 32 := 0#32
  let v1671 : BitVec 1 := Scalar.cmpi .eq arg1 c0_i32_473
  let v1672 : BitVec 32 := Scalar.extui v1671
  let c0_i32_474 : BitVec 32 := 0#32
  let v1673 : BitVec 1 := Scalar.cmpi .ne v1672 c0_i32_474
  v1673

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x32x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x4x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x32x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference9Ideal.lean ====
abbrev S32x4x2048 : Shape := ⟨3, ![32, 4, 2048]⟩
abbrev S32x4x3072 : Shape := ⟨3, ![32, 4, 3072]⟩
abbrev S32x4x32 : Shape := ⟨3, ![32, 4, 32]⟩
abbrev S1x32x3x3072 : Shape := ⟨4, ![1, 32, 3, 3072]⟩
abbrev S1x32x32x64x128 : Shape := ⟨5, ![1, 32, 32, 64, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S32x3x3072 : Shape := ⟨3, ![32, 3, 3072]⟩
abbrev S32x7x3072 : Shape := ⟨3, ![32, 7, 3072]⟩
abbrev S1x3072 : Shape := ⟨2, ![1, 3072]⟩
abbrev S1x1x3072 : Shape := ⟨3, ![1, 1, 3072]⟩
abbrev S_ : Shape := ⟨0, ![]⟩
abbrev S32x4x4x8x64 : Shape := ⟨5, ![32, 4, 4, 8, 64]⟩
abbrev S32x4x512 : Shape := ⟨3, ![32, 4, 512]⟩
abbrev S32x4x4x128 : Shape := ⟨4, ![32, 4, 4, 128]⟩
abbrev S1x1x32 : Shape := ⟨3, ![1, 1, 32]⟩
abbrev S32x4x4x8 : Shape := ⟨4, ![32, 4, 4, 8]⟩
abbrev S32x32x64x128 : Shape := ⟨4, ![32, 32, 64, 128]⟩
abbrev S32x4x8x64x128 : Shape := ⟨5, ![32, 4, 8, 64, 128]⟩
abbrev S32x4x4x8x1 : Shape := ⟨5, ![32, 4, 4, 8, 1]⟩
abbrev S4x8 : Shape := ⟨2, ![4, 8]⟩
abbrev S1x1x4x8 : Shape := ⟨4, ![1, 1, 4, 8]⟩
abbrev S4x4 : Shape := ⟨2, ![4, 4]⟩
abbrev S1x4x4x1x1 : Shape := ⟨5, ![1, 4, 4, 1, 1]⟩
abbrev S32x4x1x4x8 : Shape := ⟨5, ![32, 4, 1, 4, 8]⟩
abbrev S32x1x4x4x8 : Shape := ⟨5, ![32, 1, 4, 4, 8]⟩
abbrev S32x4x4x4x8 : Shape := ⟨5, ![32, 4, 4, 4, 8]⟩
abbrev S32x4x4x4 : Shape := ⟨4, ![32, 4, 4, 4]⟩
abbrev S32x4x4x4x1 : Shape := ⟨5, ![32, 4, 4, 4, 1]⟩
abbrev S32x4x8x64x4 : Shape := ⟨5, ![32, 4, 8, 64, 4]⟩
abbrev S32x1x4x8 : Shape := ⟨4, ![32, 1, 4, 8]⟩
abbrev S32x4x8 : Shape := ⟨3, ![32, 4, 8]⟩
abbrev S32x4x8x1x1 : Shape := ⟨5, ![32, 4, 8, 1, 1]⟩
abbrev S32x4x4x1x128 : Shape := ⟨5, ![32, 4, 4, 1, 128]⟩
abbrev S32x4x4x8x128 : Shape := ⟨5, ![32, 4, 4, 8, 128]⟩
abbrev S4x8x1 : Shape := ⟨3, ![4, 8, 1]⟩
abbrev S1x1x4x8x1 : Shape := ⟨5, ![1, 1, 4, 8, 1]⟩
abbrev S32x4x4x512 : Shape := ⟨4, ![32, 4, 4, 512]⟩
abbrev S32x4x4 : Shape := ⟨3, ![32, 4, 4]⟩
abbrev S32x4x4x1 : Shape := ⟨4, ![32, 4, 4, 1]⟩
abbrev S4x512 : Shape := ⟨2, ![4, 512]⟩
abbrev S1x1x4x512 : Shape := ⟨4, ![1, 1, 4, 512]⟩

abbrev nBuf : Space → Nat
  | .hbm => 180
  | .vmem => 0
  | .smem => 0
  | _ => 0

abbrev hbmTy0_0 (i : Nat) : BufTy := match i % 128 with
  | 0 => ⟨S32x4x2048, .f32⟩
  | 1 => ⟨S32x4x3072, .f32⟩
  | 2 => ⟨S32x4x32, .f32⟩
  | 3 => ⟨S1x32x3x3072, .f32⟩
  | 4 => ⟨S1x32x32x64x128, .f32⟩
  | 5 => ⟨S4x3072, .f32⟩
  | 6 => ⟨S3072, .f32⟩
  | 7 => ⟨S32, .f32⟩
  | 8 => ⟨S32, .f32⟩
  | 9 => ⟨S32, .f32⟩
  | 10 => ⟨S2048, .f32⟩
  | 11 => ⟨S32x3x3072, .f32⟩
  | 12 => ⟨S32x7x3072, .f32⟩
  | 13 => ⟨S32x4x3072, .f32⟩
  | 14 => ⟨S1x3072, .f32⟩
  | 15 => ⟨S3072, .f32⟩
  | 16 => ⟨S1x1x3072, .f32⟩
  | 17 => ⟨S32x4x3072, .f32⟩
  | 18 => ⟨S32x4x3072, .f32⟩
  | 19 => ⟨S32x4x3072, .f32⟩
  | 20 => ⟨S1x3072, .f32⟩
  | 21 => ⟨S3072, .f32⟩
  | 22 => ⟨S1x1x3072, .f32⟩
  | 23 => ⟨S32x4x3072, .f32⟩
  | 24 => ⟨S32x4x3072, .f32⟩
  | 25 => ⟨S32x4x3072, .f32⟩
  | 26 => ⟨S32x4x3072, .f32⟩
  | 27 => ⟨S1x3072, .f32⟩
  | 28 => ⟨S3072, .f32⟩
  | 29 => ⟨S1x1x3072, .f32⟩
  | 30 => ⟨S32x4x3072, .f32⟩
  | 31 => ⟨S32x4x3072, .f32⟩
  | 32 => ⟨S32x4x3072, .f32⟩
  | 33 => ⟨S32x4x3072, .f32⟩
  | 34 => ⟨S1x3072, .f32⟩
  | 35 => ⟨S3072, .f32⟩
  | 36 => ⟨S1x1x3072, .f32⟩
  | 37 => ⟨S32x4x3072, .f32⟩
  | 38 => ⟨S32x4x3072, .f32⟩
  | 39 => ⟨S32x4x3072, .f32⟩
  | 40 => ⟨S1x1x3072, .f32⟩
  | 41 => ⟨S32x4x3072, .f32⟩
  | 42 => ⟨S32x4x3072, .f32⟩
  | 43 => ⟨S32x4x3072, .f32⟩
  | 44 => ⟨S32x4x3072, .f32⟩
  | 45 => ⟨S_, .f32⟩
  | 46 => ⟨S32x4x3072, .f32⟩
  | 47 => ⟨S32x4x3072, .f32⟩
  | 48 => ⟨S_, .f32⟩
  | 49 => ⟨S32x4x3072, .f32⟩
  | 50 => ⟨S32x4x3072, .f32⟩
  | 51 => ⟨S32x4x3072, .f32⟩
  | 52 => ⟨S32x4x2048, .f32⟩
  | 53 => ⟨S32x4x4x8x64, .f32⟩
  | 54 => ⟨S32x4x512, .f32⟩
  | 55 => ⟨S32x4x4x128, .f32⟩
  | 56 => ⟨S32x4x512, .f32⟩
  | 57 => ⟨S32x4x4x128, .f32⟩
  | 58 => ⟨S1x1x32, .f32⟩
  | 59 => ⟨S32x4x32, .f32⟩
  | 60 => ⟨S32x4x32, .f32⟩
  | 61 => ⟨S_, .f32⟩
  | 62 => ⟨S32x4x32, .f32⟩
  | 63 => ⟨S32x4x32, .f32⟩
  | 64 => ⟨S32x4x32, .f32⟩
  | 65 => ⟨S32x4x32, .f32⟩
  | 66 => ⟨S32x4x32, .i1⟩
  | 67 => ⟨S32x4x32, .f32⟩
  | 68 => ⟨S32x4x32, .f32⟩
  | 69 => ⟨S32x4x32, .f32⟩
  | 70 => ⟨S32x4x32, .f32⟩
  | 71 => ⟨S32x4x32, .f32⟩
  | 72 => ⟨S32x4x32, .f32⟩
  | 73 => ⟨S32x4x32, .f32⟩
  | 74 => ⟨S32x4x32, .f32⟩
  | 75 => ⟨S32x4x4x8, .f32⟩
  | 76 => ⟨S32x32x64x128, .f32⟩
  | 77 => ⟨S32x4x8x64x128, .f32⟩
  | 78 => ⟨S32x4x4x8x1, .f32⟩
  | 79 => ⟨S32x4x4x8x64, .f32⟩
  | 80 => ⟨S32x4x4x8x64, .f32⟩
  | 81 => ⟨S32, .f32⟩
  | 82 => ⟨S32, .f32⟩
  | 83 => ⟨S4x8, .f32⟩
  | 84 => ⟨S1x1x4x8, .f32⟩
  | 85 => ⟨S32x4x4x8, .f32⟩
  | 86 => ⟨S32x4x4x8, .f32⟩
  | 87 => ⟨S_, .f32⟩
  | 88 => ⟨S_, .f32⟩
  | 89 => ⟨S32x4x4x8, .f32⟩
  | 90 => ⟨S_, .i1⟩
  | 91 => ⟨S4x4, .i1⟩
  | 92 => ⟨S4x4, .i32⟩
  | 93 => ⟨S_, .i32⟩
  | 94 => ⟨S4x4, .i32⟩
  | 95 => ⟨S4x4, .i32⟩
  | 96 => ⟨S4x4, .i32⟩
  | 97 => ⟨S4x4, .i1⟩
  | 98 => ⟨S_, .i1⟩
  | 99 => ⟨S4x4, .i1⟩
  | 100 => ⟨S4x4, .i1⟩
  | 101 => ⟨S1x4x4x1x1, .i1⟩
  | 102 => ⟨S32x4x1x4x8, .f32⟩
  | 103 => ⟨S32x1x4x4x8, .f32⟩
  | 104 => ⟨S32x4x4x4x8, .f32⟩
  | 105 => ⟨S32x4x4x4x8, .f32⟩
  | 106 => ⟨S32x4x4x4x8, .f32⟩
  | 107 => ⟨S_, .f32⟩
  | 108 => ⟨S32x4x4x4x8, .f32⟩
  | 109 => ⟨S32x4x4x4x8, .i1⟩
  | 110 => ⟨S32x4x4x4x8, .f32⟩
  | 111 => ⟨S32x4x4x4x8, .f32⟩
  | 112 => ⟨S32x4x4x4, .f32⟩
  | 113 => ⟨S32x4x4x4, .f32⟩
  | 114 => ⟨S32x4x4x4x1, .f32⟩
  | 115 => ⟨S32x4x4x4x8, .f32⟩
  | 116 => ⟨S32x4x4x4x8, .f32⟩
  | 117 => ⟨S32x4x8x64x4, .f32⟩
  | 118 => ⟨S32x4x4x8x64, .f32⟩
  | 119 => ⟨S32x1x4x8, .f32⟩
  | 120 => ⟨S32x4x4x8, .f32⟩
  | 121 => ⟨S32x4x4x8, .f32⟩
  | 122 => ⟨S32x4x4x8, .f32⟩
  | 123 => ⟨S32x4x4x8x1, .f32⟩
  | 124 => ⟨S32x4x4x8x64, .f32⟩
  | 125 => ⟨S32x4x4x8x64, .f32⟩
  | 126 => ⟨S32x4x8x64x128, .f32⟩
  | 127 => ⟨S32x1x4x8, .f32⟩
  | _ => ⟨S32x4x2048, .f32⟩

abbrev hbmTy0_1 (i : Nat) : BufTy := match i % 128 with
  | 0 => ⟨S32x4x8, .f32⟩
  | 1 => ⟨S32x4x8, .f32⟩
  | 2 => ⟨S32x4x8x1x1, .f32⟩
  | 3 => ⟨S32x4x8x64x128, .f32⟩
  | 4 => ⟨S32x4x8x64x128, .f32⟩
  | 5 => ⟨S32x4x8x64x128, .f32⟩
  | 6 => ⟨S32x4x4x1x128, .f32⟩
  | 7 => ⟨S32x4x4x8, .f32⟩
  | 8 => ⟨S32x4x4x8x1, .f32⟩
  | 9 => ⟨S32x4x4x8x128, .f32⟩
  | 10 => ⟨S32x4x4x8x128, .f32⟩
  | 11 => ⟨S32x4x4x8x128, .f32⟩
  | 12 => ⟨S32x4x8x64x4, .f32⟩
  | 13 => ⟨S32x4x4x8x64, .f32⟩
  | 14 => ⟨S32x4x4x8x64, .f32⟩
  | 15 => ⟨S4x8, .f32⟩
  | 16 => ⟨S4x8x1, .f32⟩
  | 17 => ⟨S1x1x4x8x1, .f32⟩
  | 18 => ⟨S32x4x4x8x64, .f32⟩
  | 19 => ⟨S32x4x4x8x64, .f32⟩
  | 20 => ⟨S32x4x4x8x64, .f32⟩
  | 21 => ⟨S32x4x4x512, .f32⟩
  | 22 => ⟨S32x4x2048, .f32⟩
  | 23 => ⟨S32x4x2048, .f32⟩
  | 24 => ⟨S_, .f32⟩
  | 25 => ⟨S32x4x2048, .f32⟩
  | 26 => ⟨S32x4x2048, .f32⟩
  | 27 => ⟨S_, .f32⟩
  | 28 => ⟨S32x4x2048, .f32⟩
  | 29 => ⟨S32x4x2048, .f32⟩
  | 30 => ⟨S32x4x2048, .f32⟩
  | 31 => ⟨S32x4x4x512, .f32⟩
  | 32 => ⟨S32x4x4x512, .f32⟩
  | 33 => ⟨S32x4x4x512, .f32⟩
  | 34 => ⟨S_, .f32⟩
  | 35 => ⟨S32x4x4, .f32⟩
  | 36 => ⟨S32x4x4x1, .f32⟩
  | 37 => ⟨S_, .f32⟩
  | 38 => ⟨S32x4x4x1, .f32⟩
  | 39 => ⟨S32x4x4x1, .f32⟩
  | 40 => ⟨S_, .f32⟩
  | 41 => ⟨S32x4x4x1, .f32⟩
  | 42 => ⟨S32x4x4x1, .f32⟩
  | 43 => ⟨S32x4x4x1, .f32⟩
  | 44 => ⟨S32x4x4x512, .f32⟩
  | 45 => ⟨S32x4x4x512, .f32⟩
  | 46 => ⟨S4x512, .f32⟩
  | 47 => ⟨S1x1x4x512, .f32⟩
  | 48 => ⟨S32x4x4x512, .f32⟩
  | 49 => ⟨S32x4x4x512, .f32⟩
  | 50 => ⟨S32x4x2048, .f32⟩
  | 51 => ⟨S32x32x64x128, .f32⟩
  | _ => ⟨S32x4x2048, .f32⟩

abbrev hbmTy (i : Nat) : BufTy := match i / 128 with
  | 0 => hbmTy0_0 i
  | 1 => hbmTy0_1 i
  | _ => ⟨S32x4x2048, .f32⟩

abbrev bufTy : (tb : Table) → Fin (tcTables nBuf tb) → BufTy
  | .hbm, ⟨i, _⟩ => hbmTy i
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call1_cst : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_call2_call0_cst : Ref sig .tc := ⟨.hbm, 87, rfl⟩
abbrev main_call2_call0_v0 : Ref sig .tc := ⟨.hbm, 88, rfl⟩
abbrev main_v55 : Ref sig .tc := ⟨.hbm, 89, rfl⟩
abbrev main_c : Ref sig .tc := ⟨.hbm, 90, rfl⟩
abbrev main_v56 : Ref sig .tc := ⟨.hbm, 91, rfl⟩
abbrev main_call3_v0 : Ref sig .tc := ⟨.hbm, 92, rfl⟩
abbrev main_call3_c : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_c_0 : Ref sig .tc := ⟨.hbm, 98, rfl⟩
abbrev main_call3_v5 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst : Ref sig .tc := ⟨.hbm, 107, rfl⟩
abbrev main_v64 : Ref sig .tc := ⟨.hbm, 108, rfl⟩
abbrev main_call4_v0 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_call5_v0 : Ref sig .tc := ⟨.hbm, 150, rfl⟩
abbrev main_call5_v1 : Ref sig .tc := ⟨.hbm, 151, rfl⟩
abbrev main_call5_cst : Ref sig .tc := ⟨.hbm, 152, rfl⟩
abbrev main_call5_v2 : Ref sig .tc := ⟨.hbm, 153, rfl⟩
abbrev main_call5_v3 : Ref sig .tc := ⟨.hbm, 154, rfl⟩
abbrev main_call5_cst_0 : Ref sig .tc := ⟨.hbm, 155, rfl⟩
abbrev main_call5_v4 : Ref sig .tc := ⟨.hbm, 156, rfl⟩
abbrev main_call5_v5 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_cst_0 : Ref sig .tc := ⟨.hbm, 162, rfl⟩
abbrev main_v109 : Ref sig .tc := ⟨.hbm, 163, rfl⟩
abbrev main_v110 : Ref sig .tc := ⟨.hbm, 164, rfl⟩
abbrev main_cst_1 : Ref sig .tc := ⟨.hbm, 165, rfl⟩
abbrev main_v111 : Ref sig .tc := ⟨.hbm, 166, rfl⟩
abbrev main_v112 : Ref sig .tc := ⟨.hbm, 167, rfl⟩
abbrev main_cst_2 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩

abbrev nD : Nat := 1
abbrev τ : Topo := Topo.v7x

variable {F : FTy → Type} [FloatOps F]
-- ==== Proof.Chunk.lean ====
/- The values one chunk of the scan kernel computes, written once for every head pair, every group and every slab of columns: the printed body repeats the same
   chain of operations sixteen, four and six times with other offsets. -/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Chunk

open Idealize.ShloMosaic Idealize.ShloMosaic.TcCoe
open Cert.KernelIdeal.Gen

variable {F : FTy → Type} [FloatOps F]

/-- A column of a 128 by 128 matrix is inside it. -/
theorem col_in (e : Fin 32) : S128x128.Slices ![0, e.val] S128x1 := ⟨rfl, fun a => by
  have := e.isLt
  fin_cases a
  · show 0 + 128 ≤ 128; omega
  · show e.val + 1 ≤ 128; omega⟩

/-- A row of a 128 by 128 matrix is inside it. -/
theorem row_in (e : Fin 32) : S128x128.Slices ![e.val, 0] S1x128 := ⟨rfl, fun a => by
  have := e.isLt
  fin_cases a
  · show e.val + 1 ≤ 128; omega
  · show 0 + 128 ≤ 128; omega⟩

/-- An entry of a row of 128 is inside it. -/
theorem one_in (e : Fin 32) : S1x128.Slices ![0, e.val] S1x1 := ⟨rfl, fun a => by
  have := e.isLt
  fin_cases a
  · show 0 + 1 ≤ 1; omega
  · show e.val + 1 ≤ 128; omega⟩

/-- A group's 512 columns are inside the 2048. -/
theorem group_in (g : Fin 4) : S128x2048.Slices ![0, 512 * g.val] S128x512 := ⟨rfl, fun a => by
  have := g.isLt
  fin_cases a
  · show 0 + 128 ≤ 128; omega
  · show 512 * g.val + 512 ≤ 2048; omega⟩

/-- The first head of a pair. -/
abbrev e0 (p : Fin 16) : Fin 32 := ⟨2 * p.val, by have := p.isLt; omega⟩
/-- The second head of a pair. -/
abbrev e1 (p : Fin 16) : Fin 32 := ⟨2 * p.val + 1, by have := p.isLt; omega⟩

/-- One head's column, spread over all the columns. -/
def col (e : Fin 32) (A : FVec F S128x128 .f32) : FVec F S128x128 .f32 :=
  broadcastTo S128x128 (shapeCast S128x1 (extractStridedSlice S128x1 ![0, e.val] A (col_in e)) shapeCasts_S128x1_S128x1) broadcasts_S128x1_S128x128

/-- One head's row, spread over all the rows. -/
def row (e : Fin 32) (A : FVec F S128x128 .f32) : FVec F S128x128 .f32 :=
  broadcastTo S128x128 (extractStridedSlice S1x128 ![e.val, 0] A (row_in e)) broadcasts_S1x128_S128x128

/-- The weights of the positions up to each position, of one head. -/
def wgt (e : Fin 32) (A AT DT CB : FVec F S128x128 .f32) : FVec F S128x128 .bf16 :=
  truncf .bf16 (mulf (mulf CB (exp (select k0_pay91 (subf (col e A) (row e AT)) (broadcast S128x128 (Scalar.ofBits .f32 0xFF800000#32))))) (row e DT)) bitsLt_bf16_f32

/-- What each position reads the carried state with, of one head. -/
def cin (e : Fin 32) (A C : FVec F S128x128 .f32) : FVec F S128x128 .bf16 :=
  truncf .bf16 (mulf C (exp (col e A))) bitsLt_bf16_f32

/-- What each position writes the state with, of one head. -/
def bout (e : Fin 32) (D BT : FVec F S128x128 .f32) : FVec F S128x128 .bf16 :=
  truncf .bf16 (mulf BT (row e D)) bitsLt_bf16_f32

/-- A product of two matrices of 128, from zero. -/
def mm (X Y : FVec F S128x128 .bf16) : FVec F S128x128 .f32 :=
  matmul dot_S128x128_S128x128_S128x128_1_0_0_1_n_n none X Y (constant S128x128 .f32 0x00000000#32)

/-- The lanes of a pair's first head, the others zero. -/
def lo (X : FVec F S128x128 .f32) : FVec F S128x128 .bf16 :=
  truncf .bf16 (select k0_pay98 X (broadcast S128x128 (Scalar.ofBits .f32 0x00000000#32))) bitsLt_bf16_f32

/-- The lanes of a pair's second head, the others zero. -/
def hi (X : FVec F S128x128 .f32) : FVec F S128x128 .bf16 :=
  truncf .bf16 (select k0_pay98 (broadcast S128x128 (Scalar.ofBits .f32 0x00000000#32)) X) bitsLt_bf16_f32

/-- A pair's outputs before the gate. -/
def yPair (p : Fin 16) (A AT DT CB C xs H : FVec F S128x128 .f32) (dsk : Vec F S1x128 .f32) : FVec F S128x128 .f32 :=
  shapeCast S128x128
    (addf (addf (addf (addf (mulf (broadcastTo S128x128 (shapeCast S1x128 dsk shapeCasts_S1x128_S1x128) broadcasts_S1x128_S128x128) xs)
      (mm (wgt (e0 p) A AT DT CB) (lo xs))) (mm (cin (e0 p) A C) (lo H)))
      (mm (wgt (e1 p) A AT DT CB) (hi xs))) (mm (cin (e1 p) A C) (hi H))) shapeCasts_S128x128_S128x128

/-- A pair's share of the chunk in the new state. -/
def updPair (p : Fin 16) (D BT xs : FVec F S128x128 .f32) : FVec F S128x128 .f32 :=
  addf (addf (broadcast S128x128 (Scalar.ofBits .f32 0x00000000#32)) (mm (bout (e0 p) D BT) (lo xs))) (mm (bout (e1 p) D BT) (hi xs))

/-- How much of the old state a pair keeps. -/
def keepPair (p : Fin 16) (EA : FVec F S1x128 .f32) : FVec F S128x128 .f32 :=
  broadcastTo S128x128
    (select (extractStridedSlice S1x128 ![0, 0] k0_pay98 slices_S128x128_o0_0_S1x128)
      (broadcastTo S1x128 (shapeCast S1x1 (extractStridedSlice S1x1 ![0, (e0 p).val] EA (one_in (e0 p))) shapeCasts_S1x1_S1x1) broadcasts_S1x1_S1x128)
      (broadcastTo S1x128 (shapeCast S1x1 (extractStridedSlice S1x1 ![0, (e1 p).val] EA (one_in (e1 p))) shapeCasts_S1x1_S1x1) broadcasts_S1x1_S1x128))
    broadcasts_S1x128_S128x128

/-- A pair's new state. -/
def hPair (p : Fin 16) (EA : FVec F S1x128 .f32) (D BT xs H : FVec F S128x128 .f32) : FVec F S1x128x128 .f32 :=
  shapeCast S1x128x128 (addf (mulf (keepPair p EA) H) (updPair p D BT xs)) shapeCasts_S128x128_S1x128x128

/-- One slab of 512 columns of the convolution and its activation. -/
def slab (x : Vec F S1x128x512 .f32) (b : Vec F S8x512 .f32) (cb w3 w2 w1 w0 : Vec F S1x512 .f32) : FVec F S128x512 .f32 :=
  k0_pay59 (iota .tc S8x512 32 [0] iota_S8x512_d0_w32) (k0_pay55 x) b (k0_pay56 x b cb w3 w2) (k0_pay57 x b) (k0_pay58 w1) w0

/-- A group's outputs, gated. -/
def gated (g : Fin 4) (z : FVec F S128x2048 .f32) (y : FVec F S128x512 .f32) : FVec F S128x512 .f32 :=
  mulf y (divf (extractStridedSlice S128x512 ![0, 512 * g.val] z (group_in g))
    (addf (broadcast S128x512 (Scalar.ofBits .f32 0x3F800000#32))
      (exp (subf (broadcast S128x512 (Scalar.ofBits .f32 0x00000000#32)) (extractStridedSlice S128x512 ![0, 512 * g.val] z (group_in g))))))

/-- A group's gated outputs, normalised. -/
def yGroup (g : Fin 4) (z : FVec F S128x2048 .f32) (y : FVec F S128x512 .f32) (gn : Vec F S1x512 .f32) : FVec F S1x128x512 .bf16 :=
  k0_pay319 (gated g z y) gn

/-- The 128 columns at `128 k` of the chunk's 3072 are inside. -/
theorem act_in (k : Fin 24) : ∀ a, (![0, 128 * k.val] : Fin 2 → ℕ) a + S128x128.size a ≤ S128x3072.size a := fun a => by
  have := k.isLt
  fin_cases a
  · show 0 + 128 ≤ 128; omega
  · show 128 * k.val + 128 ≤ 3072; omega

/-- A slab's 512 columns of the chunk's 3072 are inside. -/
theorem slab_in (k : Fin 6) : ∀ a, (![0, 512 * k.val] : Fin 2 → ℕ) a + S128x512.size a ≤ S128x3072.size a := fun a => by
  have := k.isLt
  fin_cases a
  · show 0 + 128 ≤ 128; omega
  · show 512 * k.val + 512 ≤ 3072; omega

/-- A slab's columns of the chunk's input are inside. -/
theorem x_in (k : Fin 6) : ∀ a, (![0, 0, 512 * k.val] : Fin 3 → ℕ) a + S1x128x512.size a ≤ S1x128x3072.size a := fun a => by
  have := k.isLt
  fin_cases a
  · show 0 + 1 ≤ 1; omega
  · show 0 + 128 ≤ 128; omega
  · show 512 * k.val + 512 ≤ 3072; omega

/-- A slab's columns of the rows before the chunk are inside. -/
theorem buf_in (k : Fin 6) : ∀ a, (![0, 512 * k.val] : Fin 2 → ℕ) a + S8x512.size a ≤ S136x3072.size a := fun a => by
  have := k.isLt
  fin_cases a
  · show 0 + 8 ≤ 136; omega
  · show 512 * k.val + 512 ≤ 3072; omega

/-- A slab's columns of a row of the taps are inside. -/
theorem tap_in (j : Fin 4) (k : Fin 6) : ∀ a, (![j.val, 512 * k.val] : Fin 2 → ℕ) a + S1x512.size a ≤ S4x3072.size a := fun a => by
  have := k.isLt
  have := j.isLt
  fin_cases a
  · show j.val + 1 ≤ 4; omega
  · show 512 * k.val + 512 ≤ 3072; omega

/-- A slab's columns of the convolution's offset are inside. -/
theorem cb_in (k : Fin 6) : ∀ a, (![0, 512 * k.val] : Fin 2 → ℕ) a + S1x512.size a ≤ S1x3072.size a := fun a => by
  have := k.isLt
  fin_cases a
  · show 0 + 1 ≤ 1; omega
  · show 512 * k.val + 512 ≤ 3072; omega

/-- A pair's lanes of the outputs are inside. -/
theorem lanes_in (p : Fin 16) : ∀ a, (![0, 128 * p.val] : Fin 2 → ℕ) a + S128x128.size a ≤ S128x2048.size a := fun a => by
  have := p.isLt
  fin_cases a
  · show 0 + 128 ≤ 128; omega
  · show 128 * p.val + 128 ≤ 2048; omega

/-- A pair's lanes of a row of 2048 are inside. -/
theorem dsk_in (p : Fin 16) : ∀ a, (![0, 128 * p.val] : Fin 2 → ℕ) a + S1x128.size a ≤ S1x2048.size a := fun a => by
  have := p.isLt
  fin_cases a
  · show 0 + 1 ≤ 1; omega
  · show 128 * p.val + 128 ≤ 2048; omega

/-- A pair's state is inside the states. -/
theorem ht_in (p : Fin 16) : ∀ a, (![p.val, 0, 0] : Fin 3 → ℕ) a + S1x128x128.size a ≤ S16x128x128.size a := fun a => by
  have := p.isLt
  fin_cases a
  · show p.val + 1 ≤ 16; omega
  · show 0 + 128 ≤ 128; omega
  · show 0 + 128 ≤ 128; omega

/-- A group's columns of the outputs are inside. -/
theorem ysc_in (g : Fin 4) : ∀ a, (![0, 512 * g.val] : Fin 2 → ℕ) a + S128x512.size a ≤ S128x2048.size a := fun a => by
  have := g.isLt
  fin_cases a
  · show 0 + 128 ≤ 128; omega
  · show 512 * g.val + 512 ≤ 2048; omega

/-- A group's columns of a row of 2048 are inside. -/
theorem gn_in (g : Fin 4) : ∀ a, (![0, 512 * g.val] : Fin 2 → ℕ) a + S1x512.size a ≤ S1x2048.size a := fun a => by
  have := g.isLt
  fin_cases a
  · show 0 + 1 ≤ 1; omega
  · show 512 * g.val + 512 ≤ 2048; omega

/-- A group's columns of the output block are inside. -/
theorem out_in (g : Fin 4) : ∀ a, (![0, 0, 512 * g.val] : Fin 3 → ℕ) a + S1x128x512.size a ≤ S1x128x2048.size a := fun a => by
  have := g.isLt
  fin_cases a
  · show 0 + 1 ≤ 1; omega
  · show 0 + 128 ≤ 128; omega
  · show 512 * g.val + 512 ≤ 2048; omega

/-- A head's state is inside the output's states. -/
theorem hout_in (e : Fin 32) : ∀ a, (![0, e.val, 0, 0] : Fin 4 → ℕ) a + S1x1x64x128.size a ≤ S1x32x64x128.size a := fun a => by
  have := e.isLt
  fin_cases a
  · show 0 + 1 ≤ 1; omega
  · show e.val + 1 ≤ 32; omega
  · show 0 + 64 ≤ 64; omega
  · show 0 + 128 ≤ 128; omega

/-- The pieces `f 0, …, f (n - 1)`, the last one first. -/
def upTo {α : Type _} {N : ℕ} (f : Fin N → α) (L : List α) : (n : ℕ) → n ≤ N → List α
  | 0, _ => L
  | n + 1, h => f ⟨n, h⟩ :: upTo f L n (Nat.le_of_succ_le h)

/-- Where a slab's columns of the chunk's input lie. -/
abbrev xR (k : Fin 6) : Rect S1x128x3072 := Rect.unit ![0, 0, 512 * k.val] S1x128x512.size (x_in k)
/-- Where a slab's columns of the eight rows before the chunk lie. -/
abbrev bufR (k : Fin 6) : Rect S136x3072 := Rect.unit ![0, 512 * k.val] S8x512.size (buf_in k)
/-- Where a slab's columns of a row of the taps lie. -/
abbrev tapR (j : Fin 4) (k : Fin 6) : Rect S4x3072 := Rect.unit ![j.val, 512 * k.val] S1x512.size (tap_in j k)
/-- Where a slab's columns of the convolution's offset lie. -/
abbrev cbR (k : Fin 6) : Rect S1x3072 := Rect.unit ![0, 512 * k.val] S1x512.size (cb_in k)
/-- Where a slab's activated columns lie. -/
abbrev slabR (k : Fin 6) : Rect S128x3072 := Rect.unit ![0, 512 * k.val] S128x512.size (slab_in k)
/-- Where 128 activated columns lie. -/
abbrev actR (k : Fin 24) : Rect S128x3072 := Rect.unit ![0, 128 * k.val] S128x128.size (act_in k)
/-- Where a pair's lanes of the outputs lie. -/
abbrev lanesR (p : Fin 16) : Rect S128x2048 := Rect.unit ![0, 128 * p.val] S128x128.size (lanes_in p)
/-- Where a pair's lanes of a row of 2048 lie. -/
abbrev dskR (p : Fin 16) : Rect S1x2048 := Rect.unit ![0, 128 * p.val] S1x128.size (dsk_in p)
/-- Where a pair's state lies. -/
abbrev htR (p : Fin 16) : Rect S16x128x128 := Rect.unit ![p.val, 0, 0] S1x128x128.size (ht_in p)
/-- Where a group's columns of the outputs lie. -/
abbrev yscR (g : Fin 4) : Rect S128x2048 := Rect.unit ![0, 512 * g.val] S128x512.size (ysc_in g)
/-- Where a group's columns of a row of 2048 lie. -/
abbrev gnR (g : Fin 4) : Rect S1x2048 := Rect.unit ![0, 512 * g.val] S1x512.size (gn_in g)
/-- Where a group's columns of the output block lie. -/
abbrev outR (g : Fin 4) : Rect S1x128x2048 := Rect.unit ![0, 0, 512 * g.val] S1x128x512.size (out_in g)
/-- Where a head's state lies in the output's states. -/
abbrev houtR (e : Fin 32) : Rect S1x32x64x128 := Rect.unit ![0, e.val, 0, 0] S1x1x64x128.size (hout_in e)

/-- What a chunk loads: its blocks of the inputs, and what the chunk before left. -/
structure Loads (F : FTy → Type) where
  x : Fin 6 → Vec F S1x128x512 .f32
  b : Fin 6 → Vec F S8x512 .f32
  cb : Fin 6 → Vec F S1x512 .f32
  tap : Fin 4 → Fin 6 → Vec F S1x512 .f32
  dt : Vec F S1x128x128 .f32
  dtb : Vec F S1x128 .f32
  al : Vec F S1x128 .f32
  dsk : Fin 16 → Vec F S1x128 .f32
  ht : Fin 16 → Vec F S1x128x128 .f32
  z : Vec F S1x128x2048 .f32
  gn : Fin 4 → Vec F S1x512 .f32

/-- The loads of the blocks, with what the chunk before left given apart. -/
def loads (x0 : Vec F S1x128x2048 .f32) (x1 : Vec F S1x128x3072 .f32) (x2 : Vec F S1x128x128 .f32) (x3 : Vec F S4x3072 .f32) (x4 : Vec F S1x3072 .f32)
    (x5 : Vec F S1x128 .f32) (x6 : Vec F S1x128 .f32) (x7 : Vec F S1x2048 .f32) (x8 : Vec F S1x2048 .f32)
    (b : Fin 6 → Vec F S8x512 .f32) (ht : Fin 16 → Vec F S1x128x128 .f32) : Loads F where
  x k := View.ld x1 (xR k)
  b := b
  cb k := View.ld x4 (cbR k)
  tap j k := View.ld x3 (tapR j k)
  dt := View.ld x2 (Rect.unit ![0, 0, 0] S1x128x128.size inb_S1x128x128_S1x128x128_0_0_0)
  dtb := View.ld x5 (Rect.unit ![0, 0] S1x128.size inb_S1x128_S1x128_0_0)
  al := View.ld x6 (Rect.unit ![0, 0] S1x128.size inb_S1x128_S1x128_0_0)
  dsk p := View.ld x7 (dskR p)
  ht := ht
  z := View.ld x0 (Rect.unit ![0, 0, 0] S1x128x2048.size inb_S1x128x2048_S1x128x2048_0_0_0)
  gn g := View.ld x8 (gnR g)

/-- The group of a pair. -/
abbrev grp (p : Fin 16) : Fin 4 := ⟨p.val / 4, by have := p.isLt; omega⟩
/-- Where a pair's inputs lie among the activated columns. -/
abbrev kx (p : Fin 16) : Fin 24 := ⟨p.val, by have := p.isLt; omega⟩
/-- Where a pair's group's `B` lies among the activated columns. -/
abbrev kb (p : Fin 16) : Fin 24 := ⟨16 + p.val / 4, by have := p.isLt; omega⟩
/-- Where a pair's group's `C` lies among the activated columns. -/
abbrev kc (p : Fin 16) : Fin 24 := ⟨20 + p.val / 4, by have := p.isLt; omega⟩

/-- The activated slabs, as stores. -/
def slabPiece (D : Loads F) (k : Fin 6) : View.Piece (Elt F) S128x3072 .f32 :=
  ⟨slabR k, slab (D.x k) (D.b k) (D.cb k) (D.tap 3 k) (D.tap 2 k) (D.tap 1 k) (D.tap 0 k)⟩

/-- The chunk's last eight rows of a slab, as a store. -/
def bufPiece (x : Fin 6 → Vec F S1x128x512 .f32) (k : Fin 6) : View.Piece (Elt F) S136x3072 .f32 :=
  ⟨bufR k, k0_pay60 (k0_pay55 (x k))⟩

/-- A pair's outputs, as a store. -/
def yPiece (D : Loads F) (act : Fin 24 → Vec F S128x128 .f32) (p : Fin 16) : View.Piece (Elt F) S128x2048 .f32 :=
  ⟨lanesR p, yPair p (k0_pay92 D.dt D.dtb D.al) (k0_pay95 D.dt D.dtb D.al) (k0_pay96 D.dt D.dtb) (k0_pay99 (act (kb p)) (act (kc p))) (act (kc p)) (act (kx p))
    (k0_pay101 (D.ht p)) (D.dsk p)⟩

/-- A pair's new state, as a store. -/
def htPiece (dt : Vec F S1x128x128 .f32) (dtb al : Vec F S1x128 .f32) (act : Fin 24 → Vec F S128x128 .f32) (p : Fin 16) (ht : Vec F S1x128x128 .f32) :
    View.Piece (Elt F) S16x128x128 .f32 :=
  ⟨htR p, hPair p (k0_pay94 dt dtb al) (k0_pay97 (k0_pay90 dt dtb) (k0_pay92 dt dtb al) (k0_pay93 dt dtb al)) (k0_pay100 (act (kb p))) (act (kx p)) (k0_pay101 ht)⟩

/-- A group's normalised outputs, as a store. -/
def outPiece (D : Loads F) (ysc : Fin 4 → Vec F S128x512 .f32) (g : Fin 4) : View.Piece (Elt F) S1x128x2048 .bf16 :=
  ⟨outR g, yGroup g (k0_pay314 D.z) (ysc g) (D.gn g)⟩

/-- A head's final state, as a store: its half of its pair's, transposed. -/
def houtPiece (ht : Fin 16 → Vec F S1x128x128 .f32) (e : Fin 32) : View.Piece (Elt F) S1x32x64x128 .f32 :=
  ⟨houtR e, if e.val % 2 = 0 then k0_pay3 (ht ⟨e.val / 2, by have := e.isLt; omega⟩) else k0_pay4 (ht ⟨e.val / 2, by have := e.isLt; omega⟩)⟩

/-- The first chunk's rows before it, as it loads them: the fill, over which the slabs before this one have stored. -/
def firstBuf (v : View sig .tc .vmem S136x3072 .f32) (x : Fin 6 → Vec F S1x128x512 .f32) (k : Fin 6) : Vec F S8x512 .f32 :=
  v.readCov (upTo (bufPiece x) [⟨Rect.unit ![0, 0] S136x3072.size inb_S136x3072_S136x3072_0_0, k0_pay53⟩] k.val (Nat.le_of_lt k.isLt)) (bufR k).toLoadRect

/-- The first chunk's stores into the states: the fill, then one store a pair, each of which loads its state over the stores so far. -/
def firstHt (v : View sig .tc .vmem S16x128x128 .f32) (dt : Vec F S1x128x128 .f32) (dtb al : Vec F S1x128 .f32) (act : Fin 24 → Vec F S128x128 .f32) :
    (n : ℕ) → n ≤ 16 → List (View.Piece (Elt F) S16x128x128 .f32)
  | 0, _ => [⟨Rect.unit ![0, 0, 0] S16x128x128.size inb_S16x128x128_S16x128x128_0_0_0, k0_pay54⟩]
  | n + 1, h => htPiece dt dtb al act ⟨n, h⟩ (v.readCov (firstHt v dt dtb al act n (Nat.le_of_succ_le h)) (htR ⟨n, h⟩).toLoadRect)
      :: firstHt v dt dtb al act n (Nat.le_of_succ_le h)

end Cert.KernelIdeal.Chunk

end
-- ==== Proof.ChunkRuns.lean ====
/- What the body's run leaves in each buffer in each of its three cases, as the stores of `Chunk.lean`. -/
module

public import proofs.«01_k».proof.Proof.Chunk

@[expose] public section

set_option maxRecDepth 16384

noncomputable section

namespace Cert.KernelIdeal.Chunk

open Idealize.ShloMosaic Idealize.ShloMosaic.TcCoe Idealize.ShloMosaic.Tactic
open Cert.KernelIdeal.Gen

variable {F : FTy → Type} [FloatOps F]

/-- The activated slabs are stored one after another, in a chunk between the first and the last. -/
theorem act_B (c : Dev nD) (i : grid0.Coords) (arg2 : Memref sig .tc .vmem S1x128x2048 .f32) (harg2 : arg2.IsWhole) (arg3 : Memref sig .tc .vmem S1x128x3072 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x128x2048 .bf16) (harg11 : arg11.IsWhole) (arg12 : Memref sig .tc .vmem S1x32x64x128 .f32) (harg12 : arg12.IsWhole) (arg13 : Memref sig .tc .vmem S136x3072 .f32) (harg13 : arg13.IsWhole) (arg14 : Memref sig .tc .vmem S128x3072 .f32) (harg14 : arg14.IsWhole) (arg15 : Memref sig .tc .vmem S128x2048 .f32) (harg15 : arg15.IsWhole) (arg16 : Memref sig .tc .vmem S16x128x128 .f32) (harg16 : arg16.IsWhole) (hc0 : ¬cond0_0 i) (hc1 : ¬cond0_1 i)
    (x0 : Vec F S1x128x2048 .f32) (x1 : Vec F S1x128x3072 .f32) (x2 : Vec F S1x128x128 .f32) (x3 : Vec F S4x3072 .f32) (x4 : Vec F S1x3072 .f32) (x5 : Vec F S1x128 .f32) (x6 : Vec F S1x128 .f32) (x7 : Vec F S1x2048 .f32) (x8 : Vec F S1x2048 .f32) (xs0 : Vec F S136x3072 .f32) (xs3 : Vec F S16x128x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3).2.2.2.2.1 = upTo (slabPiece (loads (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (fun k => View.ld (arg13.view.read (Elt F) (harg13.unread xs0)) (bufR k)) (fun p => View.ld (arg16.view.read (Elt F) (harg16.unread xs3)) (htR p)))) [] 6 (by omega) := by
  sl_kernel_rfl

/-- The pairs' outputs are stored one after another, in a chunk between the first and the last. -/
theorem ysc_B (c : Dev nD) (i : grid0.Coords) (arg2 : Memref sig .tc .vmem S1x128x2048 .f32) (harg2 : arg2.IsWhole) (arg3 : Memref sig .tc .vmem S1x128x3072 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x128x2048 .bf16) (harg11 : arg11.IsWhole) (arg12 : Memref sig .tc .vmem S1x32x64x128 .f32) (harg12 : arg12.IsWhole) (arg13 : Memref sig .tc .vmem S136x3072 .f32) (harg13 : arg13.IsWhole) (arg14 : Memref sig .tc .vmem S128x3072 .f32) (harg14 : arg14.IsWhole) (arg15 : Memref sig .tc .vmem S128x2048 .f32) (harg15 : arg15.IsWhole) (arg16 : Memref sig .tc .vmem S16x128x128 .f32) (harg16 : arg16.IsWhole) (hc0 : ¬cond0_0 i) (hc1 : ¬cond0_1 i)
    (x0 : Vec F S1x128x2048 .f32) (x1 : Vec F S1x128x3072 .f32) (x2 : Vec F S1x128x128 .f32) (x3 : Vec F S4x3072 .f32) (x4 : Vec F S1x3072 .f32) (x5 : Vec F S1x128 .f32) (x6 : Vec F S1x128 .f32) (x7 : Vec F S1x2048 .f32) (x8 : Vec F S1x2048 .f32) (xs0 : Vec F S136x3072 .f32) (xs3 : Vec F S16x128x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3).2.2.2.2.2.val = upTo (yPiece (loads (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (fun k => View.ld (arg13.view.read (Elt F) (harg13.unread xs0)) (bufR k)) (fun p => View.ld (arg16.view.read (Elt F) (harg16.unread xs3)) (htR p))) (fun k => arg14.view.readCov (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3).2.2.2.2.1 (actR k).toLoadRect)) [] 16 (by omega) := by
  sl_kernel_rfl

/-- The groups' outputs are stored one after another, in a chunk between the first and the last. -/
theorem out_B (c : Dev nD) (i : grid0.Coords) (arg2 : Memref sig .tc .vmem S1x128x2048 .f32) (harg2 : arg2.IsWhole) (arg3 : Memref sig .tc .vmem S1x128x3072 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x128x2048 .bf16) (harg11 : arg11.IsWhole) (arg12 : Memref sig .tc .vmem S1x32x64x128 .f32) (harg12 : arg12.IsWhole) (arg13 : Memref sig .tc .vmem S136x3072 .f32) (harg13 : arg13.IsWhole) (arg14 : Memref sig .tc .vmem S128x3072 .f32) (harg14 : arg14.IsWhole) (arg15 : Memref sig .tc .vmem S128x2048 .f32) (harg15 : arg15.IsWhole) (arg16 : Memref sig .tc .vmem S16x128x128 .f32) (harg16 : arg16.IsWhole) (hc0 : ¬cond0_0 i) (hc1 : ¬cond0_1 i)
    (x0 : Vec F S1x128x2048 .f32) (x1 : Vec F S1x128x3072 .f32) (x2 : Vec F S1x128x128 .f32) (x3 : Vec F S4x3072 .f32) (x4 : Vec F S1x3072 .f32) (x5 : Vec F S1x128 .f32) (x6 : Vec F S1x128 .f32) (x7 : Vec F S1x2048 .f32) (x8 : Vec F S1x2048 .f32) (xs0 : Vec F S136x3072 .f32) (xs3 : Vec F S16x128x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3).1 = upTo (outPiece (loads (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (fun k => View.ld (arg13.view.read (Elt F) (harg13.unread xs0)) (bufR k)) (fun p => View.ld (arg16.view.read (Elt F) (harg16.unread xs3)) (htR p))) (fun g => arg15.view.readCov (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3).2.2.2.2.2.val (yscR g).toLoadRect)) [] 4 (by omega) := by
  sl_kernel_rfl

/-- The chunk's last rows are stored one slab after another, in a chunk between the first and the last. -/
theorem buf_B (c : Dev nD) (i : grid0.Coords) (arg2 : Memref sig .tc .vmem S1x128x2048 .f32) (harg2 : arg2.IsWhole) (arg3 : Memref sig .tc .vmem S1x128x3072 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x128x2048 .bf16) (harg11 : arg11.IsWhole) (arg12 : Memref sig .tc .vmem S1x32x64x128 .f32) (harg12 : arg12.IsWhole) (arg13 : Memref sig .tc .vmem S136x3072 .f32) (harg13 : arg13.IsWhole) (arg14 : Memref sig .tc .vmem S128x3072 .f32) (harg14 : arg14.IsWhole) (arg15 : Memref sig .tc .vmem S128x2048 .f32) (harg15 : arg15.IsWhole) (arg16 : Memref sig .tc .vmem S16x128x128 .f32) (harg16 : arg16.IsWhole) (hc0 : ¬cond0_0 i) (hc1 : ¬cond0_1 i)
    (x0 : Vec F S1x128x2048 .f32) (x1 : Vec F S1x128x3072 .f32) (x2 : Vec F S1x128x128 .f32) (x3 : Vec F S4x3072 .f32) (x4 : Vec F S1x3072 .f32) (x5 : Vec F S1x128 .f32) (x6 : Vec F S1x128 .f32) (x7 : Vec F S1x2048 .f32) (x8 : Vec F S1x2048 .f32) (xs0 : Vec F S136x3072 .f32) (xs3 : Vec F S16x128x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3).2.2.1 = upTo (bufPiece (fun k => View.ld (arg3.view.read (Elt F) (harg3.unread x1)) (xR k))) [] 6 (by omega) := by
  sl_kernel_rfl

/-- The pairs' new states are stored one after another, in a chunk between the first and the last. -/
theorem ht_B (c : Dev nD) (i : grid0.Coords) (arg2 : Memref sig .tc .vmem S1x128x2048 .f32) (harg2 : arg2.IsWhole) (arg3 : Memref sig .tc .vmem S1x128x3072 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x128x2048 .bf16) (harg11 : arg11.IsWhole) (arg12 : Memref sig .tc .vmem S1x32x64x128 .f32) (harg12 : arg12.IsWhole) (arg13 : Memref sig .tc .vmem S136x3072 .f32) (harg13 : arg13.IsWhole) (arg14 : Memref sig .tc .vmem S128x3072 .f32) (harg14 : arg14.IsWhole) (arg15 : Memref sig .tc .vmem S128x2048 .f32) (harg15 : arg15.IsWhole) (arg16 : Memref sig .tc .vmem S16x128x128 .f32) (harg16 : arg16.IsWhole) (hc0 : ¬cond0_0 i) (hc1 : ¬cond0_1 i)
    (x0 : Vec F S1x128x2048 .f32) (x1 : Vec F S1x128x3072 .f32) (x2 : Vec F S1x128x128 .f32) (x3 : Vec F S4x3072 .f32) (x4 : Vec F S1x3072 .f32) (x5 : Vec F S1x128 .f32) (x6 : Vec F S1x128 .f32) (x7 : Vec F S1x2048 .f32) (x8 : Vec F S1x2048 .f32) (xs0 : Vec F S136x3072 .f32) (xs3 : Vec F S16x128x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3).2.2.2.1 = upTo (fun p => htPiece (View.ld (arg4.view.read (Elt F) (harg4.unread x2)) (Rect.unit ![0, 0, 0] S1x128x128.size inb_S1x128x128_S1x128x128_0_0_0)) (View.ld (arg7.view.read (Elt F) (harg7.unread x5)) (Rect.unit ![0, 0] S1x128.size inb_S1x128_S1x128_0_0)) (View.ld (arg8.view.read (Elt F) (harg8.unread x6)) (Rect.unit ![0, 0] S1x128.size inb_S1x128_S1x128_0_0)) (fun k => arg14.view.readCov (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3).2.2.2.2.1 (actR k).toLoadRect) p ((fun p => View.ld (arg16.view.read (Elt F) (harg16.unread xs3)) (htR p)) p)) [] 16 (by omega) := by
  sl_kernel_rfl

/-- The activated slabs are stored one after another, in the last chunk. -/
theorem act_C (c : Dev nD) (i : grid0.Coords) (arg2 : Memref sig .tc .vmem S1x128x2048 .f32) (harg2 : arg2.IsWhole) (arg3 : Memref sig .tc .vmem S1x128x3072 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x128x2048 .bf16) (harg11 : arg11.IsWhole) (arg12 : Memref sig .tc .vmem S1x32x64x128 .f32) (harg12 : arg12.IsWhole) (arg13 : Memref sig .tc .vmem S136x3072 .f32) (harg13 : arg13.IsWhole) (arg14 : Memref sig .tc .vmem S128x3072 .f32) (harg14 : arg14.IsWhole) (arg15 : Memref sig .tc .vmem S128x2048 .f32) (harg15 : arg15.IsWhole) (arg16 : Memref sig .tc .vmem S16x128x128 .f32) (harg16 : arg16.IsWhole) (hc0 : ¬cond0_0 i) (hc1 : cond0_1 i)
    (x0 : Vec F S1x128x2048 .f32) (x1 : Vec F S1x128x3072 .f32) (x2 : Vec F S1x128x128 .f32) (x3 : Vec F S4x3072 .f32) (x4 : Vec F S1x3072 .f32) (x5 : Vec F S1x128 .f32) (x6 : Vec F S1x128 .f32) (x7 : Vec F S1x2048 .f32) (x8 : Vec F S1x2048 .f32) (xs0 : Vec F S136x3072 .f32) (xs3 : Vec F S16x128x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3).2.2.2.2.1 = upTo (slabPiece (loads (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (fun k => View.ld (arg13.view.read (Elt F) (harg13.unread xs0)) (bufR k)) (fun p => View.ld (arg16.view.read (Elt F) (harg16.unread xs3)) (htR p)))) [] 6 (by omega) := by
  sl_kernel_rfl

/-- The pairs' outputs are stored one after another, in the last chunk. -/
theorem ysc_C (c : Dev nD) (i : grid0.Coords) (arg2 : Memref sig .tc .vmem S1x128x2048 .f32) (harg2 : arg2.IsWhole) (arg3 : Memref sig .tc .vmem S1x128x3072 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x128x2048 .bf16) (harg11 : arg11.IsWhole) (arg12 : Memref sig .tc .vmem S1x32x64x128 .f32) (harg12 : arg12.IsWhole) (arg13 : Memref sig .tc .vmem S136x3072 .f32) (harg13 : arg13.IsWhole) (arg14 : Memref sig .tc .vmem S128x3072 .f32) (harg14 : arg14.IsWhole) (arg15 : Memref sig .tc .vmem S128x2048 .f32) (harg15 : arg15.IsWhole) (arg16 : Memref sig .tc .vmem S16x128x128 .f32) (harg16 : arg16.IsWhole) (hc0 : ¬cond0_0 i) (hc1 : cond0_1 i)
    (x0 : Vec F S1x128x2048 .f32) (x1 : Vec F S1x128x3072 .f32) (x2 : Vec F S1x128x128 .f32) (x3 : Vec F S4x3072 .f32) (x4 : Vec F S1x3072 .f32) (x5 : Vec F S1x128 .f32) (x6 : Vec F S1x128 .f32) (x7 : Vec F S1x2048 .f32) (x8 : Vec F S1x2048 .f32) (xs0 : Vec F S136x3072 .f32) (xs3 : Vec F S16x128x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3).2.2.2.2.2.val = upTo (yPiece (loads (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (fun k => View.ld (arg13.view.read (Elt F) (harg13.unread xs0)) (bufR k)) (fun p => View.ld (arg16.view.read (Elt F) (harg16.unread xs3)) (htR p))) (fun k => arg14.view.readCov (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3).2.2.2.2.1 (actR k).toLoadRect)) [] 16 (by omega) := by
  sl_kernel_rfl

/-- The groups' outputs are stored one after another, in the last chunk. -/
theorem out_C (c : Dev nD) (i : grid0.Coords) (arg2 : Memref sig .tc .vmem S1x128x2048 .f32) (harg2 : arg2.IsWhole) (arg3 : Memref sig .tc .vmem S1x128x3072 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x128x2048 .bf16) (harg11 : arg11.IsWhole) (arg12 : Memref sig .tc .vmem S1x32x64x128 .f32) (harg12 : arg12.IsWhole) (arg13 : Memref sig .tc .vmem S136x3072 .f32) (harg13 : arg13.IsWhole) (arg14 : Memref sig .tc .vmem S128x3072 .f32) (harg14 : arg14.IsWhole) (arg15 : Memref sig .tc .vmem S128x2048 .f32) (harg15 : arg15.IsWhole) (arg16 : Memref sig .tc .vmem S16x128x128 .f32) (harg16 : arg16.IsWhole) (hc0 : ¬cond0_0 i) (hc1 : cond0_1 i)
    (x0 : Vec F S1x128x2048 .f32) (x1 : Vec F S1x128x3072 .f32) (x2 : Vec F S1x128x128 .f32) (x3 : Vec F S4x3072 .f32) (x4 : Vec F S1x3072 .f32) (x5 : Vec F S1x128 .f32) (x6 : Vec F S1x128 .f32) (x7 : Vec F S1x2048 .f32) (x8 : Vec F S1x2048 .f32) (xs0 : Vec F S136x3072 .f32) (xs3 : Vec F S16x128x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3).1 = upTo (outPiece (loads (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (fun k => View.ld (arg13.view.read (Elt F) (harg13.unread xs0)) (bufR k)) (fun p => View.ld (arg16.view.read (Elt F) (harg16.unread xs3)) (htR p))) (fun g => arg15.view.readCov (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3).2.2.2.2.2.val (yscR g).toLoadRect)) [] 4 (by omega) := by
  sl_kernel_rfl

/-- The chunk's last rows are stored one slab after another, in the last chunk. -/
theorem buf_C (c : Dev nD) (i : grid0.Coords) (arg2 : Memref sig .tc .vmem S1x128x2048 .f32) (harg2 : arg2.IsWhole) (arg3 : Memref sig .tc .vmem S1x128x3072 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x128x2048 .bf16) (harg11 : arg11.IsWhole) (arg12 : Memref sig .tc .vmem S1x32x64x128 .f32) (harg12 : arg12.IsWhole) (arg13 : Memref sig .tc .vmem S136x3072 .f32) (harg13 : arg13.IsWhole) (arg14 : Memref sig .tc .vmem S128x3072 .f32) (harg14 : arg14.IsWhole) (arg15 : Memref sig .tc .vmem S128x2048 .f32) (harg15 : arg15.IsWhole) (arg16 : Memref sig .tc .vmem S16x128x128 .f32) (harg16 : arg16.IsWhole) (hc0 : ¬cond0_0 i) (hc1 : cond0_1 i)
    (x0 : Vec F S1x128x2048 .f32) (x1 : Vec F S1x128x3072 .f32) (x2 : Vec F S1x128x128 .f32) (x3 : Vec F S4x3072 .f32) (x4 : Vec F S1x3072 .f32) (x5 : Vec F S1x128 .f32) (x6 : Vec F S1x128 .f32) (x7 : Vec F S1x2048 .f32) (x8 : Vec F S1x2048 .f32) (xs0 : Vec F S136x3072 .f32) (xs3 : Vec F S16x128x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3).2.2.1 = upTo (bufPiece (fun k => View.ld (arg3.view.read (Elt F) (harg3.unread x1)) (xR k))) [] 6 (by omega) := by
  sl_kernel_rfl

/-- The pairs' new states are stored one after another, in the last chunk. -/
theorem ht_C (c : Dev nD) (i : grid0.Coords) (arg2 : Memref sig .tc .vmem S1x128x2048 .f32) (harg2 : arg2.IsWhole) (arg3 : Memref sig .tc .vmem S1x128x3072 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x128x2048 .bf16) (harg11 : arg11.IsWhole) (arg12 : Memref sig .tc .vmem S1x32x64x128 .f32) (harg12 : arg12.IsWhole) (arg13 : Memref sig .tc .vmem S136x3072 .f32) (harg13 : arg13.IsWhole) (arg14 : Memref sig .tc .vmem S128x3072 .f32) (harg14 : arg14.IsWhole) (arg15 : Memref sig .tc .vmem S128x2048 .f32) (harg15 : arg15.IsWhole) (arg16 : Memref sig .tc .vmem S16x128x128 .f32) (harg16 : arg16.IsWhole) (hc0 : ¬cond0_0 i) (hc1 : cond0_1 i)
    (x0 : Vec F S1x128x2048 .f32) (x1 : Vec F S1x128x3072 .f32) (x2 : Vec F S1x128x128 .f32) (x3 : Vec F S4x3072 .f32) (x4 : Vec F S1x3072 .f32) (x5 : Vec F S1x128 .f32) (x6 : Vec F S1x128 .f32) (x7 : Vec F S1x2048 .f32) (x8 : Vec F S1x2048 .f32) (xs0 : Vec F S136x3072 .f32) (xs3 : Vec F S16x128x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3).2.2.2.1 = upTo (fun p => htPiece (View.ld (arg4.view.read (Elt F) (harg4.unread x2)) (Rect.unit ![0, 0, 0] S1x128x128.size inb_S1x128x128_S1x128x128_0_0_0)) (View.ld (arg7.view.read (Elt F) (harg7.unread x5)) (Rect.unit ![0, 0] S1x128.size inb_S1x128_S1x128_0_0)) (View.ld (arg8.view.read (Elt F) (harg8.unread x6)) (Rect.unit ![0, 0] S1x128.size inb_S1x128_S1x128_0_0)) (fun k => arg14.view.readCov (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3).2.2.2.2.1 (actR k).toLoadRect) p ((fun p => View.ld (arg16.view.read (Elt F) (harg16.unread xs3)) (htR p)) p)) [] 16 (by omega) := by
  sl_kernel_rfl

/-- The heads' final states are stored one after another, in the last chunk. -/
theorem hout_C (c : Dev nD) (i : grid0.Coords) (arg2 : Memref sig .tc .vmem S1x128x2048 .f32) (harg2 : arg2.IsWhole) (arg3 : Memref sig .tc .vmem S1x128x3072 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x128x2048 .bf16) (harg11 : arg11.IsWhole) (arg12 : Memref sig .tc .vmem S1x32x64x128 .f32) (harg12 : arg12.IsWhole) (arg13 : Memref sig .tc .vmem S136x3072 .f32) (harg13 : arg13.IsWhole) (arg14 : Memref sig .tc .vmem S128x3072 .f32) (harg14 : arg14.IsWhole) (arg15 : Memref sig .tc .vmem S128x2048 .f32) (harg15 : arg15.IsWhole) (arg16 : Memref sig .tc .vmem S16x128x128 .f32) (harg16 : arg16.IsWhole) (hc0 : ¬cond0_0 i) (hc1 : cond0_1 i)
    (x0 : Vec F S1x128x2048 .f32) (x1 : Vec F S1x128x3072 .f32) (x2 : Vec F S1x128x128 .f32) (x3 : Vec F S4x3072 .f32) (x4 : Vec F S1x3072 .f32) (x5 : Vec F S1x128 .f32) (x6 : Vec F S1x128 .f32) (x7 : Vec F S1x2048 .f32) (x8 : Vec F S1x2048 .f32) (xs0 : Vec F S136x3072 .f32) (xs3 : Vec F S16x128x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3).2.1 = upTo (houtPiece (fun p => arg16.view.readCov (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3).2.2.2.1 (htR p).toLoadRect)) [] 32 (by omega) := by
  sl_kernel_rfl

/-- The activated slabs are stored one after another, in the first chunk. -/
theorem act_A (c : Dev nD) (i : grid0.Coords) (arg2 : Memref sig .tc .vmem S1x128x2048 .f32) (harg2 : arg2.IsWhole) (arg3 : Memref sig .tc .vmem S1x128x3072 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x128x2048 .bf16) (harg11 : arg11.IsWhole) (arg12 : Memref sig .tc .vmem S1x32x64x128 .f32) (harg12 : arg12.IsWhole) (arg13 : Memref sig .tc .vmem S136x3072 .f32) (harg13 : arg13.IsWhole) (arg14 : Memref sig .tc .vmem S128x3072 .f32) (harg14 : arg14.IsWhole) (arg15 : Memref sig .tc .vmem S128x2048 .f32) (harg15 : arg15.IsWhole) (arg16 : Memref sig .tc .vmem S16x128x128 .f32) (harg16 : arg16.IsWhole) (hc0 : cond0_0 i) (hc1 : ¬cond0_1 i)
    (x0 : Vec F S1x128x2048 .f32) (x1 : Vec F S1x128x3072 .f32) (x2 : Vec F S1x128x128 .f32) (x3 : Vec F S4x3072 .f32) (x4 : Vec F S1x3072 .f32) (x5 : Vec F S1x128 .f32) (x6 : Vec F S1x128 .f32) (x7 : Vec F S1x2048 .f32) (x8 : Vec F S1x2048 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.2.1 = upTo (slabPiece (loads (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (firstBuf arg13.view (fun k => View.ld (arg3.view.read (Elt F) (harg3.unread x1)) (xR k))) (fun p => arg16.view.readCov (firstHt arg16.view (View.ld (arg4.view.read (Elt F) (harg4.unread x2)) (Rect.unit ![0, 0, 0] S1x128x128.size inb_S1x128x128_S1x128x128_0_0_0)) (View.ld (arg7.view.read (Elt F) (harg7.unread x5)) (Rect.unit ![0, 0] S1x128.size inb_S1x128_S1x128_0_0)) (View.ld (arg8.view.read (Elt F) (harg8.unread x6)) (Rect.unit ![0, 0] S1x128.size inb_S1x128_S1x128_0_0)) (fun k => arg14.view.readCov (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.2.1 (actR k).toLoadRect) p.val (Nat.le_of_lt p.isLt)) (htR p).toLoadRect))) [] 6 (by omega) := by
  sl_kernel_rfl

/-- The pairs' outputs are stored one after another, in the first chunk. -/
theorem ysc_A (c : Dev nD) (i : grid0.Coords) (arg2 : Memref sig .tc .vmem S1x128x2048 .f32) (harg2 : arg2.IsWhole) (arg3 : Memref sig .tc .vmem S1x128x3072 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x128x2048 .bf16) (harg11 : arg11.IsWhole) (arg12 : Memref sig .tc .vmem S1x32x64x128 .f32) (harg12 : arg12.IsWhole) (arg13 : Memref sig .tc .vmem S136x3072 .f32) (harg13 : arg13.IsWhole) (arg14 : Memref sig .tc .vmem S128x3072 .f32) (harg14 : arg14.IsWhole) (arg15 : Memref sig .tc .vmem S128x2048 .f32) (harg15 : arg15.IsWhole) (arg16 : Memref sig .tc .vmem S16x128x128 .f32) (harg16 : arg16.IsWhole) (hc0 : cond0_0 i) (hc1 : ¬cond0_1 i)
    (x0 : Vec F S1x128x2048 .f32) (x1 : Vec F S1x128x3072 .f32) (x2 : Vec F S1x128x128 .f32) (x3 : Vec F S4x3072 .f32) (x4 : Vec F S1x3072 .f32) (x5 : Vec F S1x128 .f32) (x6 : Vec F S1x128 .f32) (x7 : Vec F S1x2048 .f32) (x8 : Vec F S1x2048 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.2.2.val = upTo (yPiece (loads (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (firstBuf arg13.view (fun k => View.ld (arg3.view.read (Elt F) (harg3.unread x1)) (xR k))) (fun p => arg16.view.readCov (firstHt arg16.view (View.ld (arg4.view.read (Elt F) (harg4.unread x2)) (Rect.unit ![0, 0, 0] S1x128x128.size inb_S1x128x128_S1x128x128_0_0_0)) (View.ld (arg7.view.read (Elt F) (harg7.unread x5)) (Rect.unit ![0, 0] S1x128.size inb_S1x128_S1x128_0_0)) (View.ld (arg8.view.read (Elt F) (harg8.unread x6)) (Rect.unit ![0, 0] S1x128.size inb_S1x128_S1x128_0_0)) (fun k => arg14.view.readCov (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.2.1 (actR k).toLoadRect) p.val (Nat.le_of_lt p.isLt)) (htR p).toLoadRect)) (fun k => arg14.view.readCov (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.2.1 (actR k).toLoadRect)) [] 16 (by omega) := by
  sl_kernel_rfl

/-- The groups' outputs are stored one after another, in the first chunk. -/
theorem out_A (c : Dev nD) (i : grid0.Coords) (arg2 : Memref sig .tc .vmem S1x128x2048 .f32) (harg2 : arg2.IsWhole) (arg3 : Memref sig .tc .vmem S1x128x3072 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x128x2048 .bf16) (harg11 : arg11.IsWhole) (arg12 : Memref sig .tc .vmem S1x32x64x128 .f32) (harg12 : arg12.IsWhole) (arg13 : Memref sig .tc .vmem S136x3072 .f32) (harg13 : arg13.IsWhole) (arg14 : Memref sig .tc .vmem S128x3072 .f32) (harg14 : arg14.IsWhole) (arg15 : Memref sig .tc .vmem S128x2048 .f32) (harg15 : arg15.IsWhole) (arg16 : Memref sig .tc .vmem S16x128x128 .f32) (harg16 : arg16.IsWhole) (hc0 : cond0_0 i) (hc1 : ¬cond0_1 i)
    (x0 : Vec F S1x128x2048 .f32) (x1 : Vec F S1x128x3072 .f32) (x2 : Vec F S1x128x128 .f32) (x3 : Vec F S4x3072 .f32) (x4 : Vec F S1x3072 .f32) (x5 : Vec F S1x128 .f32) (x6 : Vec F S1x128 .f32) (x7 : Vec F S1x2048 .f32) (x8 : Vec F S1x2048 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).1 = upTo (outPiece (loads (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (firstBuf arg13.view (fun k => View.ld (arg3.view.read (Elt F) (harg3.unread x1)) (xR k))) (fun p => arg16.view.readCov (firstHt arg16.view (View.ld (arg4.view.read (Elt F) (harg4.unread x2)) (Rect.unit ![0, 0, 0] S1x128x128.size inb_S1x128x128_S1x128x128_0_0_0)) (View.ld (arg7.view.read (Elt F) (harg7.unread x5)) (Rect.unit ![0, 0] S1x128.size inb_S1x128_S1x128_0_0)) (View.ld (arg8.view.read (Elt F) (harg8.unread x6)) (Rect.unit ![0, 0] S1x128.size inb_S1x128_S1x128_0_0)) (fun k => arg14.view.readCov (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.2.1 (actR k).toLoadRect) p.val (Nat.le_of_lt p.isLt)) (htR p).toLoadRect)) (fun g => arg15.view.readCov (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.2.2.val (yscR g).toLoadRect)) [] 4 (by omega) := by
  sl_kernel_rfl

/-- The chunk's last rows are stored one slab after another, in the first chunk. -/
theorem buf_A (c : Dev nD) (i : grid0.Coords) (arg2 : Memref sig .tc .vmem S1x128x2048 .f32) (harg2 : arg2.IsWhole) (arg3 : Memref sig .tc .vmem S1x128x3072 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x128x2048 .bf16) (harg11 : arg11.IsWhole) (arg12 : Memref sig .tc .vmem S1x32x64x128 .f32) (harg12 : arg12.IsWhole) (arg13 : Memref sig .tc .vmem S136x3072 .f32) (harg13 : arg13.IsWhole) (arg14 : Memref sig .tc .vmem S128x3072 .f32) (harg14 : arg14.IsWhole) (arg15 : Memref sig .tc .vmem S128x2048 .f32) (harg15 : arg15.IsWhole) (arg16 : Memref sig .tc .vmem S16x128x128 .f32) (harg16 : arg16.IsWhole) (hc0 : cond0_0 i) (hc1 : ¬cond0_1 i)
    (x0 : Vec F S1x128x2048 .f32) (x1 : Vec F S1x128x3072 .f32) (x2 : Vec F S1x128x128 .f32) (x3 : Vec F S4x3072 .f32) (x4 : Vec F S1x3072 .f32) (x5 : Vec F S1x128 .f32) (x6 : Vec F S1x128 .f32) (x7 : Vec F S1x2048 .f32) (x8 : Vec F S1x2048 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.1 = upTo (bufPiece (fun k => View.ld (arg3.view.read (Elt F) (harg3.unread x1)) (xR k))) [⟨Rect.unit ![0, 0] S136x3072.size inb_S136x3072_S136x3072_0_0, k0_pay53⟩] 6 (by omega) := by
  sl_kernel_rfl

/-- The pairs' new states are stored one after another, in the first chunk. -/
theorem ht_A (c : Dev nD) (i : grid0.Coords) (arg2 : Memref sig .tc .vmem S1x128x2048 .f32) (harg2 : arg2.IsWhole) (arg3 : Memref sig .tc .vmem S1x128x3072 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x128x2048 .bf16) (harg11 : arg11.IsWhole) (arg12 : Memref sig .tc .vmem S1x32x64x128 .f32) (harg12 : arg12.IsWhole) (arg13 : Memref sig .tc .vmem S136x3072 .f32) (harg13 : arg13.IsWhole) (arg14 : Memref sig .tc .vmem S128x3072 .f32) (harg14 : arg14.IsWhole) (arg15 : Memref sig .tc .vmem S128x2048 .f32) (harg15 : arg15.IsWhole) (arg16 : Memref sig .tc .vmem S16x128x128 .f32) (harg16 : arg16.IsWhole) (hc0 : cond0_0 i) (hc1 : ¬cond0_1 i)
    (x0 : Vec F S1x128x2048 .f32) (x1 : Vec F S1x128x3072 .f32) (x2 : Vec F S1x128x128 .f32) (x3 : Vec F S4x3072 .f32) (x4 : Vec F S1x3072 .f32) (x5 : Vec F S1x128 .f32) (x6 : Vec F S1x128 .f32) (x7 : Vec F S1x2048 .f32) (x8 : Vec F S1x2048 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.1 = firstHt arg16.view (View.ld (arg4.view.read (Elt F) (harg4.unread x2)) (Rect.unit ![0, 0, 0] S1x128x128.size inb_S1x128x128_S1x128x128_0_0_0)) (View.ld (arg7.view.read (Elt F) (harg7.unread x5)) (Rect.unit ![0, 0] S1x128.size inb_S1x128_S1x128_0_0)) (View.ld (arg8.view.read (Elt F) (harg8.unread x6)) (Rect.unit ![0, 0] S1x128.size inb_S1x128_S1x128_0_0)) (fun k => arg14.view.readCov (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.2.1 (actR k).toLoadRect) 16 (by omega) := by
  sl_kernel_rfl

end Cert.KernelIdeal.Chunk

end
-- ==== Proof.Spec.lean ====
/- The recurrence both programs compute, on the extended reals: the convolution over the last four positions, the step sizes, and the scan's state, chunk by chunk. -/
module

public import Idealize.ShloMosaic.Lib.Pointwise
public import Idealize.ShloMosaic.Lib.WordCmp

@[expose] public section

set_option maxRecDepth 16384

noncomputable section

namespace Cert.Spec

open Idealize.ShloMosaic

/-- `x` times its logistic function. -/
def silu (v : EReal) : EReal := v * Ideal.div 1 (1 + Ideal.exp (-v))

/-- The logarithm of one plus the exponential. -/
def softplus (v : EReal) : EReal := max v 0 + Ideal.log1p (Ideal.exp (-(max v (-v))))

/-- The value `k` positions back, zero before the first. -/
def back (X : Fin 4096 → EReal) (t : Fin 4096) (k : ℕ) : EReal := if h : k ≤ t.val then X ⟨t.val - k, by have := t.isLt; omega⟩ else 0

/-- One column's convolution with its four taps, at a position. -/
def conv (X : Fin 4096 → EReal) (w : Fin 4 → EReal) (cb : EReal) (t : Fin 4096) : EReal :=
  cb + X t * w 3 + back X t 1 * w 2 + back X t 2 * w 1 + back X t 3 * w 0

/-- Position `i` of chunk `c`. -/
def pos (c : ℕ) (i : Fin 128) : Fin 4096 := ⟨(128 * c + i.val) % 4096, Nat.mod_lt _ (by omega)⟩

/-- Column `n` of the group's `B` of an output column. -/
abbrev colB (l : Fin 2048) (n : Fin 128) : Fin 3072 := ⟨2048 + 128 * (l.val / 512) + n.val, by have := l.isLt; have := n.isLt; omega⟩
/-- Column `n` of the group's `C` of an output column. -/
abbrev colC (l : Fin 2048) (n : Fin 128) : Fin 3072 := ⟨2560 + 128 * (l.val / 512) + n.val, by have := l.isLt; have := n.isLt; omega⟩
/-- An output column among the convolution's. -/
abbrev colX (l : Fin 2048) : Fin 3072 := ⟨l.val, by have := l.isLt; omega⟩
/-- The head of an output column. -/
abbrev head (l : Fin 2048) : Fin 32 := ⟨l.val / 64, by have := l.isLt; omega⟩

section chunk

/- A chunk's activated columns, its step sizes, and the rates. -/
variable (A : Fin 128 → Fin 3072 → EReal) (D : Fin 128 → Fin 32 → EReal) (al : Fin 32 → EReal)

/-- The sum of the decays up to a position. -/
def acs (i : Fin 128) (e : Fin 32) : EReal := ∑ s : Fin 128, if s.val ≤ i.val then D s e * -Ideal.exp (al e) else 0

/-- The outputs of a chunk before the gate: the skip, the chunk's own positions, and the carried state. -/
def yChunk (dsk : Fin 32 → EReal) (H : Fin 2048 → Fin 128 → EReal) (i : Fin 128) (l : Fin 2048) : EReal :=
  dsk (head l) * A i (colX l)
    + (∑ s : Fin 128, (∑ n : Fin 128, A i (colC l n) * A s (colB l n))
        * Ideal.exp (if s.val ≤ i.val then acs D al i (head l) - acs D al s (head l) else Ideal.ofBits .f32 0xFF800000#32) * D s (head l) * A s (colX l))
    + ∑ n : Fin 128, A i (colC l n) * Ideal.exp (acs D al i (head l)) * H l n

/-- The state after a chunk. -/
def hChunk (H : Fin 2048 → Fin 128 → EReal) (l : Fin 2048) (n : Fin 128) : EReal :=
  Ideal.exp (acs D al 127 (head l)) * H l n
    + ∑ s : Fin 128, A s (colB l n) * (D s (head l) * Ideal.exp (acs D al 127 (head l) - acs D al s (head l))) * A s (colX l)

end chunk

/-- The arguments, read as functions of their coordinates. -/
structure Args where
  z : Fin 4 → Fin 4096 → Fin 2048 → EReal
  x : Fin 4 → Fin 4096 → Fin 3072 → EReal
  dt : Fin 4 → Fin 4096 → Fin 32 → EReal
  w : Fin 4 → Fin 3072 → EReal
  cb : Fin 3072 → EReal
  dtb : Fin 32 → EReal
  al : Fin 32 → EReal
  dsk : Fin 32 → EReal
  gn : Fin 2048 → EReal

variable (M : Args)

/-- The activated columns, at a position. -/
def Args.act (b : Fin 4) (t : Fin 4096) (l : Fin 3072) : EReal := silu (conv (fun t => M.x b t l) (fun j => M.w j l) (M.cb l) t)

/-- The step sizes, at a position. -/
def Args.step (b : Fin 4) (t : Fin 4096) (e : Fin 32) : EReal := softplus (M.dt b t e + M.dtb e)

/-- The activated columns of a chunk. -/
def Args.A (b : Fin 4) (c : ℕ) : Fin 128 → Fin 3072 → EReal := fun i l => M.act b (pos c i) l

/-- The step sizes of a chunk. -/
def Args.D (b : Fin 4) (c : ℕ) : Fin 128 → Fin 32 → EReal := fun i e => M.step b (pos c i) e

/-- The state before chunk `c`. -/
def Args.H (b : Fin 4) : ℕ → Fin 2048 → Fin 128 → EReal
  | 0 => fun _ _ => 0
  | c + 1 => hChunk (M.A b c) (M.D b c) M.al (Args.H b c)

/-- The outputs of chunk `c` before the gate. -/
def Args.Y (b : Fin 4) (c : ℕ) : Fin 128 → Fin 2048 → EReal := yChunk (M.A b c) (M.D b c) M.al M.dsk (M.H b c)

/-- Column `x` of an output column's group. -/
abbrev inGroup (l : Fin 2048) (x : Fin 512) : Fin 2048 := ⟨512 * (l.val / 512) + x.val, by have := l.isLt; have := x.isLt; omega⟩

/-- Gated values `v` of a row, normalised over the column's group. -/
def rms (v : Fin 2048 → EReal) (gn : Fin 2048 → EReal) (l : Fin 2048) : EReal :=
  v l * Ideal.rsqrt (Ideal.div (∑ x : Fin 512, v (inGroup l x) * v (inGroup l x)) (Ideal.ofBits .f32 0x44000000#32) + Ideal.ofBits .f32 0x358637BD#32) * gn l

/-- The outputs of chunk `c`. -/
def Args.out (b : Fin 4) (c : ℕ) (i : Fin 128) (l : Fin 2048) : EReal :=
  rms (fun l => M.Y b c i l * silu (M.z b (pos c i) l)) M.gn l

/-- A quotient by one plus an exponential is the product with the inverse. -/
theorem div_one_add_exp (v u : EReal) : Ideal.div v (1 + Ideal.exp u) = v * Ideal.div 1 (1 + Ideal.exp u) := by
  have h0 : (0 : EReal) ≤ Ideal.exp u := by
    cases u using EReal.rec with
    | bot => exact le_refl _
    | top => exact le_top
    | coe r => exact EReal.coe_nonneg.mpr (Real.exp_pos r).le
  have h : (1 + Ideal.exp u : EReal) ≠ 0 := by
    have h1 : (1 : EReal) ≤ 1 + Ideal.exp u := le_add_of_nonneg_right h0
    exact (lt_of_lt_of_le zero_lt_one h1).ne'
  unfold Ideal.div
  rw [if_neg h, if_neg h, one_mul]

/-- The quotient form of `silu`. -/
theorem silu_div (v : EReal) : Ideal.div v (1 + Ideal.exp (-v)) = silu v := div_one_add_exp v (-v)

/-- A choice by the comparison of two index words: at least. -/
theorem select_ge {α : Type} {a b : ℕ} (ha : a < 2 ^ 31) (hb : b < 2 ^ 31) (u v : α) :
    Scalar.select (IntOp.cmpi .sge (BitVec.ofNat 32 a) (BitVec.ofNat 32 b)) u v = if b ≤ a then u else v := by
  rw [WordCmp.cmpi_sge_ofNat ha hb, WordCmp.select_decide]

/-- A choice by the comparison of two index words: less. -/
theorem select_lt {α : Type} {a b : ℕ} (ha : a < 2 ^ 31) (hb : b < 2 ^ 31) (u v : α) :
    Scalar.select (IntOp.cmpi .slt (BitVec.ofNat 32 a) (BitVec.ofNat 32 b)) u v = if a < b then u else v := by
  rw [WordCmp.cmpi_slt_ofNat ha hb, WordCmp.select_decide]

/-- A choice by a chosen bit is the choice by its condition. -/
theorem select_bit {α : Type} (c : BitVec 1) (u v : α) : Scalar.select (Scalar.select c 1#1 0#1) u v = Scalar.select c u v := by
  unfold Scalar.select
  by_cases h : c = 1 <;> simp [h]

end Cert.Spec

end
-- ==== Proof.ChunkValue.lean ====
/- What one chunk of the scan kernel computes, of its loads: the recurrence of `Spec.lean`, block by block. -/
module

public import proofs.«01_k».proof.Proof.Chunk
public import proofs.«01_k».proof.Proof.Spec

@[expose] public section

set_option maxRecDepth 16384

noncomputable section

namespace Cert.KernelIdeal.Chunk

open Idealize.ShloMosaic Cert.KernelIdeal.Gen Cert.Spec

local notation "𝕀" => Idealize.ShloMosaic.Ideal

/-! ## Lists of stores -/

section stores

variable {Val : EltTy → Type} [∀ e, Nonempty (Val e)] {S : Shape} {e : EltTy} {N : ℕ}

/-- Under one of the stores, what they leave is what every one of them writes. -/
theorem canon_upTo (G : S.Idx → Val e) (f : Fin N → View.Piece Val S e) (hf : ∀ k x, (f k).2 x = G ((f k).1.emb x)) (L : List (View.Piece Val S e))
    (y : S.Idx) (k : Fin N) (hy : y ∈ (f k).1.set) : ∀ n (h : n ≤ N), k.val < n → View.canon (upTo f L n h) y = G y
  | n + 1, h, hk => by
    by_cases hm : y ∈ (f ⟨n, h⟩).1.set
    · obtain ⟨x, rfl⟩ := (f ⟨n, h⟩).1.exists_idx_of_mem hm
      exact (View.canon_cons_emb _ _ _ x).trans (hf _ x)
    · refine (View.canon_cons_of_not_mem _ _ hm).trans (canon_upTo G f hf L y k hy n (Nat.le_of_succ_le h) ?_)
      refine lt_of_le_of_ne (Nat.le_of_lt_succ hk) fun hn => hm ?_
      subst hn
      exact hy

/-- Off the stores, what was there before them. -/
theorem canon_upTo_off (f : Fin N → View.Piece Val S e) (L : List (View.Piece Val S e)) (y : S.Idx) : ∀ n (h : n ≤ N), (∀ k : Fin N, k.val < n → y ∉ (f k).1.set) →
    View.canon (upTo f L n h) y = View.canon L y
  | 0, _, _ => rfl
  | n + 1, h, hn => (View.canon_cons_of_not_mem _ _ (hn ⟨n, h⟩ (Nat.lt_succ_self n))).trans
      (canon_upTo_off f L y n (Nat.le_of_succ_le h) fun k hk => hn k (Nat.lt_succ_of_lt hk))

/-- A store of the list is in it. -/
theorem mem_upTo (f : Fin N → View.Piece Val S e) (L : List (View.Piece Val S e)) (k : Fin N) : ∀ n (h : n ≤ N), k.val < n → f k ∈ upTo f L n h
  | n + 1, h, hk => by
    by_cases hn : k.val = n
    · subst hn
      exact List.mem_cons_self
    · exact List.mem_cons_of_mem _ (mem_upTo f L k n (Nat.le_of_succ_le h) (by omega))

end stores

/-! ## The chain of one chunk -/

section chain

variable (A : Fin 128 → Fin 3072 → EReal) (D : Fin 128 → Fin 32 → EReal) (al : Fin 32 → EReal)

/-- A head's lane among 128. -/
abbrev lane (e : Fin 32) : Fin 128 := ⟨e.val, by have := e.isLt; omega⟩
/-- Lane `l` of pair `p`, among the output columns. -/
abbrev pcol (p : Fin 16) (l : Fin 128) : Fin 2048 := ⟨128 * p.val + l.val, by have := p.isLt; have := l.isLt; omega⟩
/-- Column `l` of block `k` of 128, among the activated columns. -/
abbrev acol (k : Fin 24) (l : Fin 128) : Fin 3072 := ⟨128 * k.val + l.val, by have := k.isLt; have := l.isLt; omega⟩
/-- Column `l` of slab `k` of 512, among the activated columns. -/
abbrev scol (k : Fin 6) (l : Fin 512) : Fin 3072 := ⟨512 * k.val + l.val, by have := k.isLt; have := l.isLt; omega⟩

/-- The head of a pair's lane: the first for the first 64 lanes. -/
theorem head_lo {p : Fin 16} {l : Fin 128} (h : l.val < 64) : head (pcol p l) = e0 p := Fin.ext (by show (128 * p.val + l.val) / 64 = 2 * p.val; omega)
/-- The second for the others. -/
theorem head_hi {p : Fin 16} {l : Fin 128} (h : ¬ l.val < 64) : head (pcol p l) = e1 p :=
  Fin.ext (by have := l.isLt; show (128 * p.val + l.val) / 64 = 2 * p.val + 1; omega)
/-- The state keys of a pair's lanes. -/
theorem colB_pair (p : Fin 16) (l n : Fin 128) : colB (pcol p l) n = acol (kb p) n :=
  Fin.ext (by have := l.isLt; show 2048 + 128 * ((128 * p.val + l.val) / 512) + n.val = 128 * (16 + p.val / 4) + n.val; omega)
/-- The state queries of a pair's lanes. -/
theorem colC_pair (p : Fin 16) (l n : Fin 128) : colC (pcol p l) n = acol (kc p) n :=
  Fin.ext (by have := l.isLt; show 2560 + 128 * ((128 * p.val + l.val) / 512) + n.val = 128 * (20 + p.val / 4) + n.val; omega)

/-- An index of 128 is a small word. -/
theorem small (i : Fin 128) : i.val < 2 ^ 31 := by have := i.isLt; omega

variable (p : Fin 16) (VA VAT VDT VCB VC xs VH : FVec 𝕀 S128x128 .f32) (vd : Vec 𝕀 S1x128 .f32)
  (dsk : Fin 32 → EReal) (H : Fin 2048 → Fin 128 → EReal)

/-- A pair's outputs are the chunk's. -/
theorem yPair_value (hA : ∀ i e, VA (ix2 i (lane e)) = acs D al i e) (hAT : ∀ e i, VAT (ix2 (lane e) i) = acs D al i e) (hDT : ∀ e i, VDT (ix2 (lane e) i) = D i e)
    (hCB : ∀ i s, VCB (ix2 i s) = ∑ n : Fin 128, A i (acol (kc p) n) * A s (acol (kb p) n)) (hC : ∀ i n, VC (ix2 i n) = A i (acol (kc p) n))
    (hx : ∀ s l, xs (ix2 s l) = A s (colX (pcol p l))) (hH : ∀ n l, VH (ix2 n l) = H (pcol p l) n) (hd : ∀ l, vd (ix2 0 l) = dsk (head (pcol p l)))
    (i l : Fin 128) : yPair p VA VAT VDT VCB VC xs VH vd (ix2 i l) = yChunk A D al dsk H i (pcol p l) := by
  have h0 (n) : VA (ix2 i ⟨2 * p.val, n⟩) = acs D al i (e0 p) := hA i (e0 p)
  have h1 (n) : VA (ix2 i ⟨2 * p.val + 1, n⟩) = acs D al i (e1 p) := hA i (e1 p)
  have t0 (s : Fin 128) (n) : VAT (ix2 ⟨2 * p.val, n⟩ s) = acs D al s (e0 p) := hAT (e0 p) s
  have t1 (s : Fin 128) (n) : VAT (ix2 ⟨2 * p.val + 1, n⟩ s) = acs D al s (e1 p) := hAT (e1 p) s
  have d0 (s : Fin 128) (n) : VDT (ix2 ⟨2 * p.val, n⟩ s) = D s (e0 p) := hDT (e0 p) s
  have d1 (s : Fin 128) (n) : VDT (ix2 ⟨2 * p.val + 1, n⟩ s) = D s (e1 p) := hDT (e1 p) s
  pointwise [yPair, mm, wgt, lo, hi, cin, row, col, k0_pay91, k0_pay98]
  simp only [h0, h1, t0, t1, d0, d1, hCB, hC, hx, hH, hd, select_ge (small _) (small _), select_lt (small l) (show 64 < 2 ^ 31 by norm_num)]
  unfold yChunk
  simp only [colB_pair, colC_pair]
  by_cases hl : l.val < 64
  · simp only [hl, if_true, Finset.sum_const_zero, add_zero, head_lo hl]
  · simp only [hl, if_false, Finset.sum_const_zero, add_zero, head_hi hl]

variable (VE : Vec 𝕀 S1x128 .f32) (VD VB : FVec 𝕀 S128x128 .f32)

/-- A pair's state after the chunk is the recurrence's. -/
theorem hPair_value (hE : ∀ e, VE (ix2 0 (lane e)) = Ideal.exp (acs D al 127 e))
    (hD : ∀ e s, VD (ix2 (lane e) s) = D s e * Ideal.exp (acs D al 127 e - acs D al s e))
    (hB : ∀ n s, VB (ix2 n s) = A s (acol (kb p) n)) (hx : ∀ s l, xs (ix2 s l) = A s (colX (pcol p l))) (hH : ∀ n l, VH (ix2 n l) = H (pcol p l) n)
    (n l : Fin 128) : hPair p VE VD VB xs VH (ix3 0 n l) = hChunk A D al H (pcol p l) n := by
  have h0 (n) : VE (ix2 0 ⟨2 * p.val, n⟩) = _ := hE (e0 p)
  have h1 (n) : VE (ix2 0 ⟨2 * p.val + 1, n⟩) = _ := hE (e1 p)
  have d0 (s : Fin 128) (n) : VD (ix2 ⟨2 * p.val, n⟩ s) = _ := hD (e0 p) s
  have d1 (s : Fin 128) (n) : VD (ix2 ⟨2 * p.val + 1, n⟩ s) = _ := hD (e1 p) s
  pointwise [hPair, keepPair, updPair, mm, lo, hi, bout, row, col, k0_pay98]
  simp only [h0, h1, d0, d1, hB, hx, hH, select_lt (small l) (show 64 < 2 ^ 31 by norm_num)]
  unfold hChunk
  simp only [colB_pair]
  by_cases hl : l.val < 64
  · simp only [hl, if_true, Finset.sum_const_zero, add_zero, head_lo hl]
  · simp only [hl, if_false, Finset.sum_const_zero, zero_add, head_hi hl]

end chain

/-! ## The step and the decay -/

section decay

variable (D : Fin 128 → Fin 32 → EReal) (al : Fin 32 → EReal) (dt : Vec 𝕀 S1x128x128 .f32) (dtb av : Vec 𝕀 S1x128 .f32)

/-- The step, of the loaded rows. -/
theorem pay90_value (hd : ∀ i e, softplus (dt (ix3 0 i (lane e)) + dtb (ix2 0 (lane e))) = D i e) (i : Fin 128) (e : Fin 32) :
    k0_pay90 dt dtb (ix2 i (lane e)) = D i e := by
  rw [← hd]
  pointwise [k0_pay90]
  simp only [zero_sub]
  rfl

/-- The running decay exponent. -/
theorem pay92_value (hd : ∀ i e, softplus (dt (ix3 0 i (lane e)) + dtb (ix2 0 (lane e))) = D i e) (ha : ∀ e, av (ix2 0 (lane e)) = al e) (i : Fin 128) (e : Fin 32) :
    k0_pay92 dt dtb av (ix2 i (lane e)) = acs D al i e := by
  have ha' (n) : av (ix2 0 ⟨e.val, n⟩) = al e := ha e
  have := fun s => pay90_value D dt dtb hd s e
  pointwise [k0_pay92, k0_pay91]
  simp only [this, ha', select_ge (small _) (small _), zero_sub]
  rfl

/-- Its value at the chunk's end. -/
theorem pay93_value (hd : ∀ i e, softplus (dt (ix3 0 i (lane e)) + dtb (ix2 0 (lane e))) = D i e) (ha : ∀ e, av (ix2 0 (lane e)) = al e) (e : Fin 32) :
    k0_pay93 dt dtb av (ix2 0 (lane e)) = acs D al 127 e := by
  rw [← pay92_value D al dt dtb av hd ha 127 e]
  pointwise [k0_pay93]

/-- The decay over the whole chunk. -/
theorem pay94_value (hd : ∀ i e, softplus (dt (ix3 0 i (lane e)) + dtb (ix2 0 (lane e))) = D i e) (ha : ∀ e, av (ix2 0 (lane e)) = al e) (e : Fin 32) :
    k0_pay94 dt dtb av (ix2 0 (lane e)) = Ideal.exp (acs D al 127 e) := by
  rw [← pay93_value D al dt dtb av hd ha e]
  pointwise [k0_pay94]

/-- The running decay exponent, transposed. -/
theorem pay95_value (hd : ∀ i e, softplus (dt (ix3 0 i (lane e)) + dtb (ix2 0 (lane e))) = D i e) (ha : ∀ e, av (ix2 0 (lane e)) = al e) (e : Fin 32) (i : Fin 128) :
    k0_pay95 dt dtb av (ix2 (lane e) i) = acs D al i e := by
  rw [← pay92_value D al dt dtb av hd ha i e]
  pointwise [k0_pay95]

/-- The step, transposed. -/
theorem pay96_value (hd : ∀ i e, softplus (dt (ix3 0 i (lane e)) + dtb (ix2 0 (lane e))) = D i e) (e : Fin 32) (i : Fin 128) :
    k0_pay96 dt dtb (ix2 (lane e) i) = D i e := by
  rw [← pay90_value D dt dtb hd i e]
  pointwise [k0_pay96]

/-- What a position writes the state with. -/
theorem pay97_value (hd : ∀ i e, softplus (dt (ix3 0 i (lane e)) + dtb (ix2 0 (lane e))) = D i e) (ha : ∀ e, av (ix2 0 (lane e)) = al e) (e : Fin 32) (s : Fin 128) :
    k0_pay97 (k0_pay90 dt dtb) (k0_pay92 dt dtb av) (k0_pay93 dt dtb av) (ix2 (lane e) s) = D s e * Ideal.exp (acs D al 127 e - acs D al s e) := by
  rw [← pay90_value D dt dtb hd s e, ← pay93_value D al dt dtb av hd ha e, ← pay92_value D al dt dtb av hd ha s e]
  generalize k0_pay90 dt dtb = a
  generalize k0_pay92 dt dtb av = b
  generalize k0_pay93 dt dtb av = c
  pointwise [k0_pay97]

end decay

/-! ## The convolution -/

section convolution

/-- A position some rows back is in the chunk, or in the eight rows before it. -/
theorem shift_value (X : Fin 4096 → EReal) (c : ℕ) (hc : c < 32) (xv : Fin 128 → EReal) (bv : Fin 8 → EReal) (hx : ∀ i, xv i = X (pos c i))
    (hb : ∀ r : Fin 8, bv r = if c = 0 then 0 else X (pos (c - 1) ⟨120 + r.val, by have := r.isLt; omega⟩)) (k : ℕ) (hk : k < 8) (i : Fin 128)
    (n0 : (i.val + 8 - k) % 8 < 8) (n1 : (i.val + 128 - k) % 128 < 128) (n2 : (8 + (i.val - 8) + 128 - k) % 128 < 128) :
    (if i.val < 8 then (if i.val < k then bv ⟨(i.val + 8 - k) % 8, n0⟩ else xv ⟨(i.val + 128 - k) % 128, n1⟩) else xv ⟨(8 + (i.val - 8) + 128 - k) % 128, n2⟩)
      = back X (pos c i) k := by
  have hi := i.isLt
  have hp : (pos c i).val = 128 * c + i.val := Nat.mod_eq_of_lt (by omega)
  unfold back
  by_cases h8 : i.val < 8
  · by_cases h : i.val < k
    · rw [if_pos h8, if_pos h, hb]
      by_cases h0 : c = 0
      · rw [if_pos h0, dif_neg (by omega)]
      · rw [if_neg h0, dif_pos (by omega)]
        refine congrArg X (Fin.ext ?_)
        show (128 * (c - 1) + (120 + (i.val + 8 - k) % 8)) % 4096 = (pos c i).val - k
        omega
    · rw [if_pos h8, if_neg h, hx, dif_pos (by omega)]
      refine congrArg X (Fin.ext ?_)
      show (128 * c + (i.val + 128 - k) % 128) % 4096 = (pos c i).val - k
      omega
  · rw [if_neg h8, hx, dif_pos (by omega)]
    refine congrArg X (Fin.ext ?_)
    show (128 * c + (8 + (i.val - 8) + 128 - k) % 128) % 4096 = (pos c i).val - k
    omega

variable (x : Vec 𝕀 S1x128x512 .f32) (b : Vec 𝕀 S8x512 .f32) (cb w3 w2 w1 w0 : Vec 𝕀 S1x512 .f32)

/-- A slab of the chunk is the convolution of its columns, activated. -/
theorem slab_value (X : Fin 512 → Fin 4096 → EReal) (c : ℕ) (hc : c < 32) (hx : ∀ i l, x (ix3 0 i l) = X l (pos c i))
    (hb : ∀ (r : Fin 8) l, b (ix2 r l) = if c = 0 then 0 else X l (pos (c - 1) ⟨120 + r.val, by have := r.isLt; omega⟩)) (w : Fin 512 → Fin 4 → EReal)
    (h3 : ∀ l, w3 (ix2 0 l) = w l 3) (h2 : ∀ l, w2 (ix2 0 l) = w l 2) (h1 : ∀ l, w1 (ix2 0 l) = w l 1) (h0 : ∀ l, w0 (ix2 0 l) = w l 0)
    (i : Fin 128) (l : Fin 512) : slab x b cb w3 w2 w1 w0 (ix2 i l) = silu (conv (X l) (w l) (cb (ix2 0 l)) (pos c i)) := by
  have key := fun k (hk : k < 8) => shift_value (X l) c hc (fun i => x (ix3 0 i l)) (fun r => b (ix2 r l)) (fun i => hx i l) (fun r => hb r l) k hk i
    (Nat.mod_lt _ (by omega)) (Nat.mod_lt _ (by omega)) (Nat.mod_lt _ (by omega))
  rw [← silu_div]
  unfold conv
  rw [← key 1 (by omega), ← key 2 (by omega), ← key 3 (by omega), ← hx, ← h3, ← h2, ← h1, ← h0]
  clear key hx hb h3 h2 h1 h0
  pointwise [slab, k0_pay59, k0_pay55, k0_pay56, k0_pay57, k0_pay58]
  simp only [zero_sub, select_lt (small i) (show 1 < 2 ^ 31 by norm_num), select_lt (small i) (show 2 < 2 ^ 31 by norm_num), select_lt (small i) (show 3 < 2 ^ 31 by norm_num)]
  by_cases h8 : i.val < 8 <;> simp only [h8, dif_pos, dif_neg, if_true, if_false, dite_true, dite_false, not_false_eq_true]

end convolution

/-! ## A chunk -/

/-- A chunk's loads are those of chunk `c` of sequence `b`. -/
structure Reads (L : Loads 𝕀) (M : Args) (q : Fin 4) (c : ℕ) : Prop where
  x : ∀ k i l, L.x k (ix3 0 i l) = M.x q (pos c i) (scol k l)
  b : ∀ k (r : Fin 8) l, L.b k (ix2 r l) = if c = 0 then 0 else M.x q (pos (c - 1) ⟨120 + r.val, by have := r.isLt; omega⟩) (scol k l)
  cb : ∀ k l, L.cb k (ix2 0 l) = M.cb (scol k l)
  tap : ∀ j k l, L.tap j k (ix2 0 l) = M.w j (scol k l)
  dt : ∀ i e, L.dt (ix3 0 i (lane e)) = M.dt q (pos c i) e
  dtb : ∀ e, L.dtb (ix2 0 (lane e)) = M.dtb e
  al : ∀ e, L.al (ix2 0 (lane e)) = M.al e
  dsk : ∀ p l, L.dsk p (ix2 0 l) = M.dsk (head (pcol p l))
  ht : ∀ p n l, L.ht p (ix3 0 n l) = M.H q c (pcol p l) n
  z : ∀ i l, L.z (ix3 0 i l) = M.z q (pos c i) l
  gn : ∀ (g : Fin 4) (y : Fin 512), L.gn g (ix2 0 y) = M.gn ⟨512 * g.val + y.val, by have := g.isLt; have := y.isLt; omega⟩

namespace Reads

variable {L : Loads 𝕀} {M : Args} {b : Fin 4} {c : ℕ} (R : Reads L M b c) (hc : c < 32)
include R

/-- The step sizes the chunk reads. -/
theorem step (i : Fin 128) (e : Fin 32) : softplus (L.dt (ix3 0 i (lane e)) + L.dtb (ix2 0 (lane e))) = M.D b c i e := by
  rw [R.dt, R.dtb]
  rfl

include hc

/-- Each slab's store writes the chunk's activated columns. -/
theorem slab (k : Fin 6) (y) : (slabPiece L k).2 y = (fun y : S128x3072.Idx => M.A b c (y 0) (y 1)) ((slabPiece L k).1.emb y) := by
  obtain ⟨i, l, rfl⟩ : ∃ (i : Fin 128) (l : Fin 512), y = ix2 i l := ⟨y 0, y 1, by idx_ext⟩
  refine (slab_value _ _ _ _ _ _ _ (fun l t => M.x b t (scol k l)) c hc (R.x k) (R.b k) (fun l j => M.w j (scol k l)) (R.tap 3 k) (R.tap 2 k) (R.tap 1 k) (R.tap 0 k) i l).trans ?_
  rw [R.cb]
  have e0 : (slabPiece L k).1.emb (ix2 i l) 0 = i := Fin.ext (by show 0 + 1 * i.val = i.val; omega)
  have e1 : (slabPiece L k).1.emb (ix2 i l) 1 = scol k l := Fin.ext (by show 512 * k.val + 1 * l.val = 512 * k.val + l.val; omega)
  show _ = M.A b c _ _
  rw [e0, e1]
  rfl

/-- The activated columns the chunk reads back. -/
theorem act (v : View sig .tc .vmem S128x3072 .f32) (k : Fin 24) (i l : Fin 128) :
    v.readCov (upTo (slabPiece L) [] 6 le_rfl) (actR k).toLoadRect (ix2 i l) = M.A b c i (acol k l) := by
  rw [View.readCov_eq_canon']
  have hk := k.isLt
  have hl := l.isLt
  have e0 : (actR k).toLoadRect.idx (ix2 i l) 0 = i := Fin.ext (by show 0 + 1 * i.val = i.val; omega)
  have e1 : (actR k).toLoadRect.idx (ix2 i l) 1 = acol k l := Fin.ext (by show 128 * k.val + 1 * l.val = 128 * k.val + l.val; omega)
  refine (canon_upTo (fun y : S128x3072.Idx => M.A b c (y 0) (y 1)) (slabPiece L) (R.slab hc) [] _ ⟨k.val / 4, by omega⟩ ?_ 6 le_rfl (by show k.val / 4 < 6; omega)).trans ?_
  · refine (Rect.mem_set_unit (inb := slab_in _)).mpr fun a => ?_
    match a with
    | 0 => exact ⟨Nat.zero_le _, by rw [e0]; show i.val < 0 + 128; have := i.isLt; omega⟩
    | 1 => exact ⟨by rw [e1]; show 512 * (k.val / 4) ≤ 128 * k.val + l.val; omega, by rw [e1]; show 128 * k.val + l.val < 512 * (k.val / 4) + 512; omega⟩
  · show M.A b c _ _ = _
    rw [e0, e1]

variable (act : Fin 24 → Vec 𝕀 S128x128 .f32) (hact : ∀ k i l, act k (ix2 i l) = M.A b c i (acol k l))

omit hc in
include hact in
/-- Each pair's store writes the chunk's outputs. -/
theorem yPair (p : Fin 16) (y) : (yPiece L act p).2 y = (fun y : S128x2048.Idx => M.Y b c (y 0) (y 1)) ((yPiece L act p).1.emb y) := by
  obtain ⟨i, l, rfl⟩ : ∃ (i l : Fin 128), y = ix2 i l := ⟨y 0, y 1, by idx_ext⟩
  refine (yPair_value (M.A b c) (M.D b c) M.al p _ _ _ _ _ _ _ _ M.dsk (M.H b c) (fun i e => pay92_value _ _ _ _ _ R.step R.al i e) (fun e i => pay95_value _ _ _ _ _ R.step R.al e i)
    (fun e i => pay96_value _ _ _ R.step e i) (fun i s => ?_) (fun i n => hact (kc p) i n) (fun s l => hact (kx p) s l) (fun n l => ?_) (fun l => R.dsk p l) i l).trans ?_
  · pointwise [k0_pay99]
    simp only [hact]
  · rw [← R.ht]
    pointwise [k0_pay101]
  · have e0 : (yPiece L act p).1.emb (ix2 i l) 0 = i := Fin.ext (by show 0 + 1 * i.val = i.val; omega)
    have e1 : (yPiece L act p).1.emb (ix2 i l) 1 = pcol p l := Fin.ext (by show 128 * p.val + 1 * l.val = 128 * p.val + l.val; omega)
    show _ = M.Y b c _ _
    rw [e0, e1]
    rfl

omit hc in
include hact in
/-- The outputs the gate reads back. -/
theorem ysc (v : View sig .tc .vmem S128x2048 .f32) (g : Fin 4) (i : Fin 128) (x : Fin 512) :
    v.readCov (upTo (yPiece L act) [] 16 le_rfl) (yscR g).toLoadRect (ix2 i x) = M.Y b c i ⟨512 * g.val + x.val, by have := g.isLt; have := x.isLt; omega⟩ := by
  rw [View.readCov_eq_canon']
  have hg := g.isLt
  have hx := x.isLt
  have e0 : (yscR g).toLoadRect.idx (ix2 i x) 0 = i := Fin.ext (by show 0 + 1 * i.val = i.val; omega)
  have e1 : (yscR g).toLoadRect.idx (ix2 i x) 1 = (⟨512 * g.val + x.val, by omega⟩ : Fin 2048) := Fin.ext (by show 512 * g.val + 1 * x.val = 512 * g.val + x.val; omega)
  refine (canon_upTo (fun y : S128x2048.Idx => M.Y b c (y 0) (y 1)) (yPiece L act) (R.yPair act hact) [] _ ⟨4 * g.val + x.val / 128, by omega⟩ ?_ 16 le_rfl
    (by show 4 * g.val + x.val / 128 < 16; omega)).trans ?_
  · refine (Rect.mem_set_unit (inb := lanes_in _)).mpr fun a => ?_
    match a with
    | 0 => exact ⟨Nat.zero_le _, by rw [e0]; show i.val < 0 + 128; have := i.isLt; omega⟩
    | 1 => exact ⟨by rw [e1]; show 128 * (4 * g.val + x.val / 128) ≤ 512 * g.val + x.val; omega,
        by rw [e1]; show 512 * g.val + x.val < 128 * (4 * g.val + x.val / 128) + 128; omega⟩
  · show M.Y b c _ _ = _
    rw [e0, e1]

omit hc in
/-- Each group's store writes the chunk's gated and normalised outputs. -/
theorem group (ys : Fin 4 → Vec 𝕀 S128x512 .f32)
    (hy : ∀ (g : Fin 4) i (x : Fin 512), ys g (ix2 i x) = M.Y b c i ⟨512 * g.val + x.val, by have := g.isLt; have := x.isLt; omega⟩) (g : Fin 4) (y) :
    (outPiece L ys g).2 y = (fun y : S1x128x2048.Idx => M.out b c (y 1) (y 2)) ((outPiece L ys g).1.emb y) := by
  obtain ⟨i, l, rfl⟩ : ∃ (i : Fin 128) (l : Fin 512), y = ix3 0 i l := ⟨y 1, y 2, by idx_ext⟩
  have hg := g.isLt
  have hl := l.isLt
  have e1 : (outPiece L ys g).1.emb (ix3 0 i l) 1 = i := Fin.ext (by show 0 + 1 * i.val = i.val; omega)
  have e2 : (outPiece L ys g).1.emb (ix3 0 i l) 2 = (⟨512 * g.val + l.val, by omega⟩ : Fin 2048) := Fin.ext (by show 512 * g.val + 1 * l.val = 512 * g.val + l.val; omega)
  show _ = M.out b c _ _
  rw [e1, e2]
  have hin (x : Fin 512) : inGroup (⟨512 * g.val + l.val, by omega⟩ : Fin 2048) x = ⟨512 * g.val + x.val, by have := x.isLt; omega⟩ :=
    Fin.ext (by show 512 * ((512 * g.val + l.val) / 512) + x.val = 512 * g.val + x.val; omega)
  unfold Args.out rms
  simp only [hin]
  have hz (x : Fin 512) (n) : k0_pay314 L.z (ix2 i ⟨512 * g.val + x.val, n⟩) = M.z b (pos c i) ⟨512 * g.val + x.val, n⟩ := by
    rw [← R.z]
    pointwise [k0_pay314]
  show yGroup g (k0_pay314 L.z) (ys g) (L.gn g) (ix3 0 i l) = _
  generalize k0_pay314 L.z = zz at hz
  have hgn := R.gn g l
  generalize L.gn g = gg at hgn
  pointwise [yGroup, gated, k0_pay319]
  simp only [hy, hz, zero_sub, silu_div]
  rw [hgn]

omit hc in
include hact in
/-- Each pair's store writes the next chunk's states. -/
theorem hPair (p : Fin 16) (h : Vec 𝕀 S1x128x128 .f32) (hh : ∀ n l, h (ix3 0 n l) = M.H b c (pcol p l) n) (y) :
    (htPiece L.dt L.dtb L.al act p h).2 y = (fun y : S16x128x128.Idx => M.H b (c + 1) (pcol (y 0) (y 2)) (y 1)) ((htPiece L.dt L.dtb L.al act p h).1.emb y) := by
  obtain ⟨n, l, rfl⟩ : ∃ (n l : Fin 128), y = ix3 0 n l := ⟨y 1, y 2, by idx_ext⟩
  refine (hPair_value (M.A b c) (M.D b c) M.al p _ _ (M.H b c) _ _ _ (fun e => pay94_value _ _ _ _ _ R.step R.al e) (fun e s => pay97_value _ _ _ _ _ R.step R.al e s)
    (fun n s => ?_) (fun s l => hact (kx p) s l) (fun n l => ?_) n l).trans ?_
  · rw [← hact]
    pointwise [k0_pay100]
  · rw [← hh]
    pointwise [k0_pay101]
  · have e0 : (htPiece L.dt L.dtb L.al act p h).1.emb (ix3 0 n l) 0 = p := Fin.ext (by show p.val + 1 * 0 = p.val; omega)
    have e1 : (htPiece L.dt L.dtb L.al act p h).1.emb (ix3 0 n l) 1 = n := Fin.ext (by show 0 + 1 * n.val = n.val; omega)
    have e2 : (htPiece L.dt L.dtb L.al act p h).1.emb (ix3 0 n l) 2 = l := Fin.ext (by show 0 + 1 * l.val = l.val; omega)
    show _ = M.H b (c + 1) (pcol _ _) _
    rw [e0, e1, e2]
    rfl

end Reads

/-- Each head's store writes its states, transposed. -/
theorem hout_value (H : Fin 2048 → Fin 128 → EReal) (ht : Fin 16 → Vec 𝕀 S1x128x128 .f32) (hh : ∀ p n l, ht p (ix3 0 n l) = H (pcol p l) n) (e : Fin 32) (y) :
    (houtPiece ht e).2 y = (fun y : S1x32x64x128.Idx => H ⟨64 * (y 1).val + (y 2).val, by have h1 : (y 1).val < 32 := (y 1).isLt; have h2 : (y 2).val < 64 := (y 2).isLt; omega⟩ (y 3))
      ((houtPiece ht e).1.emb y) := by
  obtain ⟨q, n, rfl⟩ : ∃ (q : Fin 64) (n : Fin 128), y = ix4 0 0 q n := ⟨y 2, y 3, by idx_ext⟩
  have he := e.isLt
  have hq := q.isLt
  have e1 : ((houtPiece ht e).1.emb (ix4 0 0 q n) 1).val = e.val := by show e.val + 1 * 0 = e.val; omega
  have e2 : ((houtPiece ht e).1.emb (ix4 0 0 q n) 2).val = q.val := by show 0 + 1 * q.val = q.val; omega
  have e3 : (houtPiece ht e).1.emb (ix4 0 0 q n) 3 = n := Fin.ext (by show 0 + 1 * n.val = n.val; omega)
  show (if e.val % 2 = 0 then k0_pay3 (ht ⟨e.val / 2, by omega⟩) else k0_pay4 (ht ⟨e.val / 2, by omega⟩)) (ix4 0 0 q n) = H _ _
  simp only [e1, e2, e3]
  by_cases h2 : e.val % 2 = 0
  · rw [if_pos h2]
    have := hh ⟨e.val / 2, by omega⟩ n ⟨q.val, by omega⟩
    generalize ht ⟨e.val / 2, by omega⟩ = a at this
    pointwise [k0_pay3, k0_pay2]
    refine this.trans (congrArg (fun z => H z n) (Fin.ext ?_))
    show 128 * (e.val / 2) + q.val = 64 * e.val + q.val
    omega
  · rw [if_neg h2]
    have := hh ⟨e.val / 2, by omega⟩ n ⟨64 + q.val, by omega⟩
    generalize ht ⟨e.val / 2, by omega⟩ = a at this
    pointwise [k0_pay4, k0_pay2]
    refine this.trans (congrArg (fun z => H z n) (Fin.ext ?_))
    show 128 * (e.val / 2) + (64 + q.val) = 64 * e.val + q.val
    omega

/-! ## The first chunk's fills -/

/-- The first chunk's rows before it are zero: the slabs stored so far lie beside. -/
theorem firstBuf_value (v : View sig .tc .vmem S136x3072 .f32) (x : Fin 6 → Vec 𝕀 S1x128x512 .f32) (k : Fin 6) (r : Fin 8) (l : Fin 512) :
    firstBuf v x k (ix2 r l) = 0 := by
  unfold firstBuf
  rw [View.readCov_eq_canon']
  refine (canon_upTo_off (bufPiece x) _ _ k.val _ fun j hj hm => ?_).trans ?_
  · have h := ((Rect.mem_set_unit (inb := buf_in j)).mp hm 1).2
    have e1 : ((bufR k).toLoadRect.idx (ix2 r l) 1).val = 512 * k.val + 1 * l.val := rfl
    rw [e1] at h
    have h' : 512 * k.val + 1 * l.val < 512 * j.val + 512 := h
    omega
  · rw [View.canon_cons_unit_zero (by decide +kernel)]
    generalize (bufR k).toLoadRect.idx (ix2 r l) = y
    obtain ⟨a, d, rfl⟩ : ∃ (a : Fin 136) (d : Fin 3072), y = ix2 a d := ⟨y 0, y 1, by idx_ext⟩
    pointwise [k0_pay53]

/-- The first chunk's states before a pair's store are zero there, the pairs stored so far being others. -/
theorem firstHt_off (v : View sig .tc .vmem S16x128x128 .f32) (dt : Vec 𝕀 S1x128x128 .f32) (dtb al : Vec 𝕀 S1x128 .f32) (act : Fin 24 → Vec 𝕀 S128x128 .f32) (y : S16x128x128.Idx) :
    ∀ n (h : n ≤ 16), n ≤ (y 0).val → View.canon (firstHt v dt dtb al act n h) y = (0 : EReal)
  | 0, _, _ => by
    show View.canon [_] y = _
    rw [View.canon_cons_unit_zero (by decide +kernel)]
    obtain ⟨a, d, e, rfl⟩ : ∃ (a : Fin 16) (d e : Fin 128), y = ix3 a d e := ⟨y 0, y 1, y 2, by idx_ext⟩
    pointwise [k0_pay54]
  | n + 1, h, hn => (View.canon_cons_of_not_mem _ _ fun hm => by
      have h' : (y 0).val < n + 1 := ((Rect.mem_set_unit (inb := ht_in ⟨n, h⟩)).mp hm 0).2
      omega).trans (firstHt_off v dt dtb al act y n (Nat.le_of_succ_le h) (Nat.le_of_succ_le hn))

/-! ## What a chunk leaves -/

/-- A pair's state read back from the states. -/
theorem ht_read (v : View sig .tc .vmem S16x128x128 .f32) (T : List (View.Piece (Elt 𝕀) S16x128x128 .f32)) (p : Fin 16) (n l : Fin 128) :
    v.readCov T (htR p).toLoadRect (ix3 0 n l) = View.canon T (ix3 p n l) := by
  rw [View.readCov_eq_canon']
  exact congrArg (View.canon T) (by idx_ext)

namespace Reads

variable {L : Loads 𝕀} {M : Args} {b : Fin 4} {c : ℕ} (R : Reads L M b c)
include R

/-- The output block after the chunk. -/
theorem out_left (act : Fin 24 → Vec 𝕀 S128x128 .f32) (hact : ∀ k i l, act k (ix2 i l) = M.A b c i (acol k l)) (v' : View sig .tc .vmem S128x2048 .f32) (h4 : 4 ≤ 4) (h16 : 16 ≤ 16) (i : Fin 128) (l : Fin 2048) :
    View.canon (upTo (outPiece L fun g => v'.readCov (upTo (yPiece L act) [] 16 h16) (yscR g).toLoadRect) [] 4 h4)
      (ix3 0 i l) = M.out b c i l := by
  have hl := l.isLt
  refine canon_upTo (fun y : S1x128x2048.Idx => M.out b c (y 1) (y 2)) (outPiece L fun g => v'.readCov (upTo (yPiece L act) [] 16 h16) (yscR g).toLoadRect)
    (R.group _ fun g i x => R.ysc act hact v' g i x) [] _
    ⟨l.val / 512, by omega⟩ ?_ 4 h4 (by show l.val / 512 < 4; omega)
  refine (Rect.mem_set_unit (inb := out_in _)).mpr fun a => ?_
  match a with
  | 0 => exact ⟨Nat.zero_le _, Nat.zero_lt_one⟩
  | 1 => exact ⟨Nat.zero_le _, by show i.val < 0 + 128; have := i.isLt; omega⟩
  | 2 => exact ⟨by show 512 * (l.val / 512) ≤ l.val; omega, by show l.val < 512 * (l.val / 512) + 512; omega⟩

/-- The states after the chunk. -/
theorem ht_left (act : Fin 24 → Vec 𝕀 S128x128 .f32) (hact : ∀ k i l, act k (ix2 i l) = M.A b c i (acol k l)) (h16 : 16 ≤ 16) (p : Fin 16) (n l : Fin 128) :
    View.canon (upTo (fun p => htPiece L.dt L.dtb L.al act p (L.ht p)) [] 16 h16) (ix3 p n l)
      = M.H b (c + 1) (pcol p l) n := by
  refine canon_upTo (fun y : S16x128x128.Idx => M.H b (c + 1) (pcol (y 0) (y 2)) (y 1)) (fun p => htPiece L.dt L.dtb L.al act p (L.ht p))
    (fun p => R.hPair act hact p (L.ht p) (R.ht p)) [] _
    p ?_ 16 h16 p.isLt
  refine (Rect.mem_set_unit (inb := ht_in _)).mpr fun a => ?_
  match a with
  | 0 => exact ⟨Nat.le_refl _, Nat.lt_succ_self _⟩
  | 1 => exact ⟨Nat.zero_le _, by show n.val < 0 + 128; have := n.isLt; omega⟩
  | 2 => exact ⟨Nat.zero_le _, by show l.val < 0 + 128; have := l.isLt; omega⟩

/-- Each slab's store into the rows carried to the next chunk. -/
theorem bufStore (k : Fin 6) (y) : (bufPiece L.x k).2 y
    = (fun y : S136x3072.Idx => M.x b (pos c ⟨(120 + (y 0).val) % 128, Nat.mod_lt _ (by omega)⟩) (y 1)) ((bufPiece L.x k).1.emb y) := by
  obtain ⟨r, l, rfl⟩ : ∃ (r : Fin 8) (l : Fin 512), y = ix2 r l := ⟨y 0, y 1, by idx_ext⟩
  have hr := r.isLt
  have e0 : ((bufPiece L.x k).1.emb (ix2 r l) 0).val = r.val := by show 0 + 1 * r.val = r.val; omega
  have e1 : (bufPiece L.x k).1.emb (ix2 r l) 1 = scol k l := Fin.ext (by show 512 * k.val + 1 * l.val = 512 * k.val + l.val; omega)
  show k0_pay60 (k0_pay55 (L.x k)) (ix2 r l) = M.x b (pos c ⟨(120 + ((bufPiece L.x k).1.emb (ix2 r l) 0).val) % 128, _⟩) _
  rw [e1]
  have hx := R.x k ⟨120 + r.val, by omega⟩ l
  generalize L.x k = xx at hx
  have hq : (⟨(120 + ((bufPiece L.x k).1.emb (ix2 r l) 0).val) % 128, Nat.mod_lt _ (by omega)⟩ : Fin 128) = ⟨120 + r.val, by omega⟩ := Fin.ext (by rw [e0]; show (120 + r.val) % 128 = 120 + r.val; omega)
  rw [hq]
  pointwise [k0_pay60, k0_pay55]
  exact hx

end Reads

/-- A row before the next chunk lies in its slab's store. -/
theorem mem_buf (r : Fin 8) (l : Fin 3072) : (ix2 (⟨r.val, by have := r.isLt; omega⟩ : Fin 136) l : S136x3072.Idx) ∈ (bufR ⟨l.val / 512, by have := l.isLt; omega⟩).set := by
  have hl := l.isLt
  have hr := r.isLt
  refine (Rect.mem_set_unit (inb := buf_in _)).mpr fun a => ?_
  match a with
  | 0 => exact ⟨Nat.zero_le _, by show r.val < 0 + 8; omega⟩
  | 1 => exact ⟨by show 512 * (l.val / 512) ≤ l.val; omega, by show l.val < 512 * (l.val / 512) + 512; omega⟩

namespace Reads

variable {L : Loads 𝕀} {M : Args} {b : Fin 4} {c : ℕ} (R : Reads L M b c)
include R

/-- The rows carried to the next chunk. -/
theorem buf_left (T : List (View.Piece (Elt 𝕀) S136x3072 .f32)) (h6 : 6 ≤ 6) (r : Fin 8) (l : Fin 3072) :
    View.canon (upTo (bufPiece L.x) T 6 h6) (ix2 (⟨r.val, by have := r.isLt; omega⟩ : Fin 136) l) = M.x b (pos c ⟨120 + r.val, by have := r.isLt; omega⟩) l := by
  have hl := l.isLt
  have hr := r.isLt
  refine (canon_upTo (fun y : S136x3072.Idx => M.x b (pos c ⟨(120 + (y 0).val) % 128, Nat.mod_lt _ (by omega)⟩) (y 1)) (bufPiece L.x) R.bufStore T _ _ (mem_buf r l) 6 h6
    (by show l.val / 512 < 6; omega)).trans ?_
  show M.x b (pos c ⟨(120 + r.val) % 128, _⟩) l = _
  congr 3
  omega

omit R in
/-- The store of a list's head, read inside it. -/
theorem canon_piece {Val : EltTy → Type} [∀ e, Nonempty (Val e)] {S : Shape} {e : EltTy} (p : View.Piece Val S e) (T : List (View.Piece Val S e)) (x : p.1.shape.Idx) :
    View.canon (p :: T) (p.1.emb x) = p.2 x := View.canon_cons_emb p.1 p.2 T x

omit R in
/-- One more pair's store. -/
theorem firstHt_succ (v : View sig .tc .vmem S16x128x128 .f32) (dt : Vec 𝕀 S1x128x128 .f32) (dtb al : Vec 𝕀 S1x128 .f32) (act : Fin 24 → Vec 𝕀 S128x128 .f32) (n : ℕ) (h : n + 1 ≤ 16) :
    firstHt v dt dtb al act (n + 1) h = htPiece dt dtb al act ⟨n, h⟩ (v.readCov (firstHt v dt dtb al act n (Nat.le_of_succ_le h)) (htR ⟨n, h⟩).toLoadRect)
      :: firstHt v dt dtb al act n (Nat.le_of_succ_le h) := rfl

/-- The first chunk's states, store by store. -/
theorem first_left (h0 : c = 0) (act : Fin 24 → Vec 𝕀 S128x128 .f32) (hact : ∀ k i l, act k (ix2 i l) = M.A b c i (acol k l)) (v : View sig .tc .vmem S16x128x128 .f32)
    (p : Fin 16) (n l : Fin 128) : ∀ N (h : N ≤ 16), p.val < N → View.canon (firstHt v L.dt L.dtb L.al act N h) (ix3 p n l) = M.H b (c + 1) (pcol p l) n
  | N + 1, h, hp => by
    by_cases hN : p.val = N
    · subst hN
      have hm : (ix3 p n l : S16x128x128.Idx) = (htR p).emb (ix3 0 n l) := by idx_ext
      rw [firstHt_succ, hm]
      generalize hT : firstHt v L.dt L.dtb L.al act p.val _ = T
      refine (canon_piece (htPiece L.dt L.dtb L.al act p (v.readCov T (htR p).toLoadRect)) T (ix3 0 n l)).trans ?_
      refine (R.hPair act hact p (v.readCov T (htR p).toLoadRect) (fun n l => ?_) (ix3 0 n l)).trans ?_
      · rw [ht_read, ← hT]
        refine (firstHt_off v L.dt L.dtb L.al act (ix3 p n l) p.val _ (Nat.le_refl _)).trans ?_
        rw [h0]
        rfl
      · show M.H b (c + 1) (pcol ((htR p).emb (ix3 0 n l) 0) ((htR p).emb (ix3 0 n l) 2)) ((htR p).emb (ix3 0 n l) 1) = _
        rw [← hm]
        rfl
    · rw [firstHt_succ]
      refine (View.canon_cons_of_not_mem _ _ fun hm => ?_).trans (first_left h0 act hact v p n l N (Nat.le_of_succ_le h) (by omega))
      have h' : N ≤ p.val := ((Rect.mem_set_unit (inb := ht_in ⟨N, h⟩)).mp hm 0).1
      omega

end Reads

/-- The final states, in the output block. -/
theorem hout_left (H : Fin 2048 → Fin 128 → EReal) (ht : Fin 16 → Vec 𝕀 S1x128x128 .f32) (hh : ∀ p n l, ht p (ix3 0 n l) = H (pcol p l) n) (h32 : 32 ≤ 32)
    (e : Fin 32) (q : Fin 64) (n : Fin 128) :
    View.canon (upTo (houtPiece ht) [] 32 h32) (ix4 0 e q n) = H ⟨64 * e.val + q.val, by have := e.isLt; have := q.isLt; omega⟩ n := by
  refine (canon_upTo (fun y : S1x32x64x128.Idx => H ⟨64 * (y 1).val + (y 2).val, by have h1 : (y 1).val < 32 := (y 1).isLt; have h2 : (y 2).val < 64 := (y 2).isLt; omega⟩ (y 3))
    (houtPiece ht) (hout_value H ht hh) [] _ e ?_ 32 h32 e.isLt)
  refine (Rect.mem_set_unit (inb := hout_in _)).mpr fun a => ?_
  match a with
  | 0 => exact ⟨Nat.zero_le _, Nat.zero_lt_one⟩
  | 1 => exact ⟨Nat.le_refl _, Nat.lt_succ_self _⟩
  | 2 => exact ⟨Nat.zero_le _, by show q.val < 0 + 64; have := q.isLt; omega⟩
  | 3 => exact ⟨Nat.zero_le _, by show n.val < 0 + 128; have := n.isLt; omega⟩

end Cert.KernelIdeal.Chunk

end
-- ==== Proof.ChunkGrid.lean ====
/- The scan kernel over its grid: what each point's blocks hold, and what each point leaves. -/
module

public import proofs.«01_k».proof.Proof.ChunkRuns
public import proofs.«01_k».proof.Proof.ChunkValue

@[expose] public section

set_option maxRecDepth 16384

noncomputable section

namespace Cert.KernelIdeal.Chunk

open Idealize.ShloMosaic Idealize.ShloMosaic.TcCoe Cert.KernelIdeal Cert.KernelIdeal.Gen Cert.Spec

local notation "𝕀" => Idealize.ShloMosaic.Ideal

variable (m : (ℓ : Loc nD τ sig) → Buf (Elt 𝕀) ℓ) (d : Dev nD)

/-- The arguments a core holds. -/
def argsOf : Args where
  z b t l := m ((d : Thread nD τ).loc main_arg0) (ix3 b t l)
  x b t l := m ((d : Thread nD τ).loc main_arg1) (ix3 b t l)
  dt b t e := m ((d : Thread nD τ).loc main_arg2) (ix3 b t e)
  w k l := m ((d : Thread nD τ).loc main_arg3) (ix2 k l)
  cb l := m ((d : Thread nD τ).loc main_arg4) (ix1 l)
  dtb e := m ((d : Thread nD τ).loc main_arg5) (ix1 e)
  al e := m ((d : Thread nD τ).loc main_arg6) (ix1 e)
  dsk e := m ((d : Thread nD τ).loc main_arg7) (ix1 e)
  gn l := m ((d : Thread nD τ).loc main_arg8) (ix1 l)

/-- The sequence of a grid point. -/
abbrev seqOf (t : Fin cfg0.N) : Fin 4 := ⟨t.val / 32, by have := t.isLt; have h : cfg0.N = 128 := N_0; omega⟩

/-- The moving windows' block indices: the sequence and the chunk. -/
theorem idx_row : ∀ t : Fin cfg0.N, win0_0.index t = ![t.val / 32, t.val % 32, 0] ∧ win0_1.index t = ![t.val / 32, t.val % 32, 0] ∧ win0_2.index t = ![t.val / 32, t.val % 32, 0] :=
  (by decide +kernel : ∀ t : Fin grid0.N, _)

/-- The fixed windows' block indices. -/
theorem idx_fix : ∀ t : Fin cfg0.N, win0_3.index t = ![0, 0] ∧ win0_4.index t = ![0, 0] ∧ win0_5.index t = ![0, 0] ∧ win0_6.index t = ![0, 0] ∧ win0_7.index t = ![0, 0]
    ∧ win0_8.index t = ![0, 0] :=
  (by decide +kernel : ∀ t : Fin grid0.N, _)

/-- The padded steps, in their first lanes. -/
theorem entry_dt (b : Fin 4) (p : Fin 4096) (e : Fin 32) : V m d main_v0 (ix3 b p (lane e)) = m ((d : Thread nD τ).loc main_arg2) (ix3 b p e) := by
  simp only [V, hostOps0, hostOps0_1, hostOps0_2, hostOps0_3, hostOps0_4, hostOps0_5, hostOps0_6, List.flatten_cons, List.flatten_nil, List.append_nil, List.cons_append,
    List.nil_append]
  entry_read
  show (pad S4x4096x128 ![0, 0, 0] ![0, 0, 96] ![0, 0, 0] (m ((d : Thread nD τ).loc main_arg2)) (sitofp (F := 𝕀) .f32 (constantI S_ 32 0#32)) pads_S4x4096x32_S4x4096x128_000_000_0960 h_S_ : Vec 𝕀 S4x4096x128 .f32) (ix3 b p (lane e)) = _
  pointwise
  refine dif_pos fun (a : Fin 3) => ?_
  have := b.isLt
  have := p.isLt
  have := e.isLt
  match a with
  | 0 => exact ⟨Nat.zero_le _, Nat.mod_one _, by show (b.val - 0) / (0 + 1) < 4; omega⟩
  | 1 => exact ⟨Nat.zero_le _, Nat.mod_one _, by show (p.val - 0) / (0 + 1) < 4096; omega⟩
  | 2 => exact ⟨Nat.zero_le _, Nat.mod_one _, by show (e.val - 0) / (0 + 1) < 32; omega⟩

/-- The offset as a row. -/
theorem entry_cb (l : Fin 3072) : V m d main_v1 (ix2 0 l) = m ((d : Thread nD τ).loc main_arg4) (ix1 l) := by
  simp only [V, hostOps0, hostOps0_1, hostOps0_2, hostOps0_3, hostOps0_4, hostOps0_5, hostOps0_6, List.flatten_cons, List.flatten_nil, List.append_nil, List.cons_append,
    List.nil_append]
  entry_read
  pointwise

/-- The padded step offsets, in their first lanes. -/
theorem entry_dtb (e : Fin 32) : V m d main_v3 (ix2 0 (lane e)) = m ((d : Thread nD τ).loc main_arg5) (ix1 e) := by
  simp only [V, hostOps0, hostOps0_1, hostOps0_2, hostOps0_3, hostOps0_4, hostOps0_5, hostOps0_6, List.flatten_cons, List.flatten_nil, List.append_nil, List.cons_append,
    List.nil_append]
  entry_read
  pointwise
  show (pad S128 ![0] ![96] ![0] (m ((d : Thread nD τ).loc main_arg5)) (sitofp (F := 𝕀) .f32 (constantI S_ 32 0#32)) pads_S32_S128_0960 h_S_ : Vec 𝕀 S128 .f32) (ix1 (lane e)) = _
  pointwise
  refine dif_pos fun (a : Fin 1) => ?_
  match a with
  | 0 => exact e.isLt

/-- The padded rates, in their first lanes. -/
theorem entry_al (e : Fin 32) : V m d main_v5 (ix2 0 (lane e)) = m ((d : Thread nD τ).loc main_arg6) (ix1 e) := by
  simp only [V, hostOps0, hostOps0_1, hostOps0_2, hostOps0_3, hostOps0_4, hostOps0_5, hostOps0_6, List.flatten_cons, List.flatten_nil, List.append_nil, List.cons_append,
    List.nil_append]
  entry_read
  pointwise
  show (pad S128 ![0] ![96] ![0] (m ((d : Thread nD τ).loc main_arg6)) (sitofp (F := 𝕀) .f32 (constantI S_ 32 0#32)) pads_S32_S128_0960 h_S_ : Vec 𝕀 S128 .f32) (ix1 (lane e)) = _
  pointwise
  refine dif_pos fun (a : Fin 1) => ?_
  match a with
  | 0 => exact e.isLt

/-- The repeated skips: one a head. -/
theorem entry_dsk (l : Fin 2048) : V m d main_v8 (ix2 0 l) = m ((d : Thread nD τ).loc main_arg7) (ix1 (head l)) := by
  simp only [V, hostOps0, hostOps0_1, hostOps0_2, hostOps0_3, hostOps0_4, hostOps0_5, hostOps0_6, List.flatten_cons, List.flatten_nil, List.append_nil, List.cons_append,
    List.nil_append]
  entry_read
  pointwise

/-- The norm as a row. -/
theorem entry_gn (l : Fin 2048) : V m d main_v9 (ix2 0 l) = m ((d : Thread nD τ).loc main_arg8) (ix1 l) := by
  simp only [V, hostOps0, hostOps0_1, hostOps0_2, hostOps0_3, hostOps0_4, hostOps0_5, hostOps0_6, List.flatten_cons, List.flatten_nil, List.append_nil, List.cons_append,
    List.nil_append]
  entry_read
  pointwise

variable (t : Fin cfg0.N)

/-- The gate's block. -/
theorem blk_z (i : Fin 128) (l : Fin 2048) : iblk m d 0 t (ix3 0 i l) = (argsOf m d).z (seqOf t) (pos (t.val % 32) i) l := by
  obtain ⟨h, -, -⟩ := idx_row t
  have : t.val < 128 := lt_of_lt_of_eq t.isLt N_0
  have hp : (pos (t.val % 32) i).val = 128 * (t.val % 32) + i.val := Nat.mod_eq_of_lt (by have := i.isLt; omega)
  unfold argsOf
  blk_ext! [iblk, V, h, hp]

/-- The input's block. -/
theorem blk_x (i : Fin 128) (l : Fin 3072) : iblk m d 1 t (ix3 0 i l) = (argsOf m d).x (seqOf t) (pos (t.val % 32) i) l := by
  obtain ⟨-, h, -⟩ := idx_row t
  have : t.val < 128 := lt_of_lt_of_eq t.isLt N_0
  have hp : (pos (t.val % 32) i).val = 128 * (t.val % 32) + i.val := Nat.mod_eq_of_lt (by have := i.isLt; omega)
  unfold argsOf
  blk_ext! [iblk, V, h, hp]

/-- The step's block, in its first lanes. -/
theorem blk_dt (i : Fin 128) (e : Fin 32) : iblk m d 2 t (ix3 0 i (lane e)) = (argsOf m d).dt (seqOf t) (pos (t.val % 32) i) e := by
  obtain ⟨-, -, h⟩ := idx_row t
  have : t.val < 128 := lt_of_lt_of_eq t.isLt N_0
  have hp : (pos (t.val % 32) i).val = 128 * (t.val % 32) + i.val := Nat.mod_eq_of_lt (by have := i.isLt; omega)
  refine Eq.trans ?_ (entry_dt m d (seqOf t) (pos (t.val % 32) i) e)
  blk_ext [iblk, h, hp]

/-- The taps' block. -/
theorem blk_w (k : Fin 4) (l : Fin 3072) : iblk m d 3 t (ix2 k l) = (argsOf m d).w k l := by
  obtain ⟨h, -⟩ := idx_fix t
  unfold argsOf
  blk_ext! [iblk, V, h]

/-- The offset's block. -/
theorem blk_cb (l : Fin 3072) : iblk m d 4 t (ix2 0 l) = (argsOf m d).cb l := by
  obtain ⟨-, h, -⟩ := idx_fix t
  refine Eq.trans ?_ (entry_cb m d l)
  blk_ext [iblk, h]

/-- The step offset's block, in its first lanes. -/
theorem blk_dtb (e : Fin 32) : iblk m d 5 t (ix2 0 (lane e)) = (argsOf m d).dtb e := by
  obtain ⟨-, -, h, -⟩ := idx_fix t
  refine Eq.trans ?_ (entry_dtb m d e)
  blk_ext [iblk, h]

/-- The rates' block, in its first lanes. -/
theorem blk_al (e : Fin 32) : iblk m d 6 t (ix2 0 (lane e)) = (argsOf m d).al e := by
  obtain ⟨-, -, -, h, -⟩ := idx_fix t
  refine Eq.trans ?_ (entry_al m d e)
  blk_ext [iblk, h]

/-- The skip's block: one entry a head. -/
theorem blk_dsk (l : Fin 2048) : iblk m d 7 t (ix2 0 l) = (argsOf m d).dsk (head l) := by
  obtain ⟨-, -, -, -, h, -⟩ := idx_fix t
  refine Eq.trans ?_ (entry_dsk m d l)
  blk_ext [iblk, h]

/-- The norm's block. -/
theorem blk_gn (l : Fin 2048) : iblk m d 8 t (ix2 0 l) = (argsOf m d).gn l := by
  obtain ⟨-, -, -, -, -, h⟩ := idx_fix t
  refine Eq.trans ?_ (entry_gn m d l)
  blk_ext [iblk, h]

end Cert.KernelIdeal.Chunk

end
-- ==== Proof.ChunkPoint.lean ====
/- The scan kernel over its grid: a later point, whose rows and states the chunk before left. -/
module

public import proofs.«01_k».proof.Proof.ChunkRuns
public import proofs.«01_k».proof.Proof.ChunkValue

@[expose] public section

set_option maxRecDepth 16384

noncomputable section

namespace Cert.KernelIdeal.Chunk

open Idealize.ShloMosaic Idealize.ShloMosaic.TcCoe Cert.KernelIdeal Cert.KernelIdeal.Gen Cert.Spec

local notation "𝕀" => Idealize.ShloMosaic.Ideal

namespace PointB

variable (c : Dev nD) (i : grid0.Coords) (arg2 : Memref sig .tc .vmem S1x128x2048 .f32) (harg2 : arg2.IsWhole) (arg3 : Memref sig .tc .vmem S1x128x3072 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x128x2048 .bf16) (harg11 : arg11.IsWhole) (arg12 : Memref sig .tc .vmem S1x32x64x128 .f32) (harg12 : arg12.IsWhole) (arg13 : Memref sig .tc .vmem S136x3072 .f32) (harg13 : arg13.IsWhole) (arg14 : Memref sig .tc .vmem S128x3072 .f32) (harg14 : arg14.IsWhole) (arg15 : Memref sig .tc .vmem S128x2048 .f32) (harg15 : arg15.IsWhole) (arg16 : Memref sig .tc .vmem S16x128x128 .f32) (harg16 : arg16.IsWhole) (hc0 : ¬cond0_0 i) (hc1 : ¬cond0_1 i) (x0 : Vec 𝕀 S1x128x2048 .f32) (x1 : Vec 𝕀 S1x128x3072 .f32) (x2 : Vec 𝕀 S1x128x128 .f32) (x3 : Vec 𝕀 S4x3072 .f32) (x4 : Vec 𝕀 S1x3072 .f32) (x5 : Vec 𝕀 S1x128 .f32) (x6 : Vec 𝕀 S1x128 .f32) (x7 : Vec 𝕀 S1x2048 .f32) (x8 : Vec 𝕀 S1x2048 .f32) (xs0 : Vec 𝕀 S136x3072 .f32) (xs3 : Vec 𝕀 S16x128x128 .f32)
variable {M : Args} {b : Fin 4} {cc : ℕ} (R : Reads (loads x0 x1 x2 x3 x4 x5 x6 x7 x8 (fun k => View.ld xs0 (bufR k)) (fun p => View.ld xs3 (htR p))) M b cc) (hcc : cc < 32)
include R hcc

/-- The activated columns a sequence's middle chunk reads back. -/
theorem act (k : Fin 24) (j l : Fin 128) :
    arg14.view.readCov (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3).2.2.2.2.1 (actR k).toLoadRect (ix2 j l) = M.A b cc j (acol k l) := by
  rw [act_B]
  simp only [Memref.IsWhole.read_unread]
  exact R.act hcc _ k j l

/-- The rows a sequence's middle chunk leaves. -/
theorem row (r : Fin 8) (l : Fin 3072) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3 (ix2 (⟨r.val, by have := r.isLt; omega⟩ : Fin 136) l) = M.x b (pos cc ⟨120 + r.val, by have := r.isLt; omega⟩) l := by
  unfold sout0_B_0
  rw [buf_B]
  rw [View.read_writes_apply_eq_canon _ _ _ _ ⟨_, mem_upTo (bufPiece _) [] ⟨l.val / 512, by have := l.isLt; omega⟩ 6 _ (by show l.val / 512 < 6; have := l.isLt; omega), mem_buf r l⟩]
  simp only [Memref.IsWhole.read_unread]
  exact R.buf_left _ _ r l

/-- The states a sequence's middle chunk leaves. -/
theorem ht (p : Fin 16) (e l : Fin 128) : sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3 (ix3 p e l) = M.H b (cc + 1) (pcol p l) e := by
  have hact := act c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3 R hcc
  unfold sout0_B_3
  rw [View.read_writes_junk_eq_canon, ht_B]
  simp only [Memref.IsWhole.read_unread]
  exact R.ht_left _ hact _ p e l

/-- The output block of a sequence's middle chunk. -/
theorem out (j : Fin 128) (l : Fin 2048) : out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3 (ix3 0 j l) = M.out b cc j l := by
  have hact := act c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3 R hcc
  unfold out0_B_9
  rw [View.read_writes_junk_eq_canon, out_B, ysc_B]
  simp only [Memref.IsWhole.read_unread]
  exact R.out_left _ hact _ _ _ j l

end PointB

namespace PointC

variable (c : Dev nD) (i : grid0.Coords) (arg2 : Memref sig .tc .vmem S1x128x2048 .f32) (harg2 : arg2.IsWhole) (arg3 : Memref sig .tc .vmem S1x128x3072 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x128x2048 .bf16) (harg11 : arg11.IsWhole) (arg12 : Memref sig .tc .vmem S1x32x64x128 .f32) (harg12 : arg12.IsWhole) (arg13 : Memref sig .tc .vmem S136x3072 .f32) (harg13 : arg13.IsWhole) (arg14 : Memref sig .tc .vmem S128x3072 .f32) (harg14 : arg14.IsWhole) (arg15 : Memref sig .tc .vmem S128x2048 .f32) (harg15 : arg15.IsWhole) (arg16 : Memref sig .tc .vmem S16x128x128 .f32) (harg16 : arg16.IsWhole) (hc0 : ¬cond0_0 i) (hc1 : cond0_1 i) (x0 : Vec 𝕀 S1x128x2048 .f32) (x1 : Vec 𝕀 S1x128x3072 .f32) (x2 : Vec 𝕀 S1x128x128 .f32) (x3 : Vec 𝕀 S4x3072 .f32) (x4 : Vec 𝕀 S1x3072 .f32) (x5 : Vec 𝕀 S1x128 .f32) (x6 : Vec 𝕀 S1x128 .f32) (x7 : Vec 𝕀 S1x2048 .f32) (x8 : Vec 𝕀 S1x2048 .f32) (xs0 : Vec 𝕀 S136x3072 .f32) (xs3 : Vec 𝕀 S16x128x128 .f32)
variable {M : Args} {b : Fin 4} {cc : ℕ} (R : Reads (loads x0 x1 x2 x3 x4 x5 x6 x7 x8 (fun k => View.ld xs0 (bufR k)) (fun p => View.ld xs3 (htR p))) M b cc) (hcc : cc < 32)
include R hcc

/-- The activated columns a sequence's last chunk reads back. -/
theorem act (k : Fin 24) (j l : Fin 128) :
    arg14.view.readCov (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3).2.2.2.2.1 (actR k).toLoadRect (ix2 j l) = M.A b cc j (acol k l) := by
  rw [act_C]
  simp only [Memref.IsWhole.read_unread]
  exact R.act hcc _ k j l

/-- The rows a sequence's last chunk leaves. -/
theorem row (r : Fin 8) (l : Fin 3072) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3 (ix2 (⟨r.val, by have := r.isLt; omega⟩ : Fin 136) l) = M.x b (pos cc ⟨120 + r.val, by have := r.isLt; omega⟩) l := by
  unfold sout0_C_0
  rw [buf_C]
  rw [View.read_writes_apply_eq_canon _ _ _ _ ⟨_, mem_upTo (bufPiece _) [] ⟨l.val / 512, by have := l.isLt; omega⟩ 6 _ (by show l.val / 512 < 6; have := l.isLt; omega), mem_buf r l⟩]
  simp only [Memref.IsWhole.read_unread]
  exact R.buf_left _ _ r l

/-- The states a sequence's last chunk leaves. -/
theorem ht (p : Fin 16) (e l : Fin 128) : sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3 (ix3 p e l) = M.H b (cc + 1) (pcol p l) e := by
  have hact := act c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3 R hcc
  unfold sout0_C_3
  rw [View.read_writes_junk_eq_canon, ht_C]
  simp only [Memref.IsWhole.read_unread]
  exact R.ht_left _ hact _ p e l

/-- The output block of a sequence's last chunk. -/
theorem out (j : Fin 128) (l : Fin 2048) : out0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3 (ix3 0 j l) = M.out b cc j l := by
  have hact := act c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3 R hcc
  unfold out0_C_9
  rw [View.read_writes_junk_eq_canon, out_C, ysc_C]
  simp only [Memref.IsWhole.read_unread]
  exact R.out_left _ hact _ _ _ j l

/-- The final states, which a sequence's last chunk puts out. -/
theorem hout (e : Fin 32) (q : Fin 64) (k : Fin 128) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3 (ix4 0 e q k) = M.H b (cc + 1) ⟨64 * e.val + q.val, by have := e.isLt; have := q.isLt; omega⟩ k := by
  have hact := act c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs3 R hcc
  unfold out0_C_10
  rw [View.read_writes_junk_eq_canon, hout_C, ht_C]
  simp only [Memref.IsWhole.read_unread]
  refine hout_left (M.H b (cc + 1)) _ (fun p n l => ?_) _ e q k
  rw [ht_read]
  exact R.ht_left _ hact _ p n l

end PointC

end Cert.KernelIdeal.Chunk

end
-- ==== Proof.ChunkInduct.lean ====
/- The scan kernel over its grid: what each point leaves, chunk by chunk, and the two outputs. -/
module

public import proofs.«01_k».proof.Proof.ChunkGrid
public import proofs.«01_k».proof.Proof.ChunkPoint

@[expose] public section

set_option maxRecDepth 16384

noncomputable section

namespace Cert.KernelIdeal.Chunk

open Idealize.ShloMosaic Idealize.ShloMosaic.TcCoe Cert.KernelIdeal Cert.KernelIdeal.Gen Cert.Spec

local notation "𝕀" => Idealize.ShloMosaic.Ideal

variable (m : (ℓ : Loc nD τ sig) → Buf (Elt 𝕀) ℓ) (d : Dev nD)

/-- A point's loads, over the rows and states the chunk before left. -/
abbrev loadsAt (t : Fin cfg0.N) (B : Fin 6 → Vec 𝕀 S8x512 .f32) (H : Fin 16 → Vec 𝕀 S1x128x128 .f32) : Loads 𝕀 :=
  loads (iblk m d 0 t) (iblk m d 1 t) (iblk m d 2 t) (iblk m d 3 t) (iblk m d 4 t) (iblk m d 5 t) (iblk m d 6 t) (iblk m d 7 t) (iblk m d 8 t) B H

/-- A point's loads read the arguments. -/
theorem reads_at (t : Fin cfg0.N) (B : Fin 6 → Vec 𝕀 S8x512 .f32) (H : Fin 16 → Vec 𝕀 S1x128x128 .f32)
    (hB : ∀ k r l, B k (ix2 r l) = if t.val % 32 = 0 then 0 else (argsOf m d).x (seqOf t) (pos (t.val % 32 - 1) ⟨120 + r.val, by have := r.isLt; omega⟩) (scol k l))
    (hH : ∀ p n l, H p (ix3 0 n l) = (argsOf m d).H (seqOf t) (t.val % 32) (pcol p l) n) :
    Reads (loadsAt m d t B H) (argsOf m d) (seqOf t) (t.val % 32) where
  x k i l := by
    refine Eq.trans ?_ (blk_x m d t i (scol k l))
    exact congrArg (iblk m d 1 t) (by idx_ext)
  b := hB
  cb k l := by
    refine Eq.trans ?_ (blk_cb m d t (scol k l))
    exact congrArg (iblk m d 4 t) (by idx_ext)
  tap j k l := by
    refine Eq.trans ?_ (blk_w m d t j (scol k l))
    exact congrArg (iblk m d 3 t) (by idx_ext)
  dt i e := by
    refine Eq.trans ?_ (blk_dt m d t i e)
    exact congrArg (iblk m d 2 t) (by idx_ext)
  dtb e := by
    refine Eq.trans ?_ (blk_dtb m d t e)
    exact congrArg (iblk m d 5 t) (by idx_ext)
  al e := by
    refine Eq.trans ?_ (blk_al m d t e)
    exact congrArg (iblk m d 6 t) (by idx_ext)
  dsk p l := by
    refine Eq.trans ?_ (blk_dsk m d t (pcol p l))
    exact congrArg (iblk m d 7 t) (by idx_ext)
  ht := hH
  z i l := by
    refine Eq.trans ?_ (blk_z m d t i l)
    exact congrArg (iblk m d 0 t) (by idx_ext)
  gn g y := by
    refine Eq.trans ?_ (blk_gn m d t ⟨512 * g.val + y.val, by have := g.isLt; have := y.isLt; omega⟩)
    exact congrArg (iblk m d 8 t) (by idx_ext)

/-- What a point leaves: the rows for the next chunk, the states after its chunk, its output block, and, at a sequence's last chunk, the final states. -/
structure Left (n : ℕ) (hn : n < cfg0.N) : Prop where
  row : ∀ (r : Fin 8) (l : Fin 3072), (outsAt0 m d n hn).2.2.1 (ix2 (⟨r.val, by have := r.isLt; omega⟩ : Fin 136) l)
    = (argsOf m d).x (seqOf ⟨n, hn⟩) (pos (n % 32) ⟨120 + r.val, by have := r.isLt; omega⟩) l
  ht : ∀ (p : Fin 16) (e l : Fin 128), (outsAt0 m d n hn).2.2.2 (ix3 p e l) = (argsOf m d).H (seqOf ⟨n, hn⟩) (n % 32 + 1) (pcol p l) e
  out : ∀ (i : Fin 128) (l : Fin 2048), (outsAt0 m d n hn).1 (ix3 0 i l) = (argsOf m d).out (seqOf ⟨n, hn⟩) (n % 32) i l
  hout : n % 32 = 31 → ∀ (e : Fin 32) (q : Fin 64) (k : Fin 128), (outsAt0 m d n hn).2.1 (ix4 0 e q k)
    = (argsOf m d).H (seqOf ⟨n, hn⟩) 32 ⟨64 * e.val + q.val, by have := e.isLt; have := q.isLt; omega⟩ k

/-- The rows a later chunk finds, slab by slab. -/
theorem carried_rows (X : Vec 𝕀 S136x3072 .f32) (g : Fin 8 → Fin 3072 → EReal) (hX : ∀ (r : Fin 8) l, X (ix2 (⟨r.val, by have := r.isLt; omega⟩ : Fin 136) l) = g r l)
    (k : Fin 6) (r : Fin 8) (l : Fin 512) : View.ld X (bufR k) (ix2 r l) = g r (scol k l) :=
  (congrArg X (by idx_ext : (bufR k).toLoadRect.idx (ix2 r l) = ix2 (⟨r.val, by have := r.isLt; omega⟩ : Fin 136) (scol k l))).trans (hX r (scol k l))

/-- The states a later chunk finds, pair by pair. -/
theorem carried_states (X : Vec 𝕀 S16x128x128 .f32) (p : Fin 16) (n l : Fin 128) : View.ld X (htR p) (ix3 0 n l) = X (ix3 p n l) :=
  congrArg X (by idx_ext : (htR p).toLoadRect.idx (ix3 0 n l) = ix3 p n l)

/-- The run of a point of a sequence's first chunk. -/
abbrev runA (t : Fin cfg0.N) (h0 : t.val % 32 = 0) (h1 : ¬t.val % 32 = 31) :=
  kernelRun0_A d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m d 0 t) (iblk m d 1 t) (iblk m d 2 t) (iblk m d 3 t) (iblk m d 4 t) (iblk m d 5 t) (iblk m d 6 t) (iblk m d 7 t) (iblk m d 8 t)

/-- The activated columns a point of a sequence's first chunk reads back. -/
abbrev actA (t : Fin cfg0.N) (h0 : t.val % 32 = 0) (h1 : ¬t.val % 32 = 31) : Fin 24 → Vec 𝕀 S128x128 .f32 := fun k => scM0_1.view.readCov (runA m d t h0 h1).2.2.2.2.1 (actR k).toLoadRect

/-- The states a point of a sequence's first chunk has stored before a pair. -/
abbrev htA (t : Fin cfg0.N) (h0 : t.val % 32 = 0) (h1 : ¬t.val % 32 = 31) (n : ℕ) (h : n ≤ 16) : List (View.Piece (Elt 𝕀) S16x128x128 .f32) :=
  firstHt scM0_3.view (View.ld (iblk m d 2 t) (Rect.unit ![0, 0, 0] S1x128x128.size inb_S1x128x128_S1x128x128_0_0_0)) (View.ld (iblk m d 5 t) (Rect.unit ![0, 0] S1x128.size inb_S1x128_S1x128_0_0))
    (View.ld (iblk m d 6 t) (Rect.unit ![0, 0] S1x128.size inb_S1x128_S1x128_0_0)) (actA m d t h0 h1) n h

/-- The loads of a point of a sequence's first chunk read the arguments. -/
theorem reads_A (t : Fin cfg0.N) (h0 : t.val % 32 = 0) (h1 : ¬t.val % 32 = 31) :
    Reads (loadsAt m d t (firstBuf scM0_0.view fun k => View.ld (iblk m d 1 t) (xR k)) (fun p => scM0_3.view.readCov (htA m d t h0 h1 p.val (Nat.le_of_lt p.isLt)) (htR p).toLoadRect))
      (argsOf m d) (seqOf t) (t.val % 32) := by
  refine reads_at m d t _ _ (fun k r l => ?_) (fun p n l => ?_)
  · rw [if_pos h0]
    exact firstBuf_value _ _ k r l
  · rw [ht_read]
    refine (firstHt_off _ _ _ _ _ (ix3 p n l) p.val _ (Nat.le_refl _)).trans ?_
    rw [h0]
    rfl

/-- What a point of a sequence's first chunk leaves. -/
theorem left_A (t : Fin cfg0.N) (h0 : t.val % 32 = 0) (h1 : ¬t.val % 32 = 31) : Left m d t.val t.isLt := by
  have hc : t.val % 32 < 32 := Nat.mod_lt _ (by omega)
  have R := reads_A m d t h0 h1
  have hact : ∀ k i l, actA m d t h0 h1 k (ix2 i l) = (argsOf m d).A (seqOf t) (t.val % 32) i (acol k l) := fun k i l => by
    show scM0_1.view.readCov (runA m d t h0 h1).2.2.2.2.1 (actR k).toLoadRect (ix2 i l) = _
    unfold runA
    rw [act_A]
    simp only [Memref.IsWhole.read_unread]
    exact R.act hc _ k i l
  constructor
  · intro r l
    rw [outsAt0_A m d t h0 h1]
    dsimp only
    unfold sout0_A_0
    rw [View.read_writes_junk_eq_canon, buf_A]
    simp only [Memref.IsWhole.read_unread]
    exact R.buf_left _ _ r l
  · intro p e l
    rw [outsAt0_A m d t h0 h1]
    dsimp only
    unfold sout0_A_3
    rw [View.read_writes_junk_eq_canon, ht_A]
    simp only [Memref.IsWhole.read_unread]
    exact R.first_left h0 _ hact _ p e l 16 _ p.isLt
  · intro i l
    rw [outsAt0_A m d t h0 h1]
    dsimp only
    unfold out0_A_9
    rw [View.read_writes_junk_eq_canon, out_A, ysc_A]
    simp only [Memref.IsWhole.read_unread]
    exact R.out_left _ hact _ _ _ i l
  · exact fun h => absurd h h1

/-- The loads of a later point read the arguments, its rows and states being what the point before left. -/
theorem reads_next (t : Fin cfg0.N) (h0 : ¬t.val % 32 = 0) (P : Left m d (t.val - 1) (Nat.lt_of_le_of_lt (Nat.sub_le _ _) t.isLt)) :
    Reads (loadsAt m d t (fun k => View.ld (outsAt0 m d (t.val - 1) (Nat.lt_of_le_of_lt (Nat.sub_le _ _) t.isLt)).2.2.1 (bufR k)) (fun p => View.ld (outsAt0 m d (t.val - 1) (Nat.lt_of_le_of_lt (Nat.sub_le _ _) t.isLt)).2.2.2 (htR p)))
      (argsOf m d) (seqOf t) (t.val % 32) := by
  have hs : seqOf ⟨t.val - 1, Nat.lt_of_le_of_lt (Nat.sub_le _ _) t.isLt⟩ = seqOf t := Fin.ext (by show (t.val - 1) / 32 = t.val / 32; omega)
  have hr := P.row
  have hh := P.ht
  rw [hs] at hr hh
  refine reads_at m d t _ _ (fun k r l => ?_) (fun p n l => ?_)
  · rw [if_neg h0, ← (by omega : (t.val - 1) % 32 = t.val % 32 - 1)]
    exact carried_rows _ _ hr k r l
  · rw [← (by omega : (t.val - 1) % 32 + 1 = t.val % 32)]
    exact (carried_states _ p n l).trans (hh p n l)

/-- What a point of a sequence's middle chunk leaves. -/
theorem left_B (t : Fin cfg0.N) (h0 : ¬t.val % 32 = 0) (h1 : ¬t.val % 32 = 31) (P : Left m d (t.val - 1) (Nat.lt_of_le_of_lt (Nat.sub_le _ _) t.isLt)) : Left m d t.val t.isLt := by
  have hc : t.val % 32 < 32 := Nat.mod_lt _ (by omega)
  have R := reads_next m d t h0 P
  have O := outsAt0_B m d t h0 h1
  generalize (outsAt0 m d (t.val - 1) (Nat.lt_of_le_of_lt (Nat.sub_le _ _) t.isLt)).2.2.1 = X0 at R O
  generalize (outsAt0 m d (t.val - 1) (Nat.lt_of_le_of_lt (Nat.sub_le _ _) t.isLt)).2.2.2 = X3 at R O
  refine ⟨fun r l => ?_, fun p e l => ?_, fun i l => ?_, ?_⟩
  · rw [O]
    dsimp only
    exact PointB.row _ _ _ _ _ _ _ _ _ _ _ _ _ _ _ _ _ _ _ _ _ _ _ _ _ _ _ _ _ _ _ _ _ _ _ _ _ _ _ _ _ _ _ _ _ R hc r l
  · rw [O]
    dsimp only
    exact PointB.ht _ _ _ _ _ _ _ _ _ _ _ _ _ _ _ _ _ _ _ _ _ _ _ _ _ _ _ _ _ _ _ _ _ _ _ _ _ _ _ _ _ _ _ _ _ R hc p e l
  · rw [O]
    dsimp only
    exact PointB.out _ _ _ _ _ _ _ _ _ _ _ _ _ _ _ _ _ _ _ _ _ _ _ _ _ _ _ _ _ _ _ _ _ _ _ _ _ _ _ _ _ _ _ _ _ R hc i l
  · exact fun h => absurd h h1

/-- What a point of a sequence's last chunk leaves. -/
theorem left_C (t : Fin cfg0.N) (h0 : ¬t.val % 32 = 0) (h1 : t.val % 32 = 31) (P : Left m d (t.val - 1) (Nat.lt_of_le_of_lt (Nat.sub_le _ _) t.isLt)) : Left m d t.val t.isLt := by
  have hc : t.val % 32 < 32 := Nat.mod_lt _ (by omega)
  have R := reads_next m d t h0 P
  have O := outsAt0_C m d t h0 h1
  generalize (outsAt0 m d (t.val - 1) (Nat.lt_of_le_of_lt (Nat.sub_le _ _) t.isLt)).2.2.1 = X0 at R O
  generalize (outsAt0 m d (t.val - 1) (Nat.lt_of_le_of_lt (Nat.sub_le _ _) t.isLt)).2.2.2 = X3 at R O
  refine ⟨fun r l => ?_, fun p e l => ?_, fun i l => ?_, ?_⟩
  · rw [O]
    dsimp only
    exact PointC.row _ _ _ _ _ _ _ _ _ _ _ _ _ _ _ _ _ _ _ _ _ _ _ _ _ _ _ _ _ _ _ _ _ _ _ _ _ _ _ _ _ _ _ _ _ R hc r l
  · rw [O]
    dsimp only
    exact PointC.ht _ _ _ _ _ _ _ _ _ _ _ _ _ _ _ _ _ _ _ _ _ _ _ _ _ _ _ _ _ _ _ _ _ _ _ _ _ _ _ _ _ _ _ _ _ R hc p e l
  · rw [O]
    dsimp only
    exact PointC.out _ _ _ _ _ _ _ _ _ _ _ _ _ _ _ _ _ _ _ _ _ _ _ _ _ _ _ _ _ _ _ _ _ _ _ _ _ _ _ _ _ _ _ _ _ R hc i l
  · intro _ e q k
    rw [O]
    dsimp only
    exact (PointC.hout _ _ _ _ _ _ _ _ _ _ _ _ _ _ _ _ _ _ _ _ _ _ _ _ _ _ _ _ _ _ _ _ _ _ _ _ _ _ _ _ _ _ _ _ _ R hc e q k).trans (by rw [h1])

/-- What every point leaves. -/
theorem left : ∀ n (hn : n < cfg0.N), Left m d n hn := by
  intro n
  induction n with
  | zero => exact fun hn => left_A m d ⟨0, hn⟩ rfl (by show ¬(0 % 32 = 31); omega)
  | succ n ih =>
    intro hn
    have P : Left m d (n + 1 - 1) (Nat.lt_of_le_of_lt (Nat.sub_le _ _) hn) := ih (Nat.lt_of_succ_lt hn)
    by_cases h0 : (n + 1) % 32 = 0
    · exact left_A m d ⟨n + 1, hn⟩ h0 (by show ¬((n + 1) % 32 = 31); omega)
    · by_cases h1 : (n + 1) % 32 = 31
      · exact left_C m d ⟨n + 1, hn⟩ h0 h1 P
      · exact left_B m d ⟨n + 1, hn⟩ h0 h1 P

end Cert.KernelIdeal.Chunk

end
-- ==== Proof.ChunkOut.lean ====
/- The scan kernel's two outputs, entry by entry. -/
module

public import proofs.«01_k».proof.Proof.ChunkInduct
public import proofs.«01_k».proof.Proof.Gen.KernelIdeal.Value

@[expose] public section

set_option maxRecDepth 16384

noncomputable section

namespace Cert.KernelIdeal.Chunk

open Idealize.ShloMosaic Idealize.ShloMosaic.TcCoe Cert.KernelIdeal Cert.KernelIdeal.Gen Cert.KernelIdeal.Value Cert.Spec

local notation "𝕀" => Idealize.ShloMosaic.Ideal

variable (m : (ℓ : Loc nD τ sig) → Buf (Elt 𝕀) ℓ) (d : Dev nD)

/-- The first output, entry by entry. -/
theorem G9_value (b : Fin 4) (t : Fin 4096) (l : Fin 2048) :
    G9 m d (ix3 b t l) = (argsOf m d).out b (t.val / 128) ⟨t.val % 128, Nat.mod_lt _ (by omega)⟩ l := by
  have hb := b.isLt
  have ht := t.isLt
  have hl := l.isLt
  have hN : cfg0.N = 128 := N_0
  have hp : pt9Of (ix3 b t l) = 32 * b.val + t.val / 128 := by
    show 32 * (b.val / 1 - 0) + 1 * (t.val / 128 - 0) + 1 * (l.val / 2048 - 0) = _
    omega
  have hn : pt9Of (ix3 b t l) < cfg0.N := by omega
  have e := (left m d _ hn).out ⟨t.val % 128, Nat.mod_lt _ (by omega)⟩ l
  rw [outsAt0_sweep] at e
  have hq : seqOf ⟨pt9Of (ix3 b t l), hn⟩ = b := Fin.ext (by show pt9Of (ix3 b t l) / 32 = b.val; omega)
  rw [hq, (by omega : pt9Of (ix3 b t l) % 32 = t.val / 128)] at e
  refine Eq.trans ?_ e
  unfold G9
  rw [dif_pos hn]
  exact congrArg _ (by idx_ext : loc9Of (ix3 b t l) = ix3 0 (⟨t.val % 128, Nat.mod_lt _ (by omega)⟩ : Fin 128) l)

/-- The second output, entry by entry. -/
theorem G10_value (b : Fin 4) (e : Fin 32) (q : Fin 64) (k : Fin 128) :
    G10 m d (ix4 b e q k) = (argsOf m d).H b 32 ⟨64 * e.val + q.val, by have := e.isLt; have := q.isLt; omega⟩ k := by
  have hb := b.isLt
  have he := e.isLt
  have hqq := q.isLt
  have hk := k.isLt
  have hN : cfg0.N = 128 := N_0
  have hp : pt10Of (ix4 b e q k) = 32 * b.val + 31 := by
    show 32 * (1 * (b.val / 1 - 0) + 1 * (e.val / 32 - 0) + 1 * (q.val / 64 - 0) + 1 * (k.val / 128 - 0)) + 31 = _
    omega
  have hn : pt10Of (ix4 b e q k) < cfg0.N := by omega
  have h := (left m d _ hn).hout (by omega) e q k
  rw [outsAt0_sweep] at h
  have hs : seqOf ⟨pt10Of (ix4 b e q k), hn⟩ = b := Fin.ext (by show pt10Of (ix4 b e q k) / 32 = b.val; omega)
  rw [hs] at h
  refine Eq.trans ?_ h
  unfold G10
  rw [dif_pos hn]
  exact congrArg _ (by idx_ext : loc10Of (ix4 b e q k) = ix4 0 e q k)

end Cert.KernelIdeal.Chunk

end
-- ==== Proof.RefRun.lean ====
/- The reference's loop, one trip at a time: what a trip makes of the values the loop carries is `Step.step` of them, and so the
   results are read from the state number 32 of any sequence that goes on by `Step.step`. -/
module

public import proofs.«01_k».proof.Proof.Gen.ReferenceIdeal.Run
public import proofs.«01_k».proof.Proof.Gen.ReferenceIdeal.Step

@[expose] public section

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The loop's values before trip `j` are those of the state `s`. -/
structure Held : Prop where
  hc : V0 (Proc.devRef .tc main_v61_8) = s.main_v61_8
  ys : V0 (Proc.devRef .tc main_v61_9) = s.main_v61_9
  bf : V0 (Proc.devRef .tc main_v61_0) = s.main_v61_0
  cf : V0 (Proc.devRef .tc main_v61_1) = s.main_v61_1
  acs : V0 (Proc.devRef .tc main_v61_2) = s.main_v61_2
  dt : V0 (Proc.devRef .tc main_v61_3) = s.main_v61_3
  xs : V0 (Proc.devRef .tc main_v61_4) = s.main_v61_4
  skip : V0 (Proc.devRef .tc main_v61_6) = s.main_v61_6
  trip : V0 (Proc.devRef .tc main_v61_7) = constantI S_ 32 (BitVec.ofNat 32 j)
  mask : V0 (Proc.devRef .tc main_v61_5) = Cert.ReferenceIdeal.Step.K_main_v53 (F := F)

variable {V0 s j}

set_option maxRecDepth 16384 in
/-- The state a trip leaves. -/
theorem trip_state (h : Held V0 s j) : step_main_v61_8 V0 = (step j s).main_v61_8 := by
  unfold step_main_v61_8 res_main_while0b_v91 res_main_while0b_v88 res_main_while0b_v86 res_main_while0b_v84
  simp only [h.hc, h.ys, h.bf, h.cf, h.acs, h.dt, h.xs, h.skip, h.trip, h.mask]
  rfl

set_option maxRecDepth 16384 in
/-- The outputs a trip leaves. -/
theorem trip_ys (h : Held V0 s j) : step_main_v61_9 V0 = (step j s).main_v61_9 := by
  unfold step_main_v61_9 res_main_while0b_v91 res_main_while0b_v88 res_main_while0b_v86 res_main_while0b_v85 res_main_while0b_v84
  simp only [h.hc, h.ys, h.bf, h.cf, h.acs, h.dt, h.xs, h.skip, h.trip, h.mask]
  rfl

/-- The trip's number goes up by one. -/
theorem trip_next (h : Held V0 s j) : step_main_v61_7 V0 = constantI S_ 32 (BitVec.ofNat 32 (j + 1)) := by
  unfold step_main_v61_7
  rw [h.trip]
  funext i
  show BitVec.ofNat 32 j + 1#32 = BitVec.ofNat 32 (j + 1)
  simp only [BitVec.ofNat_add]

/-- A trip takes the values of `s` to those of `step j s`. -/
theorem Held.trip_done (h : Held V0 s j) : Held (STEP V0) (step j s) (j + 1) where
  hc := (STEP_main_v61_8 V0).trans (trip_state h)
  ys := (STEP_main_v61_9 V0).trans (trip_ys h)
  trip := (STEP_main_v61_7 V0).trans (trip_next h)
  mask := (STEP_main_v61_5 V0).trans h.mask
  bf := (STEP_main_v61_0 V0).trans h.bf
  cf := (STEP_main_v61_1 V0).trans h.cf
  acs := (STEP_main_v61_2 V0).trans h.acs
  dt := (STEP_main_v61_3 V0).trans h.dt
  xs := (STEP_main_v61_4 V0).trans h.xs
  skip := (STEP_main_v61_6 V0).trans h.skip

set_option maxRecDepth 8192 in
/-- The first result, read from the last state. -/
theorem first_result (h : Held V0 s j) {x_main_arg0 : (⟨S4x4096x2048, .f32⟩ : BufTy).Contents (Elt F)} (h_main_arg0 : V0 (Proc.devRef .tc main_arg0) = x_main_arg0) {x_main_arg8 : (⟨S2048, .f32⟩ : BufTy).Contents (Elt F)} (h_main_arg8 : V0 (Proc.devRef .tc main_arg8) = x_main_arg8) : out_main_v82 V0 = Cert.ReferenceIdeal.Step.R_main_v82 s x_main_arg0 x_main_arg8 := by
  unfold out_main_v82 Cert.ReferenceIdeal.Step.R_main_v82
  rw [h.ys, h_main_arg0, h_main_arg8]
  try rfl

/-- The second result, read from the last state. -/
theorem second_result (h : Held V0 s j) : out_main_v83 V0 = Cert.ReferenceIdeal.Step.R_main_v83 s := by
  unfold out_main_v83 Cert.ReferenceIdeal.Step.R_main_v83
  rw [h.hc]
  try rfl

/-- The state before the first trip. -/
abbrev start (m : (ℓ : Loc nD τ sig) → Buf (Elt F) ℓ) (c : Dev nD) : State F :=
  init (m ((c.tc : Thread nD τ).loc main_arg7)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

variable (m : (ℓ : Loc nD τ sig) → Buf (Elt F) ℓ) (c : Dev nD)

set_option maxRecDepth 65536 in
set_option maxHeartbeats 800000 in
/-- Before the first trip the loop's values are those of `start`. -/
theorem entry_held : Held (entryContents preI m c) (start m c) 0 := by
  constructor <;> (simp only [entryContents, afterL_cons, afterL_nil]; after_reads_simp) <;> rfl

/-- Before trip `k` the loop's values are those of the `k`-th state. -/
theorem held_iter (it : ℕ → State F) (h0 : it 0 = start m c) (hs : ∀ n, it (n + 1) = step n (it n)) :
    ∀ k, Held (STEP^[k] (entryContents preI m c)) (it k) k
  | 0 => h0 ▸ entry_held m c
  | k + 1 => by
    rw [Function.iterate_succ_apply', hs k]
    exact (held_iter it h0 hs k).trip_done

/-- The run: every weakly fair execution of the reference ends with each result at its field of state
    number 32 of any per-core sequence of states that starts at `start` and goes on by `step`, and every argument unchanged. -/
theorem runR (m : (ℓ : Loc nD τ sig) → Buf (Elt F) ℓ) (ρ : Dev nD → PrngReg) (it : Dev nD → ℕ → State F)
    (h0 : ∀ c, it c 0 = start m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v82) = Cert.ReferenceIdeal.Step.R_main_v82 (it c 32) (m ((c.tc : Thread nD τ).loc main_arg0)) (m ((c.tc : Thread nD τ).loc main_arg8))
      ∧ r.2.mem ((c.tc : Thread nD τ).loc main_v83) = Cert.ReferenceIdeal.Step.R_main_v83 (it c 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    have hk := held_iter m c (it c) (h0 c) (hs c) 32
    ⟨(h c).1.trans (first_result hk (iter_main_arg0 m c 32) (iter_main_arg8 m c 32)), (h c).2.1.trans (second_result hk), (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2⟩) (Value.run m ρ)

end Cert.ReferenceIdeal.RefRun

end
-- ==== Proof.RunningSum.lean ====
/- A running sum written as a sum over windows, read as the sum up to a position. -/
module

public import proofs.«01_k».proof.Proof.Gen.ReferenceIdeal.Step
public import Idealize.ShloMosaic.Lib.Pointwise

@[expose] public section

set_option maxRecDepth 16384

noncomputable section

namespace Cert.ReferenceIdeal.RunningSum

open Idealize.ShloMosaic Cert.ReferenceIdeal Cert.ReferenceIdeal.Gen

local notation "𝕀" => Idealize.ShloMosaic.Ideal

/-- A left fold that adds a term at each step is its start plus the sum of the terms. -/
theorem foldl_terms {α : Type} (l : List α) (f : α → EReal) : ∀ v, l.foldl (fun r n => r + f n) v = v + (l.map f).sum := by
  induction l with
  | nil => intro v; simp
  | cons a l ih => intro v; rw [List.foldl_cons, ih, List.map_cons, List.sum_cons, add_assoc]

/-- The shape of the windows. -/
abbrev W : Shape := ⟨5, ![1, 1, 128, 1, 1]⟩

theorem numel_W : W.numel = 128 := by simp [Shape.numel, Fin.prod_univ_succ]

/-- Position `n` of a window lies on the third axis. -/
theorem place (n : Fin W.numel) : W.rowMajor.symm n = ix5 (0 : Fin 1) (0 : Fin 1) (n.cast numel_W) (0 : Fin 1) (0 : Fin 1) := by
  rw [Equiv.symm_apply_eq]
  refine Fin.ext ?_
  rw [Shape.rowMajor_val_five]
  show n.val = (((0 * 1 + 0) * 128 + n.val) * 1 + 0) * 1 + 0
  omega

/-- The sums over windows of 128 positions that end at each position are the running sums. -/
theorem running (x : (⟨S4x32x128x4x8, .f32⟩ : BufTy).Contents (Elt 𝕀)) (init : (⟨S_, .f32⟩ : BufTy).Contents (Elt 𝕀)) (h) (hu : 0 < S_.numel)
    (hi : init (Shape.Idx.first hu) = (0 : EReal)) (b : Fin 4) (c : Fin 32) (i : Fin 128) (g : Fin 4) (e : Fin 8) :
    Host.reduceWindowAdd (F := 𝕀) (φ := .f32) (s := S4x32x128x4x8) (t := S4x32x128x4x8) (u := S_) ![1, 1, 128, 1, 1] ![1, 1, 1, 1, 1] ![0, 0, 127, 0, 0] ![0, 0, 0, 0, 0] x init h hu (ix5 b c i g e)
      = (∑ s : Fin 128, if s.val ≤ i.val then x (ix5 b c s g e) else (0 : EReal) : EReal) := by
  show Host.reduceWindow (fun a b : EReal => a + b) ![1, 1, 128, 1, 1] ![1, 1, 1, 1, 1] ![0, 0, 127, 0, 0] ![0, 0, 0, 0, 0] x (fun _ : S_.Idx => init (Shape.Idx.first hu)) h hu (ix5 b c i g e) = _
  unfold Host.reduceWindow
  dsimp only
  rw [hi]
  refine (foldl_terms _ _ _).trans ?_
  rw [zero_add]
  refine (Fin.sum_univ_def _).symm.trans ?_
  refine Fintype.sum_equiv ((finCongr numel_W).trans (Equiv.addRight (i + 1))) _ _ fun n => ?_
  have hn : n.val < 128 := (n.cast numel_W).isLt
  have hi' := i.isLt
  have hv : (((finCongr numel_W).trans (Equiv.addRight (i + 1))) n).val = (n.val + (i.val + 1)) % 128 := by
    show ((n.cast numel_W) + (i + 1) : Fin 128).val = _
    rw [Fin.val_add, Fin.val_add]
    show (n.val + (i.val + 1) % 128) % 128 = _
    omega
  have key : ∀ a : Fin 5, (ix5 b c i g e a).val * (![1, 1, 1, 1, 1] : Fin 5 → ℕ) a + (W.rowMajor.symm n a).val = (![b.val, c.val, i.val + n.val, g.val, e.val] : Fin 5 → ℕ) a := by
    rw [place]
    intro a
    fin_cases a
    · show b.val * 1 + 0 = b.val; omega
    · show c.val * 1 + 0 = c.val; omega
    · show i.val * 1 + n.val = i.val + n.val; omega
    · show g.val * 1 + 0 = g.val; omega
    · show e.val * 1 + 0 = e.val; omega
  by_cases hin : 127 ≤ i.val + n.val
  · rw [dif_pos, if_pos (by rw [hv]; omega)]
    · refine congrArg x (funext fun a => Fin.ext ?_)
      refine (congrArg (· - (![0, 0, 127, 0, 0] : Fin 5 → ℕ) a) (key a)).trans ?_
      fin_cases a
      · rfl
      · rfl
      · show i.val + n.val - 127 = (((finCongr numel_W).trans (Equiv.addRight (i + 1))) n).val
        rw [hv]; omega
      · rfl
      · rfl
    · intro a
      refine (congrArg (fun p => (![0, 0, 127, 0, 0] : Fin 5 → ℕ) a ≤ p ∧ p - (![0, 0, 127, 0, 0] : Fin 5 → ℕ) a < S4x32x128x4x8.size a) (key a)).mpr ?_
      fin_cases a
      · exact ⟨Nat.zero_le _, b.isLt⟩
      · exact ⟨Nat.zero_le _, c.isLt⟩
      · show 127 ≤ i.val + n.val ∧ i.val + n.val - 127 < 128
        omega
      · exact ⟨Nat.zero_le _, g.isLt⟩
      · exact ⟨Nat.zero_le _, e.isLt⟩
  · rw [dif_neg, if_neg (by rw [hv]; omega)]
    intro hh
    have h2 := (congrArg (fun p => (![0, 0, 127, 0, 0] : Fin 5 → ℕ) 2 ≤ p ∧ p - (![0, 0, 127, 0, 0] : Fin 5 → ℕ) 2 < S4x32x128x4x8.size 2) (key 2)).mp (hh 2)
    exact hin h2.1

end Cert.ReferenceIdeal.RunningSum

end
-- ==== Proof.RefValue.lean ====
/- What the reference computes: its two results are the recurrence's outputs and last state. -/
module

public import proofs.«01_k».proof.Proof.RefRun
public import proofs.«01_k».proof.Proof.RunningSum
public import proofs.«01_k».proof.Proof.Spec
public import Idealize.ShloMosaic.Lib.WordCmp

@[expose] public section

set_option maxRecDepth 16384

noncomputable section

namespace Cert.ReferenceIdeal.RefValue

open Idealize.ShloMosaic Cert.ReferenceIdeal Cert.ReferenceIdeal.Gen Cert.ReferenceIdeal.Step Cert.Spec Idealize.ShloMosaic.WordCmp

local notation "𝕀" => Idealize.ShloMosaic.Ideal

variable (a0 : (⟨S4x4096x2048, .f32⟩ : BufTy).Contents (Elt 𝕀)) (a1 : (⟨S4x4096x3072, .f32⟩ : BufTy).Contents (Elt 𝕀)) (a2 : (⟨S4x4096x32, .f32⟩ : BufTy).Contents (Elt 𝕀))
  (a3 : (⟨S4x3072, .f32⟩ : BufTy).Contents (Elt 𝕀)) (a4 : (⟨S3072, .f32⟩ : BufTy).Contents (Elt 𝕀)) (a5 a6 a7 : (⟨S32, .f32⟩ : BufTy).Contents (Elt 𝕀))
  (a8 : (⟨S2048, .f32⟩ : BufTy).Contents (Elt 𝕀))

/-- The nine arguments, read at their coordinates. -/
def args : Args where
  z b t l := a0 (ix3 b t l)
  x b t l := a1 (ix3 b t l)
  dt b t e := a2 (ix3 b t e)
  w k l := a3 (ix2 k l)
  cb l := a4 (ix1 l)
  dtb e := a5 (ix1 e)
  al e := a6 (ix1 e)
  dsk e := a7 (ix1 e)
  gn l := a8 (ix1 l)

/-- A value found three places up in an array that starts with three zero rows is the value some positions back. -/
theorem back_of (X : Fin 4096 → EReal) (t : Fin 4096) (k n : ℕ) (hn : n + k = 3) (p : ¬ n + t.val < 3 → n + t.val - 3 < 4096) :
    (if h : n + t.val < 3 then 0 else X ⟨n + t.val - 3, p h⟩) = back X t k := by
  unfold back
  by_cases h : n + t.val < 3
  · rw [dif_pos h, dif_neg (by omega)]
  · rw [dif_neg h, dif_pos (by omega)]
    exact congrArg X (Fin.ext (by show n + t.val - 3 = t.val - k; omega))

/-- The convolution. -/
theorem read_conv (b : Fin 4) (t : Fin 4096) (l : Fin 3072) :
    A_main_v31 a1 a2 a3 a4 a5 a6 (ix3 b t l) = conv (fun t => a1 (ix3 b t l)) (fun k => a3 (ix2 k l)) (a4 (ix1 l)) t := by
  pointwise [A_main_v31, A_main_v30, A_main_v29, A_main_v28, A_main_v27, A_main_v26, A_main_v25, A_main_v24, A_main_v23, A_main_v22, A_main_v21, A_main_v20, A_main_v19, A_main_v18, A_main_v17,
     A_main_v16, A_main_v15, A_main_v14, A_main_v13, A_main_v12, A_main_v11, A_main_v10, A_main_v9, A_main_v8, A_main_v7, A_main_v6, A_main_v5, A_main_v4, A_main_v3, A_main_v2, A_main_v1, K_main_v0, K_main_cst]
  have e3 : (if h : t.val < 3 then (0 : EReal) else a1 (ix3 b ⟨t.val - 3, by have := t.isLt; omega⟩ l)) = back (fun t => a1 (ix3 b t l)) t 3 := by
    unfold back
    by_cases h : t.val < 3
    · rw [dif_pos h, dif_neg (by omega)]
    · rw [dif_neg h, dif_pos (by omega)]
  have e2 := back_of (fun t => a1 (ix3 b t l)) t 2 1 rfl (fun _ => by have := t.isLt; omega)
  have e1 := back_of (fun t => a1 (ix3 b t l)) t 1 2 rfl (fun _ => by have := t.isLt; omega)
  unfold conv
  rw [← e1, ← e2, ← e3]
  abel

/-- The activated columns. -/
theorem read_act (b : Fin 4) (t : Fin 4096) (l : Fin 3072) :
    A_main_v32 a1 a2 a3 a4 a5 a6 (ix3 b t l) = (args a0 a1 a2 a3 a4 a5 a6 a7 a8).act b t l := by
  pointwise [A_main_v32, A_main_call0_v5, A_main_call0_v3, A_main_call0_v1, A_main_call0_v0, K_main_call0_v2, K_main_call0_v4, K_main_call0_cst, K_main_call0_cst_0]
  rw [read_conv]
  rfl

/-- The step sizes. -/
theorem read_step (b : Fin 4) (t : Fin 4096) (e : Fin 32) :
    A_main_v42 a1 a2 a3 a4 a5 a6 (ix3 b t e) = (args a0 a1 a2 a3 a4 a5 a6 a7 a8).step b t e := by
  pointwise [A_main_v42, A_main_call1_v11, A_main_call1_v10, A_main_call1_v9, A_main_call1_v8, A_main_call1_v7, A_main_call1_v6, A_main_call1_v4, A_main_call1_v3, A_main_call1_v1, A_main_v41,
    A_main_v40, A_main_v39, K_main_call1_v0, K_main_call1_v2, K_main_call1_v5, K_main_call1_cst]
  rw [if_neg (fun h => h rfl)]
  rfl

/-- Position `i` of chunk `c`, as the reshapes spell it. -/
theorem pos_eq (c : Fin 32) (i : Fin 128) (p : c.val * 128 + i.val < 4096) : (⟨c.val * 128 + i.val, p⟩ : Fin 4096) = pos c.val i :=
  Fin.ext (by show c.val * 128 + i.val = (128 * c.val + i.val) % 4096; omega)

/-- Column `q` of head `e` of group `g`. -/
abbrev colOf (g : Fin 4) (e : Fin 8) (q : Fin 64) : Fin 2048 := ⟨g.val * 512 + e.val * 64 + q.val, by have := g.isLt; have := e.isLt; have := q.isLt; omega⟩
/-- Head `e` of group `g`. -/
abbrev headOf (g : Fin 4) (e : Fin 8) : Fin 32 := ⟨g.val * 8 + e.val, by have := g.isLt; have := e.isLt; omega⟩

/-- The state keys a chunk's trip reads. -/
theorem read_bf (c : Fin 32) (b : Fin 4) (i : Fin 128) (g : Fin 4) (n : Fin 128) :
    A_main_v55 a1 a2 a3 a4 a5 a6 (ix5 c b i g n) = (args a0 a1 a2 a3 a4 a5 a6 a7 a8).A b c.val i ⟨2048 + (g.val * 128 + n.val), by have := g.isLt; have := n.isLt; omega⟩ := by
  pointwise [A_main_v55, A_main_v36, A_main_v35]
  rw [read_act a0 a1 a2 a3 a4 a5 a6 a7 a8, pos_eq]
  rfl

/-- The state queries a chunk's trip reads. -/
theorem read_cf (c : Fin 32) (b : Fin 4) (i : Fin 128) (g : Fin 4) (n : Fin 128) :
    A_main_v56 a1 a2 a3 a4 a5 a6 (ix5 c b i g n) = (args a0 a1 a2 a3 a4 a5 a6 a7 a8).A b c.val i ⟨2560 + (g.val * 128 + n.val), by have := g.isLt; have := n.isLt; omega⟩ := by
  pointwise [A_main_v56, A_main_v38, A_main_v37]
  rw [read_act a0 a1 a2 a3 a4 a5 a6 a7 a8, pos_eq]
  rfl

/-- The values a chunk's trip reads. -/
theorem read_xs (c : Fin 32) (b : Fin 4) (i : Fin 128) (g : Fin 4) (e : Fin 8) (q : Fin 64) :
    A_main_v59 a1 a2 a3 a4 a5 a6 (ix6 c b i g e q) = (args a0 a1 a2 a3 a4 a5 a6 a7 a8).A b c.val i (colX (colOf g e q)) := by
  pointwise [A_main_v59, A_main_v34, A_main_v33]
  rw [read_act a0 a1 a2 a3 a4 a5 a6 a7 a8, pos_eq]
  rfl

/-- The step sizes a chunk's trip reads. -/
theorem read_dt (c : Fin 32) (b : Fin 4) (i : Fin 128) (g : Fin 4) (e : Fin 8) :
    A_main_v58 a1 a2 a3 a4 a5 a6 (ix5 c b i g e) = (args a0 a1 a2 a3 a4 a5 a6 a7 a8).D b c.val i (headOf g e) := by
  pointwise [A_main_v58, A_main_v43]
  rw [read_step a0 a1 a2 a3 a4 a5 a6 a7 a8, pos_eq]
  rfl

/-- The running sums of the decays a chunk's trip reads. -/
theorem read_acs (c : Fin 32) (b : Fin 4) (i : Fin 128) (g : Fin 4) (e : Fin 8) :
    A_main_v57 a1 a2 a3 a4 a5 a6 (ix5 c b i g e)
      = acs ((args a0 a1 a2 a3 a4 a5 a6 a7 a8).D b c.val) (args a0 a1 a2 a3 a4 a5 a6 a7 a8).al i (headOf g e) := by
  pointwise [A_main_v57]
  refine (RunningSum.running _ _ _ _ (by pointwise [K_main_call2_call0_v0, K_main_call2_call0_cst]) b c i g e).trans ?_
  refine Finset.sum_congr rfl fun s _ => ?_
  pointwise [A_main_v49, A_main_v48, A_main_v47, A_main_v46, A_main_v45, A_main_v44, A_main_v43]
  rw [read_step a0 a1 a2 a3 a4 a5 a6 a7 a8, pos_eq]
  rfl

/-- The index word of a trip. -/
theorem trip_int {j : ℕ} (hj : j < 32) : (BitVec.ofNat 32 j).toInt = (j : ℤ) := toInt_ofNat_of_lt (by omega)

variable (it : ℕ → State 𝕀) (h0 : it 0 = init a7 a1 a2 a3 a4 a5 a6) (hs : ∀ n, it (n + 1) = step n (it n))

include h0 hs in
/-- What the trips leave alone. -/
theorem fixed (n : ℕ) : (it n).main_v61_0 = A_main_v55 a1 a2 a3 a4 a5 a6 ∧ (it n).main_v61_1 = A_main_v56 a1 a2 a3 a4 a5 a6 ∧ (it n).main_v61_2 = A_main_v57 a1 a2 a3 a4 a5 a6
    ∧ (it n).main_v61_3 = A_main_v58 a1 a2 a3 a4 a5 a6 ∧ (it n).main_v61_4 = A_main_v59 a1 a2 a3 a4 a5 a6 ∧ (it n).main_v61_6 = a7 := by
  induction n with
  | zero => rw [h0]; exact ⟨rfl, rfl, rfl, rfl, rfl, rfl⟩
  | succ n ih => rw [hs n]; exact ih

variable (j : ℕ) (hj : j < 32)

include h0 hs hj

/-- The state keys of a trip. -/
theorem trip_bf (b : Fin 4) (i : Fin 128) (g : Fin 4) (n : Fin 128) :
    b5 j (it j) (ix4 b i g n) = (args a0 a1 a2 a3 a4 a5 a6 a7 a8).A b j i ⟨2048 + (g.val * 128 + n.val), by have := g.isLt; have := n.isLt; omega⟩ := by
  unfold b5 b4
  rw [dynamicSlice_eq_extract (s := S32x4x128x4x128) S1x4x128x4x128 _ _ _ ![j, 0, 0, 0, 0] ⟨rfl, fun a => by fin_cases a <;> first | (show j + 1 ≤ 32; omega) | exact le_of_eq (Nat.zero_add _)⟩
    (fun a => by fin_cases a <;> first | exact trip_int hj | rfl)]
  pointwise
  rw [(fixed a1 a2 a3 a4 a5 a6 a7 it h0 hs j).1]
  exact read_bf a0 a1 a2 a3 a4 a5 a6 a7 a8 ⟨j, hj⟩ b i g n

/-- The state queries of a trip. -/
theorem trip_cf (b : Fin 4) (i : Fin 128) (g : Fin 4) (n : Fin 128) :
    b11 j (it j) (ix4 b i g n) = (args a0 a1 a2 a3 a4 a5 a6 a7 a8).A b j i ⟨2560 + (g.val * 128 + n.val), by have := g.isLt; have := n.isLt; omega⟩ := by
  unfold b11 b10
  rw [dynamicSlice_eq_extract (s := S32x4x128x4x128) S1x4x128x4x128 _ _ _ ![j, 0, 0, 0, 0] ⟨rfl, fun a => by fin_cases a <;> first | (show j + 1 ≤ 32; omega) | exact le_of_eq (Nat.zero_add _)⟩
    (fun a => by fin_cases a <;> first | exact trip_int hj | rfl)]
  pointwise
  rw [(fixed a1 a2 a3 a4 a5 a6 a7 it h0 hs j).2.1]
  exact read_cf a0 a1 a2 a3 a4 a5 a6 a7 a8 ⟨j, hj⟩ b i g n

/-- The running sums of the decays of a trip. -/
theorem trip_acs (b : Fin 4) (i : Fin 128) (g : Fin 4) (e : Fin 8) :
    b17 j (it j) (ix4 b i g e) = acs ((args a0 a1 a2 a3 a4 a5 a6 a7 a8).D b j) (args a0 a1 a2 a3 a4 a5 a6 a7 a8).al i (headOf g e) := by
  unfold b17 b16
  rw [dynamicSlice_eq_extract (s := S32x4x128x4x8) S1x4x128x4x8 _ _ _ ![j, 0, 0, 0, 0] ⟨rfl, fun a => by fin_cases a <;> first | (show j + 1 ≤ 32; omega) | exact le_of_eq (Nat.zero_add _)⟩
    (fun a => by fin_cases a <;> first | exact trip_int hj | rfl)]
  pointwise
  rw [(fixed a1 a2 a3 a4 a5 a6 a7 it h0 hs j).2.2.1]
  exact read_acs a0 a1 a2 a3 a4 a5 a6 a7 a8 ⟨j, hj⟩ b i g e

/-- The step sizes of a trip. -/
theorem trip_dt (b : Fin 4) (i : Fin 128) (g : Fin 4) (e : Fin 8) :
    b23 j (it j) (ix4 b i g e) = (args a0 a1 a2 a3 a4 a5 a6 a7 a8).D b j i (headOf g e) := by
  unfold b23 b22
  rw [dynamicSlice_eq_extract (s := S32x4x128x4x8) S1x4x128x4x8 _ _ _ ![j, 0, 0, 0, 0] ⟨rfl, fun a => by fin_cases a <;> first | (show j + 1 ≤ 32; omega) | exact le_of_eq (Nat.zero_add _)⟩
    (fun a => by fin_cases a <;> first | exact trip_int hj | rfl)]
  pointwise
  rw [(fixed a1 a2 a3 a4 a5 a6 a7 it h0 hs j).2.2.2.1]
  exact read_dt a0 a1 a2 a3 a4 a5 a6 a7 a8 ⟨j, hj⟩ b i g e

/-- The values of a trip. -/
theorem trip_xs (b : Fin 4) (i : Fin 128) (g : Fin 4) (e : Fin 8) (q : Fin 64) :
    b30 j (it j) (ix5 b i g e q) = (args a0 a1 a2 a3 a4 a5 a6 a7 a8).A b j i (colX (colOf g e q)) := by
  unfold b30 b29
  rw [dynamicSlice_eq_extract (s := S32x4x128x4x8x64) S1x4x128x4x8x64 _ _ _ ![j, 0, 0, 0, 0, 0] ⟨rfl, fun a => by fin_cases a <;> first | (show j + 1 ≤ 32; omega) | exact le_of_eq (Nat.zero_add _)⟩
    (fun a => by fin_cases a <;> first | exact trip_int hj | rfl)]
  pointwise
  rw [(fixed a1 a2 a3 a4 a5 a6 a7 it h0 hs j).2.2.2.2.1]
  exact read_xs a0 a1 a2 a3 a4 a5 a6 a7 a8 ⟨j, hj⟩ b i g e q

omit h0 hs hj in
/-- The columns of a head's group. -/
theorem group_of (g : Fin 4) (e : Fin 8) (q : Fin 64) : (colOf g e q).val / 512 = g.val ∧ (colOf g e q).val / 64 = g.val * 8 + e.val := by
  have := e.isLt; have := q.isLt
  constructor
  · show (g.val * 512 + e.val * 64 + q.val) / 512 = g.val; omega
  · show (g.val * 512 + e.val * 64 + q.val) / 64 = g.val * 8 + e.val; omega

omit h0 hs hj in
/-- A state key's column. -/
theorem colB_of (g : Fin 4) (e : Fin 8) (q : Fin 64) (n : Fin 128) (p : 2048 + (g.val * 128 + n.val) < 3072) : (⟨2048 + (g.val * 128 + n.val), p⟩ : Fin 3072) = colB (colOf g e q) n :=
  Fin.ext (by show 2048 + (g.val * 128 + n.val) = 2048 + 128 * ((colOf g e q).val / 512) + n.val; rw [(group_of g e q).1]; omega)

omit h0 hs hj in
/-- A state query's column. -/
theorem colC_of (g : Fin 4) (e : Fin 8) (q : Fin 64) (n : Fin 128) (p : 2560 + (g.val * 128 + n.val) < 3072) : (⟨2560 + (g.val * 128 + n.val), p⟩ : Fin 3072) = colC (colOf g e q) n :=
  Fin.ext (by show 2560 + (g.val * 128 + n.val) = 2560 + 128 * ((colOf g e q).val / 512) + n.val; rw [(group_of g e q).1]; omega)

omit h0 hs hj in
/-- A head's number. -/
theorem head_of (g : Fin 4) (e : Fin 8) (q : Fin 64) : headOf g e = head (colOf g e q) := Fin.ext (group_of g e q).2.symm

/-- A trip's outputs. -/
theorem trip_out (hH : ∀ (b g : Fin 4) (e : Fin 8) (q : Fin 64) (n : Fin 128), (it j).main_v61_8 (ix5 b g e q n) = (args a0 a1 a2 a3 a4 a5 a6 a7 a8).H b j (colOf g e q) n)
    (b : Fin 4) (i : Fin 128) (g : Fin 4) (e : Fin 8) (q : Fin 64) :
    b80 j (it j) (ix5 b i g e q) = (args a0 a1 a2 a3 a4 a5 a6 a7 a8).Y b j i (colOf g e q) := by
  pointwise [b80, b79, b78, b77, b76, b75, b74, b58, b57, b56, b55, b54, b53, b52, b51, b50, b49, b48, b47, b46, b45, b44, b43, b42, b41, b40, b39, b38, b37, b36, b35, b34, b33, b32, b31,
    K_main_v53, K_main_v52, K_main_v51, K_main_c, K_main_call3_v4, K_main_call3_v3, K_main_call3_v2, K_main_call3_v1, K_main_call3_v0, K_main_call3_c, K_main_call3_v5, K_main_call3_c_0]
  simp only [trip_bf a0 a1 a2 a3 a4 a5 a6 a7 a8 it h0 hs j hj, trip_cf a0 a1 a2 a3 a4 a5 a6 a7 a8 it h0 hs j hj, trip_acs a0 a1 a2 a3 a4 a5 a6 a7 a8 it h0 hs j hj,
    trip_dt a0 a1 a2 a3 a4 a5 a6 a7 a8 it h0 hs j hj, trip_xs a0 a1 a2 a3 a4 a5 a6 a7 a8 it h0 hs j hj, hH, (fixed a1 a2 a3 a4 a5 a6 a7 it h0 hs j).2.2.2.2.2, colB_of g e q, colC_of g e q, head_of g e q]
  have hw : IntOp.addi (BitVec.ofNat 32 i.val) 0#32 = BitVec.ofNat 32 i.val := BitVec.add_zero _
  simp only [hw, select_bit]
  simp only [select_ge (show i.val < 2 ^ 31 by have := i.isLt; omega) (show (Fin.val _) < 2 ^ 31 from lt_of_lt_of_le (Fin.is_lt _) (by norm_num : 128 ≤ 2 ^ 31))]
  refine Eq.trans ?_ (show _ = yChunk _ _ _ _ _ i (colOf g e q) from rfl)
  unfold yChunk
  rw [add_comm, ← add_assoc]
  refine congrArg₂ (· + ·) (congrArg₂ (· + ·) rfl (Finset.sum_congr rfl fun s _ => ?_)) (Finset.sum_congr rfl fun n _ => ?_)
  · have hc : ∀ n : Fin 128, (args a0 a1 a2 a3 a4 a5 a6 a7 a8).A b j s (colB (colOf g e q) n) * (args a0 a1 a2 a3 a4 a5 a6 a7 a8).A b j i (colC (colOf g e q) n)
      = (args a0 a1 a2 a3 a4 a5 a6 a7 a8).A b j i (colC (colOf g e q) n) * (args a0 a1 a2 a3 a4 a5 a6 a7 a8).A b j s (colB (colOf g e q) n) := fun n => mul_comm _ _
    simp only [hc]
    ac_rfl
  · ac_rfl

/-- A trip's state. -/
theorem trip_hc (hH : ∀ (b g : Fin 4) (e : Fin 8) (q : Fin 64) (n : Fin 128), (it j).main_v61_8 (ix5 b g e q n) = (args a0 a1 a2 a3 a4 a5 a6 a7 a8).H b j (colOf g e q) n)
    (b g : Fin 4) (e : Fin 8) (q : Fin 64) (n : Fin 128) :
    b73 j (it j) (ix5 b g e q n) = (args a0 a1 a2 a3 a4 a5 a6 a7 a8).H b (j + 1) (colOf g e q) n := by
  pointwise [b73, b72, b71, b70, b69, b68, b67, b66, b65, b64, b63, b62, b61, b60, b59, b33, b32, b31]
  simp only [trip_bf a0 a1 a2 a3 a4 a5 a6 a7 a8 it h0 hs j hj, trip_acs a0 a1 a2 a3 a4 a5 a6 a7 a8 it h0 hs j hj,
    trip_dt a0 a1 a2 a3 a4 a5 a6 a7 a8 it h0 hs j hj, trip_xs a0 a1 a2 a3 a4 a5 a6 a7 a8 it h0 hs j hj, hH, colB_of g e q, head_of g e q]
  refine congrArg₂ (· + ·) rfl (Finset.sum_congr rfl fun s _ => ?_)
  ac_rfl

omit hj in
/-- The state after any number of trips. -/
theorem state_at (n : ℕ) (hn : n ≤ 32) (b g : Fin 4) (e : Fin 8) (q : Fin 64) (x : Fin 128) :
    (it n).main_v61_8 (ix5 b g e q x) = (args a0 a1 a2 a3 a4 a5 a6 a7 a8).H b n (colOf g e q) x := by
  induction n generalizing b g e q x with
  | zero => rw [h0]; show K_main_v54 (ix5 b g e q x) = 0; pointwise [K_main_v54, K_main_cst_0]
  | succ n ih =>
    rw [hs n, step_main_v61_8]
    exact trip_hc a0 a1 a2 a3 a4 a5 a6 a7 a8 it h0 hs n (by omega) (ih (by omega)) b g e q x

omit hj in
/-- The outputs after any number of trips. -/
theorem outs_at (n : ℕ) (hn : n ≤ 32) (k : Fin 32) (hk : k.val < n) (b : Fin 4) (i : Fin 128) (g : Fin 4) (e : Fin 8) (q : Fin 64) :
    (it n).main_v61_9 (ix6 k b i g e q) = (args a0 a1 a2 a3 a4 a5 a6 a7 a8).Y b k.val i (colOf g e q) := by
  induction n with
  | zero => omega
  | succ n ih =>
    rw [hs n, step_main_v61_9]
    unfold b87
    rw [dynamicUpdateSlice_eq_update (s := S32x4x128x4x8x64) (u := S1x4x128x4x8x64) _ _ _ _ ![n, 0, 0, 0, 0, 0] ⟨rfl, fun a => by fin_cases a <;> first | (show n + 1 ≤ 32; omega) | exact le_of_eq (Nat.zero_add _)⟩
      (fun a => by fin_cases a <;> first | exact trip_int (by omega) | rfl)]
    pointwise [b81]
    by_cases h : n ≤ k.val
    · obtain rfl : n = k.val := by omega
      rw [dif_pos ⟨h, by omega⟩]
      exact trip_out a0 a1 a2 a3 a4 a5 a6 a7 a8 it h0 hs k.val k.isLt (state_at a0 a1 a2 a3 a4 a5 a6 a7 a8 it h0 hs k.val (by omega)) b i g e q
    · rw [dif_neg fun hh => h hh.1]
      exact ih (by omega) (by omega)

omit hj in
/-- The reference's first result. -/
theorem first_value (b : Fin 4) (t : Fin 4096) (l : Fin 2048) :
    R_main_v82 (it 32) a0 a8 (ix3 b t l) = (args a0 a1 a2 a3 a4 a5 a6 a7 a8).out b (t.val / 128) ⟨t.val % 128, Nat.mod_lt _ (by omega)⟩ l := by
  have ht := t.isLt
  have hl := l.isLt
  have hy : ∀ x : Fin 2048, (it 32).main_v61_9 (ix6 ⟨t.val / 128, by omega⟩ b ⟨t.val % 128, by omega⟩ ⟨x.val / 512, by have := x.isLt; omega⟩ ⟨x.val % 512 / 64, by have := x.isLt; omega⟩ ⟨x.val % 512 % 64, by have := x.isLt; omega⟩)
      = (args a0 a1 a2 a3 a4 a5 a6 a7 a8).Y b (t.val / 128) ⟨t.val % 128, by omega⟩ x := fun x =>
    (outs_at a0 a1 a2 a3 a4 a5 a6 a7 a8 it h0 hs 32 (le_refl _) ⟨t.val / 128, by omega⟩ (by show t.val / 128 < 32; omega) b _ _ _ _).trans
      (congrArg _ (Fin.ext (by show x.val / 512 * 512 + x.val % 512 / 64 * 64 + x.val % 512 % 64 = x.val; omega)))
  have hz : t = pos (t.val / 128) ⟨t.val % 128, by omega⟩ := Fin.ext (by show t.val = (128 * (t.val / 128) + t.val % 128) % 4096; omega)
  have hg : ∀ x : Fin 512, (it 32).main_v61_9 (ix6 ⟨t.val / 128, by omega⟩ b ⟨t.val % 128, by omega⟩ ⟨l.val / 512, by omega⟩ ⟨x.val / 64, by have := x.isLt; omega⟩ ⟨x.val % 64, by have := x.isLt; omega⟩)
      = (args a0 a1 a2 a3 a4 a5 a6 a7 a8).Y b (t.val / 128) ⟨t.val % 128, by omega⟩ (inGroup l x) := fun x =>
    (outs_at a0 a1 a2 a3 a4 a5 a6 a7 a8 it h0 hs 32 (le_refl _) ⟨t.val / 128, by omega⟩ (by show t.val / 128 < 32; omega) b _ _ _ _).trans
      (congrArg _ (Fin.ext (by show l.val / 512 * 512 + x.val / 64 * 64 + x.val % 64 = 512 * (l.val / 512) + x.val; omega)))
  have hc : ∀ x : Fin 512, (⟨l.val / 512 * 512 + x.val, by have := x.isLt; omega⟩ : Fin 2048) = inGroup l x := fun x =>
    Fin.ext (by show l.val / 512 * 512 + x.val = 512 * (l.val / 512) + x.val; omega)
  pointwise [R_main_v82]
  rw [hy l]
  simp only [hg, hc]
  show _ = rms (fun l => (args a0 a1 a2 a3 a4 a5 a6 a7 a8).Y b (t.val / 128) ⟨t.val % 128, by omega⟩ l * silu (a0 (ix3 b (pos (t.val / 128) ⟨t.val % 128, by omega⟩) l))) (fun l => a8 (ix1 l)) l
  rw [← hz]
  rfl

omit hj in
/-- The reference's second result. -/
theorem second_value (b : Fin 4) (h : Fin 32) (q : Fin 64) (n : Fin 128) :
    R_main_v83 (it 32) (ix4 b h q n) = (args a0 a1 a2 a3 a4 a5 a6 a7 a8).H b 32 ⟨64 * h.val + q.val, by have := h.isLt; have := q.isLt; omega⟩ n := by
  pointwise [R_main_v83]
  rw [state_at a0 a1 a2 a3 a4 a5 a6 a7 a8 it h0 hs 32 (le_refl _)]
  refine congrArg (fun l => (args a0 a1 a2 a3 a4 a5 a6 a7 a8).H b 32 l n) (Fin.ext ?_)
  show h.val / 8 * 512 + h.val % 8 * 64 + q.val = 64 * h.val + q.val
  have := h.isLt
  omega

end Cert.ReferenceIdeal.RefValue

end
-- ==== Proof.ScanClaims.lean ====
/- The scan's claims: what the reference leaves unchanged, and that the two programs' results are equal. -/
module

public import proofs.«01_k».proof.Defs
public import proofs.«01_k».proof.Proof.ChunkOut
public import proofs.«01_k».proof.Proof.RefRun
public import proofs.«01_k».proof.Proof.RefValue
public import proofs.«01_k».proof.Proof.Gen.ReferenceIdeal
public import Idealize.ShloMosaic.Lib.Quiescent

@[expose] public section

set_option maxRecDepth 16384

noncomputable section

namespace Cert.Scan

open Idealize.ShloMosaic Idealize.SL.Sem Cert.Spec

local notation "𝕀" => Idealize.ShloMosaic.Ideal

/-- The reference's loop, turn by turn. -/
def turns (m : (ℓ : Loc Cert.ReferenceIdeal.nD Cert.ReferenceIdeal.τ Cert.ReferenceIdeal.sig) → Buf (Elt 𝕀) ℓ) (c : Dev Cert.ReferenceIdeal.nD) :
    ℕ → Cert.ReferenceIdeal.Step.State 𝕀
  | 0 => Cert.ReferenceIdeal.RefRun.start m c
  | n + 1 => Cert.ReferenceIdeal.Step.step n (turns m c n)

/-- The reference runs, leaves its arguments as they were and no semaphore raised. -/
theorem reference_kept : Cert.quiescent_ReferenceIdeal := fun m ρ _ =>
  (θ_run (Cert.ReferenceIdeal.defs (F := 𝕀)) _ _).mono (fun r h => ⟨fun c => (h c).2.2, sem_eq_zero_of_no_sems (by decide) r.2⟩)
    (Cert.ReferenceIdeal.RefRun.runR (F := 𝕀) m ρ (turns m) (fun _ => rfl) (fun _ _ => rfl))

/-- The arguments of the reference, read from its memory. -/
def refArgs (m' : (ℓ : Loc Cert.ReferenceIdeal.nD Cert.ReferenceIdeal.τ Cert.ReferenceIdeal.sig) → Buf (Elt 𝕀) ℓ) (c : Dev Cert.ReferenceIdeal.nD) : Args :=
  Cert.ReferenceIdeal.RefValue.args (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))

/-- On arguments that agree, the kernel's first result is the reference's. -/
theorem first_eq (m : (ℓ : Loc Cert.KernelIdeal.nD Cert.KernelIdeal.τ Cert.KernelIdeal.sig) → Buf (Elt 𝕀) ℓ)
    (m' : (ℓ : Loc Cert.ReferenceIdeal.nD Cert.ReferenceIdeal.τ Cert.ReferenceIdeal.sig) → Buf (Elt 𝕀) ℓ) (c : Dev Cert.KernelIdeal.nD)
    (ha : refArgs m' c = Cert.KernelIdeal.Chunk.argsOf m c) :
    Cert.ReferenceIdeal.Step.R_main_v82 (turns m' c 32) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg8))
      = Cert.KernelIdeal.Value.G9 m c := by
  funext y
  obtain ⟨b, t, l, rfl⟩ : ∃ (b : Fin 4) (t : Fin 4096) (l : Fin 2048), y = ix3 b t l := ⟨y 0, y 1, y 2, by idx_ext⟩
  rw [Cert.KernelIdeal.Chunk.G9_value, ← ha]
  exact Cert.ReferenceIdeal.RefValue.first_value _ _ _ _ _ _ _ _ _ (turns m' c) rfl (fun _ => rfl) 0 b t l

/-- On arguments that agree, the kernel's second result is the reference's. -/
theorem second_eq (m : (ℓ : Loc Cert.KernelIdeal.nD Cert.KernelIdeal.τ Cert.KernelIdeal.sig) → Buf (Elt 𝕀) ℓ)
    (m' : (ℓ : Loc Cert.ReferenceIdeal.nD Cert.ReferenceIdeal.τ Cert.ReferenceIdeal.sig) → Buf (Elt 𝕀) ℓ) (c : Dev Cert.KernelIdeal.nD)
    (ha : refArgs m' c = Cert.KernelIdeal.Chunk.argsOf m c) :
    Cert.ReferenceIdeal.Step.R_main_v83 (turns m' c 32) = Cert.KernelIdeal.Value.G10 m c := by
  funext y
  obtain ⟨b, e, q, k, rfl⟩ : ∃ (b : Fin 4) (e : Fin 32) (q : Fin 64) (k : Fin 128), y = ix4 b e q k := ⟨y 0, y 1, y 2, y 3, by idx_ext⟩
  rw [Cert.KernelIdeal.Chunk.G10_value, ← ha]
  exact Cert.ReferenceIdeal.RefValue.second_value _ _ _ _ _ _ _ _ _ (turns m' c) rfl (fun _ => rfl) 0 b e q k

/-- The two programs run from memories that agree on the arguments and end with equal results, the arguments as they were. -/
theorem equal : Cert.algebraic_KernelIdeal_ReferenceIdeal := fun m ρ m' ρ' _ hag =>
  have ha : ∀ c, refArgs m' c = Cert.KernelIdeal.Chunk.argsOf m c := fun c => by
    obtain ⟨h0, h1, h2, h3, h4, h5, h6, h7, h8⟩ := hag c
    unfold Cert.KernelIdeal.Chunk.argsOf refArgs
    rw [← h0, ← h1, ← h2, ← h3, ← h4, ← h5, ← h6, ← h7, ← h8]
    rfl
  ⟨fun c => Cert.KernelIdeal.Value.G9 m c, fun c => Cert.KernelIdeal.Value.G10 m c, Cert.KernelIdeal.Value.run (F := 𝕀) m ρ,
    (θ_run (Cert.ReferenceIdeal.defs (F := 𝕀)) _ _).mono (fun _ h c => ⟨(h c).1.trans (first_eq m m' c (ha c)), (h c).2.1.trans (second_eq m m' c (ha c)), (h c).2.2⟩)
      (Cert.ReferenceIdeal.RefRun.runR (F := 𝕀) m' ρ' (turns m') (fun _ => rfl) (fun _ _ => rfl))⟩

end Cert.Scan

end
-- ==== Proof.FfnSpec.lean ====
/- A projection added to the residual and the feed-forward part after it, on the extended reals: one row at a time. -/
module

public import proofs.«01_k».proof.Proof.Spec

@[expose] public section

set_option maxRecDepth 16384

noncomputable section

namespace Cert.Ffn

open Idealize.ShloMosaic

/-- The residual's row `x` with the projection of the mixer's row `a` added. -/
def hid {n : ℕ} (a : Fin n → EReal) (w : Fin n → Fin 1024 → EReal) (x : Fin 1024 → EReal) (l : Fin 1024) : EReal := x l + ∑ k : Fin n, a k * w k l

/-- A row divided by the root of its mean square, with a gain. -/
def norm (h g : Fin 1024 → EReal) (l : Fin 1024) : EReal :=
  h l * Ideal.rsqrt (Ideal.div (∑ x : Fin 1024, h x * h x) (Ideal.ofBits .f32 0x44800000#32) + Ideal.ofBits .f32 0x358637BD#32) * g l

/-- A hidden value: the gate's activation times the other product. -/
def act (n : Fin 1024 → EReal) (wg wu : Fin 1024 → Fin 2816 → EReal) (j : Fin 2816) : EReal :=
  Spec.silu (∑ k : Fin 1024, n k * wg k j) * ∑ k : Fin 1024, n k * wu k j

/-- The weights of the feed-forward part and the norm's gain before it. -/
structure Weights where
  g : Fin 1024 → EReal
  gate : Fin 1024 → Fin 2816 → EReal
  up : Fin 1024 → Fin 2816 → EReal
  down : Fin 2816 → Fin 1024 → EReal

/-- The row `h` with its feed-forward part added. -/
def out (W : Weights) (h : Fin 1024 → EReal) (l : Fin 1024) : EReal := h l + ∑ j : Fin 2816, act (norm h W.g) W.gate W.up j * W.down j l

/-- A function of the hidden columns, zero beyond the last. -/
def ext (f : Fin 2816 → EReal) (x : ℕ) : EReal := if h : x < 2816 then f ⟨x, h⟩ else 0

/-- The whole sum, as a sum over the numbers below the width. -/
theorem sum_ext (f : Fin 2816 → EReal) : ∑ x ∈ Finset.range 2816, ext f x = ∑ j : Fin 2816, f j := by
  rw [Finset.sum_range]
  exact Finset.sum_congr rfl fun j _ => dif_pos j.isLt

/-- Column `j` of slab `c` of the hidden columns. -/
abbrev hcol (c : Fin 11) (j : Fin 256) : Fin 2816 := ⟨256 * c.val + j.val, by have := c.isLt; have := j.isLt; omega⟩

/-- One slab more. -/
theorem sum_slab (f : Fin 2816 → EReal) (c : Fin 11) :
    ∑ x ∈ Finset.range (256 * (c.val + 1)), ext f x = ∑ x ∈ Finset.range (256 * c.val), ext f x + ∑ j : Fin 256, f (hcol c j) := by
  rw [Nat.mul_succ, Finset.sum_range_add]
  congr 1
  rw [Finset.sum_range]
  exact Finset.sum_congr rfl fun j _ => dif_pos _

end Cert.Ffn

end
-- ==== Proof.FfnSlab.lean ====
/- The feed-forward kernel's row tile: the normalised rows, and the hidden columns taken slab by slab. -/
module

public import proofs.«01_k».proof.Proof.FfnSpec
public import proofs.«01_k».proof.Proof.Gen.Kernel2Ideal.Frame
public import Idealize.ShloMosaic.Lib.Pipeline.Value

@[expose] public section

set_option maxRecDepth 16384

noncomputable section

namespace Cert.Ffn

open Idealize.ShloMosaic Cert.Kernel2Ideal Cert.Kernel2Ideal.Gen

local notation "𝕀" => Idealize.ShloMosaic.Ideal

section any

variable {F : FTy → Type} [FloatOps F]

/-- The tile's rows, normalised. -/
def normed (h : FVec F S512x1024 .f32) (g : Vec F S1x1024 .f32) : FVec F S512x1024 .bf16 :=
  truncf .bf16 (mulf (mulf h (broadcastTo S512x1024 (rsqrt (addf (divf (shapeCast S512x1 (multiReduction .add [1] S512 (mulf h h) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)) bitsLt_bf16_f32

/-- The product of the normalised rows with a slab of columns. -/
def cols (n : FVec F S512x1024 .bf16) (w : Vec F S1x1024x256 .bf16) : FVec F S512x256 .f32 :=
  matmul dot_S512x1024_S1024x256_S512x256_1_0_0_1_n_n none n (shapeCast S1024x256 w shapeCasts_S1x1024x256_S1024x256) (constant S512x256 .f32 0x00000000#32)

/-- What a slab of the hidden columns adds. -/
def slab (n : FVec F S512x1024 .bf16) (g u : Vec F S1x1024x256 .bf16) (w : Vec F S1x256x1024 .bf16) : FVec F S512x1024 .f32 :=
  matmul dot_S512x256_S256x1024_S512x1024_1_0_0_1_n_n none
    (truncf .bf16 (mulf (divf (cols n g) (addf (broadcast S512x256 (Scalar.ofBits .f32 0x3F800000#32)) (exp (subf (broadcast S512x256 (Scalar.ofBits .f32 0x00000000#32)) (cols n g))))) (cols n u)) bitsLt_bf16_f32)
    (shapeCast S256x1024 w shapeCasts_S1x256x1024_S256x1024) (constant S512x1024 .f32 0x00000000#32)

/-- Slab `c` of the hidden columns, in the two weights before the activation. -/
abbrev colR (c : Fin 11) : Rect S1x1024x2816 := Rect.unit (s := S1x1024x2816) ![0, 0, 256 * c.val] S1x1024x256.size fun a => by
  have := c.isLt
  match a with
  | 0 => exact Nat.le_refl 1
  | 1 => exact Nat.le_refl 1024
  | 2 => show 256 * c.val + 256 ≤ 2816; omega

/-- Slab `c` of the hidden columns, in the weight after the activation. -/
abbrev rowR (c : Fin 11) : Rect S1x2816x1024 := Rect.unit (s := S1x2816x1024) ![0, 256 * c.val, 0] S1x256x1024.size fun a => by
  have := c.isLt
  match a with
  | 0 => exact Nat.le_refl 1
  | 1 => show 256 * c.val + 256 ≤ 2816; omega
  | 2 => exact Nat.le_refl 1024

/-- The tile's rows `h` with the first slabs' parts added. -/
def upto (h : FVec F S512x1024 .f32) (n : FVec F S512x1024 .bf16) (x4 x5 : Vec F S1x1024x2816 .bf16) (x6 : Vec F S1x2816x1024 .bf16) : (c : ℕ) → c ≤ 11 → FVec F S512x1024 .f32
  | 0, _ => h
  | c + 1, hc => addf (upto h n x4 x5 x6 c (Nat.le_of_succ_le hc)) (slab n (View.ld x4 (colR ⟨c, hc⟩)) (View.ld x5 (colR ⟨c, hc⟩)) (View.ld x6 (rowR ⟨c, hc⟩)))

end any

/-- The normalised rows, entry by entry. -/
theorem normed_value (h : FVec 𝕀 S512x1024 .f32) (g : Vec 𝕀 S1x1024 .f32) (i : Fin 512) (l : Fin 1024) :
    normed h g (ix2 i l) = norm (fun l => h (ix2 i l)) (fun l => g (ix2 0 l)) l := by
  unfold norm
  pointwise [normed]

/-- A slab's part, entry by entry. -/
theorem slab_value (n : FVec 𝕀 S512x1024 .bf16) (g u : Vec 𝕀 S1x1024x256 .bf16) (w : Vec 𝕀 S1x256x1024 .bf16) (i : Fin 512) (l : Fin 1024) :
    slab n g u w (ix2 i l) = ∑ j : Fin 256, Spec.silu (∑ k : Fin 1024, n (ix2 i k) * g (ix3 0 k j)) * (∑ k : Fin 1024, n (ix2 i k) * u (ix3 0 k j)) * w (ix3 0 j l) := by
  simp only [← Spec.silu_div]
  pointwise [slab, cols]
  simp only [zero_sub]

/-- A slab's part, its loads and rows named. -/
theorem slab_reads (n : FVec 𝕀 S512x1024 .bf16) (g u : Vec 𝕀 S1x1024x256 .bf16) (w : Vec 𝕀 S1x256x1024 .bf16) (i : Fin 512) (l : Fin 1024)
    (N : Fin 1024 → EReal) (G U : Fin 1024 → Fin 256 → EReal) (D : Fin 256 → EReal) (hn : ∀ k, n (ix2 i k) = N k)
    (hg : ∀ k j, g (ix3 0 k j) = G k j) (hu : ∀ k j, u (ix3 0 k j) = U k j) (hw : ∀ j, w (ix3 0 j l) = D j) :
    slab n g u w (ix2 i l) = ∑ j : Fin 256, Spec.silu (∑ k : Fin 1024, N k * G k j) * (∑ k : Fin 1024, N k * U k j) * D j := by
  rw [slab_value]
  simp only [hn, hg, hu, hw]

/-- A load of a slab's columns. -/
theorem ld_col (x : Vec 𝕀 S1x1024x2816 .bf16) (c : Fin 11) (k : Fin 1024) (j : Fin 256) : View.ld x (colR c) (ix3 0 k j) = x (ix3 0 k (hcol c j)) :=
  congrArg x (by idx_ext : (colR c).toLoadRect.idx (ix3 0 k j) = ix3 0 k (hcol c j))

/-- A load of a slab's rows. -/
theorem ld_row (x : Vec 𝕀 S1x2816x1024 .bf16) (c : Fin 11) (j : Fin 256) (l : Fin 1024) : View.ld x (rowR c) (ix3 0 j l) = x (ix3 0 (hcol c j) l) :=
  congrArg x (by idx_ext : (rowR c).toLoadRect.idx (ix3 0 j l) = ix3 0 (hcol c j) l)

/-- One slab more, entry by entry. -/
theorem upto_succ (h : FVec 𝕀 S512x1024 .f32) (n : FVec 𝕀 S512x1024 .bf16) (x4 x5 : Vec 𝕀 S1x1024x2816 .bf16) (x6 : Vec 𝕀 S1x2816x1024 .bf16) (c : ℕ) (hc : c + 1 ≤ 11) (i : Fin 512) (l : Fin 1024) :
    upto h n x4 x5 x6 (c + 1) hc (ix2 i l)
      = upto h n x4 x5 x6 c (Nat.le_of_succ_le hc) (ix2 i l) + slab n (View.ld x4 (colR ⟨c, hc⟩)) (View.ld x5 (colR ⟨c, hc⟩)) (View.ld x6 (rowR ⟨c, hc⟩)) (ix2 i l) := rfl

variable (h : FVec 𝕀 S512x1024 .f32) (g : Vec 𝕀 S1x1024 .f32) (x4 x5 : Vec 𝕀 S1x1024x2816 .bf16) (x6 : Vec 𝕀 S1x2816x1024 .bf16)
  (W : Weights) (hg : ∀ l, g (ix2 0 l) = W.g l) (h4 : ∀ k j, x4 (ix3 0 k j) = W.gate k j) (h5 : ∀ k j, x5 (ix3 0 k j) = W.up k j) (h6 : ∀ j l, x6 (ix3 0 j l) = W.down j l)
include hg h4 h5 h6

/-- The rows after the first slabs. -/
theorem upto_value (c : ℕ) (hc : c ≤ 11) (i : Fin 512) (l : Fin 1024) :
    upto h (normed h g) x4 x5 x6 c hc (ix2 i l)
      = h (ix2 i l) + ∑ x ∈ Finset.range (256 * c), ext (fun j => act (norm (fun l => h (ix2 i l)) W.g) W.gate W.up j * W.down j l) x := by
  induction c with
  | zero => exact (add_zero _).symm
  | succ c ih =>
    have e := sum_slab (fun j => act (norm (fun l => h (ix2 i l)) W.g) W.gate W.up j * W.down j l) ⟨c, hc⟩
    dsimp only at e
    rw [upto_succ, ih, e, ← add_assoc]
    exact congrArg (_ + ·) (slab_reads _ _ _ _ i l (norm (fun l => h (ix2 i l)) W.g) (fun k j => W.gate k (hcol ⟨c, hc⟩ j)) (fun k j => W.up k (hcol ⟨c, hc⟩ j))
      (fun j => W.down (hcol ⟨c, hc⟩ j) l) (fun k => (normed_value h g i k).trans (by simp only [hg])) (fun k j => (ld_col x4 ⟨c, hc⟩ k j).trans (h4 k _))
      (fun k j => (ld_col x5 ⟨c, hc⟩ k j).trans (h5 k _)) (fun j => (ld_row x6 ⟨c, hc⟩ j l).trans (h6 _ l)))

/-- The rows after the last slab. -/
theorem upto_all (i : Fin 512) (l : Fin 1024) :
    upto h (normed h g) x4 x5 x6 11 (Nat.le_refl 11) (ix2 i l) = out W (fun l => h (ix2 i l)) l := by
  rw [upto_value h g x4 x5 x6 W hg h4 h5 h6, sum_ext]
  rfl

end Cert.Ffn

end
-- ==== Proof.FfnOut0.lean ====
/- The feed-forward kernel of the first layer: what its output array holds, row by row. -/
module

public import proofs.«01_k».proof.Proof.FfnSlab
public import proofs.«01_k».proof.Proof.Gen.Kernel3Ideal.Value
public import Idealize.ShloMosaic.Lib.Pipeline.ValueKit
public import Idealize.ShloMosaic.Lib.Claim

@[expose] public section

set_option maxRecDepth 16384

noncomputable section

namespace Cert.Ffn.First

open Idealize.ShloMosaic Idealize.ShloMosaic.TcCoe Cert.Kernel3Ideal Cert.Kernel3Ideal.Gen Cert.Kernel3Ideal.Value

local notation "𝕀" => Idealize.ShloMosaic.Ideal

/-- A grid point's output tile is its rows with all eleven slabs added. -/
theorem out_eq {F : FTy → Type} [FloatOps F] (x0 : Vec F S1x1024x512 .bf16) (x1 : Vec F S512x1024 .f32) (x2 : Vec F S1024x1024 .bf16) (x3 : Vec F S1x1024 .f32)
    (x4 x5 : Vec F S1x1024x2816 .bf16) (x6 : Vec F S1x2816x1024 .bf16) :
    out0_7 x0 x1 x2 x3 x4 x5 x6 = upto (k0_pay2 x0 x1 x2) (normed (k0_pay2 x0 x1 x2) x3) x4 x5 x6 11 (Nat.le_refl 11) := by
  unfold out0_7
  rw [View.canon_cons_unit_zero (by decide +kernel)]
  unfold k0_pay18
  rw [View.ld_unit_zero (by decide +kernel) _ x0, View.ld_unit_zero (by decide +kernel) _ x1, View.ld_unit_zero (by decide +kernel) _ x2, View.ld_unit_zero (by decide +kernel) _ x3]
  rfl

/-- The rows before the feed-forward part. -/
theorem hid_value (x0 : Vec 𝕀 S1x1024x512 .bf16) (x1 : Vec 𝕀 S512x1024 .f32) (x2 : Vec 𝕀 S1024x1024 .bf16) (i : Fin 512) (l : Fin 1024) :
    k0_pay2 x0 x1 x2 (ix2 i l) = hid (fun k => x0 (ix3 0 k i)) (fun k l => x2 (ix2 k l)) (fun l => x1 (ix2 i l)) l := by
  unfold hid
  pointwise [k0_pay2]

variable (m : (ℓ : Loc nD τ sig) → Buf (Elt 𝕀) ℓ) (d : Dev nD)

/-- The weights a core holds. -/
def weights : Weights where
  g l := m ((d : Thread nD τ).loc main_arg3) (ix2 0 l)
  gate k j := m ((d : Thread nD τ).loc main_arg4) (ix3 0 k j)
  up k j := m ((d : Thread nD τ).loc main_arg5) (ix3 0 k j)
  down j l := m ((d : Thread nD τ).loc main_arg6) (ix3 0 j l)

/-- Position `s` of sequence `b` before the feed-forward part. -/
def row (b : Fin 4) (s : Fin 4096) : Fin 1024 → EReal :=
  hid (fun k : Fin 1024 => m ((d : Thread nD τ).loc main_arg0) (ix3 b s k)) (fun k l => m ((d : Thread nD τ).loc main_arg2) (ix2 k l)) (fun l => m ((d : Thread nD τ).loc main_arg1) (ix3 b s l))

/-- The moving windows' block indices. -/
theorem idx_row : ∀ t : Fin cfg0.N, win0_0.index t = ![t.val / 8, 0, t.val % 8] ∧ win0_1.index t = ![t.val, 0] ∧ win0_7.index t = ![t.val, 0] :=
  (by decide +kernel : ∀ t : Fin grid0.N, _)

/-- The fixed windows' block indices. -/
theorem idx_fix : ∀ t : Fin cfg0.N, win0_2.index t = ![0, 0] ∧ win0_3.index t = ![0, 0] ∧ win0_4.index t = ![0, 0, 0] ∧ win0_5.index t = ![0, 0, 0] ∧ win0_6.index t = ![0, 0, 0] :=
  (by decide +kernel : ∀ t : Fin grid0.N, _)

/-- The mixer's rows, as columns. -/
theorem entry_a (b : Fin 4) (k : Fin 1024) (s : Fin 4096) : V m d main_v0 (ix3 b k s) = m ((d : Thread nD τ).loc main_arg0) (ix3 b s k) := by
  simp only [V, hostOps0]
  entry_read
  pointwise

/-- The residual's rows, one after another. -/
theorem entry_x (r : Fin 16384) (l : Fin 1024) : V m d main_v1 (ix2 r l) = m ((d : Thread nD τ).loc main_arg1) (ix3 (⟨r.val / 4096, by have := r.isLt; omega⟩ : Fin 4) (⟨r.val % 4096, Nat.mod_lt _ (by omega)⟩ : Fin 4096) l) := by
  simp only [V, hostOps0]
  entry_read
  pointwise

/-- The projection's weights. -/
theorem entry_w (k : Fin 1024) (l : Fin 1024) : V m d main_v2 (ix2 k l) = m ((d : Thread nD τ).loc main_arg2) (ix2 k l) := by
  simp only [V, hostOps0]
  entry_read
  pointwise

/-- The gate's weights. -/
theorem entry_gate (b : Fin 2) (k : Fin 1024) (j : Fin 2816) : V m d main_v3 (ix3 b k j) = m ((d : Thread nD τ).loc main_arg4) (ix3 b k j) := by
  simp only [V, hostOps0]
  entry_read
  pointwise

/-- The other product's weights. -/
theorem entry_up (b : Fin 2) (k : Fin 1024) (j : Fin 2816) : V m d main_v4 (ix3 b k j) = m ((d : Thread nD τ).loc main_arg5) (ix3 b k j) := by
  simp only [V, hostOps0]
  entry_read
  pointwise

/-- The weights after the activation. -/
theorem entry_down (b : Fin 2) (j : Fin 2816) (l : Fin 1024) : V m d main_v5 (ix3 b j l) = m ((d : Thread nD τ).loc main_arg6) (ix3 b j l) := by
  simp only [V, hostOps0]
  entry_read
  pointwise

/-- The layer's gain, as a row. -/
theorem entry_g (l : Fin 1024) : V m d main_v8 (ix2 0 l) = m ((d : Thread nD τ).loc main_arg3) (ix2 0 l) := by
  simp only [V, hostOps0]
  entry_read
  pointwise

variable (t : Fin cfg0.N)

/-- Row `i` of a point's tile among all rows. -/
abbrev rowOf (i : Fin 512) : Fin 16384 := ⟨512 * t.val + i.val, by have := t.isLt; have h : cfg0.N = 32 := N_0; have := i.isLt; omega⟩

/-- A point's tile of the mixer's rows, as columns. -/
theorem blk_a (k : Fin 1024) (i : Fin 512) : iblk m d 0 t (ix3 0 k i)
    = V m d main_v0 (ix3 (⟨(rowOf t i).val / 4096, by have := (rowOf t i).isLt; omega⟩ : Fin 4) k (⟨(rowOf t i).val % 4096, Nat.mod_lt _ (by omega)⟩ : Fin 4096)) := by
  obtain ⟨h, -, -⟩ := idx_row t
  have := t.isLt
  have hN : cfg0.N = 32 := N_0
  blk_ext [iblk, h]

/-- A point's tile of the residual's rows. -/
theorem blk_x (i : Fin 512) (l : Fin 1024) : iblk m d 1 t (ix2 i l) = V m d main_v1 (ix2 (rowOf t i) l) := by
  obtain ⟨-, h, -⟩ := idx_row t
  blk_ext [iblk, h]

/-- The projection's weights, whole. -/
theorem blk_w (k : Fin 1024) (l : Fin 1024) : iblk m d 2 t (ix2 k l) = V m d main_v2 (ix2 k l) := by
  obtain ⟨h, -, -, -, -⟩ := idx_fix t
  blk_ext [iblk, h]

/-- The gain, whole. -/
theorem blk_g (l : Fin 1024) : iblk m d 3 t (ix2 0 l) = V m d main_v8 (ix2 0 l) := by
  obtain ⟨-, h, -, -, -⟩ := idx_fix t
  blk_ext [iblk, h]

/-- The layer's part of the gate's weights. -/
theorem blk_gate (k : Fin 1024) (j : Fin 2816) : iblk m d 4 t (ix3 0 k j) = V m d main_v3 (ix3 0 k j) := by
  obtain ⟨-, -, h, -, -⟩ := idx_fix t
  blk_ext [iblk, h]

/-- The layer's part of the other product's weights. -/
theorem blk_up (k : Fin 1024) (j : Fin 2816) : iblk m d 5 t (ix3 0 k j) = V m d main_v4 (ix3 0 k j) := by
  obtain ⟨-, -, -, h, -⟩ := idx_fix t
  blk_ext [iblk, h]

/-- The layer's part of the weights after the activation. -/
theorem blk_down (j : Fin 2816) (l : Fin 1024) : iblk m d 6 t (ix3 0 j l) = V m d main_v5 (ix3 0 j l) := by
  obtain ⟨-, -, -, -, h⟩ := idx_fix t
  blk_ext [iblk, h]

/-- The rows of a point's tile in the output array. -/
theorem read_tile (A : S16384x1024.Idx → EReal) (i : Fin 512) (l : Fin 1024) :
    ((cfg0.win 7).blk t).view.read (Elt 𝕀) A (ix2 i l) = A (ix2 (rowOf t i) l) := by
  obtain ⟨-, -, h⟩ := idx_row t
  blk_ext [h]

/-- What a point writes, entry by entry. -/
theorem tile_value (i : Fin 512) (l : Fin 1024) :
    out0_7 (iblk m d 0 t) (iblk m d 1 t) (iblk m d 2 t) (iblk m d 3 t) (iblk m d 4 t) (iblk m d 5 t) (iblk m d 6 t) (ix2 i l)
      = out (weights m d) (row m d ⟨(rowOf t i).val / 4096, by have := (rowOf t i).isLt; omega⟩ ⟨(rowOf t i).val % 4096, Nat.mod_lt _ (by omega)⟩) l := by
  rw [out_eq, upto_all _ _ _ _ _ (weights m d) (fun l => (blk_g m d t l).trans (entry_g m d l)) (fun k j => (blk_gate m d t k j).trans (entry_gate m d 0 k j))
    (fun k j => (blk_up m d t k j).trans (entry_up m d 0 k j)) (fun j l => (blk_down m d t j l).trans (entry_down m d 0 j l))]
  have e0 := funext fun k => (blk_a m d t k i).trans (entry_a m d _ k _)
  have e1 := funext fun l => (blk_x m d t i l).trans (entry_x m d (rowOf t i) l)
  have e2 := funext fun k => funext fun l => (blk_w m d t k l).trans (entry_w m d k l)
  exact congrArg (fun h => out (weights m d) h l) (funext fun l => (hid_value _ _ _ i l).trans (congrFun (congr (congrArg₂ hid e0 e2) e1) l))

/-- The output array, entry by entry. -/
theorem array_value (b : Fin 4) (s : Fin 4096) (l : Fin 1024) :
    (dats m 0 d).arrAt 7 cfg0.N (ix2 (⟨4096 * b.val + s.val, by have := b.isLt; have := s.isLt; omega⟩ : Fin 16384) l) = out (weights m d) (row m d b s) l := by
  have hb := b.isLt
  have hs := s.isLt
  have hN : cfg0.N = 32 := N_0
  have ht : (4096 * b.val + s.val) / 512 < cfg0.N := by omega
  have e := congrFun (blocks7 m d ⟨(4096 * b.val + s.val) / 512, ht⟩ (flush0_7 _)) (ix2 (⟨(4096 * b.val + s.val) % 512, Nat.mod_lt _ (by omega)⟩ : Fin 512) l)
  rw [read_tile, flushed7] at e
  replace e := e.trans (tile_value m d ⟨(4096 * b.val + s.val) / 512, ht⟩ ⟨(4096 * b.val + s.val) % 512, Nat.mod_lt _ (by omega)⟩ l)
  have hr : rowOf ⟨(4096 * b.val + s.val) / 512, ht⟩ (⟨(4096 * b.val + s.val) % 512, Nat.mod_lt _ (by omega)⟩ : Fin 512)
      = (⟨4096 * b.val + s.val, by omega⟩ : Fin 16384) := Fin.ext (by show 512 * ((4096 * b.val + s.val) / 512) + (4096 * b.val + s.val) % 512 = 4096 * b.val + s.val; omega)
  have hq : (⟨(512 * ((4096 * b.val + s.val) / 512) + (4096 * b.val + s.val) % 512) / 4096, by omega⟩ : Fin 4) = b :=
    Fin.ext (by show (512 * ((4096 * b.val + s.val) / 512) + (4096 * b.val + s.val) % 512) / 4096 = b.val; omega)
  have hm : (⟨(512 * ((4096 * b.val + s.val) / 512) + (4096 * b.val + s.val) % 512) % 4096, Nat.mod_lt _ (by omega)⟩ : Fin 4096) = s :=
    Fin.ext (by show (512 * ((4096 * b.val + s.val) / 512) + (4096 * b.val + s.val) % 512) % 4096 = s.val; omega)
  simp only [hr] at e
  rw [hq, hm] at e
  exact e

end Cert.Ffn.First

end
-- ==== Proof.FfnOut1.lean ====
/- The feed-forward kernel of the second layer: what its output array holds, row by row. -/
module

public import proofs.«01_k».proof.Proof.FfnSlab
public import proofs.«01_k».proof.Proof.Gen.Kernel2Ideal.Value
public import Idealize.ShloMosaic.Lib.Pipeline.ValueKit
public import Idealize.ShloMosaic.Lib.Claim

@[expose] public section

set_option maxRecDepth 16384

noncomputable section

namespace Cert.Ffn.Second

open Idealize.ShloMosaic Idealize.ShloMosaic.TcCoe Cert.Kernel2Ideal Cert.Kernel2Ideal.Gen Cert.Kernel2Ideal.Value

local notation "𝕀" => Idealize.ShloMosaic.Ideal

/-- A grid point's output tile is its rows with all eleven slabs added. -/
theorem out_eq {F : FTy → Type} [FloatOps F] (x0 : Vec F S512x2048 .bf16) (x1 : Vec F S512x1024 .f32) (x2 : Vec F S2048x1024 .bf16) (x3 : Vec F S1x1024 .f32)
    (x4 x5 : Vec F S1x1024x2816 .bf16) (x6 : Vec F S1x2816x1024 .bf16) :
    out0_7 x0 x1 x2 x3 x4 x5 x6 = upto (k0_pay2 x0 x1 x2) (normed (k0_pay2 x0 x1 x2) x3) x4 x5 x6 11 (Nat.le_refl 11) := by
  unfold out0_7
  rw [View.canon_cons_unit_zero (by decide +kernel)]
  unfold k0_pay20
  rw [View.ld_unit_zero (by decide +kernel) _ x0, View.ld_unit_zero (by decide +kernel) _ x1, View.ld_unit_zero (by decide +kernel) _ x2, View.ld_unit_zero (by decide +kernel) _ x3]
  rfl

/-- The rows before the feed-forward part. -/
theorem hid_value (x0 : Vec 𝕀 S512x2048 .bf16) (x1 : Vec 𝕀 S512x1024 .f32) (x2 : Vec 𝕀 S2048x1024 .bf16) (i : Fin 512) (l : Fin 1024) :
    k0_pay2 x0 x1 x2 (ix2 i l) = hid (fun k => x0 (ix2 i k)) (fun k l => x2 (ix2 k l)) (fun l => x1 (ix2 i l)) l := by
  unfold hid
  pointwise [k0_pay2]

variable (m : (ℓ : Loc nD τ sig) → Buf (Elt 𝕀) ℓ) (d : Dev nD)

/-- The weights a core holds. -/
def weights : Weights where
  g l := m ((d : Thread nD τ).loc main_arg3) (ix2 1 l)
  gate k j := m ((d : Thread nD τ).loc main_arg4) (ix3 1 k j)
  up k j := m ((d : Thread nD τ).loc main_arg5) (ix3 1 k j)
  down j l := m ((d : Thread nD τ).loc main_arg6) (ix3 1 j l)

/-- Position `s` of sequence `b` before the feed-forward part. -/
def row (b : Fin 4) (s : Fin 4096) : Fin 1024 → EReal :=
  hid (fun k : Fin 2048 => m ((d : Thread nD τ).loc main_arg0) (ix3 b s k)) (fun k l => m ((d : Thread nD τ).loc main_arg2) (ix2 k l)) (fun l => m ((d : Thread nD τ).loc main_arg1) (ix3 b s l))

/-- The moving windows' block indices. -/
theorem idx_row : ∀ t : Fin cfg0.N, win0_0.index t = ![t.val, 0] ∧ win0_1.index t = ![t.val, 0] ∧ win0_7.index t = ![t.val, 0] :=
  (by decide +kernel : ∀ t : Fin grid0.N, _)

/-- The fixed windows' block indices. -/
theorem idx_fix : ∀ t : Fin cfg0.N, win0_2.index t = ![0, 0] ∧ win0_3.index t = ![0, 0] ∧ win0_4.index t = ![1, 0, 0] ∧ win0_5.index t = ![1, 0, 0] ∧ win0_6.index t = ![1, 0, 0] :=
  (by decide +kernel : ∀ t : Fin grid0.N, _)

/-- The mixer's rows, one after another. -/
theorem entry_a (r : Fin 16384) (k : Fin 2048) : V m d main_v0 (ix2 r k) = m ((d : Thread nD τ).loc main_arg0) (ix3 (⟨r.val / 4096, by have := r.isLt; omega⟩ : Fin 4) (⟨r.val % 4096, Nat.mod_lt _ (by omega)⟩ : Fin 4096) k) := by
  simp only [V, hostOps0]
  entry_read
  pointwise

/-- The residual's rows, one after another. -/
theorem entry_x (r : Fin 16384) (l : Fin 1024) : V m d main_v1 (ix2 r l) = m ((d : Thread nD τ).loc main_arg1) (ix3 (⟨r.val / 4096, by have := r.isLt; omega⟩ : Fin 4) (⟨r.val % 4096, Nat.mod_lt _ (by omega)⟩ : Fin 4096) l) := by
  simp only [V, hostOps0]
  entry_read
  pointwise

/-- The projection's weights. -/
theorem entry_w (k : Fin 2048) (l : Fin 1024) : V m d main_v2 (ix2 k l) = m ((d : Thread nD τ).loc main_arg2) (ix2 k l) := by
  simp only [V, hostOps0]
  entry_read
  pointwise

/-- The gate's weights. -/
theorem entry_gate (b : Fin 2) (k : Fin 1024) (j : Fin 2816) : V m d main_v3 (ix3 b k j) = m ((d : Thread nD τ).loc main_arg4) (ix3 b k j) := by
  simp only [V, hostOps0]
  entry_read
  pointwise

/-- The other product's weights. -/
theorem entry_up (b : Fin 2) (k : Fin 1024) (j : Fin 2816) : V m d main_v4 (ix3 b k j) = m ((d : Thread nD τ).loc main_arg5) (ix3 b k j) := by
  simp only [V, hostOps0]
  entry_read
  pointwise

/-- The weights after the activation. -/
theorem entry_down (b : Fin 2) (j : Fin 2816) (l : Fin 1024) : V m d main_v5 (ix3 b j l) = m ((d : Thread nD τ).loc main_arg6) (ix3 b j l) := by
  simp only [V, hostOps0]
  entry_read
  pointwise

/-- The layer's gain, as a row. -/
theorem entry_g (l : Fin 1024) : V m d main_v8 (ix2 0 l) = m ((d : Thread nD τ).loc main_arg3) (ix2 1 l) := by
  simp only [V, hostOps0]
  entry_read
  pointwise

variable (t : Fin cfg0.N)

/-- Row `i` of a point's tile among all rows. -/
abbrev rowOf (i : Fin 512) : Fin 16384 := ⟨512 * t.val + i.val, by have := t.isLt; have h : cfg0.N = 32 := N_0; have := i.isLt; omega⟩

/-- A point's tile of the mixer's rows. -/
theorem blk_a (i : Fin 512) (k : Fin 2048) : iblk m d 0 t (ix2 i k) = V m d main_v0 (ix2 (rowOf t i) k) := by
  obtain ⟨h, -, -⟩ := idx_row t
  blk_ext [iblk, h]

/-- A point's tile of the residual's rows. -/
theorem blk_x (i : Fin 512) (l : Fin 1024) : iblk m d 1 t (ix2 i l) = V m d main_v1 (ix2 (rowOf t i) l) := by
  obtain ⟨-, h, -⟩ := idx_row t
  blk_ext [iblk, h]

/-- The projection's weights, whole. -/
theorem blk_w (k : Fin 2048) (l : Fin 1024) : iblk m d 2 t (ix2 k l) = V m d main_v2 (ix2 k l) := by
  obtain ⟨h, -, -, -, -⟩ := idx_fix t
  blk_ext [iblk, h]

/-- The gain, whole. -/
theorem blk_g (l : Fin 1024) : iblk m d 3 t (ix2 0 l) = V m d main_v8 (ix2 0 l) := by
  obtain ⟨-, h, -, -, -⟩ := idx_fix t
  blk_ext [iblk, h]

/-- The layer's part of the gate's weights. -/
theorem blk_gate (k : Fin 1024) (j : Fin 2816) : iblk m d 4 t (ix3 0 k j) = V m d main_v3 (ix3 1 k j) := by
  obtain ⟨-, -, h, -, -⟩ := idx_fix t
  blk_ext [iblk, h]

/-- The layer's part of the other product's weights. -/
theorem blk_up (k : Fin 1024) (j : Fin 2816) : iblk m d 5 t (ix3 0 k j) = V m d main_v4 (ix3 1 k j) := by
  obtain ⟨-, -, -, h, -⟩ := idx_fix t
  blk_ext [iblk, h]

/-- The layer's part of the weights after the activation. -/
theorem blk_down (j : Fin 2816) (l : Fin 1024) : iblk m d 6 t (ix3 0 j l) = V m d main_v5 (ix3 1 j l) := by
  obtain ⟨-, -, -, -, h⟩ := idx_fix t
  blk_ext [iblk, h]

/-- The rows of a point's tile in the output array. -/
theorem read_tile (A : S16384x1024.Idx → EReal) (i : Fin 512) (l : Fin 1024) :
    ((cfg0.win 7).blk t).view.read (Elt 𝕀) A (ix2 i l) = A (ix2 (rowOf t i) l) := by
  obtain ⟨-, -, h⟩ := idx_row t
  blk_ext [h]

/-- What a point writes, entry by entry. -/
theorem tile_value (i : Fin 512) (l : Fin 1024) :
    out0_7 (iblk m d 0 t) (iblk m d 1 t) (iblk m d 2 t) (iblk m d 3 t) (iblk m d 4 t) (iblk m d 5 t) (iblk m d 6 t) (ix2 i l)
      = out (weights m d) (row m d ⟨(rowOf t i).val / 4096, by have := (rowOf t i).isLt; omega⟩ ⟨(rowOf t i).val % 4096, Nat.mod_lt _ (by omega)⟩) l := by
  rw [out_eq, upto_all _ _ _ _ _ (weights m d) (fun l => (blk_g m d t l).trans (entry_g m d l)) (fun k j => (blk_gate m d t k j).trans (entry_gate m d 1 k j))
    (fun k j => (blk_up m d t k j).trans (entry_up m d 1 k j)) (fun j l => (blk_down m d t j l).trans (entry_down m d 1 j l))]
  have e0 := funext fun k => (blk_a m d t i k).trans (entry_a m d (rowOf t i) k)
  have e1 := funext fun l => (blk_x m d t i l).trans (entry_x m d (rowOf t i) l)
  have e2 := funext fun k => funext fun l => (blk_w m d t k l).trans (entry_w m d k l)
  exact congrArg (fun h => out (weights m d) h l) (funext fun l => (hid_value _ _ _ i l).trans (congrFun (congr (congrArg₂ hid e0 e2) e1) l))

/-- The output array, entry by entry. -/
theorem array_value (b : Fin 4) (s : Fin 4096) (l : Fin 1024) :
    (dats m 0 d).arrAt 7 cfg0.N (ix2 (⟨4096 * b.val + s.val, by have := b.isLt; have := s.isLt; omega⟩ : Fin 16384) l) = out (weights m d) (row m d b s) l := by
  have hb := b.isLt
  have hs := s.isLt
  have hN : cfg0.N = 32 := N_0
  have ht : (4096 * b.val + s.val) / 512 < cfg0.N := by omega
  have e := congrFun (blocks7 m d ⟨(4096 * b.val + s.val) / 512, ht⟩ (flush0_7 _)) (ix2 (⟨(4096 * b.val + s.val) % 512, Nat.mod_lt _ (by omega)⟩ : Fin 512) l)
  rw [read_tile, flushed7] at e
  replace e := e.trans (tile_value m d ⟨(4096 * b.val + s.val) / 512, ht⟩ ⟨(4096 * b.val + s.val) % 512, Nat.mod_lt _ (by omega)⟩ l)
  have hr : rowOf ⟨(4096 * b.val + s.val) / 512, ht⟩ (⟨(4096 * b.val + s.val) % 512, Nat.mod_lt _ (by omega)⟩ : Fin 512)
      = (⟨4096 * b.val + s.val, by omega⟩ : Fin 16384) := Fin.ext (by show 512 * ((4096 * b.val + s.val) / 512) + (4096 * b.val + s.val) % 512 = 4096 * b.val + s.val; omega)
  have hq : (⟨(512 * ((4096 * b.val + s.val) / 512) + (4096 * b.val + s.val) % 512) / 4096, by omega⟩ : Fin 4) = b :=
    Fin.ext (by show (512 * ((4096 * b.val + s.val) / 512) + (4096 * b.val + s.val) % 512) / 4096 = b.val; omega)
  have hm : (⟨(512 * ((4096 * b.val + s.val) / 512) + (4096 * b.val + s.val) % 512) % 4096, Nat.mod_lt _ (by omega)⟩ : Fin 4096) = s :=
    Fin.ext (by show (512 * ((4096 * b.val + s.val) / 512) + (4096 * b.val + s.val) % 512) % 4096 = s.val; omega)
  simp only [hr] at e
  rw [hq, hm] at e
  exact e

end Cert.Ffn.Second

end
-- ==== Proof.FfnRefRow.lean ====
/- The plain feed-forward part: the norm, the two products, the activation and the last product, row by row. -/
module

public import proofs.«01_k».proof.Proof.FfnSpec
public import proofs.«01_k».proof.Proof.Gen.Reference2Ideal.Run

@[expose] public section

set_option maxRecDepth 16384

noncomputable section

namespace Cert.Ffn

open Idealize.ShloMosaic Cert.Reference2Ideal Cert.Reference2Ideal.Gen

local notation "𝕀" => Idealize.ShloMosaic.Ideal

section any

variable {F : FTy → Type} [FloatOps F]

/-- The rows, normalised. -/
def plainNorm (h : FVec F S4x4096x1024 .f32) (g : FVec F S1024 .f32) : FVec F S4x4096x1024 .f32 :=
  mulf (mulf h (broadcastInDim S4x4096x1024 ![0, 1, 2] bcast_S4x4096x1_S4x4096x1024_0_1_2 (Host.rsqrt (addf (Host.divf (broadcastInDim S4x4096x1 ![0, 1] bcast_S4x4096_S4x4096x1_0_1
      (Host.reduceAdd (mulf h h) (constant S_ .f32 0x00000000#32) reducesTo_S4x4096x1024_S4x4096_d2 h_S_)) (broadcastInDim S4x4096x1 ![] bcast_S_S4x4096x1 (constant S_ .f32 0x44800000#32)))
      (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g))

/-- The normalised rows times a weight. -/
def plainCols (n : FVec F S4x4096x1024 .f32) (w : FVec F S1024x2816 .f32) : FVec F S4x4096x2816 .f32 :=
  Host.dotGeneral dot_S4x4096x1024_S1024x2816_S4x4096x2816_2_0_01_1_n_n none n w

/-- The rows with their feed-forward part added. -/
def plainOut (h : FVec F S4x4096x1024 .f32) (g : FVec F S1024 .f32) (wg wu : FVec F S1024x2816 .f32) (wd : FVec F S2816x1024 .f32) : FVec F S4x4096x1024 .f32 :=
  addf h (Host.dotGeneral dot_S4x4096x2816_S2816x1024_S4x4096x1024_2_0_01_1_n_n none
    (mulf (mulf (plainCols (plainNorm h g) wg) (Host.divf (broadcastInDim S4x4096x2816 ![] bcast_S_S4x4096x2816 (constant S_ .f32 0x3F800000#32))
        (addf (broadcastInDim S4x4096x2816 ![] bcast_S_S4x4096x2816 (constant S_ .f32 0x3F800000#32)) (Host.exp (Host.negf (plainCols (plainNorm h g) wg))))))
      (plainCols (plainNorm h g) wu)) wd)

end any

/-- The normalised rows, entry by entry. -/
theorem plainNorm_value (h : FVec 𝕀 S4x4096x1024 .f32) (g : FVec 𝕀 S1024 .f32) (b : Fin 4) (s : Fin 4096) (l : Fin 1024) :
    plainNorm h g (ix3 b s l) = norm (fun l => h (ix3 b s l)) (fun l => g (ix1 l)) l := by
  unfold norm
  pointwise [plainNorm]

/-- A product, entry by entry. -/
theorem plainCols_value (n : FVec 𝕀 S4x4096x1024 .f32) (w : FVec 𝕀 S1024x2816 .f32) (b : Fin 4) (s : Fin 4096) (j : Fin 2816) :
    plainCols n w (ix3 b s j) = ∑ k : Fin 1024, n (ix3 b s k) * w (ix2 k j) := by
  pointwise [plainCols]

/-- The whole feed-forward part, entry by entry. -/
theorem plainOut_value (h : FVec 𝕀 S4x4096x1024 .f32) (g : FVec 𝕀 S1024 .f32) (wg wu : FVec 𝕀 S1024x2816 .f32) (wd : FVec 𝕀 S2816x1024 .f32)
    (b : Fin 4) (s : Fin 4096) (l : Fin 1024) :
    plainOut h g wg wu wd (ix3 b s l) = out ⟨fun l => g (ix1 l), fun k j => wg (ix2 k j), fun k j => wu (ix2 k j), fun j l => wd (ix2 j l)⟩ (fun l => h (ix3 b s l)) l := by
  unfold out act Spec.silu
  pointwise [plainOut]
  simp only [plainCols_value, plainNorm_value]

end Cert.Ffn

end
-- ==== Proof.FfnRef0.lean ====
/- What the first layer's feed-forward reference computes, row by row. -/
module

public import proofs.«01_k».proof.Proof.FfnRefRow
public import proofs.«01_k».proof.Proof.Gen.Reference3Ideal.Run

@[expose] public section

set_option maxRecDepth 16384

noncomputable section

namespace Cert.Ffn.FirstRef

open Idealize.ShloMosaic Idealize.ShloMosaic.TcCoe Cert.Reference3Ideal Cert.Reference3Ideal.Gen Cert.Reference3Ideal.Value

local notation "𝕀" => Idealize.ShloMosaic.Ideal

/-- The rows before the feed-forward part. -/
def plainHid {F : FTy → Type} [FloatOps F] (a : FVec F S4x4096x1024 .bf16) (x : FVec F S4x4096x1024 .f32) (w : FVec F S1024x1024 .f32) : FVec F S4x4096x1024 .f32 :=
  addf x (Host.dotGeneral dot_S4x4096x1024_S1024x1024_S4x4096x1024_2_0_01_1_n_n none (extf .f32 a bitsLt_bf16_f32) w)

/-- The rows before the feed-forward part, entry by entry. -/
theorem plainHid_value (a : FVec 𝕀 S4x4096x1024 .bf16) (x : FVec 𝕀 S4x4096x1024 .f32) (w : FVec 𝕀 S1024x1024 .f32) (b : Fin 4) (s : Fin 4096) (l : Fin 1024) :
    plainHid a x w (ix3 b s l) = hid (fun k : Fin 1024 => a (ix3 b s k)) (fun k l => w (ix2 k l)) (fun l => x (ix3 b s l)) l := by
  unfold hid
  pointwise [plainHid]

/-- The layer's gain. -/
def gain {F : FTy → Type} [FloatOps F] (g : FVec F S2x1024 .f32) : FVec F S1024 .f32 := shapeCast _ (extractStridedSlice S1x1024 ![0, 0] g slices_S2x1024_S1x1024_0_0) shapeCasts_S1x1024_S1024
/-- The layer's part of a weight before the activation. -/
def before {F : FTy → Type} [FloatOps F] (w : FVec F S2x1024x2816 .f32) : FVec F S1024x2816 .f32 :=
  shapeCast _ (extractStridedSlice S1x1024x2816 ![0, 0, 0] w slices_S2x1024x2816_S1x1024x2816_0_0_0) shapeCasts_S1x1024x2816_S1024x2816
/-- The layer's part of the weight after the activation. -/
def behind {F : FTy → Type} [FloatOps F] (w : FVec F S2x2816x1024 .f32) : FVec F S2816x1024 .f32 :=
  shapeCast _ (extractStridedSlice S1x2816x1024 ![0, 0, 0] w slices_S2x2816x1024_S1x2816x1024_0_0_0) shapeCasts_S1x2816x1024_S2816x1024

theorem gain_value (g : FVec 𝕀 S2x1024 .f32) (l : Fin 1024) : gain g (ix1 l) = g (ix2 0 l) := by pointwise [gain]
theorem before_value (w : FVec 𝕀 S2x1024x2816 .f32) (k : Fin 1024) (j : Fin 2816) : before w (ix2 k j) = w (ix3 0 k j) := by pointwise [before]
theorem behind_value (w : FVec 𝕀 S2x2816x1024 .f32) (j : Fin 2816) (l : Fin 1024) : behind w (ix2 j l) = w (ix3 0 j l) := by pointwise [behind]

variable (m : (ℓ : Loc nD τ sig) → Buf (Elt 𝕀) ℓ) (d : Dev nD)

/-- The weights a core holds. -/
def weights : Weights where
  g l := m ((d : Thread nD τ).loc main_arg3) (ix2 0 l)
  gate k j := m ((d : Thread nD τ).loc main_arg4) (ix3 0 k j)
  up k j := m ((d : Thread nD τ).loc main_arg5) (ix3 0 k j)
  down j l := m ((d : Thread nD τ).loc main_arg6) (ix3 0 j l)

/-- Position `s` of sequence `b` before the feed-forward part. -/
def row (b : Fin 4) (s : Fin 4096) : Fin 1024 → EReal :=
  hid (fun k : Fin 1024 => m ((d : Thread nD τ).loc main_arg0) (ix3 b s k)) (fun k l => m ((d : Thread nD τ).loc main_arg2) (ix2 k l)) (fun l => m ((d : Thread nD τ).loc main_arg1) (ix3 b s l))

/-- The reference's result is its rows with their feed-forward part. -/
theorem result_eq : (res_main_v30 m d : FVec 𝕀 S16384x1024 .f32) = shapeCast S16384x1024 (plainOut (F := 𝕀) (plainHid (F := 𝕀) (m ((d : Thread nD τ).loc main_arg0)) (m ((d : Thread nD τ).loc main_arg1)) (m ((d : Thread nD τ).loc main_arg2)))
    (gain (F := 𝕀) (m ((d : Thread nD τ).loc main_arg3))) (before (F := 𝕀) (m ((d : Thread nD τ).loc main_arg4))) (before (F := 𝕀) (m ((d : Thread nD τ).loc main_arg5))) (behind (F := 𝕀) (m ((d : Thread nD τ).loc main_arg6)))) shapeCasts_S4x4096x1024_S16384x1024 := rfl

/-- The reference's result, entry by entry. -/
theorem result_value (b : Fin 4) (s : Fin 4096) (l : Fin 1024) :
    res_main_v30 m d (ix2 (⟨4096 * b.val + s.val, by have := b.isLt; have := s.isLt; omega⟩ : Fin 16384) l) = out (weights m d) (row m d b s) l := by
  have hb := b.isLt
  have hs := s.isLt
  refine (congrFun (result_eq m d) _).trans ?_
  pointwise
  rw [plainOut_value]
  have hq : (⟨(4096 * b.val + s.val) / 4096, by omega⟩ : Fin 4) = b := Fin.ext (by show (4096 * b.val + s.val) / 4096 = b.val; omega)
  have hm : (⟨(4096 * b.val + s.val) % 4096, Nat.mod_lt _ (by omega)⟩ : Fin 4096) = s := Fin.ext (by show (4096 * b.val + s.val) % 4096 = s.val; omega)
  simp only [hq, hm, gain_value, before_value, behind_value, plainHid_value]
  rfl

end Cert.Ffn.FirstRef

end
-- ==== Proof.FfnRef1.lean ====
/- What the second layer's feed-forward reference computes, row by row. -/
module

public import proofs.«01_k».proof.Proof.FfnRefRow

@[expose] public section

set_option maxRecDepth 16384

noncomputable section

namespace Cert.Ffn.SecondRef

open Idealize.ShloMosaic Idealize.ShloMosaic.TcCoe Cert.Reference2Ideal Cert.Reference2Ideal.Gen Cert.Reference2Ideal.Value

local notation "𝕀" => Idealize.ShloMosaic.Ideal

/-- The rows before the feed-forward part. -/
def plainHid {F : FTy → Type} [FloatOps F] (a : FVec F S4x4096x2048 .bf16) (x : FVec F S4x4096x1024 .f32) (w : FVec F S2048x1024 .f32) : FVec F S4x4096x1024 .f32 :=
  addf x (Host.dotGeneral dot_S4x4096x2048_S2048x1024_S4x4096x1024_2_0_01_1_n_n none (extf .f32 a bitsLt_bf16_f32) w)

/-- The rows before the feed-forward part, entry by entry. -/
theorem plainHid_value (a : FVec 𝕀 S4x4096x2048 .bf16) (x : FVec 𝕀 S4x4096x1024 .f32) (w : FVec 𝕀 S2048x1024 .f32) (b : Fin 4) (s : Fin 4096) (l : Fin 1024) :
    plainHid a x w (ix3 b s l) = hid (fun k : Fin 2048 => a (ix3 b s k)) (fun k l => w (ix2 k l)) (fun l => x (ix3 b s l)) l := by
  unfold hid
  pointwise [plainHid]

/-- The layer's gain. -/
def gain {F : FTy → Type} [FloatOps F] (g : FVec F S2x1024 .f32) : FVec F S1024 .f32 := shapeCast _ (extractStridedSlice S1x1024 ![1, 0] g slices_S2x1024_S1x1024_1_0) shapeCasts_S1x1024_S1024
/-- The layer's part of a weight before the activation. -/
def before {F : FTy → Type} [FloatOps F] (w : FVec F S2x1024x2816 .f32) : FVec F S1024x2816 .f32 :=
  shapeCast _ (extractStridedSlice S1x1024x2816 ![1, 0, 0] w slices_S2x1024x2816_S1x1024x2816_1_0_0) shapeCasts_S1x1024x2816_S1024x2816
/-- The layer's part of the weight after the activation. -/
def behind {F : FTy → Type} [FloatOps F] (w : FVec F S2x2816x1024 .f32) : FVec F S2816x1024 .f32 :=
  shapeCast _ (extractStridedSlice S1x2816x1024 ![1, 0, 0] w slices_S2x2816x1024_S1x2816x1024_1_0_0) shapeCasts_S1x2816x1024_S2816x1024

theorem gain_value (g : FVec 𝕀 S2x1024 .f32) (l : Fin 1024) : gain g (ix1 l) = g (ix2 1 l) := by pointwise [gain]
theorem before_value (w : FVec 𝕀 S2x1024x2816 .f32) (k : Fin 1024) (j : Fin 2816) : before w (ix2 k j) = w (ix3 1 k j) := by pointwise [before]
theorem behind_value (w : FVec 𝕀 S2x2816x1024 .f32) (j : Fin 2816) (l : Fin 1024) : behind w (ix2 j l) = w (ix3 1 j l) := by pointwise [behind]

variable (m : (ℓ : Loc nD τ sig) → Buf (Elt 𝕀) ℓ) (d : Dev nD)

/-- The weights a core holds. -/
def weights : Weights where
  g l := m ((d : Thread nD τ).loc main_arg3) (ix2 1 l)
  gate k j := m ((d : Thread nD τ).loc main_arg4) (ix3 1 k j)
  up k j := m ((d : Thread nD τ).loc main_arg5) (ix3 1 k j)
  down j l := m ((d : Thread nD τ).loc main_arg6) (ix3 1 j l)

/-- Position `s` of sequence `b` before the feed-forward part. -/
def row (b : Fin 4) (s : Fin 4096) : Fin 1024 → EReal :=
  hid (fun k : Fin 2048 => m ((d : Thread nD τ).loc main_arg0) (ix3 b s k)) (fun k l => m ((d : Thread nD τ).loc main_arg2) (ix2 k l)) (fun l => m ((d : Thread nD τ).loc main_arg1) (ix3 b s l))

/-- The reference's result is its rows with their feed-forward part. -/
theorem result_eq : (res_main_v30 m d : FVec 𝕀 S16384x1024 .f32) = shapeCast S16384x1024 (plainOut (F := 𝕀) (plainHid (F := 𝕀) (m ((d : Thread nD τ).loc main_arg0)) (m ((d : Thread nD τ).loc main_arg1)) (m ((d : Thread nD τ).loc main_arg2)))
    (gain (F := 𝕀) (m ((d : Thread nD τ).loc main_arg3))) (before (F := 𝕀) (m ((d : Thread nD τ).loc main_arg4))) (before (F := 𝕀) (m ((d : Thread nD τ).loc main_arg5))) (behind (F := 𝕀) (m ((d : Thread nD τ).loc main_arg6)))) shapeCasts_S4x4096x1024_S16384x1024 := rfl

/-- The reference's result, entry by entry. -/
theorem result_value (b : Fin 4) (s : Fin 4096) (l : Fin 1024) :
    res_main_v30 m d (ix2 (⟨4096 * b.val + s.val, by have := b.isLt; have := s.isLt; omega⟩ : Fin 16384) l) = out (weights m d) (row m d b s) l := by
  have hb := b.isLt
  have hs := s.isLt
  refine (congrFun (result_eq m d) _).trans ?_
  pointwise
  rw [plainOut_value]
  have hq : (⟨(4096 * b.val + s.val) / 4096, by omega⟩ : Fin 4) = b := Fin.ext (by show (4096 * b.val + s.val) / 4096 = b.val; omega)
  have hm : (⟨(4096 * b.val + s.val) % 4096, Nat.mod_lt _ (by omega)⟩ : Fin 4096) = s := Fin.ext (by show (4096 * b.val + s.val) % 4096 = s.val; omega)
  simp only [hq, hm, gain_value, before_value, behind_value, plainHid_value]
  rfl

end Cert.Ffn.SecondRef

end
-- ==== Proof.FfnClaims.lean ====
/- The feed-forward calls' claims: what the references leave unchanged, and that the programs' results are equal. -/
module

public import proofs.«01_k».proof.Defs
public import proofs.«01_k».proof.Proof.FfnOut0
public import proofs.«01_k».proof.Proof.FfnOut1
public import proofs.«01_k».proof.Proof.FfnRef0
public import proofs.«01_k».proof.Proof.FfnRef1
public import proofs.«01_k».proof.Proof.Gen.Kernel2Ideal
public import proofs.«01_k».proof.Proof.Gen.Kernel3Ideal
public import proofs.«01_k».proof.Proof.Gen.Reference2Ideal
public import proofs.«01_k».proof.Proof.Gen.Reference3Ideal
public import Idealize.ShloMosaic.Lib.Quiescent

@[expose] public section

set_option maxRecDepth 16384

noncomputable section

namespace Cert.Ffn

open Idealize.ShloMosaic Idealize.SL.Sem

local notation "𝕀" => Idealize.ShloMosaic.Ideal

/-- A row of the flattened result is a position of a sequence. -/
theorem exists_row (r : Fin 16384) : ∃ (b : Fin 4) (s : Fin 4096), r = ⟨4096 * b.val + s.val, by have := b.isLt; have := s.isLt; omega⟩ :=
  ⟨⟨r.val / 4096, by have := r.isLt; omega⟩, ⟨r.val % 4096, Nat.mod_lt _ (by omega)⟩, Fin.ext (Nat.div_add_mod r.val 4096).symm⟩

namespace Second

/-- The reference of the second layer's call runs, leaves its arguments as they were and no semaphore raised. -/
theorem reference_kept : Cert.quiescent_Reference2Ideal := fun m ρ _ =>
  (θ_run (Cert.Reference2Ideal.defs (F := 𝕀)) _ _).mono (fun r h => ⟨fun c => (h c).2, sem_eq_zero_of_no_sems (by decide) r.2⟩) (Cert.Reference2Ideal.Value.run (F := 𝕀) m ρ)

/-- On arguments that agree, the second layer's kernel's array is the reference's result. -/
theorem result_eq (m : (ℓ : Loc Cert.Kernel2Ideal.nD Cert.Kernel2Ideal.τ Cert.Kernel2Ideal.sig) → Buf (Elt 𝕀) ℓ) (m' : (ℓ : Loc Cert.Reference2Ideal.nD Cert.Reference2Ideal.τ Cert.Reference2Ideal.sig) → Buf (Elt 𝕀) ℓ)
    (c : Dev Cert.Kernel2Ideal.nD) (hw : SecondRef.weights m' c = Second.weights m c) (hr : SecondRef.row m' c = Second.row m c) :
    (Cert.Reference2Ideal.Value.res_main_v30 m' c : FVec 𝕀 Cert.Reference2Ideal.S16384x1024 .f32) = (Cert.Kernel2Ideal.Gen.dats m 0 c).arrAt 7 Cert.Kernel2Ideal.cfg0.N := by
  funext y
  obtain ⟨r, l, rfl⟩ : ∃ (r : Fin 16384) (l : Fin 1024), y = ix2 r l := ⟨y 0, y 1, by idx_ext⟩
  obtain ⟨b, s, rfl⟩ := exists_row r
  rw [SecondRef.result_value, hw, hr]
  exact (Second.array_value m c b s l).symm

/-- The second layer's two programs run from memories that agree on the arguments and end with equal results, the arguments as they were. -/
theorem equal : Cert.algebraic_Kernel2Ideal_Reference2Ideal := fun m ρ m' ρ' _ hag =>
  have hw : ∀ c, SecondRef.weights m' c = Second.weights m c := fun c => by
    obtain ⟨h0, h1, h2, h3, h4, h5, h6⟩ := hag c
    unfold SecondRef.weights Second.weights
    rw [← h3, ← h4, ← h5, ← h6]
  have hr : ∀ c, SecondRef.row m' c = Second.row m c := fun c => by
    obtain ⟨h0, h1, h2, h3, h4, h5, h6⟩ := hag c
    unfold SecondRef.row Second.row
    rw [← h0, ← h1, ← h2]
  ⟨fun c => (Cert.Kernel2Ideal.Gen.dats m 0 c).arrAt 7 Cert.Kernel2Ideal.cfg0.N, Cert.Kernel2Ideal.Value.run_blocks (F := 𝕀) m ρ,
    (θ_run (Cert.Reference2Ideal.defs (F := 𝕀)) _ _).mono (fun _ h c => ⟨(h c).1.trans (result_eq m m' c (hw c) (hr c)), (h c).2⟩) (Cert.Reference2Ideal.Value.run (F := 𝕀) m' ρ')⟩

end Second

namespace First

/-- The reference of the first layer's call runs, leaves its arguments as they were and no semaphore raised. -/
theorem reference_kept : Cert.quiescent_Reference3Ideal := fun m ρ _ =>
  (θ_run (Cert.Reference3Ideal.defs (F := 𝕀)) _ _).mono (fun r h => ⟨fun c => (h c).2, sem_eq_zero_of_no_sems (by decide) r.2⟩) (Cert.Reference3Ideal.Value.run (F := 𝕀) m ρ)

/-- On arguments that agree, the first layer's kernel's array is the reference's result. -/
theorem result_eq (m : (ℓ : Loc Cert.Kernel3Ideal.nD Cert.Kernel3Ideal.τ Cert.Kernel3Ideal.sig) → Buf (Elt 𝕀) ℓ) (m' : (ℓ : Loc Cert.Reference3Ideal.nD Cert.Reference3Ideal.τ Cert.Reference3Ideal.sig) → Buf (Elt 𝕀) ℓ)
    (c : Dev Cert.Kernel3Ideal.nD) (hw : FirstRef.weights m' c = First.weights m c) (hr : FirstRef.row m' c = First.row m c) :
    (Cert.Reference3Ideal.Value.res_main_v30 m' c : FVec 𝕀 Cert.Reference3Ideal.S16384x1024 .f32) = (Cert.Kernel3Ideal.Gen.dats m 0 c).arrAt 7 Cert.Kernel3Ideal.cfg0.N := by
  funext y
  obtain ⟨r, l, rfl⟩ : ∃ (r : Fin 16384) (l : Fin 1024), y = ix2 r l := ⟨y 0, y 1, by idx_ext⟩
  obtain ⟨b, s, rfl⟩ := exists_row r
  rw [FirstRef.result_value, hw, hr]
  exact (First.array_value m c b s l).symm

/-- The first layer's two programs run from memories that agree on the arguments and end with equal results, the arguments as they were. -/
theorem equal : Cert.algebraic_Kernel3Ideal_Reference3Ideal := fun m ρ m' ρ' _ hag =>
  have hw : ∀ c, FirstRef.weights m' c = First.weights m c := fun c => by
    obtain ⟨h0, h1, h2, h3, h4, h5, h6⟩ := hag c
    unfold FirstRef.weights First.weights
    rw [← h3, ← h4, ← h5, ← h6]
  have hr : ∀ c, FirstRef.row m' c = First.row m c := fun c => by
    obtain ⟨h0, h1, h2, h3, h4, h5, h6⟩ := hag c
    unfold FirstRef.row First.row
    rw [← h0, ← h1, ← h2]
  ⟨fun c => (Cert.Kernel3Ideal.Gen.dats m 0 c).arrAt 7 Cert.Kernel3Ideal.cfg0.N, Cert.Kernel3Ideal.Value.run_blocks (F := 𝕀) m ρ,
    (θ_run (Cert.Reference3Ideal.defs (F := 𝕀)) _ _).mono (fun _ h c => ⟨(h c).1.trans (result_eq m m' c (hw c) (hr c)), (h c).2⟩) (Cert.Reference3Ideal.Value.run (F := 𝕀) m' ρ')⟩

end First

end Cert.Ffn

end
-- ==== Proof.InprojOut.lean ====
/- The second layer's input projection: what the kernel's three output arrays hold, row by row. -/
module

public import proofs.«01_k».proof.Proof.FfnSpec
public import proofs.«01_k».proof.Proof.Gen.Kernel5Ideal.Value
public import Idealize.ShloMosaic.Lib.Pipeline.ValueKit
public import Idealize.ShloMosaic.Lib.KernelVsHost
public import Idealize.ShloMosaic.Lib.Claim

@[expose] public section

set_option maxRecDepth 16384

noncomputable section

namespace Cert.Inproj

open Idealize.ShloMosaic Idealize.ShloMosaic.TcCoe Cert.Kernel5Ideal Cert.Kernel5Ideal.Gen Cert.Kernel5Ideal.Value

local notation "𝕀" => Idealize.ShloMosaic.Ideal

/-- The normalised row times column `j` of a weight. -/
def proj {n : ℕ} (h g : Fin 1024 → EReal) (w : Fin 1024 → Fin n → EReal) (j : Fin n) : EReal := ∑ k : Fin 1024, Ffn.norm h g k * w k j

/-- Thirty-two columns followed by zeros up to 128. -/
def wide (f : Fin 32 → EReal) (j : Fin 128) : EReal := if h : j.val < 32 then f ⟨j.val, h⟩ else 0

theorem wide_of_lt (f : Fin 32 → EReal) (j : Fin 128) (h : j.val < 32) : wide f j = f ⟨j.val, h⟩ := dif_pos h
theorem wide_of_not_lt (f : Fin 32 → EReal) (j : Fin 128) (h : ¬ j.val < 32) : wide f j = 0 := dif_neg h

/-- A weight with zero columns gives zeros there. -/
theorem proj_wide (h g : Fin 1024 → EReal) (w : Fin 1024 → Fin 32 → EReal) (j : Fin 128) : proj h g (fun k => wide (w k)) j = wide (proj h g w) j := by
  unfold proj wide
  split
  next hj => exact Finset.sum_congr rfl fun k _ => congrArg (Ffn.norm h g k * ·) (dif_pos hj)
  next hj => exact Finset.sum_eq_zero fun k _ => (congrArg (Ffn.norm h g k * ·) (dif_neg hj)).trans (mul_zero _)

/-- A tile's normalised rows. -/
theorem norm_value (x0 : Vec 𝕀 S512x1024 .f32) (x1 : Vec 𝕀 S1x1024 .f32) (i : Fin 512) (k : Fin 1024) :
    k0_pay1 x0 x1 (ix2 i k) = Ffn.norm (fun l => x0 (ix2 i l)) (fun l => x1 (ix2 0 l)) k := by
  unfold Ffn.norm
  pointwise [k0_pay1]

section tile

variable (x0 : Vec 𝕀 S512x1024 .f32) (x1 : Vec 𝕀 S1x1024 .f32) (x2 : Vec 𝕀 S1024x2048 .bf16) (x3 : Vec 𝕀 S1024x3072 .bf16) (x4 : Vec 𝕀 S1024x128 .bf16) (i : Fin 512)

/-- A point's tile of the gate's columns. -/
theorem z_tile (j : Fin 2048) : out0_5 x0 x1 x2 x3 x4 (ix2 i j) = proj (fun l => x0 (ix2 i l)) (fun l => x1 (ix2 0 l)) (fun k j => x2 (ix2 k j)) j := by
  unfold out0_5 proj
  rw [View.canon_cons_unit_zero (by decide +kernel), View.ld_unit_zero (by decide +kernel) _ x0, View.ld_unit_zero (by decide +kernel) _ x1, View.ld_unit_zero (by decide +kernel) _ x2]
  pointwise [k0_pay2]
  simp only [norm_value]

/-- A point's tile of the convolution's columns. -/
theorem x_tile (j : Fin 3072) : out0_6 x0 x1 x2 x3 x4 (ix2 i j) = proj (fun l => x0 (ix2 i l)) (fun l => x1 (ix2 0 l)) (fun k j => x3 (ix2 k j)) j := by
  unfold out0_6 proj
  rw [View.canon_cons_unit_zero (by decide +kernel), View.ld_unit_zero (by decide +kernel) _ x0, View.ld_unit_zero (by decide +kernel) _ x1, View.ld_unit_zero (by decide +kernel) _ x3]
  pointwise [k0_pay3]
  simp only [norm_value]

/-- A point's tile of the steps' columns. -/
theorem dt_tile (j : Fin 128) : out0_7 x0 x1 x2 x3 x4 (ix2 i j) = proj (fun l => x0 (ix2 i l)) (fun l => x1 (ix2 0 l)) (fun k j => x4 (ix2 k j)) j := by
  unfold out0_7 proj
  rw [View.canon_cons_unit_zero (by decide +kernel), View.ld_unit_zero (by decide +kernel) _ x0, View.ld_unit_zero (by decide +kernel) _ x1, View.ld_unit_zero (by decide +kernel) _ x4]
  pointwise [k0_pay4]
  simp only [norm_value]

end tile

variable (m : (ℓ : Loc nD τ sig) → Buf (Elt 𝕀) ℓ) (d : Dev nD)

/-- A row of the residual. -/
def row (r : Fin 16384) : Fin 1024 → EReal := fun l =>
  m ((d : Thread nD τ).loc main_arg0) (ix3 (⟨r.val / 4096, by have := r.isLt; omega⟩ : Fin 4) (⟨r.val % 4096, Nat.mod_lt _ (by omega)⟩ : Fin 4096) l)

/-- The norm's gain. -/
def gain : Fin 1024 → EReal := fun l => m ((d : Thread nD τ).loc main_arg1) (ix2 0 l)

/-- The gate's columns of the weight. -/
def wz : Fin 1024 → Fin 2048 → EReal := fun k j => m ((d : Thread nD τ).loc main_arg2) (ix3 0 k (⟨j.val, by have := j.isLt; omega⟩ : Fin 5152))
/-- The convolution's columns of the weight. -/
def wx : Fin 1024 → Fin 3072 → EReal := fun k j => m ((d : Thread nD τ).loc main_arg2) (ix3 0 k (⟨2048 + j.val, by have := j.isLt; omega⟩ : Fin 5152))
/-- The steps' columns of the weight. -/
def wdt : Fin 1024 → Fin 32 → EReal := fun k j => m ((d : Thread nD τ).loc main_arg2) (ix3 0 k (⟨5120 + j.val, by have := j.isLt; omega⟩ : Fin 5152))

/-- The moving windows' block indices. -/
theorem idx_row : ∀ t : Fin cfg0.N, win0_0.index t = ![t.val, 0] ∧ win0_5.index t = ![t.val, 0] ∧ win0_6.index t = ![t.val, 0] ∧ win0_7.index t = ![t.val, 0] :=
  (by decide +kernel : ∀ t : Fin grid0.N, _)

/-- The fixed windows' block indices. -/
theorem idx_fix : ∀ t : Fin cfg0.N, win0_1.index t = ![0, 0] ∧ win0_2.index t = ![0, 0] ∧ win0_3.index t = ![0, 0] ∧ win0_4.index t = ![0, 0] :=
  (by decide +kernel : ∀ t : Fin grid0.N, _)

theorem entry_x (r : Fin 16384) (l : Fin 1024) : V m d main_v8 (ix2 r l) = row m d r l := by
  unfold row
  simp only [V, hostOps0, hostOps0_1, hostOps0_2, List.flatten_cons, List.flatten_nil, List.append_nil, List.cons_append, List.nil_append]
  entry_read
  pointwise

theorem entry_g (l : Fin 1024) : V m d main_v10 (ix2 0 l) = gain m d l := by
  unfold gain
  simp only [V, hostOps0, hostOps0_1, hostOps0_2, List.flatten_cons, List.flatten_nil, List.append_nil, List.cons_append, List.nil_append]
  entry_read
  pointwise

theorem entry_wz (k : Fin 1024) (j : Fin 2048) : V m d main_v2 (ix2 k j) = wz m d k j := by
  unfold wz
  simp only [V, hostOps0, hostOps0_1, hostOps0_2, List.flatten_cons, List.flatten_nil, List.append_nil, List.cons_append, List.nil_append]
  entry_read
  pointwise

theorem entry_wx (k : Fin 1024) (j : Fin 3072) : V m d main_v4 (ix2 k j) = wx m d k j := by
  unfold wx
  simp only [V, hostOps0, hostOps0_1, hostOps0_2, List.flatten_cons, List.flatten_nil, List.append_nil, List.cons_append, List.nil_append]
  entry_read
  pointwise

/-- The steps' columns, cut out of the weight. -/
def cutDt (w : FVec 𝕀 S1x1024x5152 .f32) : FVec 𝕀 S1024x32 .f32 :=
  extractStridedSlice S1024x32 ![0, 5120] (shapeCast S1024x5152 w shapeCasts_S1x1024x5152_S1024x5152) slices_S1024x5152_S1024x32_0_5120

theorem cutDt_value (w : FVec 𝕀 S1x1024x5152 .f32) (k : Fin 1024) (j : Fin 32) : cutDt w (ix2 k j) = w (ix3 0 k (⟨5120 + j.val, by have := j.isLt; omega⟩ : Fin 5152)) := by
  pointwise [cutDt]

theorem entry_wdt (k : Fin 1024) (j : Fin 128) : V m d main_v7 (ix2 k j) = wide (wdt m d k) j := by
  simp only [V, hostOps0, hostOps0_1, hostOps0_2, List.flatten_cons, List.flatten_nil, List.append_nil, List.cons_append, List.nil_append]
  entry_read
  show (pad S1024x128 ![0, 0] ![0, 96] ![0, 0] (cutDt (m ((d : Thread nD τ).loc main_arg2))) (sitofp (F := 𝕀) .f32 (constantI S_ 32 0#32)) pads_S1024x32_S1024x128_000_0960 h_S_ : Vec 𝕀 S1024x128 .f32) (ix2 k j) = _
  pointwise
  unfold wide
  split
  · exact cutDt_value _ _ _
  · show ((((0#32 : BitVec 32).toInt : ℤ) : ℝ) : EReal) = 0
    simp

variable (t : Fin cfg0.N)

/-- Row `i` of a point's tile among all rows. -/
abbrev rowOf (i : Fin 512) : Fin 16384 := ⟨512 * t.val + i.val, by have := t.isLt; have h : cfg0.N = 32 := N_0; have := i.isLt; omega⟩

theorem blk_x (i : Fin 512) (l : Fin 1024) : iblk m d 0 t (ix2 i l) = V m d main_v8 (ix2 (rowOf t i) l) := by
  obtain ⟨h, -, -, -⟩ := idx_row t
  blk_ext [iblk, h]

theorem blk_g (l : Fin 1024) : iblk m d 1 t (ix2 0 l) = V m d main_v10 (ix2 0 l) := by
  obtain ⟨h, -, -, -⟩ := idx_fix t
  blk_ext [iblk, h]

theorem blk_wz (k : Fin 1024) (j : Fin 2048) : iblk m d 2 t (ix2 k j) = V m d main_v2 (ix2 k j) := by
  obtain ⟨-, h, -, -⟩ := idx_fix t
  blk_ext [iblk, h]

theorem blk_wx (k : Fin 1024) (j : Fin 3072) : iblk m d 3 t (ix2 k j) = V m d main_v4 (ix2 k j) := by
  obtain ⟨-, -, h, -⟩ := idx_fix t
  blk_ext [iblk, h]

theorem blk_wdt (k : Fin 1024) (j : Fin 128) : iblk m d 4 t (ix2 k j) = V m d main_v7 (ix2 k j) := by
  obtain ⟨-, -, -, h⟩ := idx_fix t
  blk_ext [iblk, h]

/-- The rows of a point's tile in the output arrays. -/
theorem read_z (A : S16384x2048.Idx → EReal) (i : Fin 512) (j : Fin 2048) : ((cfg0.win 5).blk t).view.read (Elt 𝕀) A (ix2 i j) = A (ix2 (rowOf t i) j) := by
  obtain ⟨-, h, -, -⟩ := idx_row t
  blk_ext [h]

theorem read_x (A : S16384x3072.Idx → EReal) (i : Fin 512) (j : Fin 3072) : ((cfg0.win 6).blk t).view.read (Elt 𝕀) A (ix2 i j) = A (ix2 (rowOf t i) j) := by
  obtain ⟨-, -, h, -⟩ := idx_row t
  blk_ext [h]

theorem read_dt (A : S16384x128.Idx → EReal) (i : Fin 512) (j : Fin 128) : ((cfg0.win 7).blk t).view.read (Elt 𝕀) A (ix2 i j) = A (ix2 (rowOf t i) j) := by
  obtain ⟨-, -, -, h⟩ := idx_row t
  blk_ext [h]

/-- The row that a point's tile is computed from. -/
theorem row_of (i : Fin 512) : (fun l => iblk m d 0 t (ix2 i l)) = row m d (rowOf t i) := funext fun l => (blk_x m d t i l).trans (entry_x m d _ l)
/-- The gain that a point reads. -/
theorem gain_of : (fun l => iblk m d 1 t (ix2 0 l)) = gain m d := funext fun l => (blk_g m d t l).trans (entry_g m d l)

/-- Every row is in some point's tile. -/
theorem exists_point (r : Fin 16384) : ∃ (t : Fin cfg0.N) (i : Fin 512), r = rowOf t i :=
  ⟨⟨r.val / 512, by have hN : cfg0.N = 32 := N_0; have := r.isLt; omega⟩, ⟨r.val % 512, Nat.mod_lt _ (by omega)⟩, Fin.ext (Nat.div_add_mod r.val 512).symm⟩

/-- The gate's array, entry by entry. -/
theorem z_value (r : Fin 16384) (j : Fin 2048) : (dats m 0 d).arrAt 5 cfg0.N (ix2 r j) = proj (row m d r) (gain m d) (wz m d) j := by
  obtain ⟨t, i, rfl⟩ := exists_point r
  have e := congrFun (blocks5 m d t (flush0_5 _)) (ix2 i j)
  rw [read_z, flushed5] at e
  have ew : (fun k j => iblk m d 2 t (ix2 k j)) = wz m d := funext fun k => funext fun j => (blk_wz m d t k j).trans (entry_wz m d k j)
  rw [← row_of, ← gain_of m d t, ← ew]
  exact e.trans (z_tile _ _ _ _ _ i j)

/-- The convolution's array, entry by entry. -/
theorem x_value (r : Fin 16384) (j : Fin 3072) : (dats m 0 d).arrAt 6 cfg0.N (ix2 r j) = proj (row m d r) (gain m d) (wx m d) j := by
  obtain ⟨t, i, rfl⟩ := exists_point r
  have e := congrFun (blocks6 m d t (flush0_6 _)) (ix2 i j)
  rw [read_x, flushed6] at e
  have ew : (fun k j => iblk m d 3 t (ix2 k j)) = wx m d := funext fun k => funext fun j => (blk_wx m d t k j).trans (entry_wx m d k j)
  rw [← row_of, ← gain_of m d t, ← ew]
  exact e.trans (x_tile _ _ _ _ _ i j)

/-- The steps' array, entry by entry. -/
theorem dt_value (r : Fin 16384) (j : Fin 128) : (dats m 0 d).arrAt 7 cfg0.N (ix2 r j) = wide (proj (row m d r) (gain m d) (wdt m d)) j := by
  obtain ⟨t, i, rfl⟩ := exists_point r
  have e := congrFun (blocks7 m d t (flush0_7 _)) (ix2 i j)
  rw [read_dt, flushed7] at e
  have ew : (fun k j => iblk m d 4 t (ix2 k j)) = fun k => wide (wdt m d k) := funext fun k => funext fun j => (blk_wdt m d t k j).trans (entry_wdt m d k j)
  rw [← proj_wide, ← row_of, ← gain_of m d t, ← ew]
  exact e.trans (dt_tile _ _ _ _ _ i j)

end Cert.Inproj

end
-- ==== Proof.InprojRef.lean ====
/- What the input projection's reference computes, row by row, and the claims of the call. -/
module

public import proofs.«01_k».proof.Defs
public import proofs.«01_k».proof.Proof.InprojOut
public import proofs.«01_k».proof.Proof.FfnRefRow
public import proofs.«01_k».proof.Proof.Gen.Kernel5Ideal
public import proofs.«01_k».proof.Proof.Gen.Reference5Ideal.Run
public import Idealize.ShloMosaic.Lib.Quiescent

@[expose] public section

set_option maxRecDepth 16384

noncomputable section

namespace Cert.Inproj

open Idealize.ShloMosaic Idealize.ShloMosaic.TcCoe Idealize.SL.Sem Cert.Reference5Ideal Cert.Reference5Ideal.Gen Cert.Reference5Ideal.Value

local notation "𝕀" => Idealize.ShloMosaic.Ideal

/-- All columns of the projection. -/
def plainAll (x : FVec 𝕀 S4x4096x1024 .f32) (g : FVec 𝕀 S1x1024 .f32) (w : FVec 𝕀 S1x1024x5152 .f32) : FVec 𝕀 S4x4096x5152 .f32 :=
  Host.dotGeneral dot_S4x4096x1024_S1024x5152_S4x4096x5152_2_0_01_1_n_n none (Ffn.plainNorm (F := 𝕀) x (shapeCast _ g shapeCasts_S1x1024_S1024))
    (shapeCast _ w shapeCasts_S1x1024x5152_S1024x5152)

/-- All columns of the projection, entry by entry. -/
theorem plainAll_value (x : FVec 𝕀 S4x4096x1024 .f32) (g : FVec 𝕀 S1x1024 .f32) (w : FVec 𝕀 S1x1024x5152 .f32) (b : Fin 4) (s : Fin 4096) (j : Fin 5152) :
    plainAll x g w (ix3 b s j) = proj (fun l => x (ix3 b s l)) (fun l => g (ix2 0 l)) (fun k j => w (ix3 0 k j)) j := by
  unfold proj
  pointwise [plainAll]
  simp only [Ffn.plainNorm_value]
  pointwise

/-- The gate's columns. -/
def plainZ (a : FVec 𝕀 S4x4096x5152 .f32) : FVec 𝕀 S16384x2048 .f32 :=
  shapeCast _ (extractStridedSlice S4x4096x2048 ![0, 0, 0] a slices_S4x4096x5152_S4x4096x2048_0_0_0) shapeCasts_S4x4096x2048_S16384x2048
/-- The convolution's columns. -/
def plainX (a : FVec 𝕀 S4x4096x5152 .f32) : FVec 𝕀 S16384x3072 .f32 :=
  shapeCast _ (extractStridedSlice S4x4096x3072 ![0, 0, 2048] a slices_S4x4096x5152_S4x4096x3072_0_0_2048) shapeCasts_S4x4096x3072_S16384x3072
/-- The steps' columns, with zeros up to 128. -/
def plainDt (a : FVec 𝕀 S4x4096x5152 .f32) : FVec 𝕀 S16384x128 .f32 :=
  shapeCast _ (pad S4x4096x128 ![0, 0, 0] ![0, 0, 96] ![0, 0, 0] (extractStridedSlice S4x4096x32 ![0, 0, 5120] a slices_S4x4096x5152_S4x4096x32_0_0_5120)
    (sitofp (F := 𝕀) .f32 (constantI S_ 32 0#32)) pads_S4x4096x32_S4x4096x128_000_000_0960 h_S_) shapeCasts_S4x4096x128_S16384x128

/-- The sequence and the position of a row. -/
abbrev seqOf (r : Fin 16384) : Fin 4 := ⟨r.val / 4096, by have := r.isLt; omega⟩
abbrev posOf (r : Fin 16384) : Fin 4096 := ⟨r.val % 4096, Nat.mod_lt _ (by omega)⟩

theorem plainZ_value (a : FVec 𝕀 S4x4096x5152 .f32) (r : Fin 16384) (j : Fin 2048) :
    plainZ a (ix2 r j) = a (ix3 (seqOf r) (posOf r) (⟨j.val, by have := j.isLt; omega⟩ : Fin 5152)) := by
  pointwise [plainZ]

theorem plainX_value (a : FVec 𝕀 S4x4096x5152 .f32) (r : Fin 16384) (j : Fin 3072) :
    plainX a (ix2 r j) = a (ix3 (seqOf r) (posOf r) (⟨2048 + j.val, by have := j.isLt; omega⟩ : Fin 5152)) := by
  pointwise [plainX]

theorem plainDt_value (a : FVec 𝕀 S4x4096x5152 .f32) (r : Fin 16384) (j : Fin 128) :
    plainDt a (ix2 r j) = wide (fun e => a (ix3 (seqOf r) (posOf r) (⟨5120 + e.val, by have := e.isLt; omega⟩ : Fin 5152))) j := by
  have hr := r.isLt
  by_cases hj : j.val < 32
  · rw [wide_of_lt _ j hj]
    pointwise [plainDt]
    exact dif_pos ⟨by omega, by omega, hj⟩
  · rw [wide_of_not_lt _ j hj]
    pointwise [plainDt]
    refine (dif_neg fun h => hj h.2.2).trans ?_
    show ((((0#32 : BitVec 32).toInt : ℤ) : ℝ) : EReal) = 0
    simp

section eq

variable (m : (ℓ : Loc Cert.Kernel5Ideal.nD Cert.Kernel5Ideal.τ Cert.Kernel5Ideal.sig) → Buf (Elt 𝕀) ℓ) (m' : (ℓ : Loc nD τ sig) → Buf (Elt 𝕀) ℓ) (c : Dev nD)

/-- The reference's columns, from its memory. -/
def refAll : FVec 𝕀 S4x4096x5152 .f32 :=
  plainAll (m' ((c.tc : Thread nD τ).loc main_arg0)) (m' ((c.tc : Thread nD τ).loc main_arg1)) (m' ((c.tc : Thread nD τ).loc main_arg2))

/-- The reference's columns, from the kernel's memory. -/
def kerAll : FVec 𝕀 S4x4096x5152 .f32 :=
  plainAll (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))
    (m ((c.tc : Thread Cert.Kernel5Ideal.nD Cert.Kernel5Ideal.τ).loc Cert.Kernel5Ideal.main_arg2))

theorem z_eq : plainZ (kerAll m c) = (Cert.Kernel5Ideal.Gen.dats m 0 c).arrAt 5 Cert.Kernel5Ideal.cfg0.N := by
  funext y
  obtain ⟨r, j, rfl⟩ : ∃ (r : Fin 16384) (j : Fin 2048), y = ix2 r j := ⟨y 0, y 1, by idx_ext⟩
  rw [plainZ_value, kerAll, plainAll_value]
  exact (z_value m c r j).symm

theorem x_eq : plainX (kerAll m c) = (Cert.Kernel5Ideal.Gen.dats m 0 c).arrAt 6 Cert.Kernel5Ideal.cfg0.N := by
  funext y
  obtain ⟨r, j, rfl⟩ : ∃ (r : Fin 16384) (j : Fin 3072), y = ix2 r j := ⟨y 0, y 1, by idx_ext⟩
  rw [plainX_value, kerAll, plainAll_value]
  exact (x_value m c r j).symm

theorem dt_eq : plainDt (kerAll m c) = (Cert.Kernel5Ideal.Gen.dats m 0 c).arrAt 7 Cert.Kernel5Ideal.cfg0.N := by
  funext y
  obtain ⟨r, j, rfl⟩ : ∃ (r : Fin 16384) (j : Fin 128), y = ix2 r j := ⟨y 0, y 1, by idx_ext⟩
  rw [plainDt_value]
  simp only [kerAll, plainAll_value]
  exact (dt_value m c r j).symm

end eq

/-- The reference runs: its results are the projection's three parts, its arguments as they were. -/
theorem runR (m : (ℓ : Loc nD τ sig) → Buf (Elt 𝕀) ℓ) (ρ : Dev nD → PrngReg) :
    θ_run (defs (F := 𝕀)) (onTc (τ := τ) (main (F := 𝕀))) ⟨m, fun _ => 0, ρ⟩ fun r => ∀ c : Dev nD,
      r.2.mem ((c.tc : Thread nD τ).loc main_v20) = plainZ (refAll m c)
      ∧ r.2.mem ((c.tc : Thread nD τ).loc main_v21) = plainX (refAll m c)
      ∧ r.2.mem ((c.tc : Thread nD τ).loc main_v22) = plainDt (refAll m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := 𝕀)) _ _).mono (fun _ h c => ⟨(h c).1.trans rfl, (h c).2.1.trans rfl, (h c).2.2.1.trans rfl, (h c).2.2.2⟩) (run (F := 𝕀) m ρ)

/-- The reference runs, leaves its arguments as they were and no semaphore raised. -/
theorem reference_kept : Cert.quiescent_Reference5Ideal := fun m ρ _ =>
  (θ_run (defs (F := 𝕀)) _ _).mono (fun r h => ⟨fun c => (h c).2.2.2, sem_eq_zero_of_no_sems (by decide) r.2⟩) (runR m ρ)

/-- The two programs run from memories that agree on the arguments and end with equal results, the arguments as they were. -/
theorem equal : Cert.algebraic_Kernel5Ideal_Reference5Ideal := fun m ρ m' ρ' _ hag =>
  have ha : ∀ c, refAll m' c = kerAll m c := fun c => by
    obtain ⟨h0, h1, h2⟩ := hag c
    unfold refAll kerAll
    rw [← h0, ← h1, ← h2]
  ⟨fun c => (Cert.Kernel5Ideal.Gen.dats m 0 c).arrAt 5 Cert.Kernel5Ideal.cfg0.N, fun c => (Cert.Kernel5Ideal.Gen.dats m 0 c).arrAt 6 Cert.Kernel5Ideal.cfg0.N,
    fun c => (Cert.Kernel5Ideal.Gen.dats m 0 c).arrAt 7 Cert.Kernel5Ideal.cfg0.N, Cert.Kernel5Ideal.Value.run_blocks (F := 𝕀) m ρ,
    (θ_run (defs (F := 𝕀)) _ _).mono (fun _ h c => ⟨(h c).1.trans ((congrArg plainZ (ha c)).trans (z_eq m c)), (h c).2.1.trans ((congrArg plainX (ha c)).trans (x_eq m c)),
      (h c).2.2.1.trans ((congrArg plainDt (ha c)).trans (dt_eq m c)), (h c).2.2.2⟩) (runR m' ρ')⟩

end Cert.Inproj

end
-- ==== Proof.QkvOut.lean ====
/- The projection to queries, keys and values: what one point's tile holds. -/
module

public import proofs.«01_k».proof.Proof.InprojOut
public import proofs.«01_k».proof.Proof.Gen.Kernel4Ideal.Value
public import Idealize.ShloMosaic.Lib.Pipeline.ValueKit
public import Idealize.ShloMosaic.Lib.KernelVsHost
public import Idealize.ShloMosaic.Lib.StableHlo.RunRead
public import Idealize.ShloMosaic.Lib.Claim

@[expose] public section

set_option maxRecDepth 16384

noncomputable section

namespace Cert.Qkv

open Idealize.ShloMosaic Idealize.ShloMosaic.TcCoe Cert.Kernel4Ideal Cert.Kernel4Ideal.Gen Cert.Kernel4Ideal.Value
open Cert.Inproj (proj)

local notation "𝕀" => Idealize.ShloMosaic.Ideal

/-- A head's values divided by the root of their mean square, with a gain. -/
def headNorm (u g : Fin 128 → EReal) (l : Fin 128) : EReal :=
  u l * Ideal.rsqrt (Ideal.div (∑ x : Fin 128, u x * u x) (Ideal.ofBits .f32 0x43000000#32) + Ideal.ofBits .f32 0x358637BD#32) * g l

/-- A head's values with its first 32 lanes turned by sixteen angles, lane `l` with lane `l + 16`. -/
def turn (n : Fin 128 → EReal) (cos sin : Fin 16 → EReal) (l : Fin 128) : EReal :=
  if h : l.val < 16 then n l * cos ⟨l.val, h⟩ - n ⟨l.val + 16, by omega⟩ * sin ⟨l.val, h⟩
  else if h' : l.val < 32 then n l * cos ⟨l.val - 16, by omega⟩ + n ⟨l.val - 16, by omega⟩ * sin ⟨l.val - 16, by omega⟩
  else n l

/-- The lane that comes to lane `l` when all move by `k`. -/
abbrev moved (k : ℕ) (l : Fin 128) : Fin 128 := ⟨(l.val + 128 - k) % 128, Nat.mod_lt _ (by omega)⟩

/-- A head's values, times one table, plus the values moved by 112 and by 16 lanes times two more. -/
def mixed (n c a b : Fin 128 → EReal) (l : Fin 128) : EReal := n l * c l + n (moved 112 l) * a l + n (moved 16 l) * b l

/-- The table of cosines over all lanes. -/
def cosT (f : Fin 16 → EReal) (l : Fin 128) : EReal := if h : l.val < 16 then f ⟨l.val, h⟩ else if h' : l.val - 16 < 16 then f ⟨l.val - 16, h'⟩ else 1
/-- The table of sines, negated, over the first sixteen lanes. -/
def sinA (f : Fin 16 → EReal) (l : Fin 128) : EReal := if h : l.val < 16 then - f ⟨l.val, h⟩ else 0
/-- The table of sines over the second sixteen lanes. -/
def sinB (f : Fin 16 → EReal) (l : Fin 128) : EReal := if h : l.val < 16 then 0 else if h' : l.val - 16 < 16 then f ⟨l.val - 16, h'⟩ else 0

/-- The three tables turn the first 32 lanes. -/
theorem mixed_tables (n : Fin 128 → EReal) (cos sin : Fin 16 → EReal) (l : Fin 128) : mixed n (cosT cos) (sinA sin) (sinB sin) l = turn n cos sin l := by
  unfold mixed turn cosT sinA sinB
  by_cases h : l.val < 16
  · have e : moved 112 l = ⟨l.val + 16, by omega⟩ := Fin.ext (by show (l.val + 128 - 112) % 128 = l.val + 16; omega)
    simp only [dif_pos h, mul_zero, add_zero, e, mul_neg, sub_eq_add_neg]
  · by_cases h' : l.val < 32
    · have e : moved 16 l = ⟨l.val - 16, by omega⟩ := Fin.ext (by show (l.val + 128 - 16) % 128 = l.val - 16; omega)
      have h'' : l.val - 16 < 16 := by omega
      simp only [dif_neg h, dif_pos h', dif_pos h'', mul_zero, add_zero, e]
    · have h'' : ¬ l.val - 16 < 16 := by omega
      simp only [dif_neg h, dif_neg h', dif_neg h'', mul_zero, add_zero, mul_one]

/-- A head's tile, normalised and mixed, entry by entry. -/
theorem head_value (c a b u : FVec 𝕀 S512x128 .f32) (g : Vec 𝕀 S1x128 .f32) (i : Fin 512) (l : Fin 128) :
    k0_pay12 c a b u g (ix4 0 0 i l)
      = mixed (headNorm (fun l => u (ix2 i l)) (fun l => g (ix2 0 l))) (fun l => c (ix2 i l)) (fun l => a (ix2 i l)) (fun l => b (ix2 i l)) l := by
  unfold mixed headNorm
  pointwise [k0_pay12]

/-- A column of the three times eight heads' 128 lanes. -/
abbrev lane (h : Fin 8) (l : Fin 128) : Fin 1024 := ⟨128 * h.val + l.val, by omega⟩

/-- The place of a head's tile among the eight. -/
theorem emb_head (h : Fin 8) (H) (i : Fin 512) (l : Fin 128) :
    (Rect.unit (s := S1x8x512x128) ![0, h.val, 0, 0] S1x1x512x128.size H).emb (ix4 0 0 i l) = ix4 0 h i l := by
  funext x
  refine Fin.ext ?_
  fin_cases x
  · rfl
  · show h.val + 1 * 0 = h.val; omega
  · show 0 + 1 * i.val = i.val; omega
  · show 0 + 1 * l.val = l.val; omega

/-- The eight heads' columns, normalised and mixed. -/
def mixedAt (c a b : FVec 𝕀 S512x128 .f32) (u : FVec 𝕀 S512x1024 .f32) (g : Vec 𝕀 S1x128 .f32) (y : S1x8x512x128.Idx) : EReal :=
  mixed (headNorm (fun l => u (ix2 (y 2) (lane (y 1) l))) (fun l => g (ix2 0 l))) (fun l => c (ix2 (y 2) l)) (fun l => a (ix2 (y 2) l)) (fun l => b (ix2 (y 2) l)) (y 3)
/-- The eight heads' columns. -/
def plainAt (u : FVec 𝕀 S512x1024 .f32) (y : S1x8x512x128.Idx) : EReal := u (ix2 (y 2) (lane (y 1) (y 3)))

/-- A head's columns among all. -/
theorem slice_value (u : FVec 𝕀 S512x1024 .f32) (h : Fin 8) (o : ℕ) (ho : o = 128 * h.val) (H) (i : Fin 512) (l : Fin 128) :
    extractStridedSlice S512x128 ![0, o] u H (ix2 i l) = u (ix2 i (lane h l)) := by
  subst ho
  pointwise

/-- A head's normalised and mixed tile, as a part of the eight heads'. -/
theorem head_piece (c a b : FVec 𝕀 S512x128 .f32) (u : FVec 𝕀 S512x1024 .f32) (g : Vec 𝕀 S1x128 .f32) (h : Fin 8) (o : ℕ) (ho : o = 128 * h.val) (Hs) (H)
    (p : Vec 𝕀 S1x1x512x128 .f32) (hp : p = k0_pay12 c a b (extractStridedSlice S512x128 ![0, o] u Hs) g) (x : S1x1x512x128.Idx) :
    p x = mixedAt c a b u g ((Rect.unit (s := S1x8x512x128) ![0, h.val, 0, 0] S1x1x512x128.size H).emb x) := by
  obtain ⟨i, l, rfl⟩ : ∃ (i : Fin 512) (l : Fin 128), x = ix4 0 0 i l := ⟨x 2, x 3, by idx_ext⟩
  rw [emb_head, hp, head_value]
  simp only [slice_value u h o ho]
  rfl

/-- A head's values, as a part of the eight heads'. -/
theorem plain_piece (u : FVec 𝕀 S512x1024 .f32) (h : Fin 8) (o : ℕ) (ho : o = 128 * h.val) (Hs) (H) (p : Vec 𝕀 S1x1x512x128 .f32)
    (hp : p = k0_pay46 (extractStridedSlice S512x128 ![0, o] u Hs)) (x : S1x1x512x128.Idx) :
    p x = plainAt u ((Rect.unit (s := S1x8x512x128) ![0, h.val, 0, 0] S1x1x512x128.size H).emb x) := by
  obtain ⟨i, l, rfl⟩ : ∃ (i : Fin 512) (l : Fin 128), x = ix4 0 0 i l := ⟨x 2, x 3, by idx_ext⟩
  rw [emb_head, hp]
  refine Eq.trans ?_ (slice_value u h o ho Hs i l)
  pointwise [k0_pay46]

section same

variable (c a b : FVec 𝕀 S512x128 .f32) (u : FVec 𝕀 S512x1024 .f32) (g : Vec 𝕀 S1x128 .f32)

/-- Every head's store is one expression of its columns, for the queries and for the keys. -/
theorem q_same1 : k0_pay10 c a b u g = k0_pay12 c a b (extractStridedSlice S512x128 ![0, 128] u slices_S512x1024_o0_128_S512x128) g := rfl
theorem q_same2 : k0_pay12 c a b (k0_pay11 u) g = k0_pay12 c a b (extractStridedSlice S512x128 ![0, 256] u slices_S512x1024_o0_256_S512x128) g := rfl
theorem q_same3 : k0_pay16 b (k0_pay13 u g) (k0_pay14 c u g) (k0_pay15 a u g) = k0_pay12 c a b (extractStridedSlice S512x128 ![0, 384] u slices_S512x1024_o0_384_S512x128) g := rfl
theorem q_same4 : k0_pay17 c a b u g = k0_pay12 c a b (extractStridedSlice S512x128 ![0, 512] u slices_S512x1024_o0_512_S512x128) g := rfl
theorem q_same5 : k0_pay21 c a b (k0_pay18 u) (k0_pay19 g) (k0_pay20 u) (Scalar.ofBits .f32 0x43000000#32) = k0_pay12 c a b (extractStridedSlice S512x128 ![0, 640] u slices_S512x1024_o0_640_S512x128) g := rfl
theorem q_same6 : k0_pay23 (k0_pay22 c a b u g) = k0_pay12 c a b (extractStridedSlice S512x128 ![0, 768] u slices_S512x1024_o0_768_S512x128) g := rfl
theorem q_same7 : k0_pay24 c a b u g = k0_pay12 c a b (extractStridedSlice S512x128 ![0, 896] u slices_S512x1024_o0_896_S512x128) g := rfl
theorem k_same1 : k0_pay30 c a b u g = k0_pay12 c a b (extractStridedSlice S512x128 ![0, 128] u slices_S512x1024_o0_128_S512x128) g := rfl
theorem k_same2 : k0_pay31 c a b u g = k0_pay12 c a b (extractStridedSlice S512x128 ![0, 256] u slices_S512x1024_o0_256_S512x128) g := rfl
theorem k_same3 : k0_pay34 a b (k0_pay32 u g) (k0_pay33 c u g) 112#32 = k0_pay12 c a b (extractStridedSlice S512x128 ![0, 384] u slices_S512x1024_o0_384_S512x128) g := rfl
theorem k_same4 : k0_pay35 c a b u g = k0_pay12 c a b (extractStridedSlice S512x128 ![0, 512] u slices_S512x1024_o0_512_S512x128) g := rfl
theorem k_same5 : k0_pay39 c a b (k0_pay36 u) (k0_pay37 g) (k0_pay38 u) = k0_pay12 c a b (extractStridedSlice S512x128 ![0, 640] u slices_S512x1024_o0_640_S512x128) g := rfl
theorem k_same6 : k0_pay41 (k0_pay40 c a b u g) = k0_pay12 c a b (extractStridedSlice S512x128 ![0, 768] u slices_S512x1024_o0_768_S512x128) g := rfl
theorem k_same7 : k0_pay42 c a b u g = k0_pay12 c a b (extractStridedSlice S512x128 ![0, 896] u slices_S512x1024_o0_896_S512x128) g := rfl
theorem q_same0 (x0 : Vec 𝕀 S1x512x1024 .f32) (x1 : Vec 𝕀 S1x1024 .f32) (w : Vec 𝕀 S1024x1024 .bf16) :
    k0_pay9 c a b (k0_pay6 x0 x1 w) (k0_pay7 g) (k0_pay8 x0 x1 w) = k0_pay12 c a b (extractStridedSlice S512x128 ![0, 0] (k0_pay5 x0 x1 w) slices_S512x1024_o0_0_S512x128) g := rfl
theorem k_same0 (n : FVec 𝕀 S512x1024 .bf16) (w : Vec 𝕀 S1024x1024 .bf16) :
    k0_pay29 c a b (k0_pay26 n w) (k0_pay27 g) (k0_pay28 n w) (Scalar.ofBits .f32 0x358637BD#32) = k0_pay12 c a b (extractStridedSlice S512x128 ![0, 0] (k0_pay25 n w) slices_S512x1024_o0_0_S512x128) g := rfl
theorem v_same7 : k0_pay52 u = k0_pay46 (extractStridedSlice S512x128 ![0, 896] u slices_S512x1024_o0_896_S512x128) := rfl
theorem v_same6 : k0_pay51 u = k0_pay46 (extractStridedSlice S512x128 ![0, 768] u slices_S512x1024_o0_768_S512x128) := rfl
theorem v_same5 : k0_pay50 u = k0_pay46 (extractStridedSlice S512x128 ![0, 640] u slices_S512x1024_o0_640_S512x128) := rfl
theorem v_same4 : k0_pay49 u = k0_pay46 (extractStridedSlice S512x128 ![0, 512] u slices_S512x1024_o0_512_S512x128) := rfl
theorem v_same3 : k0_pay48 u = k0_pay46 (extractStridedSlice S512x128 ![0, 384] u slices_S512x1024_o0_384_S512x128) := rfl
theorem v_same2 : k0_pay47 u = k0_pay46 (extractStridedSlice S512x128 ![0, 256] u slices_S512x1024_o0_256_S512x128) := rfl
theorem v_same1 (n : FVec 𝕀 S512x1024 .bf16) (w : Vec 𝕀 S1024x1024 .bf16) : k0_pay46 (k0_pay45 n w) = k0_pay46 (extractStridedSlice S512x128 ![0, 128] (k0_pay43 n w) slices_S512x1024_o0_128_S512x128) := rfl
theorem v_same0 (n : FVec 𝕀 S512x1024 .bf16) (w : Vec 𝕀 S1024x1024 .bf16) : k0_pay44 n w = k0_pay46 (extractStridedSlice S512x128 ![0, 0] (k0_pay43 n w) slices_S512x1024_o0_0_S512x128) := rfl

/-- The eight stores together, from any columns. -/
theorem q_canon (p0 : Vec 𝕀 S1x1x512x128 .f32) (h0 : p0 = k0_pay12 c a b (extractStridedSlice S512x128 ![0, 0] u slices_S512x1024_o0_0_S512x128) g) (y : S1x8x512x128.Idx) :
    View.canon ([⟨r0_12, k0_pay24 c a b u g⟩, ⟨r0_11, k0_pay23 (k0_pay22 c a b u g)⟩, ⟨r0_10, k0_pay21 c a b (k0_pay18 u) (k0_pay19 g) (k0_pay20 u) (Scalar.ofBits .f32 0x43000000#32)⟩, ⟨r0_9, k0_pay17 c a b u g⟩, ⟨r0_8, k0_pay16 b (k0_pay13 u g) (k0_pay14 c u g) (k0_pay15 a u g)⟩, ⟨r0_7, k0_pay12 c a b (k0_pay11 u) g⟩, ⟨r0_6, k0_pay10 c a b u g⟩, ⟨r0_5, p0⟩] : List (View.Piece (Elt 𝕀) S1x8x512x128 .f32)) y = mixedAt c a b u g y := by
  refine View.canon_apply_of_pieces (mixedAt c a b u g) _ ?_ y (cover0_8 (F := 𝕀) _ _ _ _ _ _ _ _ y)
  intro p hp
  simp only [List.mem_cons, List.not_mem_nil, or_false] at hp
  rcases hp with rfl | rfl | rfl | rfl | rfl | rfl | rfl | rfl
  · exact head_piece c a b u g 7 896 rfl _ inb_S1x8x512x128_S1x1x512x128_0_7_0_0 _ (q_same7 c a b u g)
  · exact head_piece c a b u g 6 768 rfl _ inb_S1x8x512x128_S1x1x512x128_0_6_0_0 _ (q_same6 c a b u g)
  · exact head_piece c a b u g 5 640 rfl _ inb_S1x8x512x128_S1x1x512x128_0_5_0_0 _ (q_same5 c a b u g)
  · exact head_piece c a b u g 4 512 rfl _ inb_S1x8x512x128_S1x1x512x128_0_4_0_0 _ (q_same4 c a b u g)
  · exact head_piece c a b u g 3 384 rfl _ inb_S1x8x512x128_S1x1x512x128_0_3_0_0 _ (q_same3 c a b u g)
  · exact head_piece c a b u g 2 256 rfl _ inb_S1x8x512x128_S1x1x512x128_0_2_0_0 _ (q_same2 c a b u g)
  · exact head_piece c a b u g 1 128 rfl _ inb_S1x8x512x128_S1x1x512x128_0_1_0_0 _ (q_same1 c a b u g)
  · exact head_piece c a b u g 0 0 rfl _ inb_S1x8x512x128_S1x1x512x128_0_0_0_0 _ h0

theorem k_canon (p0 : Vec 𝕀 S1x1x512x128 .f32) (h0 : p0 = k0_pay12 c a b (extractStridedSlice S512x128 ![0, 0] u slices_S512x1024_o0_0_S512x128) g) (y : S1x8x512x128.Idx) :
    View.canon ([⟨r0_12, k0_pay42 c a b u g⟩, ⟨r0_11, k0_pay41 (k0_pay40 c a b u g)⟩, ⟨r0_10, k0_pay39 c a b (k0_pay36 u) (k0_pay37 g) (k0_pay38 u)⟩, ⟨r0_9, k0_pay35 c a b u g⟩, ⟨r0_8, k0_pay34 a b (k0_pay32 u g) (k0_pay33 c u g) 112#32⟩, ⟨r0_7, k0_pay31 c a b u g⟩, ⟨r0_6, k0_pay30 c a b u g⟩, ⟨r0_5, p0⟩] : List (View.Piece (Elt 𝕀) S1x8x512x128 .f32)) y = mixedAt c a b u g y := by
  refine View.canon_apply_of_pieces (mixedAt c a b u g) _ ?_ y (cover0_9 (F := 𝕀) _ _ _ _ _ _ _ _ y)
  intro p hp
  simp only [List.mem_cons, List.not_mem_nil, or_false] at hp
  rcases hp with rfl | rfl | rfl | rfl | rfl | rfl | rfl | rfl
  · exact head_piece c a b u g 7 896 rfl _ inb_S1x8x512x128_S1x1x512x128_0_7_0_0 _ (k_same7 c a b u g)
  · exact head_piece c a b u g 6 768 rfl _ inb_S1x8x512x128_S1x1x512x128_0_6_0_0 _ (k_same6 c a b u g)
  · exact head_piece c a b u g 5 640 rfl _ inb_S1x8x512x128_S1x1x512x128_0_5_0_0 _ (k_same5 c a b u g)
  · exact head_piece c a b u g 4 512 rfl _ inb_S1x8x512x128_S1x1x512x128_0_4_0_0 _ (k_same4 c a b u g)
  · exact head_piece c a b u g 3 384 rfl _ inb_S1x8x512x128_S1x1x512x128_0_3_0_0 _ (k_same3 c a b u g)
  · exact head_piece c a b u g 2 256 rfl _ inb_S1x8x512x128_S1x1x512x128_0_2_0_0 _ (k_same2 c a b u g)
  · exact head_piece c a b u g 1 128 rfl _ inb_S1x8x512x128_S1x1x512x128_0_1_0_0 _ (k_same1 c a b u g)
  · exact head_piece c a b u g 0 0 rfl _ inb_S1x8x512x128_S1x1x512x128_0_0_0_0 _ h0

theorem v_canon (p0 p1 : Vec 𝕀 S1x1x512x128 .f32) (h0 : p0 = k0_pay46 (extractStridedSlice S512x128 ![0, 0] u slices_S512x1024_o0_0_S512x128))
    (h1 : p1 = k0_pay46 (extractStridedSlice S512x128 ![0, 128] u slices_S512x1024_o0_128_S512x128)) (y : S1x8x512x128.Idx) :
    View.canon ([⟨r0_12, k0_pay52 u⟩, ⟨r0_11, k0_pay51 u⟩, ⟨r0_10, k0_pay50 u⟩, ⟨r0_9, k0_pay49 u⟩, ⟨r0_8, k0_pay48 u⟩, ⟨r0_7, k0_pay47 u⟩, ⟨r0_6, p1⟩, ⟨r0_5, p0⟩] : List (View.Piece (Elt 𝕀) S1x8x512x128 .f32)) y = plainAt u y := by
  refine View.canon_apply_of_pieces (plainAt u) _ ?_ y (cover0_10 (F := 𝕀) _ _ _ _ _ _ _ _ y)
  intro p hp
  simp only [List.mem_cons, List.not_mem_nil, or_false] at hp
  rcases hp with rfl | rfl | rfl | rfl | rfl | rfl | rfl | rfl
  · exact plain_piece u 7 896 rfl _ inb_S1x8x512x128_S1x1x512x128_0_7_0_0 _ (v_same7 u)
  · exact plain_piece u 6 768 rfl _ inb_S1x8x512x128_S1x1x512x128_0_6_0_0 _ (v_same6 u)
  · exact plain_piece u 5 640 rfl _ inb_S1x8x512x128_S1x1x512x128_0_5_0_0 _ (v_same5 u)
  · exact plain_piece u 4 512 rfl _ inb_S1x8x512x128_S1x1x512x128_0_4_0_0 _ (v_same4 u)
  · exact plain_piece u 3 384 rfl _ inb_S1x8x512x128_S1x1x512x128_0_3_0_0 _ (v_same3 u)
  · exact plain_piece u 2 256 rfl _ inb_S1x8x512x128_S1x1x512x128_0_2_0_0 _ (v_same2 u)
  · exact plain_piece u 1 128 rfl _ inb_S1x8x512x128_S1x1x512x128_0_1_0_0 _ h1
  · exact plain_piece u 0 0 rfl _ inb_S1x8x512x128_S1x1x512x128_0_0_0_0 _ h0

end same

section tile

variable (x0 : Vec 𝕀 S1x512x1024 .f32) (x1 : Vec 𝕀 S1x1024 .f32) (x2 : Vec 𝕀 S1024x3072 .bf16) (x3 x4 : Vec 𝕀 S1x128 .f32) (x5 x6 x7 : Vec 𝕀 S512x128 .f32)

/-- A tile's normalised rows. -/
theorem norm_value (i : Fin 512) (k : Fin 1024) : k0_pay1 x0 x1 (ix2 i k) = Ffn.norm (fun l => x0 (ix3 0 i l)) (fun l => x1 (ix2 0 l)) k := by
  unfold Ffn.norm
  pointwise [k0_pay1]

/-- A tile's rows times a third of the weight's columns. -/
theorem cols_value (w : Vec 𝕀 S1024x1024 .bf16) (i : Fin 512) (j : Fin 1024) :
    k0_pay25 (k0_pay1 x0 x1) w (ix2 i j) = proj (fun l => x0 (ix3 0 i l)) (fun l => x1 (ix2 0 l)) (fun k j => w (ix2 k j)) j := by
  unfold proj
  pointwise [k0_pay25]
  simp only [norm_value]

/-- The three thirds of the weight's columns. -/
theorem ld_q (k j : Fin 1024) : View.ld x2 r0_3 (ix2 k j) = x2 (ix2 k (⟨j.val, by omega⟩ : Fin 3072)) := by
  refine congrArg x2 (funext fun x => Fin.ext ?_)
  fin_cases x
  · show 0 + 1 * k.val = k.val; omega
  · show 0 + 1 * j.val = j.val; omega
theorem ld_k (k j : Fin 1024) : View.ld x2 r0_13 (ix2 k j) = x2 (ix2 k (⟨1024 + j.val, by omega⟩ : Fin 3072)) := by
  refine congrArg x2 (funext fun x => Fin.ext ?_)
  fin_cases x
  · show 0 + 1 * k.val = k.val; omega
  · show 1024 + 1 * j.val = 1024 + j.val; omega
theorem ld_v (k j : Fin 1024) : View.ld x2 r0_14 (ix2 k j) = x2 (ix2 k (⟨2048 + j.val, by omega⟩ : Fin 3072)) := by
  refine congrArg x2 (funext fun x => Fin.ext ?_)
  fin_cases x
  · show 0 + 1 * k.val = k.val; omega
  · show 2048 + 1 * j.val = 2048 + j.val; omega

/-- The three tiles, from their columns. -/
theorem q_pieces (y : S1x8x512x128.Idx) : out0_8 x0 x1 x2 x3 x4 x5 x6 x7 y
    = mixedAt (k0_pay54 (F := 𝕀) x0 x1 x2 x3 x4 x5 x6 x7) (k0_pay55 (F := 𝕀) x0 x1 x2 x3 x4 x5 x6 x7) (k0_pay56 (F := 𝕀) x0 x1 x2 x3 x4 x5 x6 x7) (k0_pay57 (F := 𝕀) x0 x1 x2 x3 x4 x5 x6 x7) (View.ld x3 r0_4) y :=
  q_canon _ _ _ (k0_pay57 (F := 𝕀) x0 x1 x2 x3 x4 x5 x6 x7) _ _ (q_same0 _ _ _ _ (View.ld x0 r0_0) (View.ld x1 r0_1) (View.ld x2 r0_3)) y
theorem k_pieces (y : S1x8x512x128.Idx) : out0_9 x0 x1 x2 x3 x4 x5 x6 x7 y
    = mixedAt (k0_pay54 (F := 𝕀) x0 x1 x2 x3 x4 x5 x6 x7) (k0_pay55 (F := 𝕀) x0 x1 x2 x3 x4 x5 x6 x7) (k0_pay56 (F := 𝕀) x0 x1 x2 x3 x4 x5 x6 x7) (k0_pay58 (F := 𝕀) x0 x1 x2 x3 x4 x5 x6 x7) (View.ld x4 r0_4) y :=
  k_canon _ _ _ (k0_pay58 (F := 𝕀) x0 x1 x2 x3 x4 x5 x6 x7) _ _ (k_same0 _ _ _ _ (k0_pay53 (F := 𝕀) x0 x1 x2 x3 x4 x5 x6 x7) (View.ld x2 r0_13)) y
theorem v_pieces (y : S1x8x512x128.Idx) : out0_10 x0 x1 x2 x3 x4 x5 x6 x7 y = plainAt (k0_pay59 (F := 𝕀) x0 x1 x2 x3 x4 x5 x6 x7) y :=
  v_canon (k0_pay59 (F := 𝕀) x0 x1 x2 x3 x4 x5 x6 x7) _ _ (v_same0 (k0_pay53 (F := 𝕀) x0 x1 x2 x3 x4 x5 x6 x7) (View.ld x2 r0_14)) (v_same1 (k0_pay53 (F := 𝕀) x0 x1 x2 x3 x4 x5 x6 x7) (View.ld x2 r0_14)) y

/-- The three groups of columns, entry by entry. -/
theorem q_cols (i : Fin 512) (j : Fin 1024) : k0_pay57 (F := 𝕀) x0 x1 x2 x3 x4 x5 x6 x7 (ix2 i j)
    = proj (fun l => x0 (ix3 0 i l)) (fun l => x1 (ix2 0 l)) (fun k j => x2 (ix2 k j)) (⟨j.val, by omega⟩ : Fin 3072) := by
  have e : k0_pay57 (F := 𝕀) x0 x1 x2 x3 x4 x5 x6 x7 = k0_pay25 (k0_pay1 x0 x1) (View.ld x2 r0_3) := by
    unfold k0_pay57
    rw [View.ld_unit_zero (by decide +kernel) _ x0, View.ld_unit_zero (by decide +kernel) _ x1]
    rfl
  rw [e, cols_value]
  exact Finset.sum_congr rfl fun k _ => congrArg _ (ld_q x2 k j)
theorem k_cols (i : Fin 512) (j : Fin 1024) : k0_pay58 (F := 𝕀) x0 x1 x2 x3 x4 x5 x6 x7 (ix2 i j)
    = proj (fun l => x0 (ix3 0 i l)) (fun l => x1 (ix2 0 l)) (fun k j => x2 (ix2 k j)) (⟨1024 + j.val, by omega⟩ : Fin 3072) := by
  have e : k0_pay58 (F := 𝕀) x0 x1 x2 x3 x4 x5 x6 x7 = k0_pay25 (k0_pay1 x0 x1) (View.ld x2 r0_13) := by
    unfold k0_pay58 k0_pay53
    rw [View.ld_unit_zero (by decide +kernel) _ x0, View.ld_unit_zero (by decide +kernel) _ x1]
  rw [e, cols_value]
  exact Finset.sum_congr rfl fun k _ => congrArg _ (ld_k x2 k j)
theorem v_cols (i : Fin 512) (j : Fin 1024) : k0_pay59 (F := 𝕀) x0 x1 x2 x3 x4 x5 x6 x7 (ix2 i j)
    = proj (fun l => x0 (ix3 0 i l)) (fun l => x1 (ix2 0 l)) (fun k j => x2 (ix2 k j)) (⟨2048 + j.val, by omega⟩ : Fin 3072) := by
  have e : k0_pay59 (F := 𝕀) x0 x1 x2 x3 x4 x5 x6 x7 = k0_pay25 (k0_pay1 x0 x1) (View.ld x2 r0_14) := by
    unfold k0_pay59 k0_pay53
    rw [View.ld_unit_zero (by decide +kernel) _ x0, View.ld_unit_zero (by decide +kernel) _ x1]
    rfl
  rw [e, cols_value]
  exact Finset.sum_congr rfl fun k _ => congrArg _ (ld_v x2 k j)

/-- The tables as the body reads them. -/
theorem tab_c : k0_pay54 (F := 𝕀) x0 x1 x2 x3 x4 x5 x6 x7 = x5 := by
  funext y
  obtain ⟨i, l, rfl⟩ : ∃ (i : Fin 512) (l : Fin 128), y = ix2 i l := ⟨y 0, y 1, by idx_ext⟩
  unfold k0_pay54
  rw [View.ld_unit_zero (by decide +kernel) _ x5]
  pointwise [k0_pay2]
theorem tab_a : k0_pay55 (F := 𝕀) x0 x1 x2 x3 x4 x5 x6 x7 = x6 := tab_c x0 x1 x2 x3 x4 x6 x6 x6
theorem tab_b : k0_pay56 (F := 𝕀) x0 x1 x2 x3 x4 x5 x6 x7 = x7 := tab_c x0 x1 x2 x3 x4 x7 x7 x7

/-- A column of the queries, of the keys and of the values, by head and lane. -/
abbrev qcol (h : Fin 8) (l : Fin 128) : Fin 3072 := ⟨128 * h.val + l.val, by omega⟩
abbrev kcol (h : Fin 8) (l : Fin 128) : Fin 3072 := ⟨1024 + (128 * h.val + l.val), by omega⟩
abbrev vcol (h : Fin 8) (l : Fin 128) : Fin 3072 := ⟨2048 + (128 * h.val + l.val), by omega⟩

/-- A point's tiles, entry by entry. -/
theorem q_tile (h : Fin 8) (i : Fin 512) (l : Fin 128) : out0_8 x0 x1 x2 x3 x4 x5 x6 x7 (ix4 0 h i l)
    = mixed (headNorm (fun l => proj (fun l => x0 (ix3 0 i l)) (fun l => x1 (ix2 0 l)) (fun k j => x2 (ix2 k j)) (qcol h l)) (fun l => x3 (ix2 0 l)))
        (fun l => x5 (ix2 i l)) (fun l => x6 (ix2 i l)) (fun l => x7 (ix2 i l)) l := by
  refine (q_pieces x0 x1 x2 x3 x4 x5 x6 x7 _).trans ?_
  show mixed (headNorm (fun l => k0_pay57 (F := 𝕀) x0 x1 x2 x3 x4 x5 x6 x7 (ix2 i (lane h l))) (fun l => View.ld x3 r0_4 (ix2 0 l)))
        (fun l => k0_pay54 (F := 𝕀) x0 x1 x2 x3 x4 x5 x6 x7 (ix2 i l)) (fun l => k0_pay55 (F := 𝕀) x0 x1 x2 x3 x4 x5 x6 x7 (ix2 i l))
        (fun l => k0_pay56 (F := 𝕀) x0 x1 x2 x3 x4 x5 x6 x7 (ix2 i l)) l = _
  simp only [q_cols, tab_c, tab_a, tab_b]
  rw [View.ld_unit_zero (by decide +kernel) _ x3]
theorem k_tile (h : Fin 8) (i : Fin 512) (l : Fin 128) : out0_9 x0 x1 x2 x3 x4 x5 x6 x7 (ix4 0 h i l)
    = mixed (headNorm (fun l => proj (fun l => x0 (ix3 0 i l)) (fun l => x1 (ix2 0 l)) (fun k j => x2 (ix2 k j)) (kcol h l)) (fun l => x4 (ix2 0 l)))
        (fun l => x5 (ix2 i l)) (fun l => x6 (ix2 i l)) (fun l => x7 (ix2 i l)) l := by
  refine (k_pieces x0 x1 x2 x3 x4 x5 x6 x7 _).trans ?_
  show mixed (headNorm (fun l => k0_pay58 (F := 𝕀) x0 x1 x2 x3 x4 x5 x6 x7 (ix2 i (lane h l))) (fun l => View.ld x4 r0_4 (ix2 0 l)))
        (fun l => k0_pay54 (F := 𝕀) x0 x1 x2 x3 x4 x5 x6 x7 (ix2 i l)) (fun l => k0_pay55 (F := 𝕀) x0 x1 x2 x3 x4 x5 x6 x7 (ix2 i l))
        (fun l => k0_pay56 (F := 𝕀) x0 x1 x2 x3 x4 x5 x6 x7 (ix2 i l)) l = _
  simp only [k_cols, tab_c, tab_a, tab_b]
  rw [View.ld_unit_zero (by decide +kernel) _ x4]
theorem v_tile (h : Fin 8) (i : Fin 512) (l : Fin 128) : out0_10 x0 x1 x2 x3 x4 x5 x6 x7 (ix4 0 h i l)
    = proj (fun l => x0 (ix3 0 i l)) (fun l => x1 (ix2 0 l)) (fun k j => x2 (ix2 k j)) (vcol h l) :=
  (v_pieces x0 x1 x2 x3 x4 x5 x6 x7 _).trans (v_cols x0 x1 x2 x3 x4 x5 x6 x7 i (lane h l))

end tile

variable (m : (ℓ : Loc nD τ sig) → Buf (Elt 𝕀) ℓ) (d : Dev nD)

/-- The angle of a position and a frequency. -/
def angle : FVec 𝕀 S4096x16 .f32 :=
  mulf (broadcastInDim S4096x16 ![0, 1] bcast_S4096x1_S4096x16_0_1 (broadcastInDim S4096x1 ![0] bcast_S4096_S4096x1_0 (sitofp (F := 𝕀) .f32 (iotaInDim S4096 32 0))))
    (broadcastInDim S4096x16 ![0, 1] bcast_S1x16_S4096x16_0_1 (broadcastInDim S1x16 ![1] bcast_S16_S1x16_1
      (Host.powf (broadcastInDim S16 ![] bcast_S_S16 (constant (F := 𝕀) S_ .f32 0x48F42400#32))
        (Host.divf (mulf (Host.negf (sitofp (F := 𝕀) .f32 (iotaInDim S16 32 0))) (broadcastInDim S16 ![] bcast_S_S16 (constant (F := 𝕀) S_ .f32 0x40000000#32)))
          (broadcastInDim S16 ![] bcast_S_S16 (constant (F := 𝕀) S_ .f32 0x42000000#32))))))

/-- The cosine and the sine of a position's angles. -/
def cosOf (s : Fin 4096) (j : Fin 16) : EReal := Host.cos angle (ix2 s j)
def sinOf (s : Fin 4096) (j : Fin 16) : EReal := Host.sin angle (ix2 s j)

/-- The three tables, joined from their parts. -/
def joinC (f : FVec 𝕀 S4096x16 .f32) : FVec 𝕀 S4096x128 .f32 :=
  concatenate S4096x128 1 [⟨S4096x16, f⟩, ⟨S4096x16, f⟩, ⟨S4096x96, broadcastInDim S4096x96 ![] bcast_S_S4096x96 (constant (F := 𝕀) S_ .f32 0x3F800000#32)⟩] concatenates_S4096x16_S4096x16_S4096x96_S4096x128_d1
def joinA (f : FVec 𝕀 S4096x16 .f32) : FVec 𝕀 S4096x128 .f32 :=
  concatenate S4096x128 1 [⟨S4096x16, Host.negf f⟩, ⟨S4096x112, broadcastInDim S4096x112 ![] bcast_S_S4096x112 (constant (F := 𝕀) S_ .f32 0x00000000#32)⟩] concatenates_S4096x16_S4096x112_S4096x128_d1
def joinB (f : FVec 𝕀 S4096x16 .f32) : FVec 𝕀 S4096x128 .f32 :=
  concatenate S4096x128 1 [⟨S4096x16, broadcastInDim S4096x16 ![] bcast_S_S4096x16 (constant (F := 𝕀) S_ .f32 0x00000000#32)⟩, ⟨S4096x16, f⟩,
    ⟨S4096x96, broadcastInDim S4096x96 ![] bcast_S_S4096x96 (constant (F := 𝕀) S_ .f32 0x00000000#32)⟩] concatenates_S4096x16_S4096x16_S4096x96_S4096x128_d1

theorem joinC_value (f : FVec 𝕀 S4096x16 .f32) (s : Fin 4096) (l : Fin 128) : joinC f (ix2 s l) = cosT (fun j => f (ix2 s j)) l := by
  unfold cosT
  pointwise [joinC]

theorem joinA_value (f : FVec 𝕀 S4096x16 .f32) (s : Fin 4096) (l : Fin 128) : joinA f (ix2 s l) = sinA (fun j => f (ix2 s j)) l := by
  unfold sinA
  pointwise [joinA]

theorem joinB_value (f : FVec 𝕀 S4096x16 .f32) (s : Fin 4096) (l : Fin 128) : joinB f (ix2 s l) = sinB (fun j => f (ix2 s j)) l := by
  unfold sinB
  pointwise [joinB]

theorem entry_c : V m d main_v23 = joinC (Host.cos angle) := by
  unfold V
  after_reads_simp
  rfl

theorem entry_a : V m d main_v26 = joinA (Host.sin angle) := by
  unfold V
  after_reads_simp
  rfl

theorem entry_b : V m d main_v29 = joinB (Host.sin angle) := by
  unfold V
  after_reads_simp
  rfl

/-- A row of the residual. -/
def row (b : Fin 4) (s : Fin 4096) : Fin 1024 → EReal := fun l => m ((d : Thread nD τ).loc main_arg0) (ix3 b s l)

/-- The norm's gain. -/
def gain : Fin 1024 → EReal := fun l => m ((d : Thread nD τ).loc main_arg1) (ix2 0 l)

/-- The weight. -/
def weight : Fin 1024 → Fin 3072 → EReal := fun k j => m ((d : Thread nD τ).loc main_arg2) (ix3 0 k j)

/-- The gains of the queries and of the keys. -/
def qgain : Fin 128 → EReal := fun l => m ((d : Thread nD τ).loc main_arg3) (ix2 0 l)
def kgain : Fin 128 → EReal := fun l => m ((d : Thread nD τ).loc main_arg4) (ix2 0 l)

theorem entry_g (l : Fin 1024) : V m d main_v30 (ix2 0 l) = gain m d l := by
  unfold gain V
  after_reads_simp
  pointwise

theorem entry_w (k : Fin 1024) (j : Fin 3072) : V m d main_v2 (ix2 k j) = weight m d k j := by
  unfold weight V
  after_reads_simp
  pointwise

theorem entry_q (l : Fin 128) : V m d main_v31 (ix2 0 l) = qgain m d l := by
  unfold qgain V
  after_reads_simp
  pointwise

theorem entry_k (l : Fin 128) : V m d main_v32 (ix2 0 l) = kgain m d l := by
  unfold kgain V
  after_reads_simp
  pointwise

/-- The moving windows' block indices. -/
theorem idx_row : ∀ t : Fin cfg0.N, win0_0.index t = ![t.val / 8, t.val % 8, 0] ∧ win0_5.index t = ![t.val % 8, 0] ∧ win0_6.index t = ![t.val % 8, 0] ∧ win0_7.index t = ![t.val % 8, 0] :=
  (by decide +kernel : ∀ t : Fin grid0.N, _)

/-- The results' block indices. -/
theorem idx_res : ∀ t : Fin cfg0.N, win0_8.index t = ![t.val / 8, 0, t.val % 8, 0] ∧ win0_9.index t = ![t.val / 8, 0, t.val % 8, 0] ∧ win0_10.index t = ![t.val / 8, 0, t.val % 8, 0] :=
  (by decide +kernel : ∀ t : Fin grid0.N, _)

/-- The fixed windows' block indices. -/
theorem idx_fix : ∀ t : Fin cfg0.N, win0_1.index t = ![0, 0] ∧ win0_2.index t = ![0, 0] ∧ win0_3.index t = ![0, 0] ∧ win0_4.index t = ![0, 0] :=
  (by decide +kernel : ∀ t : Fin grid0.N, _)

variable (t : Fin cfg0.N)

/-- The sequence of a point's tile, and the position of its row `i`. -/
abbrev seqOf : Fin 4 := ⟨t.val / 8, by have := t.isLt; have h : cfg0.N = 32 := N_0; omega⟩
abbrev posOf (i : Fin 512) : Fin 4096 := ⟨512 * (t.val % 8) + i.val, by have := i.isLt; omega⟩

theorem blk_x (i : Fin 512) (l : Fin 1024) : iblk m d 0 t (ix3 0 i l) = V m d main_arg0 (ix3 (seqOf t) (posOf t i) l) := by
  obtain ⟨h, -, -, -⟩ := idx_row t
  blk_ext [iblk, h]

theorem blk_g (l : Fin 1024) : iblk m d 1 t (ix2 0 l) = V m d main_v30 (ix2 0 l) := by
  obtain ⟨h, -, -, -⟩ := idx_fix t
  blk_ext [iblk, h]

theorem blk_w (k : Fin 1024) (j : Fin 3072) : iblk m d 2 t (ix2 k j) = V m d main_v2 (ix2 k j) := by
  obtain ⟨-, h, -, -⟩ := idx_fix t
  blk_ext [iblk, h]

theorem blk_q (l : Fin 128) : iblk m d 3 t (ix2 0 l) = V m d main_v31 (ix2 0 l) := by
  obtain ⟨-, -, h, -⟩ := idx_fix t
  blk_ext [iblk, h]

theorem blk_k (l : Fin 128) : iblk m d 4 t (ix2 0 l) = V m d main_v32 (ix2 0 l) := by
  obtain ⟨-, -, -, h⟩ := idx_fix t
  blk_ext [iblk, h]

theorem blk_c (i : Fin 512) (l : Fin 128) : iblk m d 5 t (ix2 i l) = V m d main_v23 (ix2 (posOf t i) l) := by
  obtain ⟨-, h, -, -⟩ := idx_row t
  blk_ext [iblk, h]

theorem blk_a (i : Fin 512) (l : Fin 128) : iblk m d 6 t (ix2 i l) = V m d main_v26 (ix2 (posOf t i) l) := by
  obtain ⟨-, -, h, -⟩ := idx_row t
  blk_ext [iblk, h]

theorem blk_b (i : Fin 512) (l : Fin 128) : iblk m d 7 t (ix2 i l) = V m d main_v29 (ix2 (posOf t i) l) := by
  obtain ⟨-, -, -, h⟩ := idx_row t
  blk_ext [iblk, h]

/-- The rows of a point's tile in the results. -/
theorem read_q (A : S4x8x4096x128.Idx → EReal) (h : Fin 8) (i : Fin 512) (l : Fin 128) :
    ((cfg0.win 8).blk t).view.read (Elt 𝕀) A (ix4 0 h i l) = A (ix4 (seqOf t) h (posOf t i) l) := by
  obtain ⟨e, -, -⟩ := idx_res t
  blk_ext [e]

theorem read_k (A : S4x8x4096x128.Idx → EReal) (h : Fin 8) (i : Fin 512) (l : Fin 128) :
    ((cfg0.win 9).blk t).view.read (Elt 𝕀) A (ix4 0 h i l) = A (ix4 (seqOf t) h (posOf t i) l) := by
  obtain ⟨-, e, -⟩ := idx_res t
  blk_ext [e]

theorem read_v (A : S4x8x4096x128.Idx → EReal) (h : Fin 8) (i : Fin 512) (l : Fin 128) :
    ((cfg0.win 10).blk t).view.read (Elt 𝕀) A (ix4 0 h i l) = A (ix4 (seqOf t) h (posOf t i) l) := by
  obtain ⟨-, -, e⟩ := idx_res t
  blk_ext [e]

/-- What a point reads, by name. -/
theorem row_of (i : Fin 512) : (fun l => iblk m d 0 t (ix3 0 i l)) = row m d (seqOf t) (posOf t i) :=
  funext fun l => (blk_x m d t i l).trans (congrFun (V_main_arg0 m d) _)
theorem gain_of : (fun l => iblk m d 1 t (ix2 0 l)) = gain m d := funext fun l => (blk_g m d t l).trans (entry_g m d l)
theorem weight_of : (fun k j => iblk m d 2 t (ix2 k j)) = weight m d := funext fun k => funext fun j => (blk_w m d t k j).trans (entry_w m d k j)
theorem qgain_of : (fun l => iblk m d 3 t (ix2 0 l)) = qgain m d := funext fun l => (blk_q m d t l).trans (entry_q m d l)
theorem kgain_of : (fun l => iblk m d 4 t (ix2 0 l)) = kgain m d := funext fun l => (blk_k m d t l).trans (entry_k m d l)
theorem c_of (i : Fin 512) : (fun l => iblk m d 5 t (ix2 i l)) = cosT (cosOf (posOf t i)) :=
  funext fun l => (blk_c m d t i l).trans ((congrFun (entry_c m d) _).trans (joinC_value _ _ l))
theorem a_of (i : Fin 512) : (fun l => iblk m d 6 t (ix2 i l)) = sinA (sinOf (posOf t i)) :=
  funext fun l => (blk_a m d t i l).trans ((congrFun (entry_a m d) _).trans (joinA_value _ _ l))
theorem b_of (i : Fin 512) : (fun l => iblk m d 7 t (ix2 i l)) = sinB (sinOf (posOf t i)) :=
  funext fun l => (blk_b m d t i l).trans ((congrFun (entry_b m d) _).trans (joinB_value _ _ l))

/-- Every row is in some point's tile. -/
theorem exists_point (b : Fin 4) (s : Fin 4096) : ∃ (t : Fin cfg0.N) (i : Fin 512), b = seqOf t ∧ s = posOf t i := by
  have hN : cfg0.N = 32 := N_0
  have hb := b.isLt
  have hs := s.isLt
  refine ⟨⟨8 * b.val + s.val / 512, by omega⟩, ⟨s.val % 512, Nat.mod_lt _ (by omega)⟩, Fin.ext ?_, Fin.ext ?_⟩
  · show b.val = (8 * b.val + s.val / 512) / 8
    omega
  · show s.val = 512 * ((8 * b.val + s.val / 512) % 8) + s.val % 512
    omega

/-- The queries, entry by entry. -/
theorem q_value (b : Fin 4) (h : Fin 8) (s : Fin 4096) (l : Fin 128) : (dats m 0 d).arrAt 8 cfg0.N (ix4 b h s l)
    = turn (headNorm (fun l => proj (row m d b s) (gain m d) (weight m d) (qcol h l)) (qgain m d)) (cosOf s) (sinOf s) l := by
  obtain ⟨t, i, rfl, rfl⟩ := exists_point b s
  have e := congrFun (blocks8 m d t (flush0_8 _)) (ix4 0 h i l)
  rw [read_q, flushed8] at e
  rw [← mixed_tables, ← row_of, ← gain_of m d t, ← weight_of m d t, ← qgain_of m d t, ← c_of m d t i, ← a_of m d t i, ← b_of m d t i]
  exact e.trans (q_tile _ _ _ _ _ _ _ _ h i l)

/-- The keys, entry by entry. -/
theorem k_value (b : Fin 4) (h : Fin 8) (s : Fin 4096) (l : Fin 128) : (dats m 0 d).arrAt 9 cfg0.N (ix4 b h s l)
    = turn (headNorm (fun l => proj (row m d b s) (gain m d) (weight m d) (kcol h l)) (kgain m d)) (cosOf s) (sinOf s) l := by
  obtain ⟨t, i, rfl, rfl⟩ := exists_point b s
  have e := congrFun (blocks9 m d t (flush0_9 _)) (ix4 0 h i l)
  rw [read_k, flushed9] at e
  rw [← mixed_tables, ← row_of, ← gain_of m d t, ← weight_of m d t, ← kgain_of m d t, ← c_of m d t i, ← a_of m d t i, ← b_of m d t i]
  exact e.trans (k_tile _ _ _ _ _ _ _ _ h i l)

/-- The values, entry by entry. -/
theorem v_value (b : Fin 4) (h : Fin 8) (s : Fin 4096) (l : Fin 128) : (dats m 0 d).arrAt 10 cfg0.N (ix4 b h s l)
    = proj (row m d b s) (gain m d) (weight m d) (vcol h l) := by
  obtain ⟨t, i, rfl, rfl⟩ := exists_point b s
  have e := congrFun (blocks10 m d t (flush0_10 _)) (ix4 0 h i l)
  rw [read_v, flushed10] at e
  rw [← row_of, ← gain_of m d t, ← weight_of m d t]
  exact e.trans (v_tile _ _ _ _ _ _ _ _ h i l)

end Cert.Qkv

end
-- ==== Proof.QkvRef.lean ====
/- What the reference of the projection to queries, keys and values computes, row by row, and the claims of the call. -/
module

public import proofs.«01_k».proof.Defs
public import proofs.«01_k».proof.Proof.QkvOut
public import proofs.«01_k».proof.Proof.FfnRefRow
public import proofs.«01_k».proof.Proof.Gen.Kernel4Ideal
public import proofs.«01_k».proof.Proof.Gen.Reference4Ideal.Run
public import Idealize.ShloMosaic.Lib.Quiescent

@[expose] public section

set_option maxRecDepth 16384

noncomputable section

namespace Cert.Qkv

open Idealize.ShloMosaic Idealize.ShloMosaic.TcCoe Idealize.SL.Sem Cert.Reference4Ideal Cert.Reference4Ideal.Gen Cert.Reference4Ideal.Value
open Cert.Inproj (proj)

local notation "𝕀" => Idealize.ShloMosaic.Ideal

/-- All columns of the projection, as queries, keys and values of all heads. -/
def plainAll (x : FVec 𝕀 S4x4096x1024 .f32) (g : FVec 𝕀 S1x1024 .f32) (w : FVec 𝕀 S1x1024x3072 .f32) : FVec 𝕀 S3x4x8x4096x128 .f32 :=
  transpose S3x4x8x4096x128 [2, 0, 3, 1, 4] (shapeCast S4x4096x3x8x128
    (Host.dotGeneral dot_S4x4096x1024_S1024x3072_S4x4096x3072_2_0_01_1_n_n none (Ffn.plainNorm (F := 𝕀) x (shapeCast _ g shapeCasts_S1x1024_S1024))
      (shapeCast _ w shapeCasts_S1x1024x3072_S1024x3072)) shapeCasts_S4x4096x3072_S4x4096x3x8x128) transposes_S4x4096x3x8x128_S3x4x8x4096x128_2_0_3_1_4

/-- All columns of the projection, entry by entry. -/
theorem plainAll_value (x : FVec 𝕀 S4x4096x1024 .f32) (g : FVec 𝕀 S1x1024 .f32) (w : FVec 𝕀 S1x1024x3072 .f32) (p : Fin 3) (b : Fin 4) (h : Fin 8) (s : Fin 4096) (l : Fin 128) :
    plainAll x g w (ix5 p b h s l) = proj (fun l => x (ix3 b s l)) (fun l => g (ix2 0 l)) (fun k j => w (ix3 0 k j)) (⟨p.val * 1024 + h.val * 128 + l.val, by omega⟩ : Fin 3072) := by
  unfold proj
  pointwise [plainAll]
  simp only [Ffn.plainNorm_value]
  pointwise

/-- The queries, the keys and the values. -/
def plainQ (a : FVec 𝕀 S3x4x8x4096x128 .f32) : FVec 𝕀 S4x8x4096x128 .f32 :=
  shapeCast _ (extractStridedSlice S1x4x8x4096x128 ![0, 0, 0, 0, 0] a slices_S3x4x8x4096x128_S1x4x8x4096x128_0_0_0_0_0) shapeCasts_S1x4x8x4096x128_S4x8x4096x128
def plainK (a : FVec 𝕀 S3x4x8x4096x128 .f32) : FVec 𝕀 S4x8x4096x128 .f32 :=
  shapeCast _ (extractStridedSlice S1x4x8x4096x128 ![1, 0, 0, 0, 0] a slices_S3x4x8x4096x128_S1x4x8x4096x128_1_0_0_0_0) shapeCasts_S1x4x8x4096x128_S4x8x4096x128
def plainV (a : FVec 𝕀 S3x4x8x4096x128 .f32) : FVec 𝕀 S4x8x4096x128 .f32 :=
  shapeCast _ (extractStridedSlice S1x4x8x4096x128 ![2, 0, 0, 0, 0] a slices_S3x4x8x4096x128_S1x4x8x4096x128_2_0_0_0_0) shapeCasts_S1x4x8x4096x128_S4x8x4096x128

theorem plainQ_value (a : FVec 𝕀 S3x4x8x4096x128 .f32) (b : Fin 4) (h : Fin 8) (s : Fin 4096) (l : Fin 128) : plainQ a (ix4 b h s l) = a (ix5 0 b h s l) := by
  pointwise [plainQ]
theorem plainK_value (a : FVec 𝕀 S3x4x8x4096x128 .f32) (b : Fin 4) (h : Fin 8) (s : Fin 4096) (l : Fin 128) : plainK a (ix4 b h s l) = a (ix5 1 b h s l) := by
  pointwise [plainK]
theorem plainV_value (a : FVec 𝕀 S3x4x8x4096x128 .f32) (b : Fin 4) (h : Fin 8) (s : Fin 4096) (l : Fin 128) : plainV a (ix4 b h s l) = a (ix5 2 b h s l) := by
  pointwise [plainV]

/-- The heads' values, normalised. -/
def plainHead (u : FVec 𝕀 S4x8x4096x128 .f32) (g : FVec 𝕀 S1x128 .f32) : FVec 𝕀 S4x8x4096x128 .f32 :=
  mulf (mulf u (broadcastInDim S4x8x4096x128 ![0, 1, 2, 3] bcast_S4x8x4096x1_S4x8x4096x128_0_1_2_3 (Host.rsqrt (addf (Host.divf
      (broadcastInDim S4x8x4096x1 ![0, 1, 2] bcast_S4x8x4096_S4x8x4096x1_0_1_2 (Host.reduceAdd (mulf u u) (constant S_ .f32 0x00000000#32) reducesTo_S4x8x4096x128_S4x8x4096_d3 h_S_))
      (broadcastInDim S4x8x4096x1 ![] bcast_S_S4x8x4096x1 (constant S_ .f32 0x43000000#32))) (broadcastInDim S4x8x4096x1 ![] bcast_S_S4x8x4096x1 (constant S_ .f32 0x358637BD#32))))))
    (broadcastInDim S4x8x4096x128 ![0, 1, 2, 3] bcast_S1x1x1x128_S4x8x4096x128_0_1_2_3 (broadcastInDim S1x1x1x128 ![3] bcast_S128_S1x1x1x128_3 (shapeCast _ g shapeCasts_S1x128_S128)))

theorem plainHead_value (u : FVec 𝕀 S4x8x4096x128 .f32) (g : FVec 𝕀 S1x128 .f32) (b : Fin 4) (h : Fin 8) (s : Fin 4096) (l : Fin 128) :
    plainHead u g (ix4 b h s l) = headNorm (fun l => u (ix4 b h s l)) (fun l => g (ix2 0 l)) l := by
  unfold headNorm
  pointwise [plainHead]

/-- A table for all sequences and heads. -/
def overHeads (f : FVec 𝕀 S4096x16 .f32) : FVec 𝕀 S4x8x4096x16 .f32 :=
  broadcastInDim S4x8x4096x16 ![0, 1, 2, 3] bcast_S1x1x4096x16_S4x8x4096x16_0_1_2_3 (broadcastInDim S1x1x4096x16 ![2, 3] bcast_S4096x16_S1x1x4096x16_2_3 f)

/-- The first sixteen lanes, and the second sixteen. -/
def fst (n : FVec 𝕀 S4x8x4096x128 .f32) : FVec 𝕀 S4x8x4096x16 .f32 := extractStridedSlice S4x8x4096x16 ![0, 0, 0, 0] n slices_S4x8x4096x128_S4x8x4096x16_0_0_0_0
def snd (n : FVec 𝕀 S4x8x4096x128 .f32) : FVec 𝕀 S4x8x4096x16 .f32 := extractStridedSlice S4x8x4096x16 ![0, 0, 0, 16] n slices_S4x8x4096x128_S4x8x4096x16_0_0_0_16

/-- The first 32 lanes turned, the others as they are. -/
def plainTurn (n : FVec 𝕀 S4x8x4096x128 .f32) (c s : FVec 𝕀 S4096x16 .f32) : FVec 𝕀 S4x8x4096x128 .f32 :=
  concatenate S4x8x4096x128 3 [⟨S4x8x4096x32, concatenate S4x8x4096x32 3 [⟨S4x8x4096x16, subf (mulf (fst n) (overHeads c)) (mulf (snd n) (overHeads s))⟩,
    ⟨S4x8x4096x16, addf (mulf (snd n) (overHeads c)) (mulf (fst n) (overHeads s))⟩] concatenates_S4x8x4096x16_S4x8x4096x16_S4x8x4096x32_d3⟩,
    ⟨S4x8x4096x96, extractStridedSlice S4x8x4096x96 ![0, 0, 0, 32] n slices_S4x8x4096x128_S4x8x4096x96_0_0_0_32⟩] concatenates_S4x8x4096x32_S4x8x4096x96_S4x8x4096x128_d3

theorem plainTurn_value (n : FVec 𝕀 S4x8x4096x128 .f32) (c s : FVec 𝕀 S4096x16 .f32) (b : Fin 4) (h : Fin 8) (t : Fin 4096) (l : Fin 128) :
    plainTurn n c s (ix4 b h t l) = turn (fun l => n (ix4 b h t l)) (fun j => c (ix2 t j)) (fun j => s (ix2 t j)) l := by
  have hl := l.isLt
  unfold turn
  pointwise [plainTurn, fst, snd, overHeads]
  by_cases h1 : l.val < 16
  · have h2 : l.val < 32 := by omega
    have e : (⟨16 + l.val, by omega⟩ : Fin 128) = ⟨l.val + 16, by omega⟩ := Fin.ext (Nat.add_comm _ _)
    simp only [dif_pos h1, dif_pos h2, e]
  · by_cases h2 : l.val < 32
    · have e : (⟨16 + (l.val - 16), by omega⟩ : Fin 128) = l := Fin.ext (by show 16 + (l.val - 16) = l.val; omega)
      simp only [dif_neg h1, dif_pos h2, e]
    · have e : (⟨32 + (l.val - 32), by omega⟩ : Fin 128) = l := Fin.ext (by show 32 + (l.val - 32) = l.val; omega)
      simp only [dif_neg h1, dif_neg h2, e]

/-- A head's queries and keys: normalised and turned. -/
def plainRes (u : FVec 𝕀 S4x8x4096x128 .f32) (g : FVec 𝕀 S1x128 .f32) : FVec 𝕀 S4x8x4096x128 .f32 := plainTurn (plainHead u g) (Host.cos angle) (Host.sin angle)

theorem plainRes_value (u : FVec 𝕀 S4x8x4096x128 .f32) (g : FVec 𝕀 S1x128 .f32) (b : Fin 4) (h : Fin 8) (t : Fin 4096) (l : Fin 128) :
    plainRes u g (ix4 b h t l) = turn (headNorm (fun l => u (ix4 b h t l)) (fun l => g (ix2 0 l))) (cosOf t) (sinOf t) l := by
  unfold plainRes
  rw [plainTurn_value]
  simp only [plainHead_value]
  rfl

section eq

variable (m : (ℓ : Loc Cert.Kernel4Ideal.nD Cert.Kernel4Ideal.τ Cert.Kernel4Ideal.sig) → Buf (Elt 𝕀) ℓ) (m' : (ℓ : Loc nD τ sig) → Buf (Elt 𝕀) ℓ) (c : Dev nD)

/-- The reference's columns, from its memory. -/
def refAll : FVec 𝕀 S3x4x8x4096x128 .f32 :=
  plainAll (m' ((c.tc : Thread nD τ).loc main_arg0)) (m' ((c.tc : Thread nD τ).loc main_arg1)) (m' ((c.tc : Thread nD τ).loc main_arg2))

/-- The reference's three results, from its memory. -/
def refQ : FVec 𝕀 S4x8x4096x128 .f32 := plainRes (plainQ (refAll m' c)) (m' ((c.tc : Thread nD τ).loc main_arg3))
def refK : FVec 𝕀 S4x8x4096x128 .f32 := plainRes (plainK (refAll m' c)) (m' ((c.tc : Thread nD τ).loc main_arg4))
def refV : FVec 𝕀 S4x8x4096x128 .f32 := plainV (refAll m' c)

/-- The reference's columns, from the kernel's memory. -/
def kerAll : FVec 𝕀 S3x4x8x4096x128 .f32 :=
  plainAll (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2))

/-- The reference's three results, from the kernel's memory. -/
def kerQ : FVec 𝕀 S4x8x4096x128 .f32 := plainRes (plainQ (kerAll m c)) (m ((c.tc : Thread Cert.Kernel4Ideal.nD Cert.Kernel4Ideal.τ).loc Cert.Kernel4Ideal.main_arg3))
def kerK : FVec 𝕀 S4x8x4096x128 .f32 := plainRes (plainK (kerAll m c)) (m ((c.tc : Thread Cert.Kernel4Ideal.nD Cert.Kernel4Ideal.τ).loc Cert.Kernel4Ideal.main_arg4))
def kerV : FVec 𝕀 S4x8x4096x128 .f32 := plainV (kerAll m c)

/-- A column of the projection in the two ways of counting it. -/
theorem kerAll_value (p : Fin 3) (j : Fin 3072) (b : Fin 4) (h : Fin 8) (s : Fin 4096) (l : Fin 128) (hj : j.val = p.val * 1024 + h.val * 128 + l.val) :
    kerAll m c (ix5 p b h s l) = proj (row m c b s) (gain m c) (weight m c) j := by
  rw [kerAll, plainAll_value]
  exact congrArg (proj (row m c b s) (gain m c) (weight m c)) (Fin.ext hj.symm)

theorem q_eq : kerQ m c = (Cert.Kernel4Ideal.Gen.dats m 0 c).arrAt 8 Cert.Kernel4Ideal.cfg0.N := by
  funext y
  obtain ⟨b, h, s, l, rfl⟩ : ∃ (b : Fin 4) (h : Fin 8) (s : Fin 4096) (l : Fin 128), y = ix4 b h s l := ⟨y 0, y 1, y 2, y 3, by idx_ext⟩
  rw [kerQ, plainRes_value]
  simp only [plainQ_value]
  have e : (fun l => kerAll m c (ix5 0 b h s l)) = fun l => proj (row m c b s) (gain m c) (weight m c) (qcol h l) :=
    funext fun l => kerAll_value m c 0 _ b h s l (by show 128 * h.val + l.val = 0 * 1024 + h.val * 128 + l.val; omega)
  rw [e]
  exact (q_value m c b h s l).symm

theorem k_eq : kerK m c = (Cert.Kernel4Ideal.Gen.dats m 0 c).arrAt 9 Cert.Kernel4Ideal.cfg0.N := by
  funext y
  obtain ⟨b, h, s, l, rfl⟩ : ∃ (b : Fin 4) (h : Fin 8) (s : Fin 4096) (l : Fin 128), y = ix4 b h s l := ⟨y 0, y 1, y 2, y 3, by idx_ext⟩
  rw [kerK, plainRes_value]
  simp only [plainK_value]
  have e : (fun l => kerAll m c (ix5 1 b h s l)) = fun l => proj (row m c b s) (gain m c) (weight m c) (kcol h l) :=
    funext fun l => kerAll_value m c 1 _ b h s l (by show 1024 + (128 * h.val + l.val) = 1 * 1024 + h.val * 128 + l.val; omega)
  rw [e]
  exact (k_value m c b h s l).symm

theorem v_eq : kerV m c = (Cert.Kernel4Ideal.Gen.dats m 0 c).arrAt 10 Cert.Kernel4Ideal.cfg0.N := by
  funext y
  obtain ⟨b, h, s, l, rfl⟩ : ∃ (b : Fin 4) (h : Fin 8) (s : Fin 4096) (l : Fin 128), y = ix4 b h s l := ⟨y 0, y 1, y 2, y 3, by idx_ext⟩
  rw [kerV, plainV_value]
  exact (kerAll_value m c 2 (vcol h l) b h s l (by show 2048 + (128 * h.val + l.val) = 2 * 1024 + h.val * 128 + l.val; omega)).trans (v_value m c b h s l).symm

end eq

/-- The named long results are the reference's queries and keys. -/
theorem res_q (m : (ℓ : Loc nD τ sig) → Buf (Elt 𝕀) ℓ) (c : Dev nD) : res_main_v69 m c = refQ m c := by
  unfold res_main_v69
  rfl
theorem res_k (m : (ℓ : Loc nD τ sig) → Buf (Elt 𝕀) ℓ) (c : Dev nD) : res_main_v120 m c = refK m c := by
  unfold res_main_v120
  rfl

/-- The reference runs: its results are the queries, the keys and the values, its arguments as they were. -/
theorem runR (m : (ℓ : Loc nD τ sig) → Buf (Elt 𝕀) ℓ) (ρ : Dev nD → PrngReg) :
    θ_run (defs (F := 𝕀)) (onTc (τ := τ) (main (F := 𝕀))) ⟨m, fun _ => 0, ρ⟩ fun r => ∀ c : Dev nD,
      r.2.mem ((c.tc : Thread nD τ).loc main_v69) = refQ m c
      ∧ r.2.mem ((c.tc : Thread nD τ).loc main_v120) = refK m c
      ∧ r.2.mem ((c.tc : Thread nD τ).loc main_v122) = refV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := 𝕀)) _ _).mono (fun _ h c => ⟨(h c).1.trans (res_q m c), (h c).2.1.trans (res_k m c), (h c).2.2.1.trans rfl, (h c).2.2.2⟩) (run (F := 𝕀) m ρ)

/-- The reference runs, leaves its arguments as they were and no semaphore raised. -/
theorem reference_kept : Cert.quiescent_Reference4Ideal := fun m ρ _ =>
  (θ_run (defs (F := 𝕀)) _ _).mono (fun r h => ⟨fun c => (h c).2.2.2, sem_eq_zero_of_no_sems (by decide) r.2⟩) (runR m ρ)

/-- The two programs run from memories that agree on the arguments and end with equal results, the arguments as they were. -/
theorem equal : Cert.algebraic_Kernel4Ideal_Reference4Ideal := fun m ρ m' ρ' _ hag =>
  have ha : ∀ c, refAll m' c = kerAll m c := fun c => by
    obtain ⟨h0, h1, h2, -, -⟩ := hag c
    unfold refAll kerAll
    rw [← h0, ← h1, ← h2]
  have hq : ∀ c, refQ m' c = kerQ m c := fun c => by
    obtain ⟨-, -, -, h3, -⟩ := hag c
    unfold refQ kerQ
    rw [← h3, ha]
  have hk : ∀ c, refK m' c = kerK m c := fun c => by
    obtain ⟨-, -, -, -, h4⟩ := hag c
    unfold refK kerK
    rw [← h4, ha]
  ⟨fun c => (Cert.Kernel4Ideal.Gen.dats m 0 c).arrAt 8 Cert.Kernel4Ideal.cfg0.N, fun c => (Cert.Kernel4Ideal.Gen.dats m 0 c).arrAt 9 Cert.Kernel4Ideal.cfg0.N,
    fun c => (Cert.Kernel4Ideal.Gen.dats m 0 c).arrAt 10 Cert.Kernel4Ideal.cfg0.N, Cert.Kernel4Ideal.Value.run_blocks (F := 𝕀) m ρ,
    (θ_run (defs (F := 𝕀)) _ _).mono (fun _ h c => ⟨(h c).1.trans ((hq c).trans (q_eq m c)), (h c).2.1.trans ((hk c).trans (k_eq m c)),
      (h c).2.2.1.trans ((congrArg plainV (ha c)).trans (v_eq m c)), (h c).2.2.2⟩) (runR m' ρ')⟩

end Cert.Qkv

end
-- ==== Proof.SampleNorm.lean ====
/- The plain norm over the rows of the sample batch. -/
module

public import proofs.«01_k».proof.Proof.FfnSpec
public import proofs.«01_k».proof.Proof.Gen.Reference6Ideal.Run

@[expose] public section

set_option maxRecDepth 16384

noncomputable section

namespace Cert.Sample

open Idealize.ShloMosaic Cert.Reference6Ideal Cert.Reference6Ideal.Gen

local notation "𝕀" => Idealize.ShloMosaic.Ideal

/-- The sample batch's rows, normalised. -/
def plainNorm {F : FTy → Type} [FloatOps F] (h : FVec F S32x4x1024 .f32) (g : FVec F S1024 .f32) : FVec F S32x4x1024 .f32 :=
  mulf (mulf h (broadcastInDim S32x4x1024 ![0, 1, 2] bcast_S32x4x1_S32x4x1024_0_1_2 (Host.rsqrt (addf (Host.divf (broadcastInDim S32x4x1 ![0, 1] bcast_S32x4_S32x4x1_0_1
      (Host.reduceAdd (mulf h h) (constant S_ .f32 0x00000000#32) reducesTo_S32x4x1024_S32x4_d2 h_S_)) (broadcastInDim S32x4x1 ![] bcast_S_S32x4x1 (constant S_ .f32 0x44800000#32)))
      (broadcastInDim S32x4x1 ![] bcast_S_S32x4x1 (constant S_ .f32 0x358637BD#32))))))
    (broadcastInDim S32x4x1024 ![0, 1, 2] bcast_S1x1x1024_S32x4x1024_0_1_2 (broadcastInDim S1x1x1024 ![2] bcast_S1024_S1x1x1024_2 g))

/-- The normalised rows, entry by entry. -/
theorem plainNorm_value (h : FVec 𝕀 S32x4x1024 .f32) (g : FVec 𝕀 S1024 .f32) (b : Fin 32) (s : Fin 4) (l : Fin 1024) :
    plainNorm h g (ix3 b s l) = Ffn.norm (fun l => h (ix3 b s l)) (fun l => g (ix1 l)) l := by
  unfold Ffn.norm
  pointwise [plainNorm]

/-- The sequence and the position of a row of the sample batch. -/
abbrev seqOf (r : Fin 128) : Fin 32 := ⟨r.val / 4, by have := r.isLt; omega⟩
abbrev posOf (r : Fin 128) : Fin 4 := ⟨r.val % 4, Nat.mod_lt _ (by omega)⟩

end Cert.Sample

end
-- ==== Proof.InprojSample.lean ====
/- The input projection of the sample batch: one point, whose tile is all 128 rows. -/
module

public import proofs.«01_k».proof.Defs
public import proofs.«01_k».proof.Proof.InprojOut
public import proofs.«01_k».proof.Proof.SampleNorm
public import proofs.«01_k».proof.Proof.Gen.Kernel6Ideal
public import proofs.«01_k».proof.Proof.Gen.Kernel6Ideal.Value
public import Idealize.ShloMosaic.Lib.Quiescent

@[expose] public section

set_option maxRecDepth 16384

noncomputable section

namespace Cert.Inproj.Sample

open Idealize.ShloMosaic Idealize.ShloMosaic.TcCoe Idealize.SL.Sem Cert.Inproj
open Cert.Sample (seqOf posOf)

local notation "𝕀" => Idealize.ShloMosaic.Ideal

section kernel

open Cert.Kernel6Ideal Cert.Kernel6Ideal.Gen Cert.Kernel6Ideal.Value

section tile

variable (x0 : Vec 𝕀 S128x1024 .f32) (x1 : Vec 𝕀 S1x1024 .f32) (x2 : Vec 𝕀 S1024x2048 .bf16) (x3 : Vec 𝕀 S1024x3072 .bf16) (x4 : Vec 𝕀 S1024x128 .bf16) (i : Fin 128)

/-- The tile's normalised rows. -/
theorem normed_value (k : Fin 1024) : k0_pay1 x0 x1 (ix2 i k) = Ffn.norm (fun l => x0 (ix2 i l)) (fun l => x1 (ix2 0 l)) k := by
  unfold Ffn.norm
  pointwise [k0_pay1]

/-- The tile of the gate's columns. -/
theorem tile_z (j : Fin 2048) : out0_5 x0 x1 x2 x3 x4 (ix2 i j) = proj (fun l => x0 (ix2 i l)) (fun l => x1 (ix2 0 l)) (fun k j => x2 (ix2 k j)) j := by
  unfold out0_5 proj
  rw [View.canon_cons_unit_zero (by decide +kernel), View.ld_unit_zero (by decide +kernel) _ x0, View.ld_unit_zero (by decide +kernel) _ x1, View.ld_unit_zero (by decide +kernel) _ x2]
  pointwise [k0_pay2]
  simp only [normed_value]

/-- The tile of the convolution's columns. -/
theorem tile_x (j : Fin 3072) : out0_6 x0 x1 x2 x3 x4 (ix2 i j) = proj (fun l => x0 (ix2 i l)) (fun l => x1 (ix2 0 l)) (fun k j => x3 (ix2 k j)) j := by
  unfold out0_6 proj
  rw [View.canon_cons_unit_zero (by decide +kernel), View.ld_unit_zero (by decide +kernel) _ x0, View.ld_unit_zero (by decide +kernel) _ x1, View.ld_unit_zero (by decide +kernel) _ x3]
  pointwise [k0_pay3]
  simp only [normed_value]

/-- The tile of the steps' columns. -/
theorem tile_dt (j : Fin 128) : out0_7 x0 x1 x2 x3 x4 (ix2 i j) = proj (fun l => x0 (ix2 i l)) (fun l => x1 (ix2 0 l)) (fun k j => x4 (ix2 k j)) j := by
  unfold out0_7 proj
  rw [View.canon_cons_unit_zero (by decide +kernel), View.ld_unit_zero (by decide +kernel) _ x0, View.ld_unit_zero (by decide +kernel) _ x1, View.ld_unit_zero (by decide +kernel) _ x4]
  pointwise [k0_pay4]
  simp only [normed_value]

end tile

variable (m : (ℓ : Loc nD τ sig) → Buf (Elt 𝕀) ℓ) (d : Dev nD)

/-- A row of the residual, the norm's gain, and the weight's columns. -/
def rows (r : Fin 128) : Fin 1024 → EReal := fun l => m ((d : Thread nD τ).loc main_arg0) (ix3 (seqOf r) (posOf r) l)
def gains : Fin 1024 → EReal := fun l => m ((d : Thread nD τ).loc main_arg1) (ix2 0 l)
def weight : Fin 1024 → Fin 5152 → EReal := fun k j => m ((d : Thread nD τ).loc main_arg2) (ix3 0 k j)

/-- All windows take their array's first block. -/
theorem idx : ∀ t : Fin cfg0.N, (win0_0.index t = ![0, 0] ∧ win0_1.index t = ![0, 0] ∧ win0_2.index t = ![0, 0] ∧ win0_3.index t = ![0, 0])
    ∧ win0_4.index t = ![0, 0] ∧ win0_5.index t = ![0, 0] ∧ win0_6.index t = ![0, 0] ∧ win0_7.index t = ![0, 0] :=
  (by decide +kernel : ∀ t : Fin grid0.N, _)

theorem host_x (r : Fin 128) (l : Fin 1024) : V m d main_v8 (ix2 r l) = rows m d r l := by
  unfold rows
  simp only [V, hostOps0, hostOps0_1, hostOps0_2, List.flatten_cons, List.flatten_nil, List.append_nil, List.cons_append, List.nil_append]
  entry_read
  pointwise

theorem host_g (l : Fin 1024) : V m d main_v10 (ix2 0 l) = gains m d l := by
  unfold gains
  simp only [V, hostOps0, hostOps0_1, hostOps0_2, List.flatten_cons, List.flatten_nil, List.append_nil, List.cons_append, List.nil_append]
  entry_read
  pointwise

theorem host_wz (k : Fin 1024) (j : Fin 2048) : V m d main_v2 (ix2 k j) = weight m d k ⟨j.val, by omega⟩ := by
  unfold weight
  simp only [V, hostOps0, hostOps0_1, hostOps0_2, List.flatten_cons, List.flatten_nil, List.append_nil, List.cons_append, List.nil_append]
  entry_read
  pointwise

theorem host_wx (k : Fin 1024) (j : Fin 3072) : V m d main_v4 (ix2 k j) = weight m d k ⟨2048 + j.val, by omega⟩ := by
  unfold weight
  simp only [V, hostOps0, hostOps0_1, hostOps0_2, List.flatten_cons, List.flatten_nil, List.append_nil, List.cons_append, List.nil_append]
  entry_read
  pointwise

theorem host_wdt (k : Fin 1024) (j : Fin 128) : V m d main_v7 (ix2 k j) = wide (fun e => weight m d k ⟨5120 + e.val, by omega⟩) j := by
  simp only [V, hostOps0, hostOps0_1, hostOps0_2, List.flatten_cons, List.flatten_nil, List.append_nil, List.cons_append, List.nil_append]
  entry_read
  show (pad S1024x128 ![0, 0] ![0, 96] ![0, 0] (cutDt (m ((d : Thread nD τ).loc main_arg2))) (sitofp (F := 𝕀) .f32 (constantI S_ 32 0#32)) pads_S1024x32_S1024x128_000_0960 h_S_ : Vec 𝕀 S1024x128 .f32) (ix2 k j) = _
  pointwise
  unfold wide
  split
  · exact cutDt_value _ _ _
  · show ((((0#32 : BitVec 32).toInt : ℤ) : ℝ) : EReal) = 0
    simp

variable (t : Fin cfg0.N)

/-- What the point reads. -/
theorem reads_x (i : Fin 128) : (fun l => iblk m d 0 t (ix2 i l)) = rows m d i := funext fun l => by
  obtain ⟨⟨h, -, -, -⟩, -⟩ := idx t
  exact Eq.trans (by blk_ext [iblk, h]) (host_x m d i l)
theorem reads_g : (fun l => iblk m d 1 t (ix2 0 l)) = gains m d := funext fun l => by
  obtain ⟨⟨-, h, -, -⟩, -⟩ := idx t
  exact Eq.trans (by blk_ext [iblk, h]) (host_g m d l)
theorem reads_wz : (fun k j => iblk m d 2 t (ix2 k j)) = fun k (j : Fin 2048) => weight m d k ⟨j.val, by omega⟩ := funext fun k => funext fun j => by
  obtain ⟨⟨-, -, h, -⟩, -⟩ := idx t
  exact Eq.trans (by blk_ext [iblk, h]) (host_wz m d k j)
theorem reads_wx : (fun k j => iblk m d 3 t (ix2 k j)) = fun k (j : Fin 3072) => weight m d k ⟨2048 + j.val, by omega⟩ := funext fun k => funext fun j => by
  obtain ⟨⟨-, -, -, h⟩, -⟩ := idx t
  exact Eq.trans (by blk_ext [iblk, h]) (host_wx m d k j)
theorem reads_wdt : (fun k j => iblk m d 4 t (ix2 k j)) = fun k => wide (fun e => weight m d k ⟨5120 + e.val, by omega⟩) := funext fun k => funext fun j => by
  obtain ⟨-, h, -⟩ := idx t
  exact Eq.trans (by blk_ext [iblk, h]) (host_wdt m d k j)

/-- The tile is the whole of each result. -/
theorem whole_z (A : S128x2048.Idx → EReal) (i : Fin 128) (j : Fin 2048) : ((cfg0.win 5).blk t).view.read (Elt 𝕀) A (ix2 i j) = A (ix2 i j) := by
  obtain ⟨-, -, h, -⟩ := idx t
  blk_ext [h]
theorem whole_x (A : S128x3072.Idx → EReal) (i : Fin 128) (j : Fin 3072) : ((cfg0.win 6).blk t).view.read (Elt 𝕀) A (ix2 i j) = A (ix2 i j) := by
  obtain ⟨-, -, -, h, -⟩ := idx t
  blk_ext [h]
theorem whole_dt (A : S128x128.Idx → EReal) (i : Fin 128) (j : Fin 128) : ((cfg0.win 7).blk t).view.read (Elt 𝕀) A (ix2 i j) = A (ix2 i j) := by
  obtain ⟨-, -, -, -, h⟩ := idx t
  blk_ext [h]

/-- The only point. -/
abbrev only : Fin cfg0.N := ⟨0, by have h : cfg0.N = 1 := N_0; omega⟩

/-- The gate's array, entry by entry. -/
theorem array_z (r : Fin 128) (j : Fin 2048) : (dats m 0 d).arrAt 5 cfg0.N (ix2 r j) = proj (rows m d r) (gains m d) (weight m d) ⟨j.val, by omega⟩ := by
  have e := congrFun (blocks5 m d only (flush0_5 _)) (ix2 r j)
  rw [whole_z, flushed5] at e
  refine (e.trans (tile_z _ _ _ _ _ r j)).trans ?_
  rw [reads_x, reads_g, reads_wz]
  rfl

/-- The convolution's array, entry by entry. -/
theorem array_x (r : Fin 128) (j : Fin 3072) : (dats m 0 d).arrAt 6 cfg0.N (ix2 r j) = proj (rows m d r) (gains m d) (weight m d) ⟨2048 + j.val, by omega⟩ := by
  have e := congrFun (blocks6 m d only (flush0_6 _)) (ix2 r j)
  rw [whole_x, flushed6] at e
  refine (e.trans (tile_x _ _ _ _ _ r j)).trans ?_
  rw [reads_x, reads_g, reads_wx]
  rfl

/-- The steps' array, entry by entry. -/
theorem array_dt (r : Fin 128) (j : Fin 128) : (dats m 0 d).arrAt 7 cfg0.N (ix2 r j) = wide (fun e => proj (rows m d r) (gains m d) (weight m d) ⟨5120 + e.val, by omega⟩) j := by
  have e := congrFun (blocks7 m d only (flush0_7 _)) (ix2 r j)
  rw [whole_dt, flushed7] at e
  refine (e.trans (tile_dt _ _ _ _ _ r j)).trans ?_
  rw [reads_x, reads_g, reads_wdt, proj_wide]
  rfl

end kernel

open Cert.Reference6Ideal Cert.Reference6Ideal.Gen Cert.Reference6Ideal.Value

/-- All columns of the projection. -/
def plainCols (x : FVec 𝕀 S32x4x1024 .f32) (g : FVec 𝕀 S1x1024 .f32) (w : FVec 𝕀 S1x1024x5152 .f32) : FVec 𝕀 S32x4x5152 .f32 :=
  Host.dotGeneral dot_S32x4x1024_S1024x5152_S32x4x5152_2_0_01_1_n_n none (Cert.Sample.plainNorm (F := 𝕀) x (shapeCast _ g shapeCasts_S1x1024_S1024))
    (shapeCast _ w shapeCasts_S1x1024x5152_S1024x5152)

/-- All columns of the projection, entry by entry. -/
theorem plainCols_value (x : FVec 𝕀 S32x4x1024 .f32) (g : FVec 𝕀 S1x1024 .f32) (w : FVec 𝕀 S1x1024x5152 .f32) (b : Fin 32) (s : Fin 4) (j : Fin 5152) :
    plainCols x g w (ix3 b s j) = proj (fun l => x (ix3 b s l)) (fun l => g (ix2 0 l)) (fun k j => w (ix3 0 k j)) j := by
  unfold proj
  pointwise [plainCols]
  simp only [Cert.Sample.plainNorm_value]
  pointwise

/-- The gate's columns, the convolution's, and the steps' with zeros up to 128. -/
def partZ (a : FVec 𝕀 S32x4x5152 .f32) : FVec 𝕀 S128x2048 .f32 :=
  shapeCast _ (extractStridedSlice S32x4x2048 ![0, 0, 0] a slices_S32x4x5152_S32x4x2048_0_0_0) shapeCasts_S32x4x2048_S128x2048
def partX (a : FVec 𝕀 S32x4x5152 .f32) : FVec 𝕀 S128x3072 .f32 :=
  shapeCast _ (extractStridedSlice S32x4x3072 ![0, 0, 2048] a slices_S32x4x5152_S32x4x3072_0_0_2048) shapeCasts_S32x4x3072_S128x3072
def partDt (a : FVec 𝕀 S32x4x5152 .f32) : FVec 𝕀 S128x128 .f32 :=
  shapeCast _ (pad S32x4x128 ![0, 0, 0] ![0, 0, 96] ![0, 0, 0] (extractStridedSlice S32x4x32 ![0, 0, 5120] a slices_S32x4x5152_S32x4x32_0_0_5120)
    (sitofp (F := 𝕀) .f32 (constantI S_ 32 0#32)) pads_S32x4x32_S32x4x128_000_000_0960 h_S_) shapeCasts_S32x4x128_S128x128

theorem partZ_value (a : FVec 𝕀 S32x4x5152 .f32) (r : Fin 128) (j : Fin 2048) : partZ a (ix2 r j) = a (ix3 (seqOf r) (posOf r) (⟨j.val, by omega⟩ : Fin 5152)) := by
  pointwise [partZ]
theorem partX_value (a : FVec 𝕀 S32x4x5152 .f32) (r : Fin 128) (j : Fin 3072) : partX a (ix2 r j) = a (ix3 (seqOf r) (posOf r) (⟨2048 + j.val, by omega⟩ : Fin 5152)) := by
  pointwise [partX]
theorem partDt_value (a : FVec 𝕀 S32x4x5152 .f32) (r : Fin 128) (j : Fin 128) :
    partDt a (ix2 r j) = wide (fun e => a (ix3 (seqOf r) (posOf r) (⟨5120 + e.val, by omega⟩ : Fin 5152))) j := by
  have hr := r.isLt
  by_cases hj : j.val < 32
  · rw [wide_of_lt _ j hj]
    pointwise [partDt]
    exact dif_pos ⟨by omega, by omega, hj⟩
  · rw [wide_of_not_lt _ j hj]
    pointwise [partDt]
    refine (dif_neg fun h => hj h.2.2).trans ?_
    show ((((0#32 : BitVec 32).toInt : ℤ) : ℝ) : EReal) = 0
    simp

section eq

variable (m : (ℓ : Loc Cert.Kernel6Ideal.nD Cert.Kernel6Ideal.τ Cert.Kernel6Ideal.sig) → Buf (Elt 𝕀) ℓ) (m' : (ℓ : Loc nD τ sig) → Buf (Elt 𝕀) ℓ) (c : Dev nD)

/-- The plain columns, from the reference's memory and from the kernel's. -/
def refCols : FVec 𝕀 S32x4x5152 .f32 :=
  plainCols (m' ((c.tc : Thread nD τ).loc main_arg0)) (m' ((c.tc : Thread nD τ).loc main_arg1)) (m' ((c.tc : Thread nD τ).loc main_arg2))
def kerCols : FVec 𝕀 S32x4x5152 .f32 :=
  plainCols (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))
    (m ((c.tc : Thread Cert.Kernel6Ideal.nD Cert.Kernel6Ideal.τ).loc Cert.Kernel6Ideal.main_arg2))

theorem eq_z : partZ (kerCols m c) = (Cert.Kernel6Ideal.Gen.dats m 0 c).arrAt 5 Cert.Kernel6Ideal.cfg0.N := by
  funext y
  obtain ⟨r, j, rfl⟩ : ∃ (r : Fin 128) (j : Fin 2048), y = ix2 r j := ⟨y 0, y 1, by idx_ext⟩
  rw [partZ_value, kerCols, plainCols_value]
  exact (array_z m c r j).symm
theorem eq_x : partX (kerCols m c) = (Cert.Kernel6Ideal.Gen.dats m 0 c).arrAt 6 Cert.Kernel6Ideal.cfg0.N := by
  funext y
  obtain ⟨r, j, rfl⟩ : ∃ (r : Fin 128) (j : Fin 3072), y = ix2 r j := ⟨y 0, y 1, by idx_ext⟩
  rw [partX_value, kerCols, plainCols_value]
  exact (array_x m c r j).symm
theorem eq_dt : partDt (kerCols m c) = (Cert.Kernel6Ideal.Gen.dats m 0 c).arrAt 7 Cert.Kernel6Ideal.cfg0.N := by
  funext y
  obtain ⟨r, j, rfl⟩ : ∃ (r : Fin 128) (j : Fin 128), y = ix2 r j := ⟨y 0, y 1, by idx_ext⟩
  rw [partDt_value]
  simp only [kerCols, plainCols_value]
  exact (array_dt m c r j).symm

end eq

/-- The reference runs: its results are the projection's three parts, its arguments as they were. -/
theorem runs (m : (ℓ : Loc nD τ sig) → Buf (Elt 𝕀) ℓ) (ρ : Dev nD → PrngReg) :
    θ_run (defs (F := 𝕀)) (onTc (τ := τ) (main (F := 𝕀))) ⟨m, fun _ => 0, ρ⟩ fun r => ∀ c : Dev nD,
      r.2.mem ((c.tc : Thread nD τ).loc main_v20) = partZ (refCols m c)
      ∧ r.2.mem ((c.tc : Thread nD τ).loc main_v21) = partX (refCols m c)
      ∧ r.2.mem ((c.tc : Thread nD τ).loc main_v22) = partDt (refCols m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := 𝕀)) _ _).mono (fun _ h c => ⟨(h c).1.trans rfl, (h c).2.1.trans rfl, (h c).2.2.1.trans rfl, (h c).2.2.2⟩) (run (F := 𝕀) m ρ)

/-- The reference runs, leaves its arguments as they were and no semaphore raised. -/
theorem reference_kept : Cert.quiescent_Reference6Ideal := fun m ρ _ =>
  (θ_run (defs (F := 𝕀)) _ _).mono (fun r h => ⟨fun c => (h c).2.2.2, sem_eq_zero_of_no_sems (by decide) r.2⟩) (runs m ρ)

/-- The two programs run from memories that agree on the arguments and end with equal results, the arguments as they were. -/
theorem equal : Cert.algebraic_Kernel6Ideal_Reference6Ideal := fun m ρ m' ρ' _ hag =>
  have ha : ∀ c, refCols m' c = kerCols m c := fun c => by
    obtain ⟨h0, h1, h2⟩ := hag c
    unfold refCols kerCols
    rw [← h0, ← h1, ← h2]
  ⟨fun c => (Cert.Kernel6Ideal.Gen.dats m 0 c).arrAt 5 Cert.Kernel6Ideal.cfg0.N, fun c => (Cert.Kernel6Ideal.Gen.dats m 0 c).arrAt 6 Cert.Kernel6Ideal.cfg0.N,
    fun c => (Cert.Kernel6Ideal.Gen.dats m 0 c).arrAt 7 Cert.Kernel6Ideal.cfg0.N, Cert.Kernel6Ideal.Value.run_blocks (F := 𝕀) m ρ,
    (θ_run (defs (F := 𝕀)) _ _).mono (fun _ h c => ⟨(h c).1.trans ((congrArg partZ (ha c)).trans (eq_z m c)), (h c).2.1.trans ((congrArg partX (ha c)).trans (eq_x m c)),
      (h c).2.2.1.trans ((congrArg partDt (ha c)).trans (eq_dt m c)), (h c).2.2.2⟩) (runs m' ρ')⟩

end Cert.Inproj.Sample

end
-- ==== Proof.QkvSample.lean ====
/- The projection to queries, keys and values of the sample batch: one point, whose tile is all 128 rows. -/
module

public import proofs.«01_k».proof.Proof.QkvOut
public import proofs.«01_k».proof.Proof.SampleNorm
public import proofs.«01_k».proof.Proof.Gen.Kernel7Ideal.Value

@[expose] public section

set_option maxRecDepth 16384

noncomputable section

namespace Cert.Qkv.Sample

open Idealize.ShloMosaic Idealize.ShloMosaic.TcCoe Cert.Kernel7Ideal Cert.Kernel7Ideal.Gen Cert.Kernel7Ideal.Value
open Cert.Inproj (proj)

local notation "𝕀" => Idealize.ShloMosaic.Ideal

section heads

variable (c a b : FVec 𝕀 S128x128 .f32) (u : FVec 𝕀 S128x1024 .f32) (g : Vec 𝕀 S1x128 .f32)

/-- A head's tile, normalised and mixed, entry by entry. -/
theorem mixed_value (v : FVec 𝕀 S128x128 .f32) (i l : Fin 128) :
    k0_pay12 c a b v g (ix4 0 0 i l)
      = mixed (headNorm (fun l => v (ix2 i l)) (fun l => g (ix2 0 l))) (fun l => c (ix2 i l)) (fun l => a (ix2 i l)) (fun l => b (ix2 i l)) l := by
  unfold mixed headNorm
  pointwise [k0_pay12]

/-- The eight heads' columns, normalised and mixed, and as they are. -/
def turned (y : S1x8x128x128.Idx) : EReal :=
  mixed (headNorm (fun l => u (ix2 (y 2) (lane (y 1) l))) (fun l => g (ix2 0 l))) (fun l => c (ix2 (y 2) l)) (fun l => a (ix2 (y 2) l)) (fun l => b (ix2 (y 2) l)) (y 3)
def asIs (y : S1x8x128x128.Idx) : EReal := u (ix2 (y 2) (lane (y 1) (y 3)))

/-- The place of a head's tile among the eight. -/
theorem place (h : Fin 8) (H) (i l : Fin 128) : (Rect.unit (s := S1x8x128x128) ![0, h.val, 0, 0] S1x1x128x128.size H).emb (ix4 0 0 i l) = ix4 0 h i l := by
  funext x
  refine Fin.ext ?_
  fin_cases x
  · rfl
  · show h.val + 1 * 0 = h.val; omega
  · show 0 + 1 * i.val = i.val; omega
  · show 0 + 1 * l.val = l.val; omega

/-- A head's columns among all. -/
theorem cut_value (h : Fin 8) (o : ℕ) (ho : o = 128 * h.val) (H) (i l : Fin 128) : extractStridedSlice S128x128 ![0, o] u H (ix2 i l) = u (ix2 i (lane h l)) := by
  subst ho
  pointwise

/-- A head's store, as a part of the eight heads'. -/
theorem turned_piece (h : Fin 8) (o : ℕ) (ho : o = 128 * h.val) (Hs) (H)
    (p : Vec 𝕀 S1x1x128x128 .f32) (hp : p = k0_pay12 c a b (extractStridedSlice S128x128 ![0, o] u Hs) g) (x : S1x1x128x128.Idx) :
    p x = turned c a b u g ((Rect.unit (s := S1x8x128x128) ![0, h.val, 0, 0] S1x1x128x128.size H).emb x) := by
  obtain ⟨i, l, rfl⟩ : ∃ i l : Fin 128, x = ix4 0 0 i l := ⟨x 2, x 3, by idx_ext⟩
  rw [place, hp, mixed_value]
  simp only [cut_value u h o ho]
  rfl

theorem asIs_piece (h : Fin 8) (o : ℕ) (ho : o = 128 * h.val) (Hs) (H) (p : Vec 𝕀 S1x1x128x128 .f32)
    (hp : p = k0_pay46 (extractStridedSlice S128x128 ![0, o] u Hs)) (x : S1x1x128x128.Idx) :
    p x = asIs u ((Rect.unit (s := S1x8x128x128) ![0, h.val, 0, 0] S1x1x128x128.size H).emb x) := by
  obtain ⟨i, l, rfl⟩ : ∃ i l : Fin 128, x = ix4 0 0 i l := ⟨x 2, x 3, by idx_ext⟩
  rw [place, hp]
  refine Eq.trans ?_ (cut_value u h o ho Hs i l)
  pointwise [k0_pay46]

end heads

section tile

variable (x0 : Vec 𝕀 S1x128x1024 .f32) (x1 : Vec 𝕀 S1x1024 .f32) (x2 : Vec 𝕀 S1024x3072 .bf16) (x3 x4 : Vec 𝕀 S1x128 .f32) (x5 x6 x7 : Vec 𝕀 S128x128 .f32)

/-- The three groups of columns, by head. -/
theorem q_heads (y : S1x8x128x128.Idx) : out0_8 x0 x1 x2 x3 x4 x5 x6 x7 y
    = turned (k0_pay54 (F := 𝕀) x0 x1 x2 x3 x4 x5 x6 x7) (k0_pay55 (F := 𝕀) x0 x1 x2 x3 x4 x5 x6 x7) (k0_pay56 (F := 𝕀) x0 x1 x2 x3 x4 x5 x6 x7) (k0_pay57 (F := 𝕀) x0 x1 x2 x3 x4 x5 x6 x7) (View.ld x3 r0_4) y := by
  refine View.canon_apply_of_pieces (turned _ _ _ _ _) _ ?_ y (cover0_8 (F := 𝕀) _ _ _ _ _ _ _ _ y)
  intro p hp
  simp only [List.mem_cons, List.not_mem_nil, or_false] at hp
  rcases hp with rfl | rfl | rfl | rfl | rfl | rfl | rfl | rfl
  · exact turned_piece _ _ _ _ _ 7 896 rfl slices_S128x1024_o0_896_S128x128 inb_S1x8x128x128_S1x1x128x128_0_7_0_0 _ rfl
  · exact turned_piece _ _ _ _ _ 6 768 rfl slices_S128x1024_o0_768_S128x128 inb_S1x8x128x128_S1x1x128x128_0_6_0_0 _ rfl
  · exact turned_piece _ _ _ _ _ 5 640 rfl slices_S128x1024_o0_640_S128x128 inb_S1x8x128x128_S1x1x128x128_0_5_0_0 _ rfl
  · exact turned_piece _ _ _ _ _ 4 512 rfl slices_S128x1024_o0_512_S128x128 inb_S1x8x128x128_S1x1x128x128_0_4_0_0 _ rfl
  · exact turned_piece _ _ _ _ _ 3 384 rfl slices_S128x1024_o0_384_S128x128 inb_S1x8x128x128_S1x1x128x128_0_3_0_0 _ rfl
  · exact turned_piece _ _ _ _ _ 2 256 rfl slices_S128x1024_o0_256_S128x128 inb_S1x8x128x128_S1x1x128x128_0_2_0_0 _ rfl
  · exact turned_piece _ _ _ _ _ 1 128 rfl slices_S128x1024_o0_128_S128x128 inb_S1x8x128x128_S1x1x128x128_0_1_0_0 _ rfl
  · exact turned_piece _ _ _ _ _ 0 0 rfl slices_S128x1024_o0_0_S128x128 inb_S1x8x128x128_S1x1x128x128_0_0_0_0 _ rfl

theorem k_heads (y : S1x8x128x128.Idx) : out0_9 x0 x1 x2 x3 x4 x5 x6 x7 y
    = turned (k0_pay54 (F := 𝕀) x0 x1 x2 x3 x4 x5 x6 x7) (k0_pay55 (F := 𝕀) x0 x1 x2 x3 x4 x5 x6 x7) (k0_pay56 (F := 𝕀) x0 x1 x2 x3 x4 x5 x6 x7) (k0_pay58 (F := 𝕀) x0 x1 x2 x3 x4 x5 x6 x7) (View.ld x4 r0_4) y := by
  refine View.canon_apply_of_pieces (turned _ _ _ _ _) _ ?_ y (cover0_9 (F := 𝕀) _ _ _ _ _ _ _ _ y)
  intro p hp
  simp only [List.mem_cons, List.not_mem_nil, or_false] at hp
  rcases hp with rfl | rfl | rfl | rfl | rfl | rfl | rfl | rfl
  · exact turned_piece _ _ _ _ _ 7 896 rfl slices_S128x1024_o0_896_S128x128 inb_S1x8x128x128_S1x1x128x128_0_7_0_0 _ rfl
  · exact turned_piece _ _ _ _ _ 6 768 rfl slices_S128x1024_o0_768_S128x128 inb_S1x8x128x128_S1x1x128x128_0_6_0_0 _ rfl
  · exact turned_piece _ _ _ _ _ 5 640 rfl slices_S128x1024_o0_640_S128x128 inb_S1x8x128x128_S1x1x128x128_0_5_0_0 _ rfl
  · exact turned_piece _ _ _ _ _ 4 512 rfl slices_S128x1024_o0_512_S128x128 inb_S1x8x128x128_S1x1x128x128_0_4_0_0 _ rfl
  · exact turned_piece _ _ _ _ _ 3 384 rfl slices_S128x1024_o0_384_S128x128 inb_S1x8x128x128_S1x1x128x128_0_3_0_0 _ rfl
  · exact turned_piece _ _ _ _ _ 2 256 rfl slices_S128x1024_o0_256_S128x128 inb_S1x8x128x128_S1x1x128x128_0_2_0_0 _ rfl
  · exact turned_piece _ _ _ _ _ 1 128 rfl slices_S128x1024_o0_128_S128x128 inb_S1x8x128x128_S1x1x128x128_0_1_0_0 _ rfl
  · exact turned_piece _ _ _ _ _ 0 0 rfl slices_S128x1024_o0_0_S128x128 inb_S1x8x128x128_S1x1x128x128_0_0_0_0 _ rfl

theorem v_heads (y : S1x8x128x128.Idx) : out0_10 x0 x1 x2 x3 x4 x5 x6 x7 y = asIs (k0_pay59 (F := 𝕀) x0 x1 x2 x3 x4 x5 x6 x7) y := by
  refine View.canon_apply_of_pieces (asIs _) _ ?_ y (cover0_10 (F := 𝕀) _ _ _ _ _ _ _ _ y)
  intro p hp
  simp only [List.mem_cons, List.not_mem_nil, or_false] at hp
  rcases hp with rfl | rfl | rfl | rfl | rfl | rfl | rfl | rfl
  · exact asIs_piece _ 7 896 rfl slices_S128x1024_o0_896_S128x128 inb_S1x8x128x128_S1x1x128x128_0_7_0_0 _ rfl
  · exact asIs_piece _ 6 768 rfl slices_S128x1024_o0_768_S128x128 inb_S1x8x128x128_S1x1x128x128_0_6_0_0 _ rfl
  · exact asIs_piece _ 5 640 rfl slices_S128x1024_o0_640_S128x128 inb_S1x8x128x128_S1x1x128x128_0_5_0_0 _ rfl
  · exact asIs_piece _ 4 512 rfl slices_S128x1024_o0_512_S128x128 inb_S1x8x128x128_S1x1x128x128_0_4_0_0 _ rfl
  · exact asIs_piece _ 3 384 rfl slices_S128x1024_o0_384_S128x128 inb_S1x8x128x128_S1x1x128x128_0_3_0_0 _ rfl
  · exact asIs_piece _ 2 256 rfl slices_S128x1024_o0_256_S128x128 inb_S1x8x128x128_S1x1x128x128_0_2_0_0 _ rfl
  · exact asIs_piece _ 1 128 rfl slices_S128x1024_o0_128_S128x128 inb_S1x8x128x128_S1x1x128x128_0_1_0_0 _ rfl
  · exact asIs_piece _ 0 0 rfl slices_S128x1024_o0_0_S128x128 inb_S1x8x128x128_S1x1x128x128_0_0_0_0 _ rfl

/-- The normalised rows. -/
theorem normed_value (i : Fin 128) (k : Fin 1024) : k0_pay1 x0 x1 (ix2 i k) = Ffn.norm (fun l => x0 (ix3 0 i l)) (fun l => x1 (ix2 0 l)) k := by
  unfold Ffn.norm
  pointwise [k0_pay1]

/-- The rows times a third of the weight's columns. -/
theorem third_value (w : Vec 𝕀 S1024x1024 .bf16) (W : Fin 1024 → Fin 3072 → EReal) (c : Fin 3072) (i : Fin 128) (j : Fin 1024) (hw : ∀ k, w (ix2 k j) = W k c) :
    k0_pay25 (k0_pay1 x0 x1) w (ix2 i j) = proj (fun l => x0 (ix3 0 i l)) (fun l => x1 (ix2 0 l)) W c := by
  unfold proj
  simp only [← hw]
  pointwise [k0_pay25]
  simp only [normed_value]

/-- A load of a third of the weight's columns. -/
theorem ld_third (o : ℕ) (H) (k j : Fin 1024) (c : Fin 3072) (hc : c.val = o + j.val) :
    View.ld x2 (Rect.unit (s := S1024x3072) ![0, o] S1024x1024.size H) (ix2 k j) = x2 (ix2 k c) := by
  refine congrArg x2 (funext fun x => Fin.ext ?_)
  fin_cases x
  · show 0 + 1 * k.val = k.val; omega
  · show o + 1 * j.val = c.val; omega

/-- The three groups of columns, entry by entry. -/
theorem q_group (i : Fin 128) (h : Fin 8) (l : Fin 128) : k0_pay57 (F := 𝕀) x0 x1 x2 x3 x4 x5 x6 x7 (ix2 i (lane h l))
    = proj (fun l => x0 (ix3 0 i l)) (fun l => x1 (ix2 0 l)) (fun k j => x2 (ix2 k j)) (qcol h l) := by
  have e : k0_pay57 (F := 𝕀) x0 x1 x2 x3 x4 x5 x6 x7 = k0_pay25 (k0_pay1 x0 x1) (View.ld x2 r0_3) := by
    unfold k0_pay57
    rw [View.ld_unit_zero (by decide +kernel) _ x0, View.ld_unit_zero (by decide +kernel) _ x1]
    rfl
  rw [e]
  exact third_value x0 x1 _ (fun k j => x2 (ix2 k j)) _ i _ fun k => ld_third x2 0 _ k _ _ (by show 128 * h.val + l.val = 0 + (128 * h.val + l.val); omega)
theorem k_group (i : Fin 128) (h : Fin 8) (l : Fin 128) : k0_pay58 (F := 𝕀) x0 x1 x2 x3 x4 x5 x6 x7 (ix2 i (lane h l))
    = proj (fun l => x0 (ix3 0 i l)) (fun l => x1 (ix2 0 l)) (fun k j => x2 (ix2 k j)) (kcol h l) := by
  unfold k0_pay58 k0_pay53
  rw [View.ld_unit_zero (by decide +kernel) _ x0, View.ld_unit_zero (by decide +kernel) _ x1]
  exact third_value x0 x1 _ (fun k j => x2 (ix2 k j)) _ i _ fun k => ld_third x2 1024 _ k _ _ rfl
theorem v_group (i : Fin 128) (h : Fin 8) (l : Fin 128) : k0_pay59 (F := 𝕀) x0 x1 x2 x3 x4 x5 x6 x7 (ix2 i (lane h l))
    = proj (fun l => x0 (ix3 0 i l)) (fun l => x1 (ix2 0 l)) (fun k j => x2 (ix2 k j)) (vcol h l) := by
  have e : k0_pay59 (F := 𝕀) x0 x1 x2 x3 x4 x5 x6 x7 = k0_pay25 (k0_pay1 x0 x1) (View.ld x2 r0_14) := by
    unfold k0_pay59 k0_pay53
    rw [View.ld_unit_zero (by decide +kernel) _ x0, View.ld_unit_zero (by decide +kernel) _ x1]
    rfl
  rw [e]
  exact third_value x0 x1 _ (fun k j => x2 (ix2 k j)) _ i _ fun k => ld_third x2 2048 _ k _ _ rfl

/-- The tables as the body reads them. -/
theorem table (x : Vec 𝕀 S128x128 .f32) : k0_pay2 (View.ld x r0_2) = x := by
  funext y
  obtain ⟨i, l, rfl⟩ : ∃ i l : Fin 128, y = ix2 i l := ⟨y 0, y 1, by idx_ext⟩
  rw [View.ld_unit_zero (by decide +kernel) _ x]
  pointwise [k0_pay2]

/-- The point's tiles, entry by entry. -/
theorem tile_q (h : Fin 8) (i l : Fin 128) : out0_8 x0 x1 x2 x3 x4 x5 x6 x7 (ix4 0 h i l)
    = mixed (headNorm (fun l => proj (fun l => x0 (ix3 0 i l)) (fun l => x1 (ix2 0 l)) (fun k j => x2 (ix2 k j)) (qcol h l)) (fun l => x3 (ix2 0 l)))
        (fun l => x5 (ix2 i l)) (fun l => x6 (ix2 i l)) (fun l => x7 (ix2 i l)) l := by
  refine (q_heads x0 x1 x2 x3 x4 x5 x6 x7 _).trans ?_
  show mixed (headNorm (fun l => k0_pay57 (F := 𝕀) x0 x1 x2 x3 x4 x5 x6 x7 (ix2 i (lane h l))) (fun l => View.ld x3 r0_4 (ix2 0 l)))
        (fun l => k0_pay2 (View.ld x5 r0_2) (ix2 i l)) (fun l => k0_pay2 (View.ld x6 r0_2) (ix2 i l)) (fun l => k0_pay2 (View.ld x7 r0_2) (ix2 i l)) l = _
  simp only [q_group, table]
  rw [View.ld_unit_zero (by decide +kernel) _ x3]
theorem tile_k (h : Fin 8) (i l : Fin 128) : out0_9 x0 x1 x2 x3 x4 x5 x6 x7 (ix4 0 h i l)
    = mixed (headNorm (fun l => proj (fun l => x0 (ix3 0 i l)) (fun l => x1 (ix2 0 l)) (fun k j => x2 (ix2 k j)) (kcol h l)) (fun l => x4 (ix2 0 l)))
        (fun l => x5 (ix2 i l)) (fun l => x6 (ix2 i l)) (fun l => x7 (ix2 i l)) l := by
  refine (k_heads x0 x1 x2 x3 x4 x5 x6 x7 _).trans ?_
  show mixed (headNorm (fun l => k0_pay58 (F := 𝕀) x0 x1 x2 x3 x4 x5 x6 x7 (ix2 i (lane h l))) (fun l => View.ld x4 r0_4 (ix2 0 l)))
        (fun l => k0_pay2 (View.ld x5 r0_2) (ix2 i l)) (fun l => k0_pay2 (View.ld x6 r0_2) (ix2 i l)) (fun l => k0_pay2 (View.ld x7 r0_2) (ix2 i l)) l = _
  simp only [k_group, table]
  rw [View.ld_unit_zero (by decide +kernel) _ x4]
theorem tile_v (h : Fin 8) (i l : Fin 128) : out0_10 x0 x1 x2 x3 x4 x5 x6 x7 (ix4 0 h i l)
    = proj (fun l => x0 (ix3 0 i l)) (fun l => x1 (ix2 0 l)) (fun k j => x2 (ix2 k j)) (vcol h l) :=
  (v_heads x0 x1 x2 x3 x4 x5 x6 x7 _).trans (v_group x0 x1 x2 x3 x4 x5 x6 x7 i h l)

end tile

/-- The sixteen frequencies. -/
def freq : FVec 𝕀 S16 .f32 :=
  Host.powf (broadcastInDim S16 ![] bcast_S_S16 (constant (F := 𝕀) S_ .f32 0x48F42400#32))
    (Host.divf (mulf (Host.negf (sitofp (F := 𝕀) .f32 (iotaInDim S16 32 0))) (broadcastInDim S16 ![] bcast_S_S16 (constant (F := 𝕀) S_ .f32 0x40000000#32)))
      (broadcastInDim S16 ![] bcast_S_S16 (constant (F := 𝕀) S_ .f32 0x42000000#32)))

/-- The rows' positions, behind the 8192 positions that are cached. -/
def rowPos : IVec S128 32 :=
  addi (broadcastInDim S128 ![] bcast_S_S128 (constantI S_ 32 8192#32)) (shapeCast S128 (broadcastInDim S32x4 ![0, 1] bcast_S1x4_S32x4_0_1 (shapeCast S1x4 (iotaInDim S4 32 0) shapeCasts_S4_S1x4)) shapeCasts_S32x4_S128)

/-- The angles of the rows. -/
def rowAngle : FVec 𝕀 S128x16 .f32 :=
  mulf (broadcastInDim S128x16 ![0, 1] bcast_S128x1_S128x16_0_1 (broadcastInDim S128x1 ![0] bcast_S128_S128x1_0 (sitofp (F := 𝕀) .f32 rowPos)))
    (broadcastInDim S128x16 ![0, 1] bcast_S1x16_S128x16_0_1 (broadcastInDim S1x16 ![1] bcast_S16_S1x16_1 freq))

/-- The three tables, joined from their parts. -/
def tableC (f : FVec 𝕀 S128x16 .f32) : FVec 𝕀 S128x128 .f32 :=
  concatenate S128x128 1 [⟨S128x16, f⟩, ⟨S128x16, f⟩, ⟨S128x96, broadcastInDim S128x96 ![] bcast_S_S128x96 (constant (F := 𝕀) S_ .f32 0x3F800000#32)⟩] concatenates_S128x16_S128x16_S128x96_S128x128_d1
def tableA (f : FVec 𝕀 S128x16 .f32) : FVec 𝕀 S128x128 .f32 :=
  concatenate S128x128 1 [⟨S128x16, Host.negf f⟩, ⟨S128x112, broadcastInDim S128x112 ![] bcast_S_S128x112 (constant (F := 𝕀) S_ .f32 0x00000000#32)⟩] concatenates_S128x16_S128x112_S128x128_d1
def tableB (f : FVec 𝕀 S128x16 .f32) : FVec 𝕀 S128x128 .f32 :=
  concatenate S128x128 1 [⟨S128x16, broadcastInDim S128x16 ![] bcast_S_S128x16 (constant (F := 𝕀) S_ .f32 0x00000000#32)⟩, ⟨S128x16, f⟩,
    ⟨S128x96, broadcastInDim S128x96 ![] bcast_S_S128x96 (constant (F := 𝕀) S_ .f32 0x00000000#32)⟩] concatenates_S128x16_S128x16_S128x96_S128x128_d1

theorem tableC_value (f : FVec 𝕀 S128x16 .f32) (r l : Fin 128) : tableC f (ix2 r l) = cosT (fun j => f (ix2 r j)) l := by
  unfold cosT
  pointwise [tableC]
theorem tableA_value (f : FVec 𝕀 S128x16 .f32) (r l : Fin 128) : tableA f (ix2 r l) = sinA (fun j => f (ix2 r j)) l := by
  unfold sinA
  pointwise [tableA]
theorem tableB_value (f : FVec 𝕀 S128x16 .f32) (r l : Fin 128) : tableB f (ix2 r l) = sinB (fun j => f (ix2 r j)) l := by
  unfold sinB
  pointwise [tableB]

variable (m : (ℓ : Loc nD τ sig) → Buf (Elt 𝕀) ℓ) (d : Dev nD)

theorem host_c : V m d main_v29 = tableC (Host.cos rowAngle) := by
  unfold V
  after_reads_simp
  rfl
theorem host_a : V m d main_v32 = tableA (Host.sin rowAngle) := by
  unfold V
  after_reads_simp
  rfl
theorem host_b : V m d main_v35 = tableB (Host.sin rowAngle) := by
  unfold V
  after_reads_simp
  rfl

/-- A row of the residual, the gain, the weight, and the gains of the queries and of the keys. -/
def rows (r : Fin 128) : Fin 1024 → EReal := fun l => m ((d : Thread nD τ).loc main_arg0) (ix3 (Cert.Sample.seqOf r) (Cert.Sample.posOf r) l)
def gains : Fin 1024 → EReal := fun l => m ((d : Thread nD τ).loc main_arg1) (ix2 0 l)
def columns : Fin 1024 → Fin 3072 → EReal := fun k j => m ((d : Thread nD τ).loc main_arg2) (ix3 0 k j)
def qgains : Fin 128 → EReal := fun l => m ((d : Thread nD τ).loc main_arg3) (ix2 0 l)
def kgains : Fin 128 → EReal := fun l => m ((d : Thread nD τ).loc main_arg4) (ix2 0 l)

theorem host_x (r : Fin 128) (l : Fin 1024) : V m d main_v6 (ix3 0 r l) = rows m d r l := by
  unfold rows V
  after_reads_simp
  pointwise
theorem host_g (l : Fin 1024) : V m d main_v36 (ix2 0 l) = gains m d l := by
  unfold gains V
  after_reads_simp
  pointwise
theorem host_w (k : Fin 1024) (j : Fin 3072) : V m d main_v9 (ix2 k j) = columns m d k j := by
  unfold columns V
  after_reads_simp
  pointwise
theorem host_q (l : Fin 128) : V m d main_v37 (ix2 0 l) = qgains m d l := by
  unfold qgains V
  after_reads_simp
  pointwise
theorem host_k (l : Fin 128) : V m d main_v38 (ix2 0 l) = kgains m d l := by
  unfold kgains V
  after_reads_simp
  pointwise

/-- All windows take their array's first block. -/
theorem idx : ∀ t : Fin cfg0.N, (win0_0.index t = ![0, 0, 0] ∧ win0_1.index t = ![0, 0] ∧ win0_2.index t = ![0, 0] ∧ win0_3.index t = ![0, 0] ∧ win0_4.index t = ![0, 0])
    ∧ (win0_5.index t = ![0, 0] ∧ win0_6.index t = ![0, 0] ∧ win0_7.index t = ![0, 0]) ∧ win0_8.index t = ![0, 0, 0, 0] ∧ win0_9.index t = ![0, 0, 0, 0] ∧ win0_10.index t = ![0, 0, 0, 0] :=
  (by decide +kernel : ∀ t : Fin grid0.N, _)

variable (t : Fin cfg0.N)

/-- What the point reads. -/
theorem reads_x (i : Fin 128) : (fun l => iblk m d 0 t (ix3 0 i l)) = rows m d i := funext fun l => by
  obtain ⟨⟨h, -, -, -, -⟩, -⟩ := idx t
  exact Eq.trans (by blk_ext [iblk, h]) (host_x m d i l)
theorem reads_g : (fun l => iblk m d 1 t (ix2 0 l)) = gains m d := funext fun l => by
  obtain ⟨⟨-, h, -, -, -⟩, -⟩ := idx t
  exact Eq.trans (by blk_ext [iblk, h]) (host_g m d l)
theorem reads_w : (fun k j => iblk m d 2 t (ix2 k j)) = columns m d := funext fun k => funext fun j => by
  obtain ⟨⟨-, -, h, -, -⟩, -⟩ := idx t
  exact Eq.trans (by blk_ext [iblk, h]) (host_w m d k j)
theorem reads_q : (fun l => iblk m d 3 t (ix2 0 l)) = qgains m d := funext fun l => by
  obtain ⟨⟨-, -, -, h, -⟩, -⟩ := idx t
  exact Eq.trans (by blk_ext [iblk, h]) (host_q m d l)
theorem reads_k : (fun l => iblk m d 4 t (ix2 0 l)) = kgains m d := funext fun l => by
  obtain ⟨⟨-, -, -, -, h⟩, -⟩ := idx t
  exact Eq.trans (by blk_ext [iblk, h]) (host_k m d l)
theorem reads_c (i : Fin 128) : (fun l => iblk m d 5 t (ix2 i l)) = cosT (fun j => Host.cos rowAngle (ix2 i j)) := funext fun l => by
  obtain ⟨-, ⟨h, -, -⟩, -⟩ := idx t
  exact (Eq.trans (by blk_ext [iblk, h]) (congrFun (host_c m d) (ix2 i l))).trans (tableC_value _ _ _)
theorem reads_a (i : Fin 128) : (fun l => iblk m d 6 t (ix2 i l)) = sinA (fun j => Host.sin rowAngle (ix2 i j)) := funext fun l => by
  obtain ⟨-, ⟨-, h, -⟩, -⟩ := idx t
  exact (Eq.trans (by blk_ext [iblk, h]) (congrFun (host_a m d) (ix2 i l))).trans (tableA_value _ _ _)
theorem reads_b (i : Fin 128) : (fun l => iblk m d 7 t (ix2 i l)) = sinB (fun j => Host.sin rowAngle (ix2 i j)) := funext fun l => by
  obtain ⟨-, ⟨-, -, h⟩, -⟩ := idx t
  exact (Eq.trans (by blk_ext [iblk, h]) (congrFun (host_b m d) (ix2 i l))).trans (tableB_value _ _ _)

/-- The tile is the whole of each result. -/
theorem whole_q (A : S1x8x128x128.Idx → EReal) (h : Fin 8) (i l : Fin 128) : ((cfg0.win 8).blk t).view.read (Elt 𝕀) A (ix4 0 h i l) = A (ix4 0 h i l) := by
  obtain ⟨-, -, e, -, -⟩ := idx t
  blk_ext [e]
theorem whole_k (A : S1x8x128x128.Idx → EReal) (h : Fin 8) (i l : Fin 128) : ((cfg0.win 9).blk t).view.read (Elt 𝕀) A (ix4 0 h i l) = A (ix4 0 h i l) := by
  obtain ⟨-, -, -, e, -⟩ := idx t
  blk_ext [e]
theorem whole_v (A : S1x8x128x128.Idx → EReal) (h : Fin 8) (i l : Fin 128) : ((cfg0.win 10).blk t).view.read (Elt 𝕀) A (ix4 0 h i l) = A (ix4 0 h i l) := by
  obtain ⟨-, -, -, -, e⟩ := idx t
  blk_ext [e]

/-- The only point. -/
abbrev only : Fin cfg0.N := ⟨0, by have h : cfg0.N = 1 := N_0; omega⟩

/-- The queries, entry by entry. -/
theorem array_q (h : Fin 8) (r l : Fin 128) : (dats m 0 d).arrAt 8 cfg0.N (ix4 0 h r l)
    = turn (headNorm (fun l => proj (rows m d r) (gains m d) (columns m d) (qcol h l)) (qgains m d)) (fun j => Host.cos rowAngle (ix2 r j)) (fun j => Host.sin rowAngle (ix2 r j)) l := by
  have e := congrFun (blocks8 m d only (flush0_8 _)) (ix4 0 h r l)
  rw [whole_q, flushed8] at e
  refine (e.trans (tile_q _ _ _ _ _ _ _ _ h r l)).trans ?_
  rw [reads_x, reads_g, reads_w, reads_q, reads_c, reads_a, reads_b, mixed_tables]

/-- The keys, entry by entry. -/
theorem array_k (h : Fin 8) (r l : Fin 128) : (dats m 0 d).arrAt 9 cfg0.N (ix4 0 h r l)
    = turn (headNorm (fun l => proj (rows m d r) (gains m d) (columns m d) (kcol h l)) (kgains m d)) (fun j => Host.cos rowAngle (ix2 r j)) (fun j => Host.sin rowAngle (ix2 r j)) l := by
  have e := congrFun (blocks9 m d only (flush0_9 _)) (ix4 0 h r l)
  rw [whole_k, flushed9] at e
  refine (e.trans (tile_k _ _ _ _ _ _ _ _ h r l)).trans ?_
  rw [reads_x, reads_g, reads_w, reads_k, reads_c, reads_a, reads_b, mixed_tables]

/-- The values, entry by entry. -/
theorem array_v (h : Fin 8) (r l : Fin 128) : (dats m 0 d).arrAt 10 cfg0.N (ix4 0 h r l) = proj (rows m d r) (gains m d) (columns m d) (vcol h l) := by
  have e := congrFun (blocks10 m d only (flush0_10 _)) (ix4 0 h r l)
  rw [whole_v, flushed10] at e
  refine (e.trans (tile_v _ _ _ _ _ _ _ _ h r l)).trans ?_
  rw [reads_x, reads_g, reads_w]

end Cert.Qkv.Sample

end
-- ==== Proof.QkvRefSample.lean ====
/- What the reference of the sample batch's projection to queries, keys and values computes, row by row, and the claims of the call. -/
module

public import proofs.«01_k».proof.Defs
public import proofs.«01_k».proof.Proof.QkvSample
public import proofs.«01_k».proof.Proof.Gen.Kernel7Ideal
public import proofs.«01_k».proof.Proof.Gen.Reference7Ideal.Run
public import Idealize.ShloMosaic.Lib.Quiescent

@[expose] public section

set_option maxRecDepth 16384

noncomputable section

namespace Cert.Qkv.Sample

open Idealize.ShloMosaic Idealize.ShloMosaic.TcCoe Idealize.SL.Sem Cert.Reference7Ideal Cert.Reference7Ideal.Gen Cert.Reference7Ideal.Value
open Cert.Inproj (proj)

local notation "𝕀" => Idealize.ShloMosaic.Ideal

/-- All columns of the projection, as queries, keys and values of all heads. -/
def plainAll (x : FVec 𝕀 S32x4x1024 .f32) (g : FVec 𝕀 S1x1024 .f32) (w : FVec 𝕀 S1x1024x3072 .f32) : FVec 𝕀 S3x32x8x4x128 .f32 :=
  transpose S3x32x8x4x128 [2, 0, 3, 1, 4] (shapeCast S32x4x3x8x128
    (Host.dotGeneral dot_S32x4x1024_S1024x3072_S32x4x3072_2_0_01_1_n_n none (Cert.Sample.plainNorm (F := 𝕀) x (shapeCast _ g shapeCasts_S1x1024_S1024))
      (shapeCast _ w shapeCasts_S1x1024x3072_S1024x3072)) shapeCasts_S32x4x3072_S32x4x3x8x128) transposes_S32x4x3x8x128_S3x32x8x4x128_2_0_3_1_4

/-- All columns of the projection, entry by entry. -/
theorem plainAll_value (x : FVec 𝕀 S32x4x1024 .f32) (g : FVec 𝕀 S1x1024 .f32) (w : FVec 𝕀 S1x1024x3072 .f32) (p : Fin 3) (b : Fin 32) (h : Fin 8) (s : Fin 4) (l : Fin 128) (c : Fin 3072)
    (hc : c.val = p.val * 1024 + h.val * 128 + l.val) :
    plainAll x g w (ix5 p b h s l) = proj (fun l => x (ix3 b s l)) (fun l => g (ix2 0 l)) (fun k j => w (ix3 0 k j)) c := by
  rw [show c = (⟨p.val * 1024 + h.val * 128 + l.val, by omega⟩ : Fin 3072) from Fin.ext hc]
  unfold proj
  pointwise [plainAll]
  simp only [Cert.Sample.plainNorm_value]
  pointwise

/-- The queries, the keys and the values. -/
def plainQ (a : FVec 𝕀 S3x32x8x4x128 .f32) : FVec 𝕀 S32x8x4x128 .f32 :=
  shapeCast _ (extractStridedSlice S1x32x8x4x128 ![0, 0, 0, 0, 0] a slices_S3x32x8x4x128_S1x32x8x4x128_0_0_0_0_0) shapeCasts_S1x32x8x4x128_S32x8x4x128
def plainK (a : FVec 𝕀 S3x32x8x4x128 .f32) : FVec 𝕀 S32x8x4x128 .f32 :=
  shapeCast _ (extractStridedSlice S1x32x8x4x128 ![1, 0, 0, 0, 0] a slices_S3x32x8x4x128_S1x32x8x4x128_1_0_0_0_0) shapeCasts_S1x32x8x4x128_S32x8x4x128
def plainV (a : FVec 𝕀 S3x32x8x4x128 .f32) : FVec 𝕀 S32x8x4x128 .f32 :=
  shapeCast _ (extractStridedSlice S1x32x8x4x128 ![2, 0, 0, 0, 0] a slices_S3x32x8x4x128_S1x32x8x4x128_2_0_0_0_0) shapeCasts_S1x32x8x4x128_S32x8x4x128

theorem plainQ_value (a : FVec 𝕀 S3x32x8x4x128 .f32) (b : Fin 32) (h : Fin 8) (s : Fin 4) (l : Fin 128) : plainQ a (ix4 b h s l) = a (ix5 0 b h s l) := by
  pointwise [plainQ]
theorem plainK_value (a : FVec 𝕀 S3x32x8x4x128 .f32) (b : Fin 32) (h : Fin 8) (s : Fin 4) (l : Fin 128) : plainK a (ix4 b h s l) = a (ix5 1 b h s l) := by
  pointwise [plainK]
theorem plainV_value (a : FVec 𝕀 S3x32x8x4x128 .f32) (b : Fin 32) (h : Fin 8) (s : Fin 4) (l : Fin 128) : plainV a (ix4 b h s l) = a (ix5 2 b h s l) := by
  pointwise [plainV]

/-- The heads' values, normalised. -/
def plainHead (u : FVec 𝕀 S32x8x4x128 .f32) (g : FVec 𝕀 S1x128 .f32) : FVec 𝕀 S32x8x4x128 .f32 :=
  mulf (mulf u (broadcastInDim S32x8x4x128 ![0, 1, 2, 3] bcast_S32x8x4x1_S32x8x4x128_0_1_2_3 (Host.rsqrt (addf (Host.divf
      (broadcastInDim S32x8x4x1 ![0, 1, 2] bcast_S32x8x4_S32x8x4x1_0_1_2 (Host.reduceAdd (mulf u u) (constant S_ .f32 0x00000000#32) reducesTo_S32x8x4x128_S32x8x4_d3 h_S_))
      (broadcastInDim S32x8x4x1 ![] bcast_S_S32x8x4x1 (constant S_ .f32 0x43000000#32))) (broadcastInDim S32x8x4x1 ![] bcast_S_S32x8x4x1 (constant S_ .f32 0x358637BD#32))))))
    (broadcastInDim S32x8x4x128 ![0, 1, 2, 3] bcast_S1x1x1x128_S32x8x4x128_0_1_2_3 (broadcastInDim S1x1x1x128 ![3] bcast_S128_S1x1x1x128_3 (shapeCast _ g shapeCasts_S1x128_S128)))

theorem plainHead_value (u : FVec 𝕀 S32x8x4x128 .f32) (g : FVec 𝕀 S1x128 .f32) (b : Fin 32) (h : Fin 8) (s : Fin 4) (l : Fin 128) :
    plainHead u g (ix4 b h s l) = headNorm (fun l => u (ix4 b h s l)) (fun l => g (ix2 0 l)) l := by
  unfold headNorm
  pointwise [plainHead]

/-- A table for all sequences and heads. -/
def overHeads (f : FVec 𝕀 S4x16 .f32) : FVec 𝕀 S32x8x4x16 .f32 :=
  broadcastInDim S32x8x4x16 ![0, 1, 2, 3] bcast_S1x1x4x16_S32x8x4x16_0_1_2_3 (broadcastInDim S1x1x4x16 ![2, 3] bcast_S4x16_S1x1x4x16_2_3 f)

/-- The first sixteen lanes, and the second sixteen. -/
def fst (n : FVec 𝕀 S32x8x4x128 .f32) : FVec 𝕀 S32x8x4x16 .f32 := extractStridedSlice S32x8x4x16 ![0, 0, 0, 0] n slices_S32x8x4x128_S32x8x4x16_0_0_0_0
def snd (n : FVec 𝕀 S32x8x4x128 .f32) : FVec 𝕀 S32x8x4x16 .f32 := extractStridedSlice S32x8x4x16 ![0, 0, 0, 16] n slices_S32x8x4x128_S32x8x4x16_0_0_0_16

/-- The first 32 lanes turned, the others as they are. -/
def plainTurn (n : FVec 𝕀 S32x8x4x128 .f32) (c s : FVec 𝕀 S4x16 .f32) : FVec 𝕀 S32x8x4x128 .f32 :=
  concatenate S32x8x4x128 3 [⟨S32x8x4x32, concatenate S32x8x4x32 3 [⟨S32x8x4x16, subf (mulf (fst n) (overHeads c)) (mulf (snd n) (overHeads s))⟩,
    ⟨S32x8x4x16, addf (mulf (snd n) (overHeads c)) (mulf (fst n) (overHeads s))⟩] concatenates_S32x8x4x16_S32x8x4x16_S32x8x4x32_d3⟩,
    ⟨S32x8x4x96, extractStridedSlice S32x8x4x96 ![0, 0, 0, 32] n slices_S32x8x4x128_S32x8x4x96_0_0_0_32⟩] concatenates_S32x8x4x32_S32x8x4x96_S32x8x4x128_d3

theorem plainTurn_value (n : FVec 𝕀 S32x8x4x128 .f32) (c s : FVec 𝕀 S4x16 .f32) (b : Fin 32) (h : Fin 8) (t : Fin 4) (l : Fin 128) :
    plainTurn n c s (ix4 b h t l) = turn (fun l => n (ix4 b h t l)) (fun j => c (ix2 t j)) (fun j => s (ix2 t j)) l := by
  have hl := l.isLt
  unfold turn
  pointwise [plainTurn, fst, snd, overHeads]
  by_cases h1 : l.val < 16
  · have h2 : l.val < 32 := by omega
    have e : (⟨16 + l.val, by omega⟩ : Fin 128) = ⟨l.val + 16, by omega⟩ := Fin.ext (Nat.add_comm _ _)
    simp only [dif_pos h1, dif_pos h2, e]
  · by_cases h2 : l.val < 32
    · have e : (⟨16 + (l.val - 16), by omega⟩ : Fin 128) = l := Fin.ext (by show 16 + (l.val - 16) = l.val; omega)
      simp only [dif_neg h1, dif_pos h2, e]
    · have e : (⟨32 + (l.val - 32), by omega⟩ : Fin 128) = l := Fin.ext (by show 32 + (l.val - 32) = l.val; omega)
      simp only [dif_neg h1, dif_neg h2, e]

/-- The positions, behind the 8192 that are cached, and their angles. -/
def pos : IVec S4 32 := addi (broadcastInDim S4 ![] bcast_S_S4 (constantI S_ 32 8192#32)) (iotaInDim S4 32 0)
def plainAngle : FVec 𝕀 S4x16 .f32 :=
  mulf (broadcastInDim S4x16 ![0, 1] bcast_S4x1_S4x16_0_1 (broadcastInDim S4x1 ![0] bcast_S4_S4x1_0 (sitofp (F := 𝕀) .f32 pos)))
    (broadcastInDim S4x16 ![0, 1] bcast_S1x16_S4x16_0_1 (broadcastInDim S1x16 ![1] bcast_S16_S1x16_1 freq))

/-- A row's angles are those of its position. -/
theorem angle_eq (r : Fin 128) (j : Fin 16) : rowAngle (ix2 r j) = plainAngle (ix2 (Cert.Sample.posOf r) j) := by
  pointwise [rowAngle, rowPos, plainAngle, pos]

/-- The sequences' heads as the heads' rows. -/
def plainRows (u : FVec 𝕀 S32x8x4x128 .f32) : FVec 𝕀 S1x8x128x128 .f32 :=
  shapeCast _ (transpose S8x32x4x128 [1, 0, 2, 3] u transposes_S32x8x4x128_S8x32x4x128_1_0_2_3) shapeCasts_S8x32x4x128_S1x8x128x128

theorem plainRows_value (u : FVec 𝕀 S32x8x4x128 .f32) (h : Fin 8) (r l : Fin 128) : plainRows u (ix4 0 h r l) = u (ix4 (Cert.Sample.seqOf r) h (Cert.Sample.posOf r) l) := by
  pointwise [plainRows]

/-- The three results. -/
def plainTurned (u : FVec 𝕀 S32x8x4x128 .f32) (g : FVec 𝕀 S1x128 .f32) : FVec 𝕀 S1x8x128x128 .f32 :=
  plainRows (plainTurn (plainHead u g) (Host.cos plainAngle) (Host.sin plainAngle))

theorem plainTurned_value (u : FVec 𝕀 S32x8x4x128 .f32) (g : FVec 𝕀 S1x128 .f32) (h : Fin 8) (r l : Fin 128) :
    plainTurned u g (ix4 0 h r l) = turn (headNorm (fun l => u (ix4 (Cert.Sample.seqOf r) h (Cert.Sample.posOf r) l)) (fun l => g (ix2 0 l)))
      (fun j => Host.cos rowAngle (ix2 r j)) (fun j => Host.sin rowAngle (ix2 r j)) l := by
  have hc : (fun j => Host.cos rowAngle (ix2 r j)) = fun j => Host.cos plainAngle (ix2 (Cert.Sample.posOf r) j) := funext fun j => by
    pointwise
    rw [angle_eq]
  have hs : (fun j => Host.sin rowAngle (ix2 r j)) = fun j => Host.sin plainAngle (ix2 (Cert.Sample.posOf r) j) := funext fun j => by
    pointwise
    rw [angle_eq]
  rw [plainTurned, plainRows_value, plainTurn_value, hc, hs]
  simp only [plainHead_value]

section eq

variable (m : (ℓ : Loc Cert.Kernel7Ideal.nD Cert.Kernel7Ideal.τ Cert.Kernel7Ideal.sig) → Buf (Elt 𝕀) ℓ) (m' : (ℓ : Loc nD τ sig) → Buf (Elt 𝕀) ℓ) (c : Dev nD)

/-- The reference's columns and its three results, from its memory. -/
def refAll : FVec 𝕀 S3x32x8x4x128 .f32 :=
  plainAll (m' ((c.tc : Thread nD τ).loc main_arg0)) (m' ((c.tc : Thread nD τ).loc main_arg1)) (m' ((c.tc : Thread nD τ).loc main_arg2))
def refQ : FVec 𝕀 S1x8x128x128 .f32 := plainTurned (plainQ (refAll m' c)) (m' ((c.tc : Thread nD τ).loc main_arg3))
def refK : FVec 𝕀 S1x8x128x128 .f32 := plainTurned (plainK (refAll m' c)) (m' ((c.tc : Thread nD τ).loc main_arg4))
def refV : FVec 𝕀 S1x8x128x128 .f32 := plainRows (plainV (refAll m' c))

/-- The same from the kernel's memory. -/
def kerAll : FVec 𝕀 S3x32x8x4x128 .f32 :=
  plainAll (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))
    (m ((c.tc : Thread Cert.Kernel7Ideal.nD Cert.Kernel7Ideal.τ).loc Cert.Kernel7Ideal.main_arg2))
def kerQ : FVec 𝕀 S1x8x128x128 .f32 := plainTurned (plainQ (kerAll m c)) (m ((c.tc : Thread Cert.Kernel7Ideal.nD Cert.Kernel7Ideal.τ).loc Cert.Kernel7Ideal.main_arg3))
def kerK : FVec 𝕀 S1x8x128x128 .f32 := plainTurned (plainK (kerAll m c)) (m ((c.tc : Thread Cert.Kernel7Ideal.nD Cert.Kernel7Ideal.τ).loc Cert.Kernel7Ideal.main_arg4))
def kerV : FVec 𝕀 S1x8x128x128 .f32 := plainRows (plainV (kerAll m c))

/-- A column of a row's projection. -/
theorem kerAll_value (p : Fin 3) (j : Fin 3072) (r : Fin 128) (h : Fin 8) (l : Fin 128) (hj : j.val = p.val * 1024 + h.val * 128 + l.val) :
    kerAll m c (ix5 p (Cert.Sample.seqOf r) h (Cert.Sample.posOf r) l) = proj (rows m c r) (gains m c) (columns m c) j :=
  plainAll_value _ _ _ p _ h _ l j hj

theorem q_eq : kerQ m c = (Cert.Kernel7Ideal.Gen.dats m 0 c).arrAt 8 Cert.Kernel7Ideal.cfg0.N := by
  funext y
  obtain ⟨h, r, l, rfl⟩ : ∃ (h : Fin 8) (r l : Fin 128), y = ix4 0 h r l := ⟨y 1, y 2, y 3, by idx_ext⟩
  rw [kerQ, plainTurned_value]
  simp only [plainQ_value]
  have e : (fun l => kerAll m c (ix5 0 (Cert.Sample.seqOf r) h (Cert.Sample.posOf r) l)) = fun l => proj (rows m c r) (gains m c) (columns m c) (qcol h l) :=
    funext fun l => kerAll_value m c 0 _ r h l (by show 128 * h.val + l.val = 0 * 1024 + h.val * 128 + l.val; omega)
  rw [e]
  exact (array_q m c h r l).symm

theorem k_eq : kerK m c = (Cert.Kernel7Ideal.Gen.dats m 0 c).arrAt 9 Cert.Kernel7Ideal.cfg0.N := by
  funext y
  obtain ⟨h, r, l, rfl⟩ : ∃ (h : Fin 8) (r l : Fin 128), y = ix4 0 h r l := ⟨y 1, y 2, y 3, by idx_ext⟩
  rw [kerK, plainTurned_value]
  simp only [plainK_value]
  have e : (fun l => kerAll m c (ix5 1 (Cert.Sample.seqOf r) h (Cert.Sample.posOf r) l)) = fun l => proj (rows m c r) (gains m c) (columns m c) (kcol h l) :=
    funext fun l => kerAll_value m c 1 _ r h l (by show 1024 + (128 * h.val + l.val) = 1 * 1024 + h.val * 128 + l.val; omega)
  rw [e]
  exact (array_k m c h r l).symm

theorem v_eq : kerV m c = (Cert.Kernel7Ideal.Gen.dats m 0 c).arrAt 10 Cert.Kernel7Ideal.cfg0.N := by
  funext y
  obtain ⟨h, r, l, rfl⟩ : ∃ (h : Fin 8) (r l : Fin 128), y = ix4 0 h r l := ⟨y 1, y 2, y 3, by idx_ext⟩
  rw [kerV, plainRows_value, plainV_value]
  exact (kerAll_value m c 2 (vcol h l) r h l (by show 2048 + (128 * h.val + l.val) = 2 * 1024 + h.val * 128 + l.val; omega)).trans (array_v m c h r l).symm

end eq

/-- The named long results are the reference's queries and keys. -/
theorem res_q (m : (ℓ : Loc nD τ sig) → Buf (Elt 𝕀) ℓ) (c : Dev nD) : res_main_v126 m c = refQ m c := by
  unfold res_main_v126
  rfl
theorem res_k (m : (ℓ : Loc nD τ sig) → Buf (Elt 𝕀) ℓ) (c : Dev nD) : res_main_v128 m c = refK m c := by
  unfold res_main_v128
  rfl

/-- The reference runs: its results are the queries, the keys and the values, its arguments as they were. -/
theorem runR (m : (ℓ : Loc nD τ sig) → Buf (Elt 𝕀) ℓ) (ρ : Dev nD → PrngReg) :
    θ_run (defs (F := 𝕀)) (onTc (τ := τ) (main (F := 𝕀))) ⟨m, fun _ => 0, ρ⟩ fun r => ∀ c : Dev nD,
      r.2.mem ((c.tc : Thread nD τ).loc main_v126) = refQ m c
      ∧ r.2.mem ((c.tc : Thread nD τ).loc main_v128) = refK m c
      ∧ r.2.mem ((c.tc : Thread nD τ).loc main_v130) = refV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := 𝕀)) _ _).mono (fun _ h c => ⟨(h c).1.trans (res_q m c), (h c).2.1.trans (res_k m c), (h c).2.2.1.trans rfl, (h c).2.2.2⟩) (run (F := 𝕀) m ρ)

/-- The reference runs, leaves its arguments as they were and no semaphore raised. -/
theorem reference_kept : Cert.quiescent_Reference7Ideal := fun m ρ _ =>
  (θ_run (defs (F := 𝕀)) _ _).mono (fun r h => ⟨fun c => (h c).2.2.2, sem_eq_zero_of_no_sems (by decide) r.2⟩) (runR m ρ)

/-- The two programs run from memories that agree on the arguments and end with equal results, the arguments as they were. -/
theorem equal : Cert.algebraic_Kernel7Ideal_Reference7Ideal := fun m ρ m' ρ' _ hag =>
  have ha : ∀ c, refAll m' c = kerAll m c := fun c => by
    obtain ⟨h0, h1, h2, -, -⟩ := hag c
    unfold refAll kerAll
    rw [h0, h1, h2]
  have hq : ∀ c, refQ m' c = kerQ m c := fun c => by
    obtain ⟨-, -, -, h3, -⟩ := hag c
    unfold refQ kerQ
    rw [h3, ha]
  have hk : ∀ c, refK m' c = kerK m c := fun c => by
    obtain ⟨-, -, -, -, h4⟩ := hag c
    unfold refK kerK
    rw [h4, ha]
  ⟨fun c => (Cert.Kernel7Ideal.Gen.dats m 0 c).arrAt 8 Cert.Kernel7Ideal.cfg0.N, fun c => (Cert.Kernel7Ideal.Gen.dats m 0 c).arrAt 9 Cert.Kernel7Ideal.cfg0.N,
    fun c => (Cert.Kernel7Ideal.Gen.dats m 0 c).arrAt 10 Cert.Kernel7Ideal.cfg0.N, Cert.Kernel7Ideal.Value.run_blocks (F := 𝕀) m ρ,
    (θ_run (defs (F := 𝕀)) _ _).mono (fun _ h c => ⟨(h c).1.trans ((hq c).trans (q_eq m c)), (h c).2.1.trans ((hk c).trans (k_eq m c)),
      (h c).2.2.1.trans ((congrArg (fun a => plainRows (plainV a)) (ha c)).trans (v_eq m c)), (h c).2.2.2⟩) (runR m' ρ')⟩

end Cert.Qkv.Sample

end
-- ==== Proof.FfnSample.lean ====
/- The second layer's feed-forward call of the sample batch: one point, the hidden columns taken in two halves. -/
module

public import proofs.«01_k».proof.Defs
public import proofs.«01_k».proof.Proof.SampleNorm
public import proofs.«01_k».proof.Proof.Gen.Kernel8Ideal
public import proofs.«01_k».proof.Proof.Gen.Kernel8Ideal.Value
public import proofs.«01_k».proof.Proof.Gen.Reference8Ideal.Run
public import Idealize.ShloMosaic.Lib.Pipeline.ValueKit
public import Idealize.ShloMosaic.Lib.KernelVsHost
public import Idealize.ShloMosaic.Lib.Claim
public import Idealize.ShloMosaic.Lib.Quiescent

@[expose] public section

set_option maxRecDepth 16384

noncomputable section

namespace Cert.Ffn.Sample

open Idealize.ShloMosaic Idealize.ShloMosaic.TcCoe Idealize.SL.Sem
open Cert.Sample (seqOf posOf)

local notation "𝕀" => Idealize.ShloMosaic.Ideal

/-- The two halves of the hidden columns. -/
abbrev lo (j : Fin 1408) : Fin 2816 := ⟨j.val, by omega⟩
abbrev hi (j : Fin 1408) : Fin 2816 := ⟨1408 + j.val, by omega⟩

/-- A sum over the hidden columns, by halves. -/
theorem sum_halves (f : Fin 2816 → EReal) : ∑ j : Fin 1408, f (lo j) + ∑ j : Fin 1408, f (hi j) = ∑ j : Fin 2816, f j :=
  (Fin.sum_univ_add (a := 1408) (b := 1408) f).symm

section kernel

open Cert.Kernel8Ideal Cert.Kernel8Ideal.Gen Cert.Kernel8Ideal.Value

section any

variable {F : FTy → Type} [FloatOps F]

/-- The rows, normalised. -/
def scaled (h : FVec F S128x1024 .f32) (g : Vec F S1x1024 .f32) : FVec F S128x1024 .bf16 :=
  truncf .bf16 (mulf (mulf h (broadcastTo S128x1024 (rsqrt (addf (divf (shapeCast S128x1 (multiReduction .add [1] S128 (mulf h h) 0x00000000#32 reduces_S128x1024_S128 (.inl rfl) rfl) shapeCasts_S128_S128x1)
    (broadcast S128x1 (Scalar.ofBits .f32 0x44800000#32))) (broadcast S128x1 (Scalar.ofBits .f32 0x358637BD#32)))) broadcasts_S128x1_S128x1024))
    (broadcastTo S128x1024 (shapeCast S1x1024 g shapeCasts_S1x1024_S1x1024) broadcasts_S1x1024_S128x1024)) bitsLt_bf16_f32

/-- The normalised rows times half of a weight's columns. -/
def times (n : FVec F S128x1024 .bf16) (w : Vec F S1x1024x1408 .bf16) : FVec F S128x1408 .f32 :=
  matmul dot_S128x1024_S1024x1408_S128x1408_1_0_0_1_n_n none n (shapeCast S1024x1408 w shapeCasts_S1x1024x1408_S1024x1408) (constant S128x1408 .f32 0x00000000#32)

/-- What half of the hidden columns adds. -/
def half (n : FVec F S128x1024 .bf16) (g u : Vec F S1x1024x1408 .bf16) (w : Vec F S1x1408x1024 .bf16) : FVec F S128x1024 .f32 :=
  matmul dot_S128x1408_S1408x1024_S128x1024_1_0_0_1_n_n none
    (truncf .bf16 (mulf (divf (times n g) (addf (broadcast S128x1408 (Scalar.ofBits .f32 0x3F800000#32)) (exp (subf (broadcast S128x1408 (Scalar.ofBits .f32 0x00000000#32)) (times n g))))) (times n u)) bitsLt_bf16_f32)
    (shapeCast S1408x1024 w shapeCasts_S1x1408x1024_S1408x1024) (constant S128x1024 .f32 0x00000000#32)

/-- The point's tile is its rows with both halves added. -/
theorem out_halves (x0 : Vec F S128x2048 .bf16) (x1 : Vec F S128x1024 .f32) (x2 : Vec F S2048x1024 .bf16) (x3 : Vec F S1x1024 .f32)
    (x4 x5 : Vec F S1x1024x2816 .bf16) (x6 : Vec F S1x2816x1024 .bf16) :
    out0_7 x0 x1 x2 x3 x4 x5 x6 = addf (addf (k0_pay2 x0 x1 x2) (half (scaled (k0_pay2 x0 x1 x2) x3) (View.ld x4 r0_4) (View.ld x5 r0_4) (View.ld x6 r0_5)))
      (half (scaled (k0_pay2 x0 x1 x2) x3) (View.ld x4 r0_6) (View.ld x5 r0_6) (View.ld x6 r0_7)) := by
  unfold out0_7
  rw [View.canon_cons_unit_zero (by decide +kernel), View.ld_unit_zero (by decide +kernel) _ x0, View.ld_unit_zero (by decide +kernel) _ x1, View.ld_unit_zero (by decide +kernel) _ x2, View.ld_unit_zero (by decide +kernel) _ x3]
  rfl

end any

/-- The rows before the feed-forward part. -/
theorem before_value (x0 : Vec 𝕀 S128x2048 .bf16) (x1 : Vec 𝕀 S128x1024 .f32) (x2 : Vec 𝕀 S2048x1024 .bf16) (i : Fin 128) (l : Fin 1024) :
    k0_pay2 x0 x1 x2 (ix2 i l) = hid (fun k => x0 (ix2 i k)) (fun k l => x2 (ix2 k l)) (fun l => x1 (ix2 i l)) l := by
  unfold hid
  pointwise [k0_pay2]

theorem scaled_value (h : FVec 𝕀 S128x1024 .f32) (g : Vec 𝕀 S1x1024 .f32) (i : Fin 128) (l : Fin 1024) :
    scaled h g (ix2 i l) = norm (fun l => h (ix2 i l)) (fun l => g (ix2 0 l)) l := by
  unfold norm
  pointwise [scaled]

/-- Half of the hidden columns, for any half `c` of them. -/
theorem half_value (n : FVec 𝕀 S128x1024 .bf16) (g u : Vec 𝕀 S1x1024x1408 .bf16) (w : Vec 𝕀 S1x1408x1024 .bf16) (i : Fin 128) (l : Fin 1024) (W : Weights) (c : Fin 1408 → Fin 2816) (N : Fin 1024 → EReal)
    (hn : ∀ k, n (ix2 i k) = N k) (hg : ∀ k j, g (ix3 0 k j) = W.gate k (c j)) (hu : ∀ k j, u (ix3 0 k j) = W.up k (c j)) (hw : ∀ j, w (ix3 0 j l) = W.down (c j) l) :
    half n g u w (ix2 i l) = ∑ j : Fin 1408, act N W.gate W.up (c j) * W.down (c j) l := by
  simp only [act, ← hn, ← hg, ← hu, ← hw, ← Spec.silu_div]
  pointwise [half, times]
  simp only [zero_sub]

variable (x4 : Vec 𝕀 S1x1024x2816 .bf16) (x6 : Vec 𝕀 S1x2816x1024 .bf16)

/-- The loads of the halves. -/
theorem ld_lo (k : Fin 1024) (j : Fin 1408) : View.ld x4 r0_4 (ix3 0 k j) = x4 (ix3 0 k (lo j)) := congrArg x4 (by idx_ext : r0_4.toLoadRect.idx (ix3 0 k j) = ix3 0 k (lo j))
theorem ld_hi (k : Fin 1024) (j : Fin 1408) : View.ld x4 r0_6 (ix3 0 k j) = x4 (ix3 0 k (hi j)) := congrArg x4 (by idx_ext : r0_6.toLoadRect.idx (ix3 0 k j) = ix3 0 k (hi j))
theorem ld_low (j : Fin 1408) (l : Fin 1024) : View.ld x6 r0_5 (ix3 0 j l) = x6 (ix3 0 (lo j) l) := congrArg x6 (by idx_ext : r0_5.toLoadRect.idx (ix3 0 j l) = ix3 0 (lo j) l)
theorem ld_high (j : Fin 1408) (l : Fin 1024) : View.ld x6 r0_7 (ix3 0 j l) = x6 (ix3 0 (hi j) l) := congrArg x6 (by idx_ext : r0_7.toLoadRect.idx (ix3 0 j l) = ix3 0 (hi j) l)

/-- The point's tile, entry by entry. -/
theorem tile_out (x0 : Vec 𝕀 S128x2048 .bf16) (x1 : Vec 𝕀 S128x1024 .f32) (x2 : Vec 𝕀 S2048x1024 .bf16) (x3 : Vec 𝕀 S1x1024 .f32) (x5 : Vec 𝕀 S1x1024x2816 .bf16)
    (W : Weights) (hg : ∀ l, x3 (ix2 0 l) = W.g l) (h4 : ∀ k j, x4 (ix3 0 k j) = W.gate k j) (h5 : ∀ k j, x5 (ix3 0 k j) = W.up k j) (h6 : ∀ j l, x6 (ix3 0 j l) = W.down j l) (i : Fin 128) (l : Fin 1024) :
    out0_7 x0 x1 x2 x3 x4 x5 x6 (ix2 i l) = out W (hid (fun k => x0 (ix2 i k)) (fun k l => x2 (ix2 k l)) (fun l => x1 (ix2 i l))) l := by
  rw [out_halves]
  generalize hH : k0_pay2 x0 x1 x2 = H
  have eH : (fun l => H (ix2 i l)) = hid (fun k => x0 (ix2 i k)) (fun k l => x2 (ix2 k l)) (fun l => x1 (ix2 i l)) := funext fun l => hH ▸ before_value x0 x1 x2 i l
  rw [← eH]
  have en : ∀ k, scaled H x3 (ix2 i k) = norm (fun l => H (ix2 i l)) W.g k := fun k => (scaled_value H x3 i k).trans (by simp only [hg])
  have e0 := half_value (scaled H x3) (View.ld x4 r0_4) (View.ld x5 r0_4) (View.ld x6 r0_5) i l W lo _ en (fun k j => (ld_lo x4 k j).trans (h4 _ _)) (fun k j => (ld_lo x5 k j).trans (h5 _ _)) (fun j => (ld_low x6 j l).trans (h6 _ _))
  have e1 := half_value (scaled H x3) (View.ld x4 r0_6) (View.ld x5 r0_6) (View.ld x6 r0_7) i l W hi _ en (fun k j => (ld_hi x4 k j).trans (h4 _ _)) (fun k j => (ld_hi x5 k j).trans (h5 _ _)) (fun j => (ld_high x6 j l).trans (h6 _ _))
  show H (ix2 i l) + half (scaled H x3) (View.ld x4 r0_4) (View.ld x5 r0_4) (View.ld x6 r0_5) (ix2 i l) + half (scaled H x3) (View.ld x4 r0_6) (View.ld x5 r0_6) (View.ld x6 r0_7) (ix2 i l) = _
  rw [e0, e1, add_assoc, sum_halves fun j => act (norm (fun l => H (ix2 i l)) W.g) W.gate W.up j * W.down j l]
  rfl

variable (m : (ℓ : Loc nD τ sig) → Buf (Elt 𝕀) ℓ) (d : Dev nD)

/-- The weights a core holds. -/
def held : Weights where
  g l := m ((d : Thread nD τ).loc main_arg3) (ix2 1 l)
  gate k j := m ((d : Thread nD τ).loc main_arg4) (ix3 1 k j)
  up k j := m ((d : Thread nD τ).loc main_arg5) (ix3 1 k j)
  down j l := m ((d : Thread nD τ).loc main_arg6) (ix3 1 j l)

/-- A row before the feed-forward part. -/
def rows (r : Fin 128) : Fin 1024 → EReal :=
  hid (fun k : Fin 2048 => m ((d : Thread nD τ).loc main_arg0) (ix3 (seqOf r) (posOf r) k)) (fun k l => m ((d : Thread nD τ).loc main_arg2) (ix2 k l)) (fun l => m ((d : Thread nD τ).loc main_arg1) (ix3 (seqOf r) (posOf r) l))

/-- All windows take their array's first block, the layer's weights the second. -/
theorem idx : ∀ t : Fin cfg0.N, (win0_0.index t = ![0, 0] ∧ win0_1.index t = ![0, 0] ∧ win0_2.index t = ![0, 0] ∧ win0_3.index t = ![0, 0])
    ∧ win0_4.index t = ![1, 0, 0] ∧ win0_5.index t = ![1, 0, 0] ∧ win0_6.index t = ![1, 0, 0] ∧ win0_7.index t = ![0, 0] :=
  (by decide +kernel : ∀ t : Fin grid0.N, _)

theorem host_a (r : Fin 128) (k : Fin 2048) : V m d main_v1 (ix2 r k) = m ((d : Thread nD τ).loc main_arg0) (ix3 (seqOf r) (posOf r) k) := by
  simp only [V, hostOps0]
  entry_read
  pointwise
theorem host_x (r : Fin 128) (l : Fin 1024) : V m d main_v2 (ix2 r l) = m ((d : Thread nD τ).loc main_arg1) (ix3 (seqOf r) (posOf r) l) := by
  simp only [V, hostOps0]
  entry_read
  pointwise
theorem host_w (k : Fin 2048) (l : Fin 1024) : V m d main_v3 (ix2 k l) = m ((d : Thread nD τ).loc main_arg2) (ix2 k l) := by
  simp only [V, hostOps0]
  entry_read
  pointwise
theorem host_gate (k : Fin 1024) (j : Fin 2816) : V m d main_v4 (ix3 1 k j) = (held m d).gate k j := by
  unfold held
  simp only [V, hostOps0]
  entry_read
  pointwise
theorem host_up (k : Fin 1024) (j : Fin 2816) : V m d main_v5 (ix3 1 k j) = (held m d).up k j := by
  unfold held
  simp only [V, hostOps0]
  entry_read
  pointwise
theorem host_down (j : Fin 2816) (l : Fin 1024) : V m d main_v6 (ix3 1 j l) = (held m d).down j l := by
  unfold held
  simp only [V, hostOps0]
  entry_read
  pointwise
theorem host_g (l : Fin 1024) : V m d main_v9 (ix2 0 l) = (held m d).g l := by
  unfold held
  simp only [V, hostOps0]
  entry_read
  pointwise

variable (t : Fin cfg0.N)

/-- What the point reads. -/
theorem reads_a (i : Fin 128) (k : Fin 2048) : iblk m d 0 t (ix2 i k) = m ((d : Thread nD τ).loc main_arg0) (ix3 (seqOf i) (posOf i) k) := by
  obtain ⟨⟨h, -, -, -⟩, -⟩ := idx t
  exact Eq.trans (by blk_ext [iblk, h]) (host_a m d i k)
theorem reads_x (i : Fin 128) (l : Fin 1024) : iblk m d 1 t (ix2 i l) = m ((d : Thread nD τ).loc main_arg1) (ix3 (seqOf i) (posOf i) l) := by
  obtain ⟨⟨-, h, -, -⟩, -⟩ := idx t
  exact Eq.trans (by blk_ext [iblk, h]) (host_x m d i l)
theorem reads_w (k : Fin 2048) (l : Fin 1024) : iblk m d 2 t (ix2 k l) = m ((d : Thread nD τ).loc main_arg2) (ix2 k l) := by
  obtain ⟨⟨-, -, h, -⟩, -⟩ := idx t
  exact Eq.trans (by blk_ext [iblk, h]) (host_w m d k l)
theorem reads_g (l : Fin 1024) : iblk m d 3 t (ix2 0 l) = (held m d).g l := by
  obtain ⟨⟨-, -, -, h⟩, -⟩ := idx t
  exact Eq.trans (by blk_ext [iblk, h]) (host_g m d l)
theorem reads_gate (k : Fin 1024) (j : Fin 2816) : iblk m d 4 t (ix3 0 k j) = (held m d).gate k j := by
  obtain ⟨-, h, -⟩ := idx t
  exact Eq.trans (by blk_ext [iblk, h]) (host_gate m d k j)
theorem reads_up (k : Fin 1024) (j : Fin 2816) : iblk m d 5 t (ix3 0 k j) = (held m d).up k j := by
  obtain ⟨-, -, h, -⟩ := idx t
  exact Eq.trans (by blk_ext [iblk, h]) (host_up m d k j)
theorem reads_down (j : Fin 2816) (l : Fin 1024) : iblk m d 6 t (ix3 0 j l) = (held m d).down j l := by
  obtain ⟨-, -, -, h, -⟩ := idx t
  exact Eq.trans (by blk_ext [iblk, h]) (host_down m d j l)

/-- The tile is the whole of the result. -/
theorem whole (A : S128x1024.Idx → EReal) (i : Fin 128) (l : Fin 1024) : ((cfg0.win 7).blk t).view.read (Elt 𝕀) A (ix2 i l) = A (ix2 i l) := by
  obtain ⟨-, -, -, -, h⟩ := idx t
  blk_ext [h]

/-- The only point. -/
abbrev only : Fin cfg0.N := ⟨0, by have h : cfg0.N = 1 := N_0; omega⟩

/-- The result's array, entry by entry. -/
theorem array_out (r : Fin 128) (l : Fin 1024) : (dats m 0 d).arrAt 7 cfg0.N (ix2 r l) = out (held m d) (rows m d r) l := by
  have e := congrFun (blocks7 m d only (flush0_7 _)) (ix2 r l)
  rw [whole, flushed7] at e
  refine (e.trans (tile_out _ _ _ _ _ _ _ (held m d) (reads_g m d only) (reads_gate m d only) (reads_up m d only) (reads_down m d only) r l)).trans ?_
  simp only [reads_a, reads_x, reads_w]
  rfl

end kernel

open Cert.Reference8Ideal Cert.Reference8Ideal.Gen Cert.Reference8Ideal.Value

/-- The rows before the feed-forward part. -/
def plainRows (a : FVec 𝕀 S32x4x2048 .f32) (x : FVec 𝕀 S32x4x1024 .f32) (w : FVec 𝕀 S2048x1024 .f32) : FVec 𝕀 S32x4x1024 .f32 :=
  addf x (Host.dotGeneral dot_S32x4x2048_S2048x1024_S32x4x1024_2_0_01_1_n_n none a w)

theorem plainRows_value (a : FVec 𝕀 S32x4x2048 .f32) (x : FVec 𝕀 S32x4x1024 .f32) (w : FVec 𝕀 S2048x1024 .f32) (b : Fin 32) (s : Fin 4) (l : Fin 1024) :
    plainRows a x w (ix3 b s l) = hid (fun k : Fin 2048 => a (ix3 b s k)) (fun k l => w (ix2 k l)) (fun l => x (ix3 b s l)) l := by
  unfold hid
  pointwise [plainRows]

/-- The layer's gain and weights. -/
def layerG (g : FVec 𝕀 S2x1024 .f32) : FVec 𝕀 S1024 .f32 := shapeCast _ (extractStridedSlice S1x1024 ![1, 0] g slices_S2x1024_S1x1024_1_0) shapeCasts_S1x1024_S1024
def layerIn (w : FVec 𝕀 S2x1024x2816 .f32) : FVec 𝕀 S1024x2816 .f32 := shapeCast _ (extractStridedSlice S1x1024x2816 ![1, 0, 0] w slices_S2x1024x2816_S1x1024x2816_1_0_0) shapeCasts_S1x1024x2816_S1024x2816
def layerOut (w : FVec 𝕀 S2x2816x1024 .f32) : FVec 𝕀 S2816x1024 .f32 := shapeCast _ (extractStridedSlice S1x2816x1024 ![1, 0, 0] w slices_S2x2816x1024_S1x2816x1024_1_0_0) shapeCasts_S1x2816x1024_S2816x1024

theorem layerG_value (g : FVec 𝕀 S2x1024 .f32) (l : Fin 1024) : layerG g (ix1 l) = g (ix2 1 l) := by pointwise [layerG]
theorem layerIn_value (w : FVec 𝕀 S2x1024x2816 .f32) (k : Fin 1024) (j : Fin 2816) : layerIn w (ix2 k j) = w (ix3 1 k j) := by pointwise [layerIn]
theorem layerOut_value (w : FVec 𝕀 S2x2816x1024 .f32) (j : Fin 2816) (l : Fin 1024) : layerOut w (ix2 j l) = w (ix3 1 j l) := by pointwise [layerOut]

/-- The normalised rows times a weight. -/
def plainTimes (n : FVec 𝕀 S32x4x1024 .f32) (w : FVec 𝕀 S1024x2816 .f32) : FVec 𝕀 S32x4x2816 .f32 := Host.dotGeneral dot_S32x4x1024_S1024x2816_S32x4x2816_2_0_01_1_n_n none n w

theorem plainTimes_value (n : FVec 𝕀 S32x4x1024 .f32) (w : FVec 𝕀 S1024x2816 .f32) (b : Fin 32) (s : Fin 4) (j : Fin 2816) :
    plainTimes n w (ix3 b s j) = ∑ k : Fin 1024, n (ix3 b s k) * w (ix2 k j) := by
  pointwise [plainTimes]

/-- The rows with their feed-forward part added. -/
def plainSum (h : FVec 𝕀 S32x4x1024 .f32) (g : FVec 𝕀 S1024 .f32) (wg wu : FVec 𝕀 S1024x2816 .f32) (wd : FVec 𝕀 S2816x1024 .f32) : FVec 𝕀 S32x4x1024 .f32 :=
  addf h (Host.dotGeneral dot_S32x4x2816_S2816x1024_S32x4x1024_2_0_01_1_n_n none
    (mulf (mulf (plainTimes (Cert.Sample.plainNorm (F := 𝕀) h g) wg) (Host.divf (broadcastInDim S32x4x2816 ![] bcast_S_S32x4x2816 (constant S_ .f32 0x3F800000#32))
        (addf (broadcastInDim S32x4x2816 ![] bcast_S_S32x4x2816 (constant S_ .f32 0x3F800000#32)) (Host.exp (Host.negf (plainTimes (Cert.Sample.plainNorm (F := 𝕀) h g) wg))))))
      (plainTimes (Cert.Sample.plainNorm (F := 𝕀) h g) wu)) wd)

theorem plainSum_value (h : FVec 𝕀 S32x4x1024 .f32) (g : FVec 𝕀 S1024 .f32) (wg wu : FVec 𝕀 S1024x2816 .f32) (wd : FVec 𝕀 S2816x1024 .f32) (b : Fin 32) (s : Fin 4) (l : Fin 1024) :
    plainSum h g wg wu wd (ix3 b s l) = out ⟨fun l => g (ix1 l), fun k j => wg (ix2 k j), fun k j => wu (ix2 k j), fun j l => wd (ix2 j l)⟩ (fun l => h (ix3 b s l)) l := by
  unfold out act Spec.silu
  pointwise [plainSum]
  simp only [plainTimes_value, Cert.Sample.plainNorm_value]

/-- The result's rows, one after another. -/
def flat (a : FVec 𝕀 S32x4x1024 .f32) : FVec 𝕀 S128x1024 .f32 := shapeCast _ a shapeCasts_S32x4x1024_S128x1024
theorem flat_value (a : FVec 𝕀 S32x4x1024 .f32) (r : Fin 128) (l : Fin 1024) : flat a (ix2 r l) = a (ix3 (seqOf r) (posOf r) l) := by pointwise [flat]

section eq

variable (m : (ℓ : Loc Cert.Kernel8Ideal.nD Cert.Kernel8Ideal.τ Cert.Kernel8Ideal.sig) → Buf (Elt 𝕀) ℓ) (m' : (ℓ : Loc nD τ sig) → Buf (Elt 𝕀) ℓ) (c : Dev nD)

/-- The reference's result, from its memory. -/
def refOut : FVec 𝕀 S128x1024 .f32 :=
  flat (plainSum (plainRows (m' ((c.tc : Thread nD τ).loc main_arg0)) (m' ((c.tc : Thread nD τ).loc main_arg1)) (m' ((c.tc : Thread nD τ).loc main_arg2)))
    (layerG (m' ((c.tc : Thread nD τ).loc main_arg3))) (layerIn (m' ((c.tc : Thread nD τ).loc main_arg4))) (layerIn (m' ((c.tc : Thread nD τ).loc main_arg5))) (layerOut (m' ((c.tc : Thread nD τ).loc main_arg6))))

/-- It is the named result. -/
theorem res_out : res_main_v29 m' c = refOut m' c := by
  unfold res_main_v29
  rfl

/-- On arguments that agree, the reference's result is the kernel's array. -/
theorem out_eq
    (h0 : m ((c.tc : Thread Cert.Kernel8Ideal.nD Cert.Kernel8Ideal.τ).loc Cert.Kernel8Ideal.main_arg0) = m' ((c.tc : Thread nD τ).loc main_arg0))
    (h1 : m ((c.tc : Thread Cert.Kernel8Ideal.nD Cert.Kernel8Ideal.τ).loc Cert.Kernel8Ideal.main_arg1) = m' ((c.tc : Thread nD τ).loc main_arg1))
    (h2 : m ((c.tc : Thread Cert.Kernel8Ideal.nD Cert.Kernel8Ideal.τ).loc Cert.Kernel8Ideal.main_arg2) = m' ((c.tc : Thread nD τ).loc main_arg2))
    (h3 : m ((c.tc : Thread Cert.Kernel8Ideal.nD Cert.Kernel8Ideal.τ).loc Cert.Kernel8Ideal.main_arg3) = m' ((c.tc : Thread nD τ).loc main_arg3))
    (h4 : m ((c.tc : Thread Cert.Kernel8Ideal.nD Cert.Kernel8Ideal.τ).loc Cert.Kernel8Ideal.main_arg4) = m' ((c.tc : Thread nD τ).loc main_arg4))
    (h5 : m ((c.tc : Thread Cert.Kernel8Ideal.nD Cert.Kernel8Ideal.τ).loc Cert.Kernel8Ideal.main_arg5) = m' ((c.tc : Thread nD τ).loc main_arg5))
    (h6 : m ((c.tc : Thread Cert.Kernel8Ideal.nD Cert.Kernel8Ideal.τ).loc Cert.Kernel8Ideal.main_arg6) = m' ((c.tc : Thread nD τ).loc main_arg6)) :
    refOut m' c = (Cert.Kernel8Ideal.Gen.dats m 0 c).arrAt 7 Cert.Kernel8Ideal.cfg0.N := by
  funext y
  obtain ⟨r, l, rfl⟩ : ∃ (r : Fin 128) (l : Fin 1024), y = ix2 r l := ⟨y 0, y 1, by idx_ext⟩
  unfold refOut
  rw [flat_value, plainSum_value]
  simp only [plainRows_value, layerG_value, layerIn_value, layerOut_value]
  rw [← h0, ← h1, ← h2, ← h3, ← h4, ← h5, ← h6]
  exact (array_out m c r l).symm

end eq

/-- The reference runs, leaves its arguments as they were and no semaphore raised. -/
theorem reference_kept : Cert.quiescent_Reference8Ideal := fun m ρ _ =>
  (θ_run (defs (F := 𝕀)) _ _).mono (fun r h => ⟨fun c => (h c).2, sem_eq_zero_of_no_sems (by decide) r.2⟩) (run (F := 𝕀) m ρ)

/-- The two programs run from memories that agree on the arguments and end with equal results, the arguments as they were. -/
theorem equal : Cert.algebraic_Kernel8Ideal_Reference8Ideal := fun m ρ m' ρ' _ hag =>
  ⟨fun c => (Cert.Kernel8Ideal.Gen.dats m 0 c).arrAt 7 Cert.Kernel8Ideal.cfg0.N, Cert.Kernel8Ideal.Value.run_blocks (F := 𝕀) m ρ,
    (θ_run (defs (F := 𝕀)) _ _).mono (fun _ h c => by
      obtain ⟨h0, h1, h2, h3, h4, h5, h6⟩ := hag c
      exact ⟨((h c).1.trans (res_out m' c)).trans (out_eq m m' c h0.symm h1.symm h2.symm h3.symm h4.symm h5.symm h6.symm), (h c).2⟩) (run (F := 𝕀) m' ρ')⟩

end Cert.Ffn.Sample

end
-- ==== Proof.ScanSampleRuns.lean ====
/- The scan's call for the sampled positions: what the body leaves in each buffer, as lists of stores. -/
module

public import proofs.«01_k».proof.Proof.Chunk
public import proofs.«01_k».proof.Proof.Gen.Kernel9Ideal.Value

@[expose] public section

set_option maxRecDepth 16384

noncomputable section

namespace Cert.Kernel9Ideal.Scan

open Idealize.ShloMosaic Idealize.ShloMosaic.TcCoe Idealize.ShloMosaic.Tactic
open Cert.Kernel9Ideal Cert.Kernel9Ideal.Gen
open Cert.KernelIdeal.Chunk (upTo yPair hPair e0 e1 kx kb kc htR lanesR actR dskR gnR houtPiece)

variable {F : FTy → Type} [FloatOps F]

/-- A block of 128 rows of the buffer, from row `5 + j`, is inside it. -/
theorem buf_in (j : Fin 4) : ∀ a, (![5 + j.val, 0] : Fin 2 → ℕ) a + S128x3072.size a ≤ S136x3072.size a := fun a => by
  have := j.isLt
  fin_cases a
  · show 5 + j.val + 128 ≤ 136; omega
  · show 0 + 3072 ≤ 3072; omega

/-- A row of the taps is inside them. -/
theorem tap_in (j : Fin 4) : ∀ a, (![j.val, 0] : Fin 2 → ℕ) a + S1x3072.size a ≤ S4x3072.size a := fun a => by
  have := j.isLt
  fin_cases a
  · show j.val + 1 ≤ 4; omega
  · show 0 + 3072 ≤ 3072; omega

/-- The sampled rows of a group's columns are inside the outputs. -/
theorem ysc_in (g : Fin 4) : ∀ a, (![0, 512 * g.val] : Fin 2 → ℕ) a + S4x512.size a ≤ S128x2048.size a := fun a => by
  have := g.isLt
  fin_cases a
  · show 0 + 4 ≤ 128; omega
  · show 512 * g.val + 512 ≤ 2048; omega

/-- A group's columns of the output block are inside. -/
theorem out_in (g : Fin 4) : ∀ a, (![0, 0, 512 * g.val] : Fin 3 → ℕ) a + S1x4x512.size a ≤ S1x4x2048.size a := fun a => by
  have := g.isLt
  fin_cases a
  · show 0 + 1 ≤ 1; omega
  · show 0 + 4 ≤ 4; omega
  · show 512 * g.val + 512 ≤ 2048; omega

/-- A group's 512 columns are inside the gate's 2048. -/
theorem group_in (g : Fin 4) : S4x2048.Slices ![0, 512 * g.val] S4x512 := ⟨rfl, fun a => by
  have := g.isLt
  fin_cases a
  · show 0 + 4 ≤ 4; omega
  · show 512 * g.val + 512 ≤ 2048; omega⟩

/-- A head's state is inside the states before. -/
theorem s0_in (e : Fin 32) : ∀ a, (![0, e.val, 0, 0] : Fin 4 → ℕ) a + S1x1x64x128.size a ≤ S1x32x64x128.size a := fun a => by
  have := e.isLt
  fin_cases a
  · show 0 + 1 ≤ 1; omega
  · show e.val + 1 ≤ 32; omega
  · show 0 + 64 ≤ 64; omega
  · show 0 + 128 ≤ 128; omega

/-- What the body loads of its blocks. -/
structure Loads (F : FTy → Type) where
  x : Vec F S1x4x3072 .f32
  c0 : Vec F S1x8x3072 .f32
  cb : Vec F S1x3072 .f32
  tap : Fin 4 → Vec F S1x3072 .f32
  dt : Vec F S1x128x128 .f32
  dtb : Vec F S1x128 .f32
  al : Vec F S1x128 .f32
  dsk : Fin 16 → Vec F S1x128 .f32
  s0 : Fin 32 → Vec F S1x1x64x128 .f32
  z : Vec F S1x4x2048 .f32
  gn : Fin 4 → Vec F S1x512 .f32

/-- The loads of the blocks. -/
def loads (x0 : Vec F S1x4x2048 .f32) (x1 : Vec F S1x4x3072 .f32) (x2 : Vec F S1x128x128 .f32) (x3 : Vec F S4x3072 .f32) (x4 : Vec F S1x3072 .f32) (x5 x6 : Vec F S1x128 .f32)
    (x7 x8 : Vec F S1x2048 .f32) (x9 : Vec F S1x8x3072 .f32) (x10 : Vec F S1x32x64x128 .f32) : Loads F where
  x := View.ld x1 (Rect.unit ![0, 0, 0] S1x4x3072.size inb_S1x4x3072_S1x4x3072_0_0_0)
  c0 := View.ld x9 (Rect.unit ![0, 0, 0] S1x8x3072.size inb_S1x8x3072_S1x8x3072_0_0_0)
  cb := View.ld x4 (Rect.unit ![0, 0] S1x3072.size inb_S1x3072_S1x3072_0_0)
  tap j := View.ld x3 (Rect.unit ![j.val, 0] S1x3072.size (tap_in j))
  dt := View.ld x2 (Rect.unit ![0, 0, 0] S1x128x128.size inb_S1x128x128_S1x128x128_0_0_0)
  dtb := View.ld x5 (Rect.unit ![0, 0] S1x128.size inb_S1x128_S1x128_0_0)
  al := View.ld x6 (Rect.unit ![0, 0] S1x128.size inb_S1x128_S1x128_0_0)
  dsk p := View.ld x7 (dskR p)
  s0 e := View.ld x10 (Rect.unit ![0, e.val, 0, 0] S1x1x64x128.size (s0_in e))
  z := View.ld x0 (Rect.unit ![0, 0, 0] S1x4x2048.size inb_S1x4x2048_S1x4x2048_0_0_0)
  gn g := View.ld x8 (gnR g)

variable (L : Loads F)

/-- The stores into the buffer of rows: the fill, the rows before the sampled ones, and the sampled ones. -/
def bufList : List (View.Piece (Elt F) S136x3072 .f32) :=
  [⟨Rect.unit ![8, 0] S4x3072.size inb_S136x3072_S4x3072_8_0, k0_pay75 L.x⟩, ⟨Rect.unit ![0, 0] S8x3072.size inb_S136x3072_S8x3072_0_0, k0_pay6 L.c0⟩,
    ⟨Rect.unit ![0, 0] S136x3072.size inb_S136x3072_S136x3072_0_0, k0_pay5⟩]

/-- The rows a tap reads. -/
def bufR (j : Fin 4) : Rect S136x3072 := Rect.unit ![5 + j.val, 0] S128x3072.size (buf_in j)

/-- The 128 rows from row `5 + j` on. -/
def bufAt (v : View sig .tc .vmem S136x3072 .f32) (j : Fin 4) : Vec F S128x3072 .f32 := v.readCov (bufList L) (bufR j).toLoadRect

/-- The activated columns, as one store. -/
def actList (v : View sig .tc .vmem S136x3072 .f32) : List (View.Piece (Elt F) S128x3072 .f32) :=
  [⟨Rect.unit ![0, 0] S128x3072.size inb_S128x3072_S128x3072_0_0,
    k0_pay77 (k0_pay76 L.cb (bufAt L v 0) (L.tap 0) (bufAt L v 1) (L.tap 1) (bufAt L v 2) (L.tap 2) (bufAt L v 3) (L.tap 3))⟩]

/-- A pair's state before, as a store. -/
def initPiece (p : Fin 16) : View.Piece (Elt F) S16x128x128 .f32 := ⟨htR p, k0_pay7 (L.s0 (e0 p)) (L.s0 (e1 p))⟩

variable (act : Fin 24 → Vec F S128x128 .f32)

/-- A pair's new state, as a store. -/
def htPiece (p : Fin 16) (ht : Vec F S1x128x128 .f32) : View.Piece (Elt F) S16x128x128 .f32 :=
  ⟨htR p, hPair p (k0_pay84 (k0_pay79 L.dt L.dtb L.al) k0_pay81) (k0_pay87 (k0_pay78 L.dt L.dtb) (k0_pay79 L.dt L.dtb L.al) k0_pay81) (k0_pay90 (act (kb p))) (act (kx p)) (k0_pay91 ht)⟩

/-- A pair's outputs, as a store. -/
def yPiece (p : Fin 16) (ht : Vec F S1x128x128 .f32) : View.Piece (Elt F) S128x2048 .f32 :=
  ⟨lanesR p, yPair p (k0_pay82 (k0_pay79 L.dt L.dtb L.al) k0_pay81) (k0_pay85 (k0_pay79 L.dt L.dtb L.al) k0_pay81) (k0_pay86 (k0_pay78 L.dt L.dtb)) (k0_pay89 (act (kb p)) (act (kc p)))
    (act (kc p)) (act (kx p)) (k0_pay91 ht) (L.dsk p)⟩

/-- The stores into the states: every pair's state before, then its new one, which loads the state over the stores so far. -/
def hts (v : View sig .tc .vmem S16x128x128 .f32) : (n : ℕ) → n ≤ 16 → List (View.Piece (Elt F) S16x128x128 .f32)
  | 0, _ => upTo (initPiece L) [] 16 (by omega)
  | n + 1, h => htPiece L act ⟨n, h⟩ (v.readCov (hts v n (Nat.le_of_succ_le h)) (htR ⟨n, h⟩).toLoadRect) :: hts v n (Nat.le_of_succ_le h)

/-- A pair's state, as loaded. -/
def htAt (v : View sig .tc .vmem S16x128x128 .f32) (p : Fin 16) : Vec F S1x128x128 .f32 := v.readCov (hts L act v p.val (Nat.le_of_lt p.isLt)) (htR p).toLoadRect

/-- The stores into the outputs before the gate. -/
def yList (v : View sig .tc .vmem S16x128x128 .f32) : List (View.Piece (Elt F) S128x2048 .f32) := upTo (fun p => yPiece L act p (htAt L act v p)) [] 16 (by omega)

/-- The sampled rows of a group. -/
def yscR (g : Fin 4) : Rect S128x2048 := Rect.unit ![0, 512 * g.val] S4x512.size (ysc_in g)

/-- A group's outputs, gated. -/
def gated (g : Fin 4) (z : FVec F S4x2048 .f32) (y : FVec F S4x512 .f32) : FVec F S4x512 .f32 :=
  mulf y (divf (extractStridedSlice S4x512 ![0, 512 * g.val] z (group_in g))
    (addf (broadcast S4x512 (Scalar.ofBits .f32 0x3F800000#32)) (exp (subf (broadcast S4x512 (Scalar.ofBits .f32 0x00000000#32)) (extractStridedSlice S4x512 ![0, 512 * g.val] z (group_in g))))))

/-- The inverse root of the mean of the squares of each row. -/
def scale (y : FVec F S4x512 .f32) : FVec F S4x1 .f32 :=
  rsqrt (addf (divf (shapeCast S4x1 (multiReduction .add [1] S4 (mulf y y) 0x00000000#32 reduces_S4x512_S4 (.inl rfl) rfl) shapeCasts_S4_S4x1)
    (broadcast S4x1 (Scalar.ofBits .f32 0x44000000#32))) (broadcast S4x1 (Scalar.ofBits .f32 0x358637BD#32)))

/-- A group's outputs, as a store. -/
def outPiece (ysc : Fin 4 → Vec F S4x512 .f32) (g : Fin 4) : View.Piece (Elt F) S1x4x2048 .f32 :=
  ⟨Rect.unit ![0, 0, 512 * g.val] S1x4x512.size (out_in g), k0_pay304 (gated g (k0_pay300 L.z) (ysc g)) (k0_pay302 (L.gn g)) (scale (gated g (k0_pay300 L.z) (ysc g)))⟩

section runs

variable (c : Dev nD) (i : grid0.Coords) (arg2 : Memref sig .tc .vmem S1x4x2048 .f32) (harg2 : arg2.IsWhole) (arg3 : Memref sig .tc .vmem S1x4x3072 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x8x3072 .f32) (harg11 : arg11.IsWhole) (arg12 : Memref sig .tc .vmem S1x32x64x128 .f32) (harg12 : arg12.IsWhole) (arg13 : Memref sig .tc .vmem S1x4x2048 .f32) (harg13 : arg13.IsWhole) (arg14 : Memref sig .tc .vmem S1x32x64x128 .f32) (harg14 : arg14.IsWhole) (arg15 : Memref sig .tc .vmem S136x3072 .f32) (harg15 : arg15.IsWhole) (arg16 : Memref sig .tc .vmem S128x3072 .f32) (harg16 : arg16.IsWhole) (arg17 : Memref sig .tc .vmem S128x2048 .f32) (harg17 : arg17.IsWhole) (arg18 : Memref sig .tc .vmem S16x128x128 .f32) (harg18 : arg18.IsWhole) (hc0 : cond0_0 i) (hc1 : cond0_1 i)
  (x0 : Vec F S1x4x2048 .f32) (x1 : Vec F S1x4x3072 .f32) (x2 : Vec F S1x128x128 .f32) (x3 : Vec F S4x3072 .f32) (x4 : Vec F S1x3072 .f32) (x5 : Vec F S1x128 .f32) (x6 : Vec F S1x128 .f32) (x7 : Vec F S1x2048 .f32) (x8 : Vec F S1x2048 .f32) (x9 : Vec F S1x8x3072 .f32) (x10 : Vec F S1x32x64x128 .f32)

/-- The buffer of rows. -/
theorem buf_run : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.1 = bufList (loads (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10))) := by
  sl_kernel_rfl

/-- The activated columns. -/
theorem act_run : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.2.1 = actList (loads (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10))) arg15.view := by
  sl_kernel_rfl

/-- The states. -/
theorem ht_run : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.2.2.2.val = hts (loads (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10))) (fun k => arg16.view.readCov (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.2.1 (actR k).toLoadRect) arg18.view 16 (by omega) := by
  sl_kernel_rfl

/-- The outputs before the gate. -/
theorem ysc_run : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.2.2.1 = yList (loads (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10))) (fun k => arg16.view.readCov (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.2.1 (actR k).toLoadRect) arg18.view := by
  sl_kernel_rfl

/-- The output block. -/
theorem out_run : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).1 = upTo (outPiece (loads (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10))) fun g => arg17.view.readCov (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.2.2.1 (yscR g).toLoadRect) [] 4 (by omega) := by
  sl_kernel_rfl

/-- The block of new states. -/
theorem hout_run : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.1 = upTo (houtPiece fun p => arg18.view.readCov (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.2.2.2.val (htR p).toLoadRect) [] 32 (by omega) := by
  sl_kernel_rfl

end runs

end Cert.Kernel9Ideal.Scan

end
-- ==== Proof.ScanSampleSpec.lean ====
/- The recurrence over four sampled positions: one chunk of 128 whose steps are zero past the fourth, from a given state and the three rows before. -/
module

public import proofs.«01_k».proof.Proof.Spec

@[expose] public section

set_option maxRecDepth 16384

noncomputable section

namespace Cert.Spec

open Idealize.ShloMosaic

/-- A sampled position among a chunk's. -/
abbrev up (i : Fin 4) : Fin 128 := ⟨i.val, by have := i.isLt; omega⟩

/-- The arguments of the sampled positions, read as functions of their coordinates. -/
structure SampleArgs where
  z : Fin 32 → Fin 4 → Fin 2048 → EReal
  x : Fin 32 → Fin 4 → Fin 3072 → EReal
  dt : Fin 32 → Fin 4 → Fin 32 → EReal
  c0 : Fin 32 → Fin 3 → Fin 3072 → EReal
  h0 : Fin 32 → Fin 32 → Fin 64 → Fin 128 → EReal
  w : Fin 4 → Fin 3072 → EReal
  cb : Fin 3072 → EReal
  dtb : Fin 32 → EReal
  al : Fin 32 → EReal
  dsk : Fin 32 → EReal
  gn : Fin 2048 → EReal

variable (M : SampleArgs) (b : Fin 32)

/-- Row `k` of a sequence, counted from the three before the sampled ones: zero past the last. -/
def SampleArgs.row (k : ℕ) (l : Fin 3072) : EReal :=
  if h : k < 3 then M.c0 b ⟨k, h⟩ l else if h' : k < 7 then M.x b ⟨k - 3, by omega⟩ l else 0

/-- The activated columns of a chunk. -/
def SampleArgs.A (i : Fin 128) (l : Fin 3072) : EReal :=
  silu (M.cb l + M.row b (i.val + 0) l * M.w 0 l + M.row b (i.val + 1) l * M.w 1 l + M.row b (i.val + 2) l * M.w 2 l + M.row b (i.val + 3) l * M.w 3 l)

/-- The step sizes of a chunk: zero past the sampled positions. -/
def SampleArgs.D (i : Fin 128) (e : Fin 32) : EReal := if h : i.val < 4 then softplus (M.dt b ⟨i.val, h⟩ e + M.dtb e) else 0

/-- The state before, by output column. -/
def SampleArgs.H0 (l : Fin 2048) (n : Fin 128) : EReal := M.h0 b (head l) ⟨l.val % 64, Nat.mod_lt _ (by omega)⟩ n

/-- The outputs before the gate. -/
def SampleArgs.Y : Fin 128 → Fin 2048 → EReal := yChunk (M.A b) (M.D b) M.al M.dsk (M.H0 b)

/-- The state after. -/
def SampleArgs.H : Fin 2048 → Fin 128 → EReal := hChunk (M.A b) (M.D b) M.al (M.H0 b)

/-- The outputs. -/
def SampleArgs.out (i : Fin 4) (l : Fin 2048) : EReal := rms (fun l => M.Y b (up i) l * silu (M.z b i l)) M.gn l

/-- A sum over a chunk of terms that vanish past the fourth is the sum of the first four. -/
theorem sum_four (f : Fin 128 → EReal) (h : ∀ s : Fin 128, 4 ≤ s.val → f s = 0) : ∑ s : Fin 128, f s = ∑ s : Fin 4, f (up s) := by
  refine (Fin.sum_univ_add (a := 4) (b := 124) f).trans ?_
  rw [Finset.sum_eq_zero (f := fun i : Fin 124 => f (Fin.natAdd 4 i)) fun i _ => h _ (by show 4 ≤ 4 + i.val; omega), add_zero]
  rfl

/-- Past the sampled positions the step is zero. -/
theorem D_off (s : Fin 128) (hs : 4 ≤ s.val) (e : Fin 32) : M.D b s e = 0 := dif_neg (by omega)

/-- At a sampled position it is the activated one. -/
theorem D_on (s : Fin 4) (e : Fin 32) : M.D b (up s) e = softplus (M.dt b s e + M.dtb e) := dif_pos s.isLt

/-- The decays summed up to a sampled position. -/
theorem acs_up (i : Fin 4) (e : Fin 32) : acs (M.D b) M.al (up i) e = ∑ s : Fin 4, if s.val ≤ i.val then M.D b (up s) e * -Ideal.exp (M.al e) else 0 :=
  sum_four _ fun s hs => if_neg (by show ¬ s.val ≤ i.val; have := i.isLt; omega)

/-- The whole chunk's sum is the one up to the last sampled position. -/
theorem acs_last (e : Fin 32) : acs (M.D b) M.al 127 e = acs (M.D b) M.al (up 3) e := by
  rw [acs_up]
  refine (sum_four _ fun s hs => ?_).trans (Finset.sum_congr rfl fun s _ => ?_)
  · rw [D_off M b s hs, zero_mul, ite_self]
  · rw [if_pos (by show s.val ≤ 127; have := s.isLt; omega), if_pos (by show s.val ≤ 3; have := s.isLt; omega)]

/-- The outputs before the gate, over the sampled positions. -/
theorem Y_up (i : Fin 4) (l : Fin 2048) : M.Y b (up i) l = M.dsk (head l) * M.A b (up i) (colX l)
    + (∑ s : Fin 4, (∑ n : Fin 128, M.A b (up i) (colC l n) * M.A b (up s) (colB l n))
        * Ideal.exp (if s.val ≤ i.val then acs (M.D b) M.al (up i) (head l) - acs (M.D b) M.al (up s) (head l) else Ideal.ofBits .f32 0xFF800000#32) * M.D b (up s) (head l) * M.A b (up s) (colX l))
    + ∑ n : Fin 128, M.A b (up i) (colC l n) * Ideal.exp (acs (M.D b) M.al (up i) (head l)) * M.H0 b l n := by
  unfold SampleArgs.Y yChunk
  rw [sum_four _ fun s hs => by rw [D_off M b s hs, mul_zero, zero_mul]]

/-- The state after, over the sampled positions. -/
theorem H_up (l : Fin 2048) (n : Fin 128) : M.H b l n = Ideal.exp (acs (M.D b) M.al (up 3) (head l)) * M.H0 b l n
    + ∑ s : Fin 4, M.A b (up s) (colB l n) * (M.D b (up s) (head l) * Ideal.exp (acs (M.D b) M.al (up 3) (head l) - acs (M.D b) M.al (up s) (head l))) * M.A b (up s) (colX l) := by
  unfold SampleArgs.H hChunk
  rw [acs_last, sum_four _ fun s hs => by rw [D_off M b s hs, zero_mul, mul_zero, zero_mul]]

end Cert.Spec

end
-- ==== Proof.ScanSampleValue.lean ====
/- What the scan's call for the sampled positions computes of its loads: one chunk of the recurrence, whose steps are zero past the fourth position. -/
module

public import proofs.«01_k».proof.Proof.ScanSampleRuns
public import proofs.«01_k».proof.Proof.ScanSampleSpec
public import proofs.«01_k».proof.Proof.ChunkValue

@[expose] public section

set_option maxRecDepth 16384

noncomputable section

namespace Cert.Kernel9Ideal.Scan

open Idealize.ShloMosaic Cert.Kernel9Ideal Cert.Kernel9Ideal.Gen Cert.Spec
open Cert.KernelIdeal.Chunk (upTo e0 e1 kx kb kc htR lanesR actR gnR houtPiece ht_in lanes_in canon_upTo canon_upTo_off lane pcol acol small yPair_value hPair_value hout_left)
open Cert.KernelIdeal.Chunk.Reads (canon_piece)

local notation "𝕀" => Idealize.ShloMosaic.Ideal

/-- The loads are those of sequence `q`. -/
structure Reads (L : Loads 𝕀) (M : SampleArgs) (q : Fin 32) : Prop where
  x : ∀ (i : Fin 4) l, L.x (ix3 0 i l) = M.x q i l
  c0 : ∀ (r : Fin 3) l, L.c0 (ix3 0 (⟨5 + r.val, by have := r.isLt; omega⟩ : Fin 8) l) = M.c0 q r l
  cb : ∀ l, L.cb (ix2 0 l) = M.cb l
  tap : ∀ j l, L.tap j (ix2 0 l) = M.w j l
  dt : ∀ (i : Fin 4) e, L.dt (ix3 0 (up i) (lane e)) = M.dt q i e
  dtb : ∀ e, L.dtb (ix2 0 (lane e)) = M.dtb e
  al : ∀ e, L.al (ix2 0 (lane e)) = M.al e
  dsk : ∀ p l, L.dsk p (ix2 0 l) = M.dsk (head (pcol p l))
  s0 : ∀ (e : Fin 32) (r : Fin 64) n, L.s0 e (ix4 0 0 r n) = M.h0 q e r n
  z : ∀ (i : Fin 4) l, L.z (ix3 0 i l) = M.z q i l
  gn : ∀ (g : Fin 4) (y : Fin 512), L.gn g (ix2 0 y) = M.gn ⟨512 * g.val + y.val, by have := g.isLt; have := y.isLt; omega⟩

/-! ## The step and the decay -/

section decay

variable (D : Fin 128 → Fin 32 → EReal) (al : Fin 32 → EReal) (a : FVec 𝕀 S128x128 .f32) (ha : ∀ i e, a (ix2 i (lane e)) = D i e * -Ideal.exp (al e))
include ha

/-- The decays summed up to each position. -/
theorem sum_value (i : Fin 128) (e : Fin 32) : k0_pay82 a k0_pay81 (ix2 i (lane e)) = acs D al i e := by
  pointwise [k0_pay82, k0_pay81, k0_pay80]
  simp only [ha, select_ge (small _) (small _)]
  rfl

/-- The sum over the chunk. -/
theorem last_value (e : Fin 32) : k0_pay83 a k0_pay81 (ix2 0 (lane e)) = acs D al 127 e := by
  rw [← sum_value D al a ha]
  pointwise [k0_pay83]

/-- The decay over the chunk. -/
theorem keep_value (e : Fin 32) : k0_pay84 a k0_pay81 (ix2 0 (lane e)) = Ideal.exp (acs D al 127 e) := by
  rw [← last_value D al a ha]
  pointwise [k0_pay84]

/-- The running sums, transposed. -/
theorem sumT_value (e : Fin 32) (i : Fin 128) : k0_pay85 a k0_pay81 (ix2 (lane e) i) = acs D al i e := by
  rw [← sum_value D al a ha]
  pointwise [k0_pay85]

omit ha in
/-- The step, transposed. -/
theorem stepT_value (d : FVec 𝕀 S128x128 .f32) (hd : ∀ i e, d (ix2 i (lane e)) = D i e) (e : Fin 32) (i : Fin 128) : k0_pay86 d (ix2 (lane e) i) = D i e := by
  rw [← hd]
  pointwise [k0_pay86]

/-- What a position writes the state with. -/
theorem write_value (d : FVec 𝕀 S128x128 .f32) (hd : ∀ i e, d (ix2 i (lane e)) = D i e) (e : Fin 32) (s : Fin 128) :
    k0_pay87 d a k0_pay81 (ix2 (lane e) s) = D s e * Ideal.exp (acs D al 127 e - acs D al s e) := by
  have h1 := last_value D al a ha e
  have h2 := sum_value D al a ha s e
  rw [← hd, ← h1, ← h2]
  clear h1 h2 ha
  generalize k0_pay81 (F := 𝕀) = tri
  unfold k0_pay87
  generalize k0_pay83 a tri = u
  generalize k0_pay82 a tri = v
  pointwise

end decay

/-- A pair's state read back from the states. -/
theorem ht_read (v : View sig .tc .vmem S16x128x128 .f32) (T : List (View.Piece (Elt 𝕀) S16x128x128 .f32)) (p : Fin 16) (n l : Fin 128) :
    v.readCov T (htR p).toLoadRect (ix3 0 n l) = View.canon T (ix3 p n l) := by
  rw [View.readCov_eq_canon']
  exact congrArg (View.canon T) (by idx_ext)

/-- One more pair's store. -/
theorem hts_succ (L : Loads 𝕀) (act : Fin 24 → Vec 𝕀 S128x128 .f32) (v : View sig .tc .vmem S16x128x128 .f32) (n : ℕ) (h : n + 1 ≤ 16) :
    hts L act v (n + 1) h = htPiece L act ⟨n, h⟩ (v.readCov (hts L act v n (Nat.le_of_succ_le h)) (htR ⟨n, h⟩).toLoadRect) :: hts L act v n (Nat.le_of_succ_le h) := rfl

namespace Reads

variable {L : Loads 𝕀} {M : SampleArgs} {q : Fin 32} (R : Reads L M q)
include R

/-- The step. -/
theorem step (i : Fin 128) (e : Fin 32) : k0_pay78 L.dt L.dtb (ix2 i (lane e)) = M.D q i e := by
  pointwise [k0_pay78]
  simp only [select_lt (small i) (show 4 < 2 ^ 31 by norm_num), zero_sub]
  by_cases h : i.val < 4
  · rw [if_pos h]
    refine Eq.trans ?_ (D_on M q ⟨i.val, h⟩ e).symm
    have h1 := R.dt ⟨i.val, h⟩ e
    have h2 := R.dtb e
    rw [← h1, ← h2]
    rfl
  · rw [if_neg h, D_off M q i (by omega)]

/-- The step times the rate. -/
theorem rate (i : Fin 128) (e : Fin 32) : k0_pay79 L.dt L.dtb L.al (ix2 i (lane e)) = M.D q i e * -Ideal.exp (M.al e) := by
  rw [← R.step, ← R.al]
  unfold k0_pay79
  generalize k0_pay78 L.dt L.dtb = d
  pointwise
  simp only [zero_sub]

/-- The buffer holds the rows from the fifth on. -/
theorem buf_row (r : Fin 136) (l : Fin 3072) (h5 : 5 ≤ r.val) : View.canon (bufList L) (ix2 r l) = M.row q (r.val - 5) l := by
  have hl := l.isLt
  unfold bufList SampleArgs.row
  by_cases h8 : 8 ≤ r.val
  · by_cases h12 : r.val < 12
    · rw [dif_neg (by omega), dif_pos (by omega)]
      have hm : (ix2 r l : S136x3072.Idx) = (Rect.unit ![8, 0] S4x3072.size inb_S136x3072_S4x3072_8_0 : Rect S136x3072).emb (ix2 (⟨r.val - 8, by omega⟩ : Fin 4) l) := by idx_ext
      rw [hm]
      refine (View.canon_cons_emb _ _ _ _).trans ?_
      have h := R.x ⟨r.val - 8, by omega⟩ l
      generalize L.x = a at h
      pointwise [k0_pay75]
      refine h.trans (congrArg (fun z => M.x q z l) (Fin.ext ?_))
      show r.val - 8 = r.val - 5 - 3
      omega
    · rw [dif_neg (by omega), dif_neg (by omega)]
      refine (View.canon_cons_of_not_mem _ _ fun hm => ?_).trans ((View.canon_cons_of_not_mem _ _ fun hm => ?_).trans ?_)
      · have h' : r.val < 8 + 4 := ((Rect.mem_set_unit (inb := inb_S136x3072_S4x3072_8_0)).mp hm 0).2
        omega
      · have h' : r.val < 0 + 8 := ((Rect.mem_set_unit (inb := inb_S136x3072_S8x3072_0_0)).mp hm 0).2
        omega
      · rw [View.canon_cons_unit_zero (by decide +kernel)]
        pointwise [k0_pay5]
  · rw [dif_pos (by omega)]
    refine (View.canon_cons_of_not_mem _ _ fun hm => ?_).trans ?_
    · have h' : 8 ≤ r.val := ((Rect.mem_set_unit (inb := inb_S136x3072_S4x3072_8_0)).mp hm 0).1
      omega
    · have hm : (ix2 r l : S136x3072.Idx) = (Rect.unit ![0, 0] S8x3072.size inb_S136x3072_S8x3072_0_0 : Rect S136x3072).emb (ix2 (⟨r.val, by omega⟩ : Fin 8) l) := by idx_ext
      rw [hm]
      refine (View.canon_cons_emb _ _ _ _).trans ?_
      have h := R.c0 ⟨r.val - 5, by omega⟩ l
      have hr : (⟨5 + (r.val - 5), by omega⟩ : Fin 8) = ⟨r.val, by omega⟩ := Fin.ext (by show 5 + (r.val - 5) = r.val; omega)
      rw [hr] at h
      generalize L.c0 = a at h
      pointwise [k0_pay6]
      exact h

/-- The rows a tap reads. -/
theorem buf (v : View sig .tc .vmem S136x3072 .f32) (j : Fin 4) (k : ℕ) (hk : j.val = k) (i : Fin 128) (l : Fin 3072) : bufAt L v j (ix2 i l) = M.row q (i.val + k) l := by
  have hi := i.isLt
  have hj := j.isLt
  unfold bufAt
  rw [View.readCov_eq_canon']
  have hm : (bufR j).toLoadRect.idx (ix2 i l) = ix2 (⟨5 + j.val + i.val, by omega⟩ : Fin 136) l := by
    funext a
    match a with
    | 0 => exact Fin.ext (by show 5 + j.val + 1 * i.val = 5 + j.val + i.val; omega)
    | 1 => exact Fin.ext (by show 0 + 1 * l.val = l.val; omega)
  refine (congrArg (View.canon (bufList L)) hm).trans ?_
  rw [R.buf_row _ _ (by show 5 ≤ 5 + j.val + i.val; omega)]
  congr 1
  show 5 + j.val + i.val - 5 = i.val + k
  omega

/-- The activated columns read back. -/
theorem act (v : View sig .tc .vmem S128x3072 .f32) (v' : View sig .tc .vmem S136x3072 .f32) (k : Fin 24) (i l : Fin 128) :
    v.readCov (actList L v') (actR k).toLoadRect (ix2 i l) = M.A q i (acol k l) := by
  rw [View.readCov_eq_canon']
  have hm : (actR k).toLoadRect.idx (ix2 i l) = ix2 i (acol k l) := by
    funext a
    match a with
    | 0 => exact Fin.ext (by show 0 + 1 * i.val = i.val; omega)
    | 1 => exact Fin.ext (by show 128 * k.val + 1 * l.val = 128 * k.val + l.val; omega)
  refine (congrArg (View.canon (actList L v')) hm).trans ?_
  generalize acol k l = y
  unfold actList
  rw [View.canon_cons_unit_zero (by decide +kernel)]
  have b0 := R.buf v' 0 0 rfl i y
  have b1 := R.buf v' 1 1 rfl i y
  have b2 := R.buf v' 2 2 rfl i y
  have b3 := R.buf v' 3 3 rfl i y
  have t0 := R.tap 0 y
  have t1 := R.tap 1 y
  have t2 := R.tap 2 y
  have t3 := R.tap 3 y
  have hc := R.cb y
  generalize bufAt L v' 0 = B0 at b0
  generalize bufAt L v' 1 = B1 at b1
  generalize bufAt L v' 2 = B2 at b2
  generalize bufAt L v' 3 = B3 at b3
  generalize L.tap 0 = T0 at t0
  generalize L.tap 1 = T1 at t1
  generalize L.tap 2 = T2 at t2
  generalize L.tap 3 = T3 at t3
  generalize L.cb = cb at hc
  pointwise [k0_pay77, k0_pay76]
  simp only [zero_sub, silu_div]
  rw [b0, b1, b2, b3, t0, t1, t2, t3, hc]
  rfl

/-- Each pair's state before is stored. -/
theorem init (p : Fin 16) (y) : (initPiece L p).2 y = (fun y : S16x128x128.Idx => M.H0 q (pcol (y 0) (y 2)) (y 1)) ((initPiece L p).1.emb y) := by
  obtain ⟨n, l, rfl⟩ : ∃ (n l : Fin 128), y = ix3 0 n l := ⟨y 1, y 2, by idx_ext⟩
  have hp := p.isLt
  have hl := l.isLt
  have i0 : (initPiece L p).1.emb (ix3 0 n l) 0 = p := Fin.ext (by show p.val + 1 * 0 = p.val; omega)
  have i1 : (initPiece L p).1.emb (ix3 0 n l) 1 = n := Fin.ext (by show 0 + 1 * n.val = n.val; omega)
  have i2 : (initPiece L p).1.emb (ix3 0 n l) 2 = l := Fin.ext (by show 0 + 1 * l.val = l.val; omega)
  show k0_pay7 (L.s0 (e0 p)) (L.s0 (e1 p)) (ix3 0 n l) = M.H0 q (pcol _ _) _
  rw [i0, i1, i2]
  have h0 := R.s0 (e0 p)
  have h1 := R.s0 (e1 p)
  generalize L.s0 (e0 p) = a at h0
  generalize L.s0 (e1 p) = b at h1
  unfold SampleArgs.H0
  pointwise [k0_pay7]
  by_cases h : l.val < 64
  · rw [dif_pos h]
    refine (h0 ⟨l.val, h⟩ n).trans (congrArg₂ (fun e r => M.h0 q e r n) (Fin.ext ?_) (Fin.ext ?_))
    · show 2 * p.val = (128 * p.val + l.val) / 64
      omega
    · show l.val = (128 * p.val + l.val) % 64
      omega
  · rw [dif_neg h]
    refine (h1 ⟨l.val - 64, by omega⟩ n).trans (congrArg₂ (fun e r => M.h0 q e r n) (Fin.ext ?_) (Fin.ext ?_))
    · show 2 * p.val + 1 = (128 * p.val + l.val) / 64
      omega
    · show l.val - 64 = (128 * p.val + l.val) % 64
      omega

variable (act' : Fin 24 → Vec 𝕀 S128x128 .f32) (hact : ∀ k i l, act' k (ix2 i l) = M.A q i (acol k l))

/-- Before a pair's store its state is the one before. -/
theorem ht_off (v : View sig .tc .vmem S16x128x128 .f32) (p : Fin 16) (n l : Fin 128) :
    ∀ N (h : N ≤ 16), N ≤ p.val → View.canon (hts L act' v N h) (ix3 p n l) = M.H0 q (pcol p l) n
  | 0, _, _ => by
    refine canon_upTo (fun y : S16x128x128.Idx => M.H0 q (pcol (y 0) (y 2)) (y 1)) (initPiece L) R.init [] _ p ?_ 16 _ p.isLt
    refine (Rect.mem_set_unit (inb := ht_in _)).mpr fun a => ?_
    match a with
    | 0 => exact ⟨Nat.le_refl _, Nat.lt_succ_self _⟩
    | 1 => exact ⟨Nat.zero_le _, by show n.val < 0 + 128; have := n.isLt; omega⟩
    | 2 => exact ⟨Nat.zero_le _, by show l.val < 0 + 128; have := l.isLt; omega⟩
  | N + 1, h, hN => (View.canon_cons_of_not_mem _ _ fun hm => by
      have h' : p.val < N + 1 := ((Rect.mem_set_unit (inb := ht_in ⟨N, h⟩)).mp hm 0).2
      omega).trans (ht_off v p n l N (Nat.le_of_succ_le h) (Nat.le_of_succ_le hN))

/-- A pair's state, as loaded. -/
theorem ht_at (v : View sig .tc .vmem S16x128x128 .f32) (p : Fin 16) (n l : Fin 128) : htAt L act' v p (ix3 0 n l) = M.H0 q (pcol p l) n :=
  (ht_read v _ p n l).trans (R.ht_off act' v p n l p.val _ (Nat.le_refl _))

include hact

/-- A pair's new state. -/
theorem hPair (p : Fin 16) (ht : Vec 𝕀 S1x128x128 .f32) (hh : ∀ n l, ht (ix3 0 n l) = M.H0 q (pcol p l) n) (n l : Fin 128) :
    (htPiece L act' p ht).2 (ix3 0 n l) = M.H q (pcol p l) n := by
  refine hPair_value (M.A q) (M.D q) M.al p _ _ (M.H0 q) _ _ _ (fun e => keep_value _ _ _ R.rate e) (fun e s => write_value _ _ _ R.rate _ R.step e s)
    (fun n s => ?_) (fun s l => hact (kx p) s l) (fun n l => ?_) n l
  · rw [← hact]
    pointwise [k0_pay90]
  · rw [← hh]
    pointwise [k0_pay91]

/-- After a pair's store its state is the new one. -/
theorem ht_left (v : View sig .tc .vmem S16x128x128 .f32) (p : Fin 16) (n l : Fin 128) :
    ∀ N (h : N ≤ 16), p.val < N → View.canon (hts L act' v N h) (ix3 p n l) = M.H q (pcol p l) n
  | N + 1, h, hp => by
    by_cases hN : p.val = N
    · subst hN
      have hm : (ix3 p n l : S16x128x128.Idx) = (htR p).emb (ix3 0 n l) := by idx_ext
      rw [hts_succ, hm]
      generalize hT : hts L act' v p.val _ = T
      refine (canon_piece (htPiece L act' p (v.readCov T (htR p).toLoadRect)) T (ix3 0 n l)).trans ?_
      refine R.hPair act' hact p (v.readCov T (htR p).toLoadRect) (fun n l => ?_) n l
      rw [ht_read, ← hT]
      exact R.ht_off act' v p n l p.val _ (Nat.le_refl _)
    · rw [hts_succ]
      refine (View.canon_cons_of_not_mem _ _ fun hm => ?_).trans (ht_left v p n l N (Nat.le_of_succ_le h) (by omega))
      have h' : N ≤ p.val := ((Rect.mem_set_unit (inb := ht_in ⟨N, h⟩)).mp hm 0).1
      omega

/-- Each pair's store writes the chunk's outputs. -/
theorem yPair (v : View sig .tc .vmem S16x128x128 .f32) (p : Fin 16) (y) :
    (yPiece L act' p (htAt L act' v p)).2 y = (fun y : S128x2048.Idx => M.Y q (y 0) (y 1)) ((yPiece L act' p (htAt L act' v p)).1.emb y) := by
  obtain ⟨i, l, rfl⟩ : ∃ (i l : Fin 128), y = ix2 i l := ⟨y 0, y 1, by idx_ext⟩
  have hh := R.ht_at act' v p
  generalize htAt L act' v p = ht at hh
  refine (yPair_value (M.A q) (M.D q) M.al p _ _ _ _ _ _ _ _ M.dsk (M.H0 q) (fun i e => sum_value _ _ _ R.rate i e) (fun e i => sumT_value _ _ _ R.rate e i)
    (fun e i => stepT_value _ _ R.step e i) (fun i s => ?_) (fun i n => hact (kc p) i n) (fun s l => hact (kx p) s l) (fun n l => ?_) (fun l => R.dsk p l) i l).trans ?_
  · pointwise [k0_pay89]
    simp only [hact]
  · rw [← hh]
    pointwise [k0_pay91]
  · have i0 : (yPiece L act' p ht).1.emb (ix2 i l) 0 = i := Fin.ext (by show 0 + 1 * i.val = i.val; omega)
    have i1 : (yPiece L act' p ht).1.emb (ix2 i l) 1 = pcol p l := Fin.ext (by show 128 * p.val + 1 * l.val = 128 * p.val + l.val; omega)
    show _ = M.Y q _ _
    rw [i0, i1]
    rfl

/-- The outputs the gate reads back. -/
theorem ysc (v : View sig .tc .vmem S16x128x128 .f32) (v' : View sig .tc .vmem S128x2048 .f32) (g : Fin 4) (i : Fin 4) (x : Fin 512) :
    v'.readCov (yList L act' v) (yscR g).toLoadRect (ix2 i x) = M.Y q (up i) ⟨512 * g.val + x.val, by have := g.isLt; have := x.isLt; omega⟩ := by
  rw [View.readCov_eq_canon']
  have hg := g.isLt
  have hx := x.isLt
  have hi := i.isLt
  have i0 : (yscR g).toLoadRect.idx (ix2 i x) 0 = up i := Fin.ext (by show 0 + 1 * i.val = i.val; omega)
  have i1 : (yscR g).toLoadRect.idx (ix2 i x) 1 = (⟨512 * g.val + x.val, by omega⟩ : Fin 2048) := Fin.ext (by show 512 * g.val + 1 * x.val = 512 * g.val + x.val; omega)
  refine (canon_upTo (fun y : S128x2048.Idx => M.Y q (y 0) (y 1)) (fun p => yPiece L act' p (htAt L act' v p)) (R.yPair act' hact v) [] _ ⟨4 * g.val + x.val / 128, by omega⟩ ?_ 16 _
    (by show 4 * g.val + x.val / 128 < 16; omega)).trans ?_
  · refine (Rect.mem_set_unit (inb := lanes_in _)).mpr fun a => ?_
    match a with
    | 0 => exact ⟨Nat.zero_le _, by rw [i0]; show i.val < 0 + 128; omega⟩
    | 1 => exact ⟨by rw [i1]; show 128 * (4 * g.val + x.val / 128) ≤ 512 * g.val + x.val; omega,
        by rw [i1]; show 512 * g.val + x.val < 128 * (4 * g.val + x.val / 128) + 128; omega⟩
  · show M.Y q _ _ = _
    rw [i0, i1]

omit hact in
/-- Each group's store writes the gated and normalised outputs. -/
theorem group (ys : Fin 4 → Vec 𝕀 S4x512 .f32)
    (hy : ∀ (g : Fin 4) (i : Fin 4) (x : Fin 512), ys g (ix2 i x) = M.Y q (up i) ⟨512 * g.val + x.val, by have := g.isLt; have := x.isLt; omega⟩) (g : Fin 4) (y) :
    (outPiece L ys g).2 y = (fun y : S1x4x2048.Idx => M.out q (y 1) (y 2)) ((outPiece L ys g).1.emb y) := by
  obtain ⟨i, l, rfl⟩ : ∃ (i : Fin 4) (l : Fin 512), y = ix3 0 i l := ⟨y 1, y 2, by idx_ext⟩
  have hg := g.isLt
  have hl := l.isLt
  have i1 : (outPiece L ys g).1.emb (ix3 0 i l) 1 = i := Fin.ext (by show 0 + 1 * i.val = i.val; omega)
  have i2 : (outPiece L ys g).1.emb (ix3 0 i l) 2 = (⟨512 * g.val + l.val, by omega⟩ : Fin 2048) := Fin.ext (by show 512 * g.val + 1 * l.val = 512 * g.val + l.val; omega)
  show _ = M.out q _ _
  rw [i1, i2]
  have hin (x : Fin 512) : inGroup (⟨512 * g.val + l.val, by omega⟩ : Fin 2048) x = ⟨512 * g.val + x.val, by have := x.isLt; omega⟩ :=
    Fin.ext (by show 512 * ((512 * g.val + l.val) / 512) + x.val = 512 * g.val + x.val; omega)
  unfold SampleArgs.out rms
  simp only [hin]
  have hz (x : Fin 512) (n) : k0_pay300 L.z (ix2 i ⟨512 * g.val + x.val, n⟩) = M.z q i ⟨512 * g.val + x.val, n⟩ := by
    rw [← R.z]
    pointwise [k0_pay300]
  show k0_pay304 (gated g (k0_pay300 L.z) (ys g)) (k0_pay302 (L.gn g)) (scale (gated g (k0_pay300 L.z) (ys g))) (ix3 0 i l) = _
  generalize k0_pay300 L.z = zz at hz
  have hgn := R.gn g l
  generalize L.gn g = gg at hgn
  pointwise [gated, scale, k0_pay302, k0_pay304]
  simp only [hy, hz, zero_sub, silu_div]
  rw [hgn]

/-- The output block. -/
theorem out_left (v : View sig .tc .vmem S16x128x128 .f32) (v' : View sig .tc .vmem S128x2048 .f32) (h4 : 4 ≤ 4) (i : Fin 4) (l : Fin 2048) :
    View.canon (upTo (outPiece L fun g => v'.readCov (yList L act' v) (yscR g).toLoadRect) [] 4 h4) (ix3 0 i l) = M.out q i l := by
  have hl := l.isLt
  refine canon_upTo (fun y : S1x4x2048.Idx => M.out q (y 1) (y 2)) (outPiece L fun g => v'.readCov (yList L act' v) (yscR g).toLoadRect)
    (R.group _ fun g i x => R.ysc act' hact v v' g i x) [] _ ⟨l.val / 512, by omega⟩ ?_ 4 h4 (by show l.val / 512 < 4; omega)
  refine (Rect.mem_set_unit (inb := out_in _)).mpr fun a => ?_
  match a with
  | 0 => exact ⟨Nat.zero_le _, Nat.zero_lt_one⟩
  | 1 => exact ⟨Nat.zero_le _, by show i.val < 0 + 4; have := i.isLt; omega⟩
  | 2 => exact ⟨by show 512 * (l.val / 512) ≤ l.val; omega, by show l.val < 512 * (l.val / 512) + 512; omega⟩

/-- The block of new states. -/
theorem hout (v : View sig .tc .vmem S16x128x128 .f32) (v' : View sig .tc .vmem S16x128x128 .f32) (h16 : 16 ≤ 16) (h32 : 32 ≤ 32) (e : Fin 32) (r : Fin 64) (n : Fin 128) :
    View.canon (upTo (houtPiece fun p => v'.readCov (hts L act' v 16 h16) (htR p).toLoadRect) [] 32 h32) (ix4 0 e r n)
      = M.H q ⟨64 * e.val + r.val, by have := e.isLt; have := r.isLt; omega⟩ n := by
  refine hout_left (M.H q) _ (fun p n l => ?_) _ e r n
  rw [ht_read]
  exact R.ht_left act' hact v p n l 16 _ p.isLt

end Reads

end Cert.Kernel9Ideal.Scan

end
-- ==== Proof.ScanSampleGrid.lean ====
/- The sampled positions' scan over its grid: what each point's blocks hold, what each point leaves, and the two arrays. -/
module

public import proofs.«01_k».proof.Proof.ScanSampleRuns
public import proofs.«01_k».proof.Proof.ScanSampleValue
public import proofs.«01_k».proof.Proof.Gen.Kernel9Ideal.Value

@[expose] public section

set_option maxRecDepth 16384

noncomputable section

namespace Cert.Kernel9Ideal.Scan

open Idealize.ShloMosaic Idealize.ShloMosaic.TcCoe Cert.Kernel9Ideal Cert.Kernel9Ideal.Gen Cert.Kernel9Ideal.Value Cert.Spec
open Cert.KernelIdeal.Chunk (upTo e0 e1 htR actR dskR gnR houtPiece lane pcol acol)

local notation "𝕀" => Idealize.ShloMosaic.Ideal

section point

variable (c : Dev nD) (i : grid0.Coords) (arg2 : Memref sig .tc .vmem S1x4x2048 .f32) (harg2 : arg2.IsWhole) (arg3 : Memref sig .tc .vmem S1x4x3072 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x8x3072 .f32) (harg11 : arg11.IsWhole) (arg12 : Memref sig .tc .vmem S1x32x64x128 .f32) (harg12 : arg12.IsWhole) (arg13 : Memref sig .tc .vmem S1x4x2048 .f32) (harg13 : arg13.IsWhole) (arg14 : Memref sig .tc .vmem S1x32x64x128 .f32) (harg14 : arg14.IsWhole) (arg15 : Memref sig .tc .vmem S136x3072 .f32) (harg15 : arg15.IsWhole) (arg16 : Memref sig .tc .vmem S128x3072 .f32) (harg16 : arg16.IsWhole) (arg17 : Memref sig .tc .vmem S128x2048 .f32) (harg17 : arg17.IsWhole) (arg18 : Memref sig .tc .vmem S16x128x128 .f32) (harg18 : arg18.IsWhole) (hc0 : cond0_0 i) (hc1 : cond0_1 i)
  (x0 : Vec 𝕀 S1x4x2048 .f32) (x1 : Vec 𝕀 S1x4x3072 .f32) (x2 : Vec 𝕀 S1x128x128 .f32) (x3 : Vec 𝕀 S4x3072 .f32) (x4 : Vec 𝕀 S1x3072 .f32) (x5 : Vec 𝕀 S1x128 .f32) (x6 : Vec 𝕀 S1x128 .f32) (x7 : Vec 𝕀 S1x2048 .f32) (x8 : Vec 𝕀 S1x2048 .f32) (x9 : Vec 𝕀 S1x8x3072 .f32) (x10 : Vec 𝕀 S1x32x64x128 .f32)
variable {M : SampleArgs} {q : Fin 32} (R : Reads (loads x0 x1 x2 x3 x4 x5 x6 x7 x8 x9 x10) M q)
include R

/-- The activated columns a point reads back. -/
theorem point_act (k : Fin 24) (j l : Fin 128) :
    arg16.view.readCov (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.2.1 (actR k).toLoadRect (ix2 j l) = M.A q j (acol k l) := by
  rw [act_run]
  simp only [Memref.IsWhole.read_unread]
  exact R.act _ _ k j l

/-- The output block a point leaves. -/
theorem point_out (j : Fin 4) (l : Fin 2048) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 (ix3 0 j l) = M.out q j l := by
  have hact := point_act c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 R
  unfold out0_A_11
  rw [View.read_writes_junk_eq_canon, out_run, ysc_run]
  simp only [Memref.IsWhole.read_unread]
  exact R.out_left _ hact _ _ _ j l

/-- The states a point leaves. -/
theorem point_state (e : Fin 32) (r : Fin 64) (n : Fin 128) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 (ix4 0 e r n) = M.H q ⟨64 * e.val + r.val, by have := e.isLt; have := r.isLt; omega⟩ n := by
  have hact := point_act c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 R
  unfold out0_A_12
  rw [View.read_writes_junk_eq_canon, hout_run, ht_run]
  simp only [Memref.IsWhole.read_unread]
  exact R.hout _ hact _ _ _ _ e r n

end point

variable (m : (ℓ : Loc nD τ sig) → Buf (Elt 𝕀) ℓ) (d : Dev nD)

/-- The arguments a core holds. -/
def argsOf : SampleArgs where
  z b i l := m ((d : Thread nD τ).loc main_arg0) (ix3 b i l)
  x b i l := m ((d : Thread nD τ).loc main_arg1) (ix3 b i l)
  dt b i e := m ((d : Thread nD τ).loc main_arg2) (ix3 b i e)
  c0 b r l := m ((d : Thread nD τ).loc main_arg3) (ix4 0 b r l)
  h0 b e r n := m ((d : Thread nD τ).loc main_arg4) (ix5 0 b e r n)
  w k l := m ((d : Thread nD τ).loc main_arg5) (ix2 k l)
  cb l := m ((d : Thread nD τ).loc main_arg6) (ix1 l)
  dtb e := m ((d : Thread nD τ).loc main_arg7) (ix1 e)
  al e := m ((d : Thread nD τ).loc main_arg8) (ix1 e)
  dsk e := m ((d : Thread nD τ).loc main_arg9) (ix1 e)
  gn l := m ((d : Thread nD τ).loc main_arg10) (ix1 l)

/-- The sequence of a grid point. -/
abbrev seq (t : Fin cfg0.N) : Fin 32 := ⟨t.val, lt_of_lt_of_eq t.isLt N_0⟩

/-- The moving windows' block indices: the sequence. -/
theorem idx_seq : ∀ t : Fin cfg0.N, win0_0.index t = ![t.val, 0, 0] ∧ win0_1.index t = ![t.val, 0, 0] ∧ win0_2.index t = ![t.val, 0, 0] ∧ win0_9.index t = ![t.val, 0, 0]
    ∧ win0_10.index t = ![t.val, 0, 0, 0] ∧ win0_11.index t = ![t.val, 0, 0] ∧ win0_12.index t = ![t.val, 0, 0, 0] :=
  (by decide +kernel : ∀ t : Fin grid0.N, _)

/-- The fixed windows' block indices. -/
theorem idx_fix : ∀ t : Fin cfg0.N, win0_3.index t = ![0, 0] ∧ win0_4.index t = ![0, 0] ∧ win0_5.index t = ![0, 0] ∧ win0_6.index t = ![0, 0] ∧ win0_7.index t = ![0, 0]
    ∧ win0_8.index t = ![0, 0] :=
  (by decide +kernel : ∀ t : Fin grid0.N, _)

/-- The steps, padded to a chunk's positions and to the lanes, where they are not padding. -/
theorem entry_dt (b : Fin 32) (i : Fin 4) (e : Fin 32) : V m d main_v3 (ix3 b (up i) (lane e)) = m ((d : Thread nD τ).loc main_arg2) (ix3 b i e) := by
  simp only [V, hostOps0, hostOps0_1, hostOps0_2, hostOps0_3, hostOps0_4, hostOps0_5, hostOps0_6, hostOps0_7, hostOps0_8, hostOps0_9, List.flatten_cons, List.flatten_nil, List.append_nil,
    List.cons_append, List.nil_append]
  entry_read
  show (pad S32x128x128 ![0, 0, 0] ![0, 124, 0] ![0, 0, 0]
      (pad S32x4x128 ![0, 0, 0] ![0, 0, 96] ![0, 0, 0] (m ((d : Thread nD τ).loc main_arg2)) (sitofp (F := 𝕀) .f32 (constantI S_ 32 0#32)) pads_S32x4x32_S32x4x128_000_000_0960 h_S_ : Vec 𝕀 S32x4x128 .f32)
      (sitofp (F := 𝕀) .f32 (constantI S_ 32 0#32)) pads_S32x4x128_S32x128x128_000_01240_000 h_S_ : Vec 𝕀 S32x128x128 .f32) (ix3 b (up i) (lane e)) = _
  have hb := b.isLt
  have hi := i.isLt
  have he := e.isLt
  have h1 : (pad S32x4x128 ![0, 0, 0] ![0, 0, 96] ![0, 0, 0] (m ((d : Thread nD τ).loc main_arg2)) (sitofp (F := 𝕀) .f32 (constantI S_ 32 0#32)) pads_S32x4x32_S32x4x128_000_000_0960 h_S_ : Vec 𝕀 S32x4x128 .f32) (ix3 b i (lane e))
      = m ((d : Thread nD τ).loc main_arg2) (ix3 b i e) := by
    pointwise
    refine dif_pos fun (a : Fin 3) => ?_
    match a with
    | 0 => exact ⟨Nat.zero_le _, Nat.mod_one _, by show (b.val - 0) / (0 + 1) < 32; omega⟩
    | 1 => exact ⟨Nat.zero_le _, Nat.mod_one _, by show (i.val - 0) / (0 + 1) < 4; omega⟩
    | 2 => exact ⟨Nat.zero_le _, Nat.mod_one _, by show (e.val - 0) / (0 + 1) < 32; omega⟩
  rw [← h1]
  generalize (pad S32x4x128 ![0, 0, 0] ![0, 0, 96] ![0, 0, 0] (m ((d : Thread nD τ).loc main_arg2)) (sitofp (F := 𝕀) .f32 (constantI S_ 32 0#32)) pads_S32x4x32_S32x4x128_000_000_0960 h_S_ : Vec 𝕀 S32x4x128 .f32) = P
  pointwise
  exact dif_pos (show e.val < 128 by omega)

/-- Dropping a leading axis of one row. -/
theorem drop_lead (X : Vec 𝕀 S1x32x3x3072 .f32) (b : Fin 32) (r : Fin 3) (l : Fin 3072) : (shapeCast S32x3x3072 X shapeCasts_S1x32x3x3072_S32x3x3072 : Vec 𝕀 S32x3x3072 .f32) (ix3 b r l) = X (ix4 0 b r l) := by
  pointwise

/-- The rows before the sampled ones, the last of a block of eight. -/
theorem entry_c0 (b : Fin 32) (r : Fin 3) (l : Fin 3072) :
    V m d main_v13 (ix3 b (⟨5 + r.val, by have := r.isLt; omega⟩ : Fin 8) l) = m ((d : Thread nD τ).loc main_arg3) (ix4 0 b r l) := by
  simp only [V, hostOps0, hostOps0_1, hostOps0_2, hostOps0_3, hostOps0_4, hostOps0_5, hostOps0_6, hostOps0_7, hostOps0_8, hostOps0_9, List.flatten_cons, List.flatten_nil, List.append_nil,
    List.cons_append, List.nil_append]
  entry_read
  have hb := b.isLt
  have hr := r.isLt
  have hl := l.isLt
  show (pad S32x8x3072 ![0, 5, 0] ![0, 0, 0] ![0, 0, 0] (shapeCast S32x3x3072 (m ((d : Thread nD τ).loc main_arg3)) shapeCasts_S1x32x3x3072_S32x3x3072 : Vec 𝕀 S32x3x3072 .f32)
    (sitofp (F := 𝕀) .f32 (constantI S_ 32 0#32)) pads_S32x3x3072_S32x8x3072_000_500_000 h_S_ : Vec 𝕀 S32x8x3072 .f32) (ix3 b (⟨5 + r.val, by omega⟩ : Fin 8) l) = _
  have h1 : (shapeCast S32x3x3072 (m ((d : Thread nD τ).loc main_arg3)) shapeCasts_S1x32x3x3072_S32x3x3072 : Vec 𝕀 S32x3x3072 .f32) (ix3 b r l) = m ((d : Thread nD τ).loc main_arg3) (ix4 0 b r l) := drop_lead _ b r l
  rw [← h1]
  generalize (shapeCast S32x3x3072 (m ((d : Thread nD τ).loc main_arg3)) shapeCasts_S1x32x3x3072_S32x3x3072 : Vec 𝕀 S32x3x3072 .f32) = P
  have key : ∀ a : Fin 3, (![0, 5, 0] : Fin 3 → ℕ) a ≤ (ix3 b (⟨5 + r.val, by omega⟩ : Fin 8) l a).val
      ∧ ((ix3 b (⟨5 + r.val, by omega⟩ : Fin 8) l a).val - (![0, 5, 0] : Fin 3 → ℕ) a) % ((![0, 0, 0] : Fin 3 → ℕ) a + 1) = 0
      ∧ ((ix3 b (⟨5 + r.val, by omega⟩ : Fin 8) l a).val - (![0, 5, 0] : Fin 3 → ℕ) a) / ((![0, 0, 0] : Fin 3 → ℕ) a + 1) < S32x3x3072.size a := fun a => by
    match a with
    | 0 => exact ⟨Nat.zero_le _, Nat.mod_one _, by show (b.val - 0) / (0 + 1) < 32; omega⟩
    | 1 => exact ⟨by show 5 ≤ 5 + r.val; omega, Nat.mod_one _, by show (5 + r.val - 5) / (0 + 1) < 3; omega⟩
    | 2 => exact ⟨Nat.zero_le _, Nat.mod_one _, by show (l.val - 0) / (0 + 1) < 3072; omega⟩
  refine (dif_pos key).trans (congrArg P (funext fun a => Fin.ext ?_))
  match a with
  | 0 => show (b.val - 0) / (0 + 1) = b.val; omega
  | 1 => show (5 + r.val - 5) / (0 + 1) = r.val; omega
  | 2 => show (l.val - 0) / (0 + 1) = l.val; omega

/-- The states before, with the leading axis dropped. -/
theorem entry_s0 (b e : Fin 32) (r : Fin 64) (n : Fin 128) : V m d main_v2 (ix4 b e r n) = m ((d : Thread nD τ).loc main_arg4) (ix5 0 b e r n) := by
  simp only [V, hostOps0, hostOps0_1, hostOps0_2, hostOps0_3, hostOps0_4, hostOps0_5, hostOps0_6, hostOps0_7, hostOps0_8, hostOps0_9, List.flatten_cons, List.flatten_nil, List.append_nil,
    List.cons_append, List.nil_append]
  entry_read
  pointwise

/-- The offset as a row. -/
theorem entry_cb (l : Fin 3072) : V m d main_v4 (ix2 0 l) = m ((d : Thread nD τ).loc main_arg6) (ix1 l) := by
  simp only [V, hostOps0, hostOps0_1, hostOps0_2, hostOps0_3, hostOps0_4, hostOps0_5, hostOps0_6, hostOps0_7, hostOps0_8, hostOps0_9, List.flatten_cons, List.flatten_nil, List.append_nil,
    List.cons_append, List.nil_append]
  entry_read
  pointwise

/-- The padded step offsets, in their first lanes. -/
theorem entry_dtb (e : Fin 32) : V m d main_v6 (ix2 0 (lane e)) = m ((d : Thread nD τ).loc main_arg7) (ix1 e) := by
  simp only [V, hostOps0, hostOps0_1, hostOps0_2, hostOps0_3, hostOps0_4, hostOps0_5, hostOps0_6, hostOps0_7, hostOps0_8, hostOps0_9, List.flatten_cons, List.flatten_nil, List.append_nil,
    List.cons_append, List.nil_append]
  entry_read
  pointwise
  show (pad S128 ![0] ![96] ![0] (m ((d : Thread nD τ).loc main_arg7)) (sitofp (F := 𝕀) .f32 (constantI S_ 32 0#32)) pads_S32_S128_0960 h_S_ : Vec 𝕀 S128 .f32) (ix1 (lane e)) = _
  pointwise
  refine dif_pos fun (a : Fin 1) => ?_
  match a with
  | 0 => exact e.isLt

/-- The padded rates, in their first lanes. -/
theorem entry_al (e : Fin 32) : V m d main_v8 (ix2 0 (lane e)) = m ((d : Thread nD τ).loc main_arg8) (ix1 e) := by
  simp only [V, hostOps0, hostOps0_1, hostOps0_2, hostOps0_3, hostOps0_4, hostOps0_5, hostOps0_6, hostOps0_7, hostOps0_8, hostOps0_9, List.flatten_cons, List.flatten_nil, List.append_nil,
    List.cons_append, List.nil_append]
  entry_read
  pointwise
  show (pad S128 ![0] ![96] ![0] (m ((d : Thread nD τ).loc main_arg8)) (sitofp (F := 𝕀) .f32 (constantI S_ 32 0#32)) pads_S32_S128_0960 h_S_ : Vec 𝕀 S128 .f32) (ix1 (lane e)) = _
  pointwise
  refine dif_pos fun (a : Fin 1) => ?_
  match a with
  | 0 => exact e.isLt

/-- The repeated skips: one a head. -/
theorem entry_dsk (l : Fin 2048) : V m d main_v11 (ix2 0 l) = m ((d : Thread nD τ).loc main_arg9) (ix1 (head l)) := by
  simp only [V, hostOps0, hostOps0_1, hostOps0_2, hostOps0_3, hostOps0_4, hostOps0_5, hostOps0_6, hostOps0_7, hostOps0_8, hostOps0_9, List.flatten_cons, List.flatten_nil, List.append_nil,
    List.cons_append, List.nil_append]
  entry_read
  pointwise

/-- The norm as a row. -/
theorem entry_gn (l : Fin 2048) : V m d main_v12 (ix2 0 l) = m ((d : Thread nD τ).loc main_arg10) (ix1 l) := by
  simp only [V, hostOps0, hostOps0_1, hostOps0_2, hostOps0_3, hostOps0_4, hostOps0_5, hostOps0_6, hostOps0_7, hostOps0_8, hostOps0_9, List.flatten_cons, List.flatten_nil, List.append_nil,
    List.cons_append, List.nil_append]
  entry_read
  pointwise

variable (t : Fin cfg0.N)

/-- The input's block. -/
theorem blk_x (i : Fin 4) (l : Fin 3072) : iblk m d 1 t (ix3 0 i l) = (argsOf m d).x (seq t) i l := by
  obtain ⟨-, h, -⟩ := idx_seq t
  unfold argsOf
  blk_ext! [iblk, V, h]

/-- The block of rows before. -/
theorem blk_c0 (r : Fin 3) (l : Fin 3072) : iblk m d 9 t (ix3 0 (⟨5 + r.val, by have := r.isLt; omega⟩ : Fin 8) l) = (argsOf m d).c0 (seq t) r l := by
  obtain ⟨-, -, -, h, -⟩ := idx_seq t
  refine Eq.trans ?_ (entry_c0 m d (seq t) r l)
  blk_ext [iblk, h]

/-- The offset's block. -/
theorem blk_cb (l : Fin 3072) : iblk m d 4 t (ix2 0 l) = (argsOf m d).cb l := by
  obtain ⟨-, h, -⟩ := idx_fix t
  refine Eq.trans ?_ (entry_cb m d l)
  blk_ext [iblk, h]

/-- The taps' block. -/
theorem blk_w (j : Fin 4) (l : Fin 3072) : iblk m d 3 t (ix2 j l) = (argsOf m d).w j l := by
  obtain ⟨h, -⟩ := idx_fix t
  unfold argsOf
  blk_ext! [iblk, V, h]

/-- The steps' block, where it is not padding. -/
theorem blk_dt (i : Fin 4) (e : Fin 32) : iblk m d 2 t (ix3 0 (up i) (lane e)) = (argsOf m d).dt (seq t) i e := by
  obtain ⟨-, -, h, -⟩ := idx_seq t
  refine Eq.trans ?_ (entry_dt m d (seq t) i e)
  blk_ext [iblk, h]

/-- The step offset's block, in its first lanes. -/
theorem blk_dtb (e : Fin 32) : iblk m d 5 t (ix2 0 (lane e)) = (argsOf m d).dtb e := by
  obtain ⟨-, -, h, -⟩ := idx_fix t
  refine Eq.trans ?_ (entry_dtb m d e)
  blk_ext [iblk, h]

/-- The rates' block, in its first lanes. -/
theorem blk_al (e : Fin 32) : iblk m d 6 t (ix2 0 (lane e)) = (argsOf m d).al e := by
  obtain ⟨-, -, -, h, -⟩ := idx_fix t
  refine Eq.trans ?_ (entry_al m d e)
  blk_ext [iblk, h]

/-- The skips' block. -/
theorem blk_dsk (p : Fin 16) (l : Fin 128) : iblk m d 7 t (ix2 0 (pcol p l)) = (argsOf m d).dsk (head (pcol p l)) := by
  obtain ⟨-, -, -, -, h, -⟩ := idx_fix t
  refine Eq.trans ?_ (entry_dsk m d (pcol p l))
  blk_ext [iblk, h]

/-- The states before, of the sequence. -/
theorem blk_s0 (e : Fin 32) (r : Fin 64) (n : Fin 128) : iblk m d 10 t (ix4 0 e r n) = (argsOf m d).h0 (seq t) e r n := by
  obtain ⟨-, -, -, -, h, -⟩ := idx_seq t
  refine Eq.trans ?_ (entry_s0 m d (seq t) e r n)
  blk_ext [iblk, h]

/-- The gate's block. -/
theorem blk_z (i : Fin 4) (l : Fin 2048) : iblk m d 0 t (ix3 0 i l) = (argsOf m d).z (seq t) i l := by
  obtain ⟨h, -⟩ := idx_seq t
  unfold argsOf
  blk_ext! [iblk, V, h]

/-- The norm's block. -/
theorem blk_gn (g : Fin 4) (y : Fin 512) : iblk m d 8 t (ix2 0 (⟨512 * g.val + y.val, by have := g.isLt; have := y.isLt; omega⟩ : Fin 2048)) = (argsOf m d).gn ⟨512 * g.val + y.val, by have := g.isLt; have := y.isLt; omega⟩ := by
  obtain ⟨-, -, -, -, -, h⟩ := idx_fix t
  refine Eq.trans ?_ (entry_gn m d _)
  blk_ext [iblk, h]

section loaded

variable (x0 : Vec 𝕀 S1x4x2048 .f32) (x1 : Vec 𝕀 S1x4x3072 .f32) (x2 : Vec 𝕀 S1x128x128 .f32) (x3 : Vec 𝕀 S4x3072 .f32) (x4 : Vec 𝕀 S1x3072 .f32) (x5 x6 : Vec 𝕀 S1x128 .f32)
  (x7 x8 : Vec 𝕀 S1x2048 .f32) (x9 : Vec 𝕀 S1x8x3072 .f32) (x10 : Vec 𝕀 S1x32x64x128 .f32)

/-- What a point loads as the input. -/
theorem load_x (i : Fin 4) (l : Fin 3072) : (loads x0 x1 x2 x3 x4 x5 x6 x7 x8 x9 x10).x (ix3 0 i l) = x1 (ix3 0 i l) :=
  congrArg x1 (by idx_ext)

/-- What a point loads as the rows before. -/
theorem load_c0 (r : Fin 3) (l : Fin 3072) : (loads x0 x1 x2 x3 x4 x5 x6 x7 x8 x9 x10).c0 (ix3 0 (⟨5 + r.val, by have := r.isLt; omega⟩ : Fin 8) l) = x9 (ix3 0 (⟨5 + r.val, by have := r.isLt; omega⟩ : Fin 8) l) :=
  congrArg x9 (by idx_ext)

/-- What a point loads as the offset. -/
theorem load_cb (l : Fin 3072) : (loads x0 x1 x2 x3 x4 x5 x6 x7 x8 x9 x10).cb (ix2 0 l) = x4 (ix2 0 l) :=
  congrArg x4 (by idx_ext)

/-- What a point loads as the taps. -/
theorem load_tap (j : Fin 4) (l : Fin 3072) : (loads x0 x1 x2 x3 x4 x5 x6 x7 x8 x9 x10).tap j (ix2 0 l) = x3 (ix2 j l) :=
  congrArg x3 (by idx_ext)

/-- What a point loads as the steps. -/
theorem load_dt (i : Fin 4) (e : Fin 32) : (loads x0 x1 x2 x3 x4 x5 x6 x7 x8 x9 x10).dt (ix3 0 (up i) (lane e)) = x2 (ix3 0 (up i) (lane e)) :=
  congrArg x2 (by idx_ext)

/-- What a point loads as the step offsets. -/
theorem load_dtb (e : Fin 32) : (loads x0 x1 x2 x3 x4 x5 x6 x7 x8 x9 x10).dtb (ix2 0 (lane e)) = x5 (ix2 0 (lane e)) :=
  congrArg x5 (by idx_ext)

/-- What a point loads as the rates. -/
theorem load_al (e : Fin 32) : (loads x0 x1 x2 x3 x4 x5 x6 x7 x8 x9 x10).al (ix2 0 (lane e)) = x6 (ix2 0 (lane e)) :=
  congrArg x6 (by idx_ext)

/-- What a point loads as the skips of a pair of heads. -/
theorem load_dsk (p : Fin 16) (l : Fin 128) : (loads x0 x1 x2 x3 x4 x5 x6 x7 x8 x9 x10).dsk p (ix2 0 l) = x7 (ix2 0 (pcol p l)) :=
  congrArg x7 (by idx_ext)

/-- What a point loads as the state of a head. -/
theorem load_s0 (e : Fin 32) (r : Fin 64) (n : Fin 128) : (loads x0 x1 x2 x3 x4 x5 x6 x7 x8 x9 x10).s0 e (ix4 0 0 r n) = x10 (ix4 0 e r n) :=
  congrArg x10 (by idx_ext)

/-- What a point loads as the gate. -/
theorem load_z (i : Fin 4) (l : Fin 2048) : (loads x0 x1 x2 x3 x4 x5 x6 x7 x8 x9 x10).z (ix3 0 i l) = x0 (ix3 0 i l) :=
  congrArg x0 (by idx_ext)

/-- What a point loads as the norm of a group. -/
theorem load_gn (g : Fin 4) (y : Fin 512) : (loads x0 x1 x2 x3 x4 x5 x6 x7 x8 x9 x10).gn g (ix2 0 y) = x8 (ix2 0 (⟨512 * g.val + y.val, by have := g.isLt; have := y.isLt; omega⟩ : Fin 2048)) :=
  congrArg x8 (by idx_ext)

end loaded

/-- The loads of a grid point read its sequence's arguments. -/
theorem reads_at : Reads (loads (iblk m d 0 t) (iblk m d 1 t) (iblk m d 2 t) (iblk m d 3 t) (iblk m d 4 t) (iblk m d 5 t) (iblk m d 6 t) (iblk m d 7 t) (iblk m d 8 t) (iblk m d 9 t) (iblk m d 10 t))
    (argsOf m d) (seq t) where
  x i l := (load_x _ _ _ _ _ _ _ _ _ _ _ i l).trans (blk_x m d t i l)
  c0 r l := (load_c0 _ _ _ _ _ _ _ _ _ _ _ r l).trans (blk_c0 m d t r l)
  cb l := (load_cb _ _ _ _ _ _ _ _ _ _ _ l).trans (blk_cb m d t l)
  tap j l := (load_tap _ _ _ _ _ _ _ _ _ _ _ j l).trans (blk_w m d t j l)
  dt i e := (load_dt _ _ _ _ _ _ _ _ _ _ _ i e).trans (blk_dt m d t i e)
  dtb e := (load_dtb _ _ _ _ _ _ _ _ _ _ _ e).trans (blk_dtb m d t e)
  al e := (load_al _ _ _ _ _ _ _ _ _ _ _ e).trans (blk_al m d t e)
  dsk p l := (load_dsk _ _ _ _ _ _ _ _ _ _ _ p l).trans (blk_dsk m d t p l)
  s0 e r n := (load_s0 _ _ _ _ _ _ _ _ _ _ _ e r n).trans (blk_s0 m d t e r n)
  z i l := (load_z _ _ _ _ _ _ _ _ _ _ _ i l).trans (blk_z m d t i l)
  gn g y := (load_gn _ _ _ _ _ _ _ _ _ _ _ g y).trans (blk_gn m d t g y)

/-- A sequence's part of the output array. -/
theorem read_out (A : S32x4x2048.Idx → EReal) (i : Fin 4) (l : Fin 2048) : ((cfg0.win 11).blk t).view.read (Elt 𝕀) A (ix3 0 i l) = A (ix3 (seq t) i l) := by
  obtain ⟨-, -, -, -, -, h, -⟩ := idx_seq t
  blk_ext [h]

/-- A sequence's part of the array of states. -/
theorem read_state (A : S32x32x64x128.Idx → EReal) (e : Fin 32) (r : Fin 64) (n : Fin 128) : ((cfg0.win 12).blk t).view.read (Elt 𝕀) A (ix4 0 e r n) = A (ix4 (seq t) e r n) := by
  obtain ⟨-, -, -, -, -, -, h⟩ := idx_seq t
  blk_ext [h]

/-- The output array, entry by entry. -/
theorem array_out (b : Fin 32) (i : Fin 4) (l : Fin 2048) : (dats m 0 d).arrAt 11 cfg0.N (ix3 b i l) = (argsOf m d).out b i l := by
  have ht : b.val < cfg0.N := lt_of_lt_of_eq b.isLt N_0.symm
  have e := congrFun (blocks11 m d ⟨b.val, ht⟩ (flush0_11 _)) (ix3 0 i l)
  rw [read_out, flushed11_A] at e
  exact e.trans (point_out _ _ _ _ _ _ _ _ _ _ _ _ _ _ _ _ _ _ _ _ _ _ _ _ _ _ _ _ _ _ _ _ _ _ _ _ _ _ _ _ _ _ _ _ _ _ _ _ _ (reads_at m d ⟨b.val, ht⟩) i l)

/-- The array of states, entry by entry. -/
theorem array_state (b e : Fin 32) (r : Fin 64) (n : Fin 128) :
    (dats m 0 d).arrAt 12 cfg0.N (ix4 b e r n) = (argsOf m d).H b ⟨64 * e.val + r.val, by have := e.isLt; have := r.isLt; omega⟩ n := by
  have ht : b.val < cfg0.N := lt_of_lt_of_eq b.isLt N_0.symm
  have h := congrFun (blocks12 m d ⟨b.val, ht⟩ (flush0_12 _)) (ix4 0 e r n)
  rw [read_state, flushed12_A] at h
  exact h.trans (point_state _ _ _ _ _ _ _ _ _ _ _ _ _ _ _ _ _ _ _ _ _ _ _ _ _ _ _ _ _ _ _ _ _ _ _ _ _ _ _ _ _ _ _ _ _ _ _ _ _ (reads_at m d ⟨b.val, ht⟩) e r n)

end Cert.Kernel9Ideal.Scan

end
-- ==== Proof.ScanSampleRef.lean ====
/- What the reference computes at the sampled positions: its two results are the recurrence's outputs and last state. -/
module

public import proofs.«01_k».proof.Proof.Gen.Reference9Ideal.Run
public import proofs.«01_k».proof.Proof.RefValue
public import proofs.«01_k».proof.Proof.ScanSampleSpec

@[expose] public section

set_option maxRecDepth 16384

noncomputable section

namespace Cert.Reference9Ideal.RefValue

open Idealize.ShloMosaic Cert.Reference9Ideal Cert.Reference9Ideal.Gen Cert.Reference9Ideal.Value Cert.Spec Idealize.ShloMosaic.WordCmp Cert.ReferenceIdeal.RunningSum
open Cert.ReferenceIdeal.RefValue (colOf headOf group_of colB_of colC_of head_of)

local notation "𝕀" => Idealize.ShloMosaic.Ideal

/-! ## A running sum over four positions -/

/-- The shape of the windows. -/
abbrev W4 : Shape := ⟨4, ![1, 4, 1, 1]⟩

theorem numel_W4 : W4.numel = 4 := by simp [Shape.numel, Fin.prod_univ_succ]

/-- Position `n` of a window lies on the second axis. -/
theorem place4 (n : Fin W4.numel) : W4.rowMajor.symm n = ix4 (0 : Fin 1) (n.cast numel_W4) (0 : Fin 1) (0 : Fin 1) := by
  rw [Equiv.symm_apply_eq]
  refine Fin.ext ?_
  rw [Shape.rowMajor_val_four]
  show n.val = ((0 * 4 + n.val) * 1 + 0) * 1 + 0
  omega

/-- The sums over windows of four positions that end at each position are the running sums. -/
theorem running4 (x : (⟨S32x4x4x8, .f32⟩ : BufTy).Contents (Elt 𝕀)) (init : (⟨S_, .f32⟩ : BufTy).Contents (Elt 𝕀)) (h) (hu : 0 < S_.numel)
    (hi : init (Shape.Idx.first hu) = (0 : EReal)) (b : Fin 32) (i g : Fin 4) (e : Fin 8) :
    Host.reduceWindowAdd (F := 𝕀) (φ := .f32) (s := S32x4x4x8) (t := S32x4x4x8) (u := S_) ![1, 4, 1, 1] ![1, 1, 1, 1] ![0, 3, 0, 0] ![0, 0, 0, 0] x init h hu (ix4 b i g e)
      = (∑ s : Fin 4, if s.val ≤ i.val then x (ix4 b s g e) else (0 : EReal) : EReal) := by
  show Host.reduceWindow (fun a b : EReal => a + b) ![1, 4, 1, 1] ![1, 1, 1, 1] ![0, 3, 0, 0] ![0, 0, 0, 0] x (fun _ : S_.Idx => init (Shape.Idx.first hu)) h hu (ix4 b i g e) = _
  unfold Host.reduceWindow
  dsimp only
  rw [hi]
  refine (foldl_terms _ _ _).trans ?_
  rw [zero_add]
  refine (Fin.sum_univ_def _).symm.trans ?_
  refine Fintype.sum_equiv ((finCongr numel_W4).trans (Equiv.addRight (i + 1))) _ _ fun n => ?_
  have hn : n.val < 4 := (n.cast numel_W4).isLt
  have hi' := i.isLt
  have hv : (((finCongr numel_W4).trans (Equiv.addRight (i + 1))) n).val = (n.val + (i.val + 1)) % 4 := by
    show ((n.cast numel_W4) + (i + 1) : Fin 4).val = _
    rw [Fin.val_add, Fin.val_add]
    show (n.val + (i.val + 1) % 4) % 4 = _
    omega
  have key : ∀ a : Fin 4, (ix4 b i g e a).val * (![1, 1, 1, 1] : Fin 4 → ℕ) a + (W4.rowMajor.symm n a).val = (![b.val, i.val + n.val, g.val, e.val] : Fin 4 → ℕ) a := by
    rw [place4]
    intro a
    fin_cases a
    · show b.val * 1 + 0 = b.val; omega
    · show i.val * 1 + n.val = i.val + n.val; omega
    · show g.val * 1 + 0 = g.val; omega
    · show e.val * 1 + 0 = e.val; omega
  by_cases hin : 3 ≤ i.val + n.val
  · rw [dif_pos, if_pos (by rw [hv]; omega)]
    · refine congrArg x (funext fun a => Fin.ext ?_)
      refine (congrArg (· - (![0, 3, 0, 0] : Fin 4 → ℕ) a) (key a)).trans ?_
      fin_cases a
      · rfl
      · show i.val + n.val - 3 = (((finCongr numel_W4).trans (Equiv.addRight (i + 1))) n).val
        rw [hv]; omega
      · rfl
      · rfl
    · intro a
      refine (congrArg (fun p => (![0, 3, 0, 0] : Fin 4 → ℕ) a ≤ p ∧ p - (![0, 3, 0, 0] : Fin 4 → ℕ) a < S32x4x4x8.size a) (key a)).mpr ?_
      fin_cases a
      · exact ⟨Nat.zero_le _, b.isLt⟩
      · show 3 ≤ i.val + n.val ∧ i.val + n.val - 3 < 4
        omega
      · exact ⟨Nat.zero_le _, g.isLt⟩
      · exact ⟨Nat.zero_le _, e.isLt⟩
  · rw [dif_neg, if_neg (by rw [hv]; omega)]
    intro hh
    have h2 := (congrArg (fun p => (![0, 3, 0, 0] : Fin 4 → ℕ) 1 ≤ p ∧ p - (![0, 3, 0, 0] : Fin 4 → ℕ) 1 < S32x4x4x8.size 1) (key 1)).mp (hh 1)
    exact hin h2.1

/-! ## The reference's values -/

variable (V0 : Valuation τ sig (Elt 𝕀))

/-- The eleven arguments, read at their coordinates. -/
def args : SampleArgs where
  z b i l := V0 (Proc.devRef .tc main_arg0) (ix3 b i l)
  x b i l := V0 (Proc.devRef .tc main_arg1) (ix3 b i l)
  dt b i e := V0 (Proc.devRef .tc main_arg2) (ix3 b i e)
  c0 b r l := V0 (Proc.devRef .tc main_arg3) (ix4 0 b r l)
  h0 b e r n := V0 (Proc.devRef .tc main_arg4) (ix5 0 b e r n)
  w k l := V0 (Proc.devRef .tc main_arg5) (ix2 k l)
  cb l := V0 (Proc.devRef .tc main_arg6) (ix1 l)
  dtb e := V0 (Proc.devRef .tc main_arg7) (ix1 e)
  al e := V0 (Proc.devRef .tc main_arg8) (ix1 e)
  dsk e := V0 (Proc.devRef .tc main_arg9) (ix1 e)
  gn l := V0 (Proc.devRef .tc main_arg10) (ix1 l)

/-- The rows before the sampled ones and the sampled ones, in a row. -/
theorem read_rows (b : Fin 32) (k : Fin 7) (l : Fin 3072) : res_main_v1 V0 (ix3 b k l) = (args V0).row b k.val l := by
  pointwise [res_main_v1]
  unfold SampleArgs.row
  by_cases h : k.val < 3
  · rw [dif_pos h, dif_pos h]
    rfl
  · rw [dif_neg h, dif_neg h, dif_pos k.isLt]
    rfl

/-- The convolution. -/
theorem read_conv (b : Fin 32) (i : Fin 4) (l : Fin 3072) : res_main_v31 V0 (ix3 b i l)
    = (args V0).cb l + (args V0).row b (i.val + 0) l * (args V0).w 0 l + (args V0).row b (i.val + 1) l * (args V0).w 1 l + (args V0).row b (i.val + 2) l * (args V0).w 2 l
      + (args V0).row b (i.val + 3) l * (args V0).w 3 l := by
  pointwise [res_main_v31]
  simp only [read_rows]
  have key : ∀ a b c d k : EReal, a + b + c + d + k = k + a + b + c + d := fun a b c d k => by abel
  rw [Nat.add_comm 1 i.val, Nat.add_comm 2 i.val, Nat.add_comm 3 i.val]
  exact key _ _ _ _ _

/-- The activated columns. -/
theorem read_act (b : Fin 32) (i : Fin 4) (l : Fin 3072) : res_main_v32 V0 (ix3 b i l) = (args V0).A b (up i) l := by
  pointwise [res_main_v32]
  rw [read_conv]
  rfl

/-- The step sizes. -/
theorem read_dt (b : Fin 32) (i g : Fin 4) (e : Fin 8) : res_main_v43 V0 (ix4 b i g e) = (args V0).D b (up i) (headOf g e) := by
  rw [D_on]
  pointwise [res_main_v43, res_main_call1_v3, res_main_call1_cst, res_main_v41]
  rw [if_neg (fun h => h rfl)]
  rfl

/-- The values. -/
theorem read_xs (b : Fin 32) (i g : Fin 4) (e : Fin 8) (q : Fin 64) : res_main_v34 V0 (ix5 b i g e q) = (args V0).A b (up i) (colX (colOf g e q)) := by
  pointwise [res_main_v34]
  rw [read_act]

/-- The state keys. -/
theorem read_bf (b : Fin 32) (i g : Fin 4) (n : Fin 128) :
    res_main_v36 V0 (ix4 b i g n) = (args V0).A b (up i) ⟨2048 + (g.val * 128 + n.val), by have := g.isLt; have := n.isLt; omega⟩ := by
  pointwise [res_main_v36]
  rw [read_act]

/-- The state queries. -/
theorem read_cf (b : Fin 32) (i g : Fin 4) (n : Fin 128) :
    res_main_v38 V0 (ix4 b i g n) = (args V0).A b (up i) ⟨2560 + (g.val * 128 + n.val), by have := g.isLt; have := n.isLt; omega⟩ := by
  pointwise [res_main_v38]
  rw [read_act]

/-- The states before. -/
theorem read_hc (b : Fin 32) (g : Fin 4) (e : Fin 8) (q : Fin 64) (n : Fin 128) : res_main_v45 V0 (ix5 b g e q n) = (args V0).H0 b (colOf g e q) n := by
  pointwise [res_main_v45]
  unfold SampleArgs.H0
  have h2 : (⟨(colOf g e q).val % 64, Nat.mod_lt _ (by omega)⟩ : Fin 64) = q := Fin.ext (by show (g.val * 512 + e.val * 64 + q.val) % 64 = q.val; have := q.isLt; omega)
  rw [h2, ← head_of g e q]
  rfl

/-- The running sums of the decays. -/
theorem read_acs (b : Fin 32) (i g : Fin 4) (e : Fin 8) : res_main_v55 V0 (ix4 b i g e) = acs ((args V0).D b) (args V0).al (up i) (headOf g e) := by
  rw [acs_up]
  unfold res_main_v55
  refine (running4 _ _ _ _ (by pointwise) b i g e).trans ?_
  refine Finset.sum_congr rfl fun s _ => ?_
  pointwise
  rw [read_dt]
  rfl

/-- The outputs before the gate, by group, head of the group and column of the head. -/
theorem y_value (b : Fin 32) (i g : Fin 4) (e : Fin 8) (q : Fin 64) (p : ∀ n : Fin 128, 2048 + (g.val * 128 + n.val) < 3072) (p' : ∀ n : Fin 128, 2560 + (g.val * 128 + n.val) < 3072) :
    (∑ s : Fin 4, (args V0).A b (up s) (colX (colOf g e q)) * (args V0).D b (up s) (headOf g e)
        * ((∑ n : Fin 128, (args V0).A b (up s) ⟨2048 + (g.val * 128 + n.val), p n⟩ * (args V0).A b (up i) ⟨2560 + (g.val * 128 + n.val), p' n⟩)
          * Ideal.exp (if s.val ≤ i.val then acs ((args V0).D b) (args V0).al (up i) (headOf g e) - acs ((args V0).D b) (args V0).al (up s) (headOf g e) else Ideal.ofBits .f32 0xFF800000#32)))
      + (∑ n : Fin 128, (args V0).H0 b (colOf g e q) n * ((args V0).A b (up i) ⟨2560 + (g.val * 128 + n.val), p' n⟩ * Ideal.exp (acs ((args V0).D b) (args V0).al (up i) (headOf g e))))
      + (args V0).dsk (headOf g e) * (args V0).A b (up i) (colX (colOf g e q)) = (args V0).Y b (up i) (colOf g e q) := by
  simp only [Y_up, head_of g e q, colB_of g e q, colC_of g e q]
  rw [add_comm, ← add_assoc]
  refine congrArg₂ (· + ·) (congrArg₂ (· + ·) rfl (Finset.sum_congr rfl fun s _ => ?_)) (Finset.sum_congr rfl fun n _ => ?_)
  · have hc : ∀ n : Fin 128, (args V0).A b (up s) (colB (colOf g e q) n) * (args V0).A b (up i) (colC (colOf g e q) n)
      = (args V0).A b (up i) (colC (colOf g e q) n) * (args V0).A b (up s) (colB (colOf g e q) n) := fun n => mul_comm _ _
    simp only [hc]
    ac_rfl
  · ac_rfl

/-- The gated outputs, by group and column of the group. -/
theorem read_gated (b : Fin 32) (i g : Fin 4) (x : Fin 512) : res_main_v107 V0 (ix4 b i g x)
    = (args V0).Y b (up i) ⟨g.val * 512 + x.val, by have := g.isLt; have := x.isLt; omega⟩ * silu ((args V0).z b i ⟨g.val * 512 + x.val, by have := g.isLt; have := x.isLt; omega⟩) := by
  pointwise [res_main_v107, res_main_v48]
  simp only [read_bf, read_cf, read_acs, read_dt, read_xs, read_hc, colB_of, colC_of]
  have hw : IntOp.addi (BitVec.ofNat 32 i.val) 0#32 = BitVec.ofNat 32 i.val := BitVec.add_zero _
  simp only [hw, select_bit]
  simp only [select_ge (show i.val < 2 ^ 31 by have := i.isLt; omega) (show (Fin.val _) < 2 ^ 31 from lt_of_lt_of_le (Fin.is_lt _) (by norm_num : 4 ≤ 2 ^ 31))]
  have hx : colOf g ⟨x.val / 64, by have := x.isLt; omega⟩ ⟨x.val % 64, Nat.mod_lt _ (by omega)⟩ = (⟨g.val * 512 + x.val, by have := g.isLt; have := x.isLt; omega⟩ : Fin 2048) :=
    Fin.ext (by show g.val * 512 + x.val / 64 * 64 + x.val % 64 = g.val * 512 + x.val; omega)
  rw [← hx]
  refine congrArg₂ (· * ·) (y_value V0 b i g _ _ _ _) ?_
  rw [hx]
  rfl

/-- The state after, by group and head of the group. -/
theorem state_value (b : Fin 32) (g : Fin 4) (e : Fin 8) (q : Fin 64) (n : Fin 128) (p : 2048 + (g.val * 128 + n.val) < 3072) :
    Ideal.exp (acs ((args V0).D b) (args V0).al (up 3) (headOf g e)) * (args V0).H0 b (colOf g e q) n
      + ∑ x : Fin 4, Ideal.exp (acs ((args V0).D b) (args V0).al (up 3) (headOf g e) - acs ((args V0).D b) (args V0).al (up x) (headOf g e))
          * ((args V0).A b (up x) (colX (colOf g e q)) * (args V0).D b (up x) (headOf g e)) * (args V0).A b (up x) ⟨2048 + (g.val * 128 + n.val), p⟩
      = (args V0).H b (colOf g e q) n := by
  rw [H_up, head_of g e q, colB_of g e q]
  refine congrArg₂ (· + ·) rfl (Finset.sum_congr rfl fun s _ => ?_)
  ac_rfl

end Cert.Reference9Ideal.RefValue

end
-- ==== Proof.ScanSampleClaims.lean ====
/- The claims of the sampled positions' scan: what its reference leaves unchanged, and that the two programs' results are equal. -/
module

public import proofs.«01_k».proof.Defs
public import proofs.«01_k».proof.Proof.ScanSampleGrid
public import proofs.«01_k».proof.Proof.ScanSampleRef
public import proofs.«01_k».proof.Proof.Gen.Reference9Ideal
public import Idealize.ShloMosaic.Lib.Quiescent

@[expose] public section

set_option maxRecDepth 16384

noncomputable section

namespace Cert.ScanSample

open Idealize.ShloMosaic Idealize.SL.Sem Cert.Spec
open Cert.Reference9Ideal.RefValue (args read_gated read_bf read_acs read_dt read_xs read_hc state_value)

local notation "𝕀" => Idealize.ShloMosaic.Ideal

/-- The reference runs, leaves its arguments as they were and no semaphore raised. -/
theorem reference_kept : Cert.quiescent_Reference9Ideal := fun m ρ _ =>
  (θ_run (Cert.Reference9Ideal.defs (F := 𝕀)) _ _).mono (fun r h => ⟨fun c => (h c).2.2, sem_eq_zero_of_no_sems (by decide) r.2⟩) (Cert.Reference9Ideal.Value.run (F := 𝕀) m ρ)

/-- The outputs, from the gated ones: the norm of a group of columns, and the gain. -/
theorem out_value (M : SampleArgs) (b : Fin 32) (i : Fin 4) (l : Fin 2048) :
    M.Y b (up i) l * silu (M.z b i l)
        * Ideal.rsqrt (Ideal.div (∑ x : Fin 512, M.Y b (up i) (inGroup l x) * silu (M.z b i (inGroup l x)) * (M.Y b (up i) (inGroup l x) * silu (M.z b i (inGroup l x))))
            (Ideal.ofBits .f32 0x44000000#32) + Ideal.ofBits .f32 0x358637BD#32) * M.gn l = M.out b i l := rfl

/-- The two programs run from memories that agree on the arguments and end with equal results, the arguments as they were. -/
theorem equal : Cert.algebraic_Kernel9Ideal_Reference9Ideal := fun m ρ m' ρ' _ hag =>
  have ha : ∀ c, args (Idealize.ShloMosaic.StableHlo.launchContents m' c) = Cert.Kernel9Ideal.Scan.argsOf m c := fun c => by
    obtain ⟨h0, h1, h2, h3, h4, h5, h6, h7, h8, h9, h10⟩ := hag c
    unfold Cert.Kernel9Ideal.Scan.argsOf
    rw [← h0, ← h1, ← h2, ← h3, ← h4, ← h5, ← h6, ← h7, ← h8, ← h9, ← h10]
    rfl
  ⟨fun c => (Cert.Kernel9Ideal.Gen.dats m 0 c).arrAt 11 Cert.Kernel9Ideal.cfg0.N, fun c => (Cert.Kernel9Ideal.Gen.dats m 0 c).arrAt 12 Cert.Kernel9Ideal.cfg0.N,
    Cert.Kernel9Ideal.Value.run_blocks (F := 𝕀) m ρ,
    (θ_run (Cert.Reference9Ideal.defs (F := 𝕀)) _ _).mono (fun _ h c => by
      refine ⟨(h c).1.trans (funext fun y => ?_), (h c).2.1.trans (funext fun y => ?_), (h c).2.2⟩
      · obtain ⟨b, i, l, rfl⟩ : ∃ (b : Fin 32) (i : Fin 4) (l : Fin 2048), y = ix3 b i l := ⟨y 0, y 1, y 2, by idx_ext⟩
        refine Eq.trans ?_ (Cert.Kernel9Ideal.Scan.array_out m c b i l).symm
        rw [← ha c]
        have hl := l.isLt
        have hc : ∀ (x : Fin 512) (p), (⟨l.val / 512 * 512 + x.val, p⟩ : Fin 2048) = inGroup l x := fun x p =>
          Fin.ext (by show l.val / 512 * 512 + x.val = 512 * (l.val / 512) + x.val; omega)
        have hs : ∀ p, (⟨l.val / 512 * 512 + l.val % 512, p⟩ : Fin 2048) = l := fun p => Fin.ext (by show l.val / 512 * 512 + l.val % 512 = l.val; omega)
        pointwise
        simp only [read_gated, hc, hs]
        exact out_value _ b i l
      · obtain ⟨b, e, q, n, rfl⟩ : ∃ (b e : Fin 32) (q : Fin 64) (n : Fin 128), y = ix4 b e q n := ⟨y 0, y 1, y 2, y 3, by idx_ext⟩
        refine Eq.trans ?_ (Cert.Kernel9Ideal.Scan.array_state m c b e q n).symm
        rw [← ha c]
        have he := e.isLt
        have hq := q.isLt
        have hx : Cert.ReferenceIdeal.RefValue.colOf (⟨e.val / 8, by omega⟩ : Fin 4) (⟨e.val % 8, Nat.mod_lt _ (by omega)⟩ : Fin 8) q = (⟨64 * e.val + q.val, by omega⟩ : Fin 2048) :=
          Fin.ext (by show e.val / 8 * 512 + e.val % 8 * 64 + q.val = 64 * e.val + q.val; omega)
        pointwise [Cert.Reference9Ideal.Value.res_main_v48]
        simp only [read_bf, read_acs, read_dt, read_xs, read_hc]
        exact (state_value _ b _ _ q n _).trans (congrArg (fun l => (args (Idealize.ShloMosaic.StableHlo.launchContents m' c)).H b l n) hx)) (Cert.Reference9Ideal.Value.run (F := 𝕀) m' ρ')⟩

end Cert.ScanSample

end
-- ==== Proof.lean ====
/- The proof of everything this certificate claims. -/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel5.Frame
public import proofs.«01_k».proof.Proof.Gen.Kernel5Ideal.Frame
public import proofs.«01_k».proof.Proof.Gen.Kernel4.Frame
public import proofs.«01_k».proof.Proof.Gen.Kernel4Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel9.Frame
public import proofs.«01_k».proof.Proof.Gen.Kernel9Ideal.Frame
public import proofs.«01_k».proof.Proof.Gen.Kernel8.Frame
public import proofs.«01_k».proof.Proof.Gen.Kernel8Ideal.Frame
public import proofs.«01_k».proof.Proof.ScanClaims
public import proofs.«01_k».proof.Proof.FfnClaims
public import proofs.«01_k».proof.Proof.InprojRef
public import proofs.«01_k».proof.Proof.QkvRef
public import proofs.«01_k».proof.Proof.InprojSample
public import proofs.«01_k».proof.Proof.QkvRefSample
public import proofs.«01_k».proof.Proof.FfnSample
public import proofs.«01_k».proof.Proof.ScanSampleClaims

@[expose] public section

noncomputable section

namespace Cert.Proof

/-- Everything this certificate claims: the programs of the scan, of the two layers' feed-forward calls, of the projection to queries, keys and
values and of the input projection, and those of the sample batch's four calls, keep their arguments, and each kernel's results are its reference's. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    fun m ρ _ => Cert.Kernel.Gen.frame m ρ, fun m ρ _ => Cert.KernelIdeal.Gen.frame m ρ, Cert.Scan.reference_kept,
    fun m ρ _ => Cert.Kernel2.Gen.frame m ρ, fun m ρ _ => Cert.Kernel2Ideal.Gen.frame m ρ, Cert.Ffn.Second.reference_kept,
    fun m ρ _ => Cert.Kernel3.Gen.frame m ρ, fun m ρ _ => Cert.Kernel3Ideal.Gen.frame m ρ, Cert.Ffn.First.reference_kept,
    fun m ρ _ => Cert.Kernel4.Gen.frame m ρ, fun m ρ _ => Cert.Kernel4Ideal.Gen.frame m ρ, Cert.Qkv.reference_kept,
    fun m ρ _ => Cert.Kernel5.Gen.frame m ρ, fun m ρ _ => Cert.Kernel5Ideal.Gen.frame m ρ, Cert.Inproj.reference_kept,
    fun m ρ _ => Cert.Kernel6.Gen.frame m ρ, fun m ρ _ => Cert.Kernel6Ideal.Gen.frame m ρ, Cert.Inproj.Sample.reference_kept,
    fun m ρ _ => Cert.Kernel7.Gen.frame m ρ, fun m ρ _ => Cert.Kernel7Ideal.Gen.frame m ρ, Cert.Qkv.Sample.reference_kept,
    fun m ρ _ => Cert.Kernel8.Gen.frame m ρ, fun m ρ _ => Cert.Kernel8Ideal.Gen.frame m ρ, Cert.Ffn.Sample.reference_kept,
    fun m ρ _ => Cert.Kernel9.Gen.frame m ρ, fun m ρ _ => Cert.Kernel9Ideal.Gen.frame m ρ, Cert.ScanSample.reference_kept,
    trivial, Cert.Scan.equal, trivial, Cert.Ffn.Second.equal, trivial, Cert.Ffn.First.equal, trivial, Cert.Qkv.equal, trivial, Cert.Inproj.equal,
    trivial, Cert.Inproj.Sample.equal, trivial, Cert.Qkv.Sample.equal, trivial, Cert.Ffn.Sample.equal, trivial, Cert.ScanSample.equal⟩

end Cert.Proof

end
